-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6)
      ∧ r.2.mem ((c.tc : Thread Cert.Kernel6.nD Cert.Kernel6.τ).loc Cert.Kernel6.main_arg7) = m ((c.tc : Thread Cert.Kernel6.nD Cert.Kernel6.τ).loc Cert.Kernel6.main_arg7)
      ∧ r.2.mem ((c.tc : Thread Cert.Kernel6.nD Cert.Kernel6.τ).loc Cert.Kernel6.main_arg8) = m ((c.tc : Thread Cert.Kernel6.nD Cert.Kernel6.τ).loc Cert.Kernel6.main_arg8))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
      ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
      ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6)
      ∧ r.2.mem ((c.tc : Thread Cert.Reference6Ideal.nD Cert.Reference6Ideal.τ).loc Cert.Reference6Ideal.main_arg7) = m ((c.tc : Thread Cert.Reference6Ideal.nD Cert.Reference6Ideal.τ).loc Cert.Reference6Ideal.main_arg7)
      ∧ r.2.mem ((c.tc : Thread Cert.Reference6Ideal.nD Cert.Reference6Ideal.τ).loc Cert.Reference6Ideal.main_arg8) = m ((c.tc : Thread Cert.Reference6Ideal.nD Cert.Reference6Ideal.τ).loc Cert.Reference6Ideal.main_arg8))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4)
      ∧ r.2.mem ((c.tc : Thread Cert.Kernel8.nD Cert.Kernel8.τ).loc Cert.Kernel8.main_arg5) = m ((c.tc : Thread Cert.Kernel8.nD Cert.Kernel8.τ).loc Cert.Kernel8.main_arg5)
      ∧ r.2.mem ((c.tc : Thread Cert.Kernel8.nD Cert.Kernel8.τ).loc Cert.Kernel8.main_arg6) = m ((c.tc : Thread Cert.Kernel8.nD Cert.Kernel8.τ).loc Cert.Kernel8.main_arg6)
      ∧ r.2.mem ((c.tc : Thread Cert.Kernel8.nD Cert.Kernel8.τ).loc Cert.Kernel8.main_arg7) = m ((c.tc : Thread Cert.Kernel8.nD Cert.Kernel8.τ).loc Cert.Kernel8.main_arg7)
      ∧ r.2.mem ((c.tc : Thread Cert.Kernel8.nD Cert.Kernel8.τ).loc Cert.Kernel8.main_arg8) = m ((c.tc : Thread Cert.Kernel8.nD Cert.Kernel8.τ).loc Cert.Kernel8.main_arg8))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
      ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
      ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6)
      ∧ r.2.mem ((c.tc : Thread Cert.Kernel8Ideal.nD Cert.Kernel8Ideal.τ).loc Cert.Kernel8Ideal.main_arg7) = m ((c.tc : Thread Cert.Kernel8Ideal.nD Cert.Kernel8Ideal.τ).loc Cert.Kernel8Ideal.main_arg7)
      ∧ r.2.mem ((c.tc : Thread Cert.Kernel8Ideal.nD Cert.Kernel8Ideal.τ).loc Cert.Kernel8Ideal.main_arg8) = m ((c.tc : Thread Cert.Kernel8Ideal.nD Cert.Kernel8Ideal.τ).loc Cert.Kernel8Ideal.main_arg8))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4)
      ∧ r.2.mem ((c.tc : Thread Cert.Reference8Ideal.nD Cert.Reference8Ideal.τ).loc Cert.Reference8Ideal.main_arg5) = m ((c.tc : Thread Cert.Reference8Ideal.nD Cert.Reference8Ideal.τ).loc Cert.Reference8Ideal.main_arg5)
      ∧ r.2.mem ((c.tc : Thread Cert.Reference8Ideal.nD Cert.Reference8Ideal.τ).loc Cert.Reference8Ideal.main_arg6) = m ((c.tc : Thread Cert.Reference8Ideal.nD Cert.Reference8Ideal.τ).loc Cert.Reference8Ideal.main_arg6)
      ∧ r.2.mem ((c.tc : Thread Cert.Reference8Ideal.nD Cert.Reference8Ideal.τ).loc Cert.Reference8Ideal.main_arg7) = m ((c.tc : Thread Cert.Reference8Ideal.nD Cert.Reference8Ideal.τ).loc Cert.Reference8Ideal.main_arg7)
      ∧ r.2.mem ((c.tc : Thread Cert.Reference8Ideal.nD Cert.Reference8Ideal.τ).loc Cert.Reference8Ideal.main_arg8) = m ((c.tc : Thread Cert.Reference8Ideal.nD Cert.Reference8Ideal.τ).loc Cert.Reference8Ideal.main_arg8))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3)
      ∧ r.2.mem ((c.tc : Thread Cert.Kernel9.nD Cert.Kernel9.τ).loc Cert.Kernel9.main_arg4) = m ((c.tc : Thread Cert.Kernel9.nD Cert.Kernel9.τ).loc Cert.Kernel9.main_arg4)
      ∧ r.2.mem ((c.tc : Thread Cert.Kernel9.nD Cert.Kernel9.τ).loc Cert.Kernel9.main_arg5) = m ((c.tc : Thread Cert.Kernel9.nD Cert.Kernel9.τ).loc Cert.Kernel9.main_arg5)
      ∧ r.2.mem ((c.tc : Thread Cert.Kernel9.nD Cert.Kernel9.τ).loc Cert.Kernel9.main_arg6) = m ((c.tc : Thread Cert.Kernel9.nD Cert.Kernel9.τ).loc Cert.Kernel9.main_arg6)
      ∧ r.2.mem ((c.tc : Thread Cert.Kernel9.nD Cert.Kernel9.τ).loc Cert.Kernel9.main_arg7) = m ((c.tc : Thread Cert.Kernel9.nD Cert.Kernel9.τ).loc Cert.Kernel9.main_arg7)
      ∧ r.2.mem ((c.tc : Thread Cert.Kernel9.nD Cert.Kernel9.τ).loc Cert.Kernel9.main_arg8) = m ((c.tc : Thread Cert.Kernel9.nD Cert.Kernel9.τ).loc Cert.Kernel9.main_arg8))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
      ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5)
      ∧ r.2.mem ((c.tc : Thread Cert.Kernel9Ideal.nD Cert.Kernel9Ideal.τ).loc Cert.Kernel9Ideal.main_arg6) = m ((c.tc : Thread Cert.Kernel9Ideal.nD Cert.Kernel9Ideal.τ).loc Cert.Kernel9Ideal.main_arg6)
      ∧ r.2.mem ((c.tc : Thread Cert.Kernel9Ideal.nD Cert.Kernel9Ideal.τ).loc Cert.Kernel9Ideal.main_arg7) = m ((c.tc : Thread Cert.Kernel9Ideal.nD Cert.Kernel9Ideal.τ).loc Cert.Kernel9Ideal.main_arg7)
      ∧ r.2.mem ((c.tc : Thread Cert.Kernel9Ideal.nD Cert.Kernel9Ideal.τ).loc Cert.Kernel9Ideal.main_arg8) = m ((c.tc : Thread Cert.Kernel9Ideal.nD Cert.Kernel9Ideal.τ).loc Cert.Kernel9Ideal.main_arg8))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4)
      ∧ r.2.mem ((c.tc : Thread Cert.Reference9Ideal.nD Cert.Reference9Ideal.τ).loc Cert.Reference9Ideal.main_arg5) = m ((c.tc : Thread Cert.Reference9Ideal.nD Cert.Reference9Ideal.τ).loc Cert.Reference9Ideal.main_arg5)
      ∧ r.2.mem ((c.tc : Thread Cert.Reference9Ideal.nD Cert.Reference9Ideal.τ).loc Cert.Reference9Ideal.main_arg6) = m ((c.tc : Thread Cert.Reference9Ideal.nD Cert.Reference9Ideal.τ).loc Cert.Reference9Ideal.main_arg6)
      ∧ r.2.mem ((c.tc : Thread Cert.Reference9Ideal.nD Cert.Reference9Ideal.τ).loc Cert.Reference9Ideal.main_arg7) = m ((c.tc : Thread Cert.Reference9Ideal.nD Cert.Reference9Ideal.τ).loc Cert.Reference9Ideal.main_arg7)
      ∧ r.2.mem ((c.tc : Thread Cert.Reference9Ideal.nD Cert.Reference9Ideal.τ).loc Cert.Reference9Ideal.main_arg8) = m ((c.tc : Thread Cert.Reference9Ideal.nD Cert.Reference9Ideal.τ).loc Cert.Reference9Ideal.main_arg8))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3))
      ∧ r.2.sem = fun _ => 0)

def preserves_Kernel_KernelIdeal : Prop :=
  True

def algebraic_KernelIdeal_ReferenceIdeal_on_written [hKernelIdeal : Cert.KernelIdeal.Facts] [hReferenceIdeal : Cert.ReferenceIdeal.Facts] [hOn_written : Cert.On_written.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v63_0)) (v1 : (c : Dev Cert.KernelIdeal.nD) → Buf (Elt Ideal) ((c.tc : Thread Cert.KernelIdeal.nD Cert.KernelIdeal.τ).loc Cert.KernelIdeal.main_v63_1)) (v2 : (c : Dev Cert.KernelIdeal.nD) → Buf (Elt Ideal) ((c.tc : Thread Cert.KernelIdeal.nD Cert.KernelIdeal.τ).loc Cert.KernelIdeal.main_v63_2)) (v3 : (c : Dev Cert.KernelIdeal.nD) → Buf (Elt Ideal) ((c.tc : Thread Cert.KernelIdeal.nD Cert.KernelIdeal.τ).loc Cert.KernelIdeal.main_v63_3)) (v4 : (c : Dev Cert.KernelIdeal.nD) → Buf (Elt Ideal) ((c.tc : Thread Cert.KernelIdeal.nD Cert.KernelIdeal.τ).loc Cert.KernelIdeal.main_v63_4)) (v5 : (c : Dev Cert.KernelIdeal.nD) → Buf (Elt Ideal) ((c.tc : Thread Cert.KernelIdeal.nD Cert.KernelIdeal.τ).loc Cert.KernelIdeal.main_v63_5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨2, ![8192, 4096]⟩ : Shape).Idx, (Cert.On_written.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 i = 1#1 → r.2.mem ((c.tc : Thread Cert.KernelIdeal.nD Cert.KernelIdeal.τ).loc Cert.KernelIdeal.main_v63_0) i = v0 c i)
          ∧ (∀ i : (⟨2, ![8192, 10240]⟩ : Shape).Idx, (Cert.On_written.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 i = 1#1 → r.2.mem ((c.tc : Thread Cert.KernelIdeal.nD Cert.KernelIdeal.τ).loc Cert.KernelIdeal.main_v63_1) i = v1 c i)
          ∧ (∀ i : (⟨2, ![1024, 1024]⟩ : Shape).Idx, (Cert.On_written.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.1 i = 1#1 → r.2.mem ((c.tc : Thread Cert.KernelIdeal.nD Cert.KernelIdeal.τ).loc Cert.KernelIdeal.main_v63_2) i = v2 c i)
          ∧ (∀ i : (⟨2, ![1024, 1024]⟩ : Shape).Idx, (Cert.On_written.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.1 i = 1#1 → r.2.mem ((c.tc : Thread Cert.KernelIdeal.nD Cert.KernelIdeal.τ).loc Cert.KernelIdeal.main_v63_3) i = v3 c i)
          ∧ (∀ i : (⟨4, ![8, 4, 512, 128]⟩ : Shape).Idx, (Cert.On_written.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.2.1 i = 1#1 → r.2.mem ((c.tc : Thread Cert.KernelIdeal.nD Cert.KernelIdeal.τ).loc Cert.KernelIdeal.main_v63_4) i = v4 c i)
          ∧ (∀ i : (⟨4, ![8, 4, 512, 128]⟩ : Shape).Idx, (Cert.On_written.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.2.2 i = 1#1 → r.2.mem ((c.tc : Thread Cert.KernelIdeal.nD Cert.KernelIdeal.τ).loc Cert.KernelIdeal.main_v63_5) i = v5 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨2, ![8192, 4096]⟩ : Shape).Idx, (Cert.On_written.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 i = 1#1 → r.2.mem ((c.tc : Thread Cert.ReferenceIdeal.nD Cert.ReferenceIdeal.τ).loc Cert.ReferenceIdeal.main_v33) i = v0 c i)
          ∧ (∀ i : (⟨2, ![8192, 10240]⟩ : Shape).Idx, (Cert.On_written.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 i = 1#1 → r.2.mem ((c.tc : Thread Cert.ReferenceIdeal.nD Cert.ReferenceIdeal.τ).loc Cert.ReferenceIdeal.main_v34) i = v1 c i)
          ∧ (∀ i : (⟨2, ![1024, 1024]⟩ : Shape).Idx, (Cert.On_written.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.1 i = 1#1 → r.2.mem ((c.tc : Thread Cert.ReferenceIdeal.nD Cert.ReferenceIdeal.τ).loc Cert.ReferenceIdeal.main_v17) i = v2 c i)
          ∧ (∀ i : (⟨2, ![1024, 1024]⟩ : Shape).Idx, (Cert.On_written.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.1 i = 1#1 → r.2.mem ((c.tc : Thread Cert.ReferenceIdeal.nD Cert.ReferenceIdeal.τ).loc Cert.ReferenceIdeal.main_v35) i = v3 c i)
          ∧ (∀ i : (⟨4, ![8, 4, 512, 128]⟩ : Shape).Idx, (Cert.On_written.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.2.1 i = 1#1 → r.2.mem ((c.tc : Thread Cert.ReferenceIdeal.nD Cert.ReferenceIdeal.τ).loc Cert.ReferenceIdeal.main_v31) i = v4 c i)
          ∧ (∀ i : (⟨4, ![8, 4, 512, 128]⟩ : Shape).Idx, (Cert.On_written.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.2.2 i = 1#1 → r.2.mem ((c.tc : Thread Cert.ReferenceIdeal.nD Cert.ReferenceIdeal.τ).loc Cert.ReferenceIdeal.main_v36) i = v5 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v2_0)) (v1 : (c : Dev Cert.Kernel2Ideal.nD) → Buf (Elt Ideal) ((c.tc : Thread Cert.Kernel2Ideal.nD Cert.Kernel2Ideal.τ).loc Cert.Kernel2Ideal.main_v2_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v2_0) = v0 c
          ∧ r.2.mem ((c.tc : Thread Cert.Kernel2Ideal.nD Cert.Kernel2Ideal.τ).loc Cert.Kernel2Ideal.main_v2_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v5) = v0 c
          ∧ r.2.mem ((c.tc : Thread Cert.Reference2Ideal.nD Cert.Reference2Ideal.τ).loc Cert.Reference2Ideal.main_v6) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v10_0)) (v1 : (c : Dev Cert.Kernel3Ideal.nD) → Buf (Elt Ideal) ((c.tc : Thread Cert.Kernel3Ideal.nD Cert.Kernel3Ideal.τ).loc Cert.Kernel3Ideal.main_v10_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v10_0) = v0 c
          ∧ r.2.mem ((c.tc : Thread Cert.Kernel3Ideal.nD Cert.Kernel3Ideal.τ).loc Cert.Kernel3Ideal.main_v10_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v38) = v0 c
          ∧ r.2.mem ((c.tc : Thread Cert.Reference3Ideal.nD Cert.Reference3Ideal.τ).loc Cert.Reference3Ideal.main_v39) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v9_0)) (v1 : (c : Dev Cert.Kernel4Ideal.nD) → Buf (Elt Ideal) ((c.tc : Thread Cert.Kernel4Ideal.nD Cert.Kernel4Ideal.τ).loc Cert.Kernel4Ideal.main_v9_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v9_0) = v0 c
          ∧ r.2.mem ((c.tc : Thread Cert.Kernel4Ideal.nD Cert.Kernel4Ideal.τ).loc Cert.Kernel4Ideal.main_v9_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v14) = v0 c
          ∧ r.2.mem ((c.tc : Thread Cert.Reference4Ideal.nD Cert.Reference4Ideal.τ).loc Cert.Reference4Ideal.main_v15) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)) →
    ∃ (v0 : (c : Dev Cert.Kernel5Ideal.nD) → Buf (Elt Ideal) ((c.tc : Thread Cert.Kernel5Ideal.nD Cert.Kernel5Ideal.τ).loc Cert.Kernel5Ideal.main_v0_0)) (v1 : (c : Dev Cert.Kernel5Ideal.nD) → Buf (Elt Ideal) ((c.tc : Thread Cert.Kernel5Ideal.nD Cert.Kernel5Ideal.τ).loc Cert.Kernel5Ideal.main_v0_1)) (v2 : (c : Dev Cert.Kernel5Ideal.nD) → Buf (Elt Ideal) ((c.tc : Thread Cert.Kernel5Ideal.nD Cert.Kernel5Ideal.τ).loc Cert.Kernel5Ideal.main_v0_2)) (v3 : (c : Dev Cert.Kernel5Ideal.nD) → Buf (Elt Ideal) ((c.tc : Thread Cert.Kernel5Ideal.nD Cert.Kernel5Ideal.τ).loc Cert.Kernel5Ideal.main_v0_3)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0_0) = v0 c
          ∧ r.2.mem ((c.tc : Thread Cert.Kernel5Ideal.nD Cert.Kernel5Ideal.τ).loc Cert.Kernel5Ideal.main_v0_1) = v1 c
          ∧ r.2.mem ((c.tc : Thread Cert.Kernel5Ideal.nD Cert.Kernel5Ideal.τ).loc Cert.Kernel5Ideal.main_v0_2) = v2 c
          ∧ r.2.mem ((c.tc : Thread Cert.Kernel5Ideal.nD Cert.Kernel5Ideal.τ).loc Cert.Kernel5Ideal.main_v0_3) = v3 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v0) = v0 c
          ∧ r.2.mem ((c.tc : Thread Cert.Reference5Ideal.nD Cert.Reference5Ideal.τ).loc Cert.Reference5Ideal.main_v24) = v1 c
          ∧ r.2.mem ((c.tc : Thread Cert.Reference5Ideal.nD Cert.Reference5Ideal.τ).loc Cert.Reference5Ideal.main_v5) = v2 c
          ∧ r.2.mem ((c.tc : Thread Cert.Reference5Ideal.nD Cert.Reference5Ideal.τ).loc Cert.Reference5Ideal.main_v11) = v3 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)
      ∧ m' ((c.tc : Thread Cert.Reference6Ideal.nD Cert.Reference6Ideal.τ).loc Cert.Reference6Ideal.main_arg7) = m ((c.tc : Thread Cert.Kernel6Ideal.nD Cert.Kernel6Ideal.τ).loc Cert.Kernel6Ideal.main_arg7)
      ∧ m' ((c.tc : Thread Cert.Reference6Ideal.nD Cert.Reference6Ideal.τ).loc Cert.Reference6Ideal.main_arg8) = m ((c.tc : Thread Cert.Kernel6Ideal.nD Cert.Kernel6Ideal.τ).loc Cert.Kernel6Ideal.main_arg8)) →
    ∃ (v0 : (c : Dev Cert.Kernel6Ideal.nD) → Buf (Elt Ideal) ((c.tc : Thread Cert.Kernel6Ideal.nD Cert.Kernel6Ideal.τ).loc Cert.Kernel6Ideal.main_v0_0)) (v1 : (c : Dev Cert.Kernel6Ideal.nD) → Buf (Elt Ideal) ((c.tc : Thread Cert.Kernel6Ideal.nD Cert.Kernel6Ideal.τ).loc Cert.Kernel6Ideal.main_v0_1)) (v2 : (c : Dev Cert.Kernel6Ideal.nD) → Buf (Elt Ideal) ((c.tc : Thread Cert.Kernel6Ideal.nD Cert.Kernel6Ideal.τ).loc Cert.Kernel6Ideal.main_v0_2)) (v3 : (c : Dev Cert.Kernel6Ideal.nD) → Buf (Elt Ideal) ((c.tc : Thread Cert.Kernel6Ideal.nD Cert.Kernel6Ideal.τ).loc Cert.Kernel6Ideal.main_v0_3)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0_0) = v0 c
          ∧ r.2.mem ((c.tc : Thread Cert.Kernel6Ideal.nD Cert.Kernel6Ideal.τ).loc Cert.Kernel6Ideal.main_v0_1) = v1 c
          ∧ r.2.mem ((c.tc : Thread Cert.Kernel6Ideal.nD Cert.Kernel6Ideal.τ).loc Cert.Kernel6Ideal.main_v0_2) = v2 c
          ∧ r.2.mem ((c.tc : Thread Cert.Kernel6Ideal.nD Cert.Kernel6Ideal.τ).loc Cert.Kernel6Ideal.main_v0_3) = v3 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
          ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
          ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v37) = v0 c
          ∧ r.2.mem ((c.tc : Thread Cert.Reference6Ideal.nD Cert.Reference6Ideal.τ).loc Cert.Reference6Ideal.main_v42) = v1 c
          ∧ r.2.mem ((c.tc : Thread Cert.Reference6Ideal.nD Cert.Reference6Ideal.τ).loc Cert.Reference6Ideal.main_v47) = v2 c
          ∧ r.2.mem ((c.tc : Thread Cert.Reference6Ideal.nD Cert.Reference6Ideal.τ).loc Cert.Reference6Ideal.main_v52) = v3 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6)
          ∧ r.2.mem ((c.tc : Thread Cert.Reference6Ideal.nD Cert.Reference6Ideal.τ).loc Cert.Reference6Ideal.main_arg7) = m' ((c.tc : Thread Cert.Reference6Ideal.nD Cert.Reference6Ideal.τ).loc Cert.Reference6Ideal.main_arg7)
          ∧ r.2.mem ((c.tc : Thread Cert.Reference6Ideal.nD Cert.Reference6Ideal.τ).loc Cert.Reference6Ideal.main_arg8) = m' ((c.tc : Thread Cert.Reference6Ideal.nD Cert.Reference6Ideal.τ).loc Cert.Reference6Ideal.main_arg8))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)) →
    ∃ (v0 : (c : Dev Cert.Kernel7Ideal.nD) → Buf (Elt Ideal) ((c.tc : Thread Cert.Kernel7Ideal.nD Cert.Kernel7Ideal.τ).loc Cert.Kernel7Ideal.main_v0_0)) (v1 : (c : Dev Cert.Kernel7Ideal.nD) → Buf (Elt Ideal) ((c.tc : Thread Cert.Kernel7Ideal.nD Cert.Kernel7Ideal.τ).loc Cert.Kernel7Ideal.main_v0_1)) (v2 : (c : Dev Cert.Kernel7Ideal.nD) → Buf (Elt Ideal) ((c.tc : Thread Cert.Kernel7Ideal.nD Cert.Kernel7Ideal.τ).loc Cert.Kernel7Ideal.main_v0_2)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0_0) = v0 c
          ∧ r.2.mem ((c.tc : Thread Cert.Kernel7Ideal.nD Cert.Kernel7Ideal.τ).loc Cert.Kernel7Ideal.main_v0_1) = v1 c
          ∧ r.2.mem ((c.tc : Thread Cert.Kernel7Ideal.nD Cert.Kernel7Ideal.τ).loc Cert.Kernel7Ideal.main_v0_2) = v2 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v23) = v0 c
          ∧ r.2.mem ((c.tc : Thread Cert.Reference7Ideal.nD Cert.Reference7Ideal.τ).loc Cert.Reference7Ideal.main_v4) = v1 c
          ∧ r.2.mem ((c.tc : Thread Cert.Reference7Ideal.nD Cert.Reference7Ideal.τ).loc Cert.Reference7Ideal.main_v10) = v2 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)
      ∧ m' ((c.tc : Thread Cert.Reference8Ideal.nD Cert.Reference8Ideal.τ).loc Cert.Reference8Ideal.main_arg5) = m ((c.tc : Thread Cert.Kernel8Ideal.nD Cert.Kernel8Ideal.τ).loc Cert.Kernel8Ideal.main_arg5)
      ∧ m' ((c.tc : Thread Cert.Reference8Ideal.nD Cert.Reference8Ideal.τ).loc Cert.Reference8Ideal.main_arg6) = m ((c.tc : Thread Cert.Kernel8Ideal.nD Cert.Kernel8Ideal.τ).loc Cert.Kernel8Ideal.main_arg6)
      ∧ m' ((c.tc : Thread Cert.Reference8Ideal.nD Cert.Reference8Ideal.τ).loc Cert.Reference8Ideal.main_arg7) = m ((c.tc : Thread Cert.Kernel8Ideal.nD Cert.Kernel8Ideal.τ).loc Cert.Kernel8Ideal.main_arg7)
      ∧ m' ((c.tc : Thread Cert.Reference8Ideal.nD Cert.Reference8Ideal.τ).loc Cert.Reference8Ideal.main_arg8) = m ((c.tc : Thread Cert.Kernel8Ideal.nD Cert.Kernel8Ideal.τ).loc Cert.Kernel8Ideal.main_arg8)) →
    ∃ (v0 : (c : Dev Cert.Kernel8Ideal.nD) → Buf (Elt Ideal) ((c.tc : Thread Cert.Kernel8Ideal.nD Cert.Kernel8Ideal.τ).loc Cert.Kernel8Ideal.main_v0_0)) (v1 : (c : Dev Cert.Kernel8Ideal.nD) → Buf (Elt Ideal) ((c.tc : Thread Cert.Kernel8Ideal.nD Cert.Kernel8Ideal.τ).loc Cert.Kernel8Ideal.main_v0_1)) (v2 : (c : Dev Cert.Kernel8Ideal.nD) → Buf (Elt Ideal) ((c.tc : Thread Cert.Kernel8Ideal.nD Cert.Kernel8Ideal.τ).loc Cert.Kernel8Ideal.main_v0_2)) (v3 : (c : Dev Cert.Kernel8Ideal.nD) → Buf (Elt Ideal) ((c.tc : Thread Cert.Kernel8Ideal.nD Cert.Kernel8Ideal.τ).loc Cert.Kernel8Ideal.main_v0_3)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0_0) = v0 c
          ∧ r.2.mem ((c.tc : Thread Cert.Kernel8Ideal.nD Cert.Kernel8Ideal.τ).loc Cert.Kernel8Ideal.main_v0_1) = v1 c
          ∧ r.2.mem ((c.tc : Thread Cert.Kernel8Ideal.nD Cert.Kernel8Ideal.τ).loc Cert.Kernel8Ideal.main_v0_2) = v2 c
          ∧ r.2.mem ((c.tc : Thread Cert.Kernel8Ideal.nD Cert.Kernel8Ideal.τ).loc Cert.Kernel8Ideal.main_v0_3) = v3 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
          ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
          ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6)
          ∧ r.2.mem ((c.tc : Thread Cert.Kernel8Ideal.nD Cert.Kernel8Ideal.τ).loc Cert.Kernel8Ideal.main_arg7) = m ((c.tc : Thread Cert.Kernel8Ideal.nD Cert.Kernel8Ideal.τ).loc Cert.Kernel8Ideal.main_arg7)
          ∧ r.2.mem ((c.tc : Thread Cert.Kernel8Ideal.nD Cert.Kernel8Ideal.τ).loc Cert.Kernel8Ideal.main_arg8) = m ((c.tc : Thread Cert.Kernel8Ideal.nD Cert.Kernel8Ideal.τ).loc Cert.Kernel8Ideal.main_arg8))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v37) = v0 c
          ∧ r.2.mem ((c.tc : Thread Cert.Reference8Ideal.nD Cert.Reference8Ideal.τ).loc Cert.Reference8Ideal.main_v42) = v1 c
          ∧ r.2.mem ((c.tc : Thread Cert.Reference8Ideal.nD Cert.Reference8Ideal.τ).loc Cert.Reference8Ideal.main_v47) = v2 c
          ∧ r.2.mem ((c.tc : Thread Cert.Reference8Ideal.nD Cert.Reference8Ideal.τ).loc Cert.Reference8Ideal.main_v52) = v3 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4)
          ∧ r.2.mem ((c.tc : Thread Cert.Reference8Ideal.nD Cert.Reference8Ideal.τ).loc Cert.Reference8Ideal.main_arg5) = m' ((c.tc : Thread Cert.Reference8Ideal.nD Cert.Reference8Ideal.τ).loc Cert.Reference8Ideal.main_arg5)
          ∧ r.2.mem ((c.tc : Thread Cert.Reference8Ideal.nD Cert.Reference8Ideal.τ).loc Cert.Reference8Ideal.main_arg6) = m' ((c.tc : Thread Cert.Reference8Ideal.nD Cert.Reference8Ideal.τ).loc Cert.Reference8Ideal.main_arg6)
          ∧ r.2.mem ((c.tc : Thread Cert.Reference8Ideal.nD Cert.Reference8Ideal.τ).loc Cert.Reference8Ideal.main_arg7) = m' ((c.tc : Thread Cert.Reference8Ideal.nD Cert.Reference8Ideal.τ).loc Cert.Reference8Ideal.main_arg7)
          ∧ r.2.mem ((c.tc : Thread Cert.Reference8Ideal.nD Cert.Reference8Ideal.τ).loc Cert.Reference8Ideal.main_arg8) = m' ((c.tc : Thread Cert.Reference8Ideal.nD Cert.Reference8Ideal.τ).loc Cert.Reference8Ideal.main_arg8))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)
      ∧ m' ((c.tc : Thread Cert.Reference9Ideal.nD Cert.Reference9Ideal.τ).loc Cert.Reference9Ideal.main_arg4) = m ((c.tc : Thread Cert.Kernel9Ideal.nD Cert.Kernel9Ideal.τ).loc Cert.Kernel9Ideal.main_arg4)
      ∧ m' ((c.tc : Thread Cert.Reference9Ideal.nD Cert.Reference9Ideal.τ).loc Cert.Reference9Ideal.main_arg5) = m ((c.tc : Thread Cert.Kernel9Ideal.nD Cert.Kernel9Ideal.τ).loc Cert.Kernel9Ideal.main_arg5)
      ∧ m' ((c.tc : Thread Cert.Reference9Ideal.nD Cert.Reference9Ideal.τ).loc Cert.Reference9Ideal.main_arg6) = m ((c.tc : Thread Cert.Kernel9Ideal.nD Cert.Kernel9Ideal.τ).loc Cert.Kernel9Ideal.main_arg6)
      ∧ m' ((c.tc : Thread Cert.Reference9Ideal.nD Cert.Reference9Ideal.τ).loc Cert.Reference9Ideal.main_arg7) = m ((c.tc : Thread Cert.Kernel9Ideal.nD Cert.Kernel9Ideal.τ).loc Cert.Kernel9Ideal.main_arg7)
      ∧ m' ((c.tc : Thread Cert.Reference9Ideal.nD Cert.Reference9Ideal.τ).loc Cert.Reference9Ideal.main_arg8) = m ((c.tc : Thread Cert.Kernel9Ideal.nD Cert.Kernel9Ideal.τ).loc Cert.Kernel9Ideal.main_arg8)) →
    ∃ (v0 : (c : Dev Cert.Kernel9Ideal.nD) → Buf (Elt Ideal) ((c.tc : Thread Cert.Kernel9Ideal.nD Cert.Kernel9Ideal.τ).loc Cert.Kernel9Ideal.main_v0_0)) (v1 : (c : Dev Cert.Kernel9Ideal.nD) → Buf (Elt Ideal) ((c.tc : Thread Cert.Kernel9Ideal.nD Cert.Kernel9Ideal.τ).loc Cert.Kernel9Ideal.main_v0_1)) (v2 : (c : Dev Cert.Kernel9Ideal.nD) → Buf (Elt Ideal) ((c.tc : Thread Cert.Kernel9Ideal.nD Cert.Kernel9Ideal.τ).loc Cert.Kernel9Ideal.main_v0_2)) (v3 : (c : Dev Cert.Kernel9Ideal.nD) → Buf (Elt Ideal) ((c.tc : Thread Cert.Kernel9Ideal.nD Cert.Kernel9Ideal.τ).loc Cert.Kernel9Ideal.main_v0_3)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0_0) = v0 c
          ∧ r.2.mem ((c.tc : Thread Cert.Kernel9Ideal.nD Cert.Kernel9Ideal.τ).loc Cert.Kernel9Ideal.main_v0_1) = v1 c
          ∧ r.2.mem ((c.tc : Thread Cert.Kernel9Ideal.nD Cert.Kernel9Ideal.τ).loc Cert.Kernel9Ideal.main_v0_2) = v2 c
          ∧ r.2.mem ((c.tc : Thread Cert.Kernel9Ideal.nD Cert.Kernel9Ideal.τ).loc Cert.Kernel9Ideal.main_v0_3) = v3 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
          ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
          ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5)
          ∧ r.2.mem ((c.tc : Thread Cert.Kernel9Ideal.nD Cert.Kernel9Ideal.τ).loc Cert.Kernel9Ideal.main_arg6) = m ((c.tc : Thread Cert.Kernel9Ideal.nD Cert.Kernel9Ideal.τ).loc Cert.Kernel9Ideal.main_arg6)
          ∧ r.2.mem ((c.tc : Thread Cert.Kernel9Ideal.nD Cert.Kernel9Ideal.τ).loc Cert.Kernel9Ideal.main_arg7) = m ((c.tc : Thread Cert.Kernel9Ideal.nD Cert.Kernel9Ideal.τ).loc Cert.Kernel9Ideal.main_arg7)
          ∧ r.2.mem ((c.tc : Thread Cert.Kernel9Ideal.nD Cert.Kernel9Ideal.τ).loc Cert.Kernel9Ideal.main_arg8) = m ((c.tc : Thread Cert.Kernel9Ideal.nD Cert.Kernel9Ideal.τ).loc Cert.Kernel9Ideal.main_arg8))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v37) = v0 c
          ∧ r.2.mem ((c.tc : Thread Cert.Reference9Ideal.nD Cert.Reference9Ideal.τ).loc Cert.Reference9Ideal.main_v42) = v1 c
          ∧ r.2.mem ((c.tc : Thread Cert.Reference9Ideal.nD Cert.Reference9Ideal.τ).loc Cert.Reference9Ideal.main_v47) = v2 c
          ∧ r.2.mem ((c.tc : Thread Cert.Reference9Ideal.nD Cert.Reference9Ideal.τ).loc Cert.Reference9Ideal.main_v52) = v3 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3)
          ∧ r.2.mem ((c.tc : Thread Cert.Reference9Ideal.nD Cert.Reference9Ideal.τ).loc Cert.Reference9Ideal.main_arg4) = m' ((c.tc : Thread Cert.Reference9Ideal.nD Cert.Reference9Ideal.τ).loc Cert.Reference9Ideal.main_arg4)
          ∧ r.2.mem ((c.tc : Thread Cert.Reference9Ideal.nD Cert.Reference9Ideal.τ).loc Cert.Reference9Ideal.main_arg5) = m' ((c.tc : Thread Cert.Reference9Ideal.nD Cert.Reference9Ideal.τ).loc Cert.Reference9Ideal.main_arg5)
          ∧ r.2.mem ((c.tc : Thread Cert.Reference9Ideal.nD Cert.Reference9Ideal.τ).loc Cert.Reference9Ideal.main_arg6) = m' ((c.tc : Thread Cert.Reference9Ideal.nD Cert.Reference9Ideal.τ).loc Cert.Reference9Ideal.main_arg6)
          ∧ r.2.mem ((c.tc : Thread Cert.Reference9Ideal.nD Cert.Reference9Ideal.τ).loc Cert.Reference9Ideal.main_arg7) = m' ((c.tc : Thread Cert.Reference9Ideal.nD Cert.Reference9Ideal.τ).loc Cert.Reference9Ideal.main_arg7)
          ∧ r.2.mem ((c.tc : Thread Cert.Reference9Ideal.nD Cert.Reference9Ideal.τ).loc Cert.Reference9Ideal.main_arg8) = m' ((c.tc : Thread Cert.Reference9Ideal.nD Cert.Reference9Ideal.τ).loc Cert.Reference9Ideal.main_arg8))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)) →
    ∃ (v0 : (c : Dev Cert.Kernel10Ideal.nD) → Buf (Elt Ideal) ((c.tc : Thread Cert.Kernel10Ideal.nD Cert.Kernel10Ideal.τ).loc Cert.Kernel10Ideal.main_v0_0)) (v1 : (c : Dev Cert.Kernel10Ideal.nD) → Buf (Elt Ideal) ((c.tc : Thread Cert.Kernel10Ideal.nD Cert.Kernel10Ideal.τ).loc Cert.Kernel10Ideal.main_v0_1)) (v2 : (c : Dev Cert.Kernel10Ideal.nD) → Buf (Elt Ideal) ((c.tc : Thread Cert.Kernel10Ideal.nD Cert.Kernel10Ideal.τ).loc Cert.Kernel10Ideal.main_v0_2)) (v3 : (c : Dev Cert.Kernel10Ideal.nD) → Buf (Elt Ideal) ((c.tc : Thread Cert.Kernel10Ideal.nD Cert.Kernel10Ideal.τ).loc Cert.Kernel10Ideal.main_v0_3)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0_0) = v0 c
          ∧ r.2.mem ((c.tc : Thread Cert.Kernel10Ideal.nD Cert.Kernel10Ideal.τ).loc Cert.Kernel10Ideal.main_v0_1) = v1 c
          ∧ r.2.mem ((c.tc : Thread Cert.Kernel10Ideal.nD Cert.Kernel10Ideal.τ).loc Cert.Kernel10Ideal.main_v0_2) = v2 c
          ∧ r.2.mem ((c.tc : Thread Cert.Kernel10Ideal.nD Cert.Kernel10Ideal.τ).loc Cert.Kernel10Ideal.main_v0_3) = v3 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v0) = v0 c
          ∧ r.2.mem ((c.tc : Thread Cert.Reference10Ideal.nD Cert.Reference10Ideal.τ).loc Cert.Reference10Ideal.main_v24) = v1 c
          ∧ r.2.mem ((c.tc : Thread Cert.Reference10Ideal.nD Cert.Reference10Ideal.τ).loc Cert.Reference10Ideal.main_v5) = v2 c
          ∧ r.2.mem ((c.tc : Thread Cert.Reference10Ideal.nD Cert.Reference10Ideal.τ).loc Cert.Reference10Ideal.main_v11) = v3 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hOn_written : Cert.On_written.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ preserves_Kernel_KernelIdeal
    ∧ algebraic_KernelIdeal_ReferenceIdeal_on_written (hKernelIdeal := hKernelIdeal) (hReferenceIdeal := hReferenceIdeal) (hOn_written := hOn_written)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
-- ==== On_written.lean ====
abbrev S8192x1024 : Shape := ⟨2, ![8192, 1024]⟩
abbrev S8192x4x512 : Shape := ⟨3, ![8192, 4, 512]⟩
abbrev S8192x10240 : Shape := ⟨2, ![8192, 10240]⟩
abbrev S4x512x1024 : Shape := ⟨3, ![4, 512, 1024]⟩
abbrev S1024x1024 : Shape := ⟨2, ![1024, 1024]⟩
abbrev S10240 : Shape := ⟨1, ![10240]⟩
abbrev S1x10240 : Shape := ⟨2, ![1, 10240]⟩
abbrev S_ : Shape := ⟨0, ![]⟩
abbrev S8192x4096 : Shape := ⟨2, ![8192, 4096]⟩
abbrev S8x4x512x128 : Shape := ⟨4, ![8, 4, 512, 128]⟩

class Facts : Prop where
  bcast_S10240_S1x10240_1 : S10240.BroadcastsInDim S1x10240 (![1] : Fin 1 → Fin S1x10240.rank)
  bcast_S_S1x10240 : S_.BroadcastsInDim S1x10240 (![] : Fin 0 → Fin S1x10240.rank)
  bcast_S1x10240_S8192x10240_0_1 : S1x10240.BroadcastsInDim S8192x10240 (![0, 1] : Fin 2 → Fin S8192x10240.rank)
  bcast_S_S8192x4096 : S_.BroadcastsInDim S8192x4096 (![] : Fin 0 → Fin S8192x4096.rank)
  bcast_S_S1024x1024 : S_.BroadcastsInDim S1024x1024 (![] : Fin 0 → Fin S1024x1024.rank)
  bcast_S_S8x4x512x128 : S_.BroadcastsInDim S8x4x512x128 (![] : Fin 0 → Fin S8x4x512x128.rank)

variable [Facts]

def fn {F : FTy → Type} [FloatOps F] (main_arg0 : FVec F S8192x1024 .f32) (main_arg1 : FVec F S8192x4x512 .f32) (main_arg2 : FVec F S8192x10240 .f32) (main_arg3 : FVec F S4x512x1024 .f32) (main_arg4 : FVec F S1024x1024 .f32) : IVec S8192x4096 1 × IVec S8192x10240 1 × IVec S1024x1024 1 × IVec S1024x1024 1 × IVec S8x4x512x128 1 × IVec S8x4x512x128 1 :=
  let main_v0 : IVec S10240 32 := iotaInDim S10240 32 0
  let main_v1 : IVec S1x10240 32 := broadcastInDim S1x10240 ![1] bcast_S10240_S1x10240_1 main_v0
  let main_c : IVec S_ 32 := constantI S_ 32 6144#32
  let main_v2 : IVec S1x10240 32 := broadcastInDim S1x10240 ![] bcast_S_S1x10240 main_c
  let main_v3 : IVec S1x10240 1 := cmpi .sge main_v1 main_v2
  let main_v4 : IVec S8192x10240 1 := broadcastInDim S8192x10240 ![0, 1] bcast_S1x10240_S8192x10240_0_1 main_v3
  let main_c_0 : IVec S_ 1 := constantI S_ 1 1#1
  let main_v5 : IVec S8192x4096 1 := broadcastInDim S8192x4096 ![] bcast_S_S8192x4096 main_c_0
  let main_c_1 : IVec S_ 1 := constantI S_ 1 1#1
  let main_v6 : IVec S1024x1024 1 := broadcastInDim S1024x1024 ![] bcast_S_S1024x1024 main_c_1
  let main_c_2 : IVec S_ 1 := constantI S_ 1 1#1
  let main_v7 : IVec S1024x1024 1 := broadcastInDim S1024x1024 ![] bcast_S_S1024x1024 main_c_2
  let main_c_3 : IVec S_ 1 := constantI S_ 1 1#1
  let main_v8 : IVec S8x4x512x128 1 := broadcastInDim S8x4x512x128 ![] bcast_S_S8x4x512x128 main_c_3
  let main_c_4 : IVec S_ 1 := constantI S_ 1 1#1
  let main_v9 : IVec S8x4x512x128 1 := broadcastInDim S8x4x512x128 ![] bcast_S_S8x4x512x128 main_c_4
  (main_v5, main_v4, main_v6, main_v7, main_v8, main_v9)
-- ==== Kernel.lean ====
abbrev S8192x1024 : Shape := ⟨2, ![8192, 1024]⟩
abbrev S8192x4x512 : Shape := ⟨3, ![8192, 4, 512]⟩
abbrev S8192x10240 : Shape := ⟨2, ![8192, 10240]⟩
abbrev S4x512x1024 : Shape := ⟨3, ![4, 512, 1024]⟩
abbrev S1024x1024 : Shape := ⟨2, ![1024, 1024]⟩
abbrev S_ : Shape := ⟨0, ![]⟩
abbrev S8192x1x512 : Shape := ⟨3, ![8192, 1, 512]⟩
abbrev S8192x512 : Shape := ⟨2, ![8192, 512]⟩
abbrev S1x512x1024 : Shape := ⟨3, ![1, 512, 1024]⟩
abbrev S512x1024 : Shape := ⟨2, ![512, 1024]⟩
abbrev S8192x2048 : Shape := ⟨2, ![8192, 2048]⟩
abbrev S8192x4096 : Shape := ⟨2, ![8192, 4096]⟩
abbrev S8x4x512x128 : Shape := ⟨4, ![8, 4, 512, 128]⟩
abbrev S512x2048 : Shape := ⟨2, ![512, 2048]⟩
abbrev S18 : Shape := ⟨1, ![18]⟩
abbrev S512x512 : Shape := ⟨2, ![512, 512]⟩
abbrev S1 : Shape := ⟨1, ![1]⟩
abbrev S1x4x512x128 : Shape := ⟨4, ![1, 4, 512, 128]⟩
abbrev S4x512x128 : Shape := ⟨3, ![4, 512, 128]⟩

abbrev nBuf : Space → Nat
  | .hbm => 83
  | .vmem => 19
  | .smem => 0
  | _ => 0

abbrev bufTy : (tb : Table) → Fin (tcTables nBuf tb) → BufTy
  | .hbm, ⟨0, _⟩ => ⟨S8192x1024, .f32⟩
  | .hbm, ⟨1, _⟩ => ⟨S8192x4x512, .f32⟩
  | .hbm, ⟨2, _⟩ => ⟨S8192x10240, .f32⟩
  | .hbm, ⟨3, _⟩ => ⟨S4x512x1024, .f32⟩
  | .hbm, ⟨4, _⟩ => ⟨S1024x1024, .f32⟩
  | .hbm, ⟨5, _⟩ => ⟨S8192x1024, .f32⟩
  | .hbm, ⟨6, _⟩ => ⟨S8192x1024, .f32⟩
  | .hbm, ⟨7, _⟩ => ⟨S8192x1024, .f32⟩
  | .hbm, ⟨8, _⟩ => ⟨S_, .f32⟩
  | .hbm, ⟨9, _⟩ => ⟨S8192x1024, .f32⟩
  | .hbm, ⟨10, _⟩ => ⟨S8192x1024, .f32⟩
  | .hbm, ⟨11, _⟩ => ⟨S_, .f32⟩
  | .hbm, ⟨12, _⟩ => ⟨S8192x1024, .f32⟩
  | .hbm, ⟨13, _⟩ => ⟨S8192x1024, .f32⟩
  | .hbm, ⟨14, _⟩ => ⟨S8192x1x512, .f32⟩
  | .hbm, ⟨15, _⟩ => ⟨S8192x512, .f32⟩
  | .hbm, ⟨16, _⟩ => ⟨S1x512x1024, .f32⟩
  | .hbm, ⟨17, _⟩ => ⟨S512x1024, .f32⟩
  | .hbm, ⟨18, _⟩ => ⟨S8192x1024, .f32⟩
  | .hbm, ⟨19, _⟩ => ⟨S8192x1024, .f32⟩
  | .hbm, ⟨20, _⟩ => ⟨S_, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S_, .f32⟩
  | .hbm, ⟨27, _⟩ => ⟨S8192x1024, .f32⟩
  | .hbm, ⟨28, _⟩ => ⟨S8192x1024, .f32⟩
  | .hbm, ⟨29, _⟩ => ⟨S_, .f32⟩
  | .hbm, ⟨30, _⟩ => ⟨S8192x1024, .f32⟩
  | .hbm, ⟨31, _⟩ => ⟨S8192x1024, .f32⟩
  | .hbm, ⟨32, _⟩ => ⟨S8192x1x512, .f32⟩
  | .hbm, ⟨33, _⟩ => ⟨S8192x512, .f32⟩
  | .hbm, ⟨34, _⟩ => ⟨S1x512x1024, .f32⟩
  | .hbm, ⟨35, _⟩ => ⟨S512x1024, .f32⟩
  | .hbm, ⟨36, _⟩ => ⟨S8192x1024, .f32⟩
  | .hbm, ⟨37, _⟩ => ⟨S8192x1024, .f32⟩
  | .hbm, ⟨38, _⟩ => ⟨S8192x1024, .f32⟩
  | .hbm, ⟨39, _⟩ => ⟨S8192x1024, .f32⟩
  | .hbm, ⟨40, _⟩ => ⟨S8192x1024, .f32⟩
  | .hbm, ⟨41, _⟩ => ⟨S8192x1024, .f32⟩
  | .hbm, ⟨42, _⟩ => ⟨S_, .f32⟩
  | .hbm, ⟨43, _⟩ => ⟨S8192x1024, .f32⟩
  | .hbm, ⟨44, _⟩ => ⟨S8192x1024, .f32⟩
  | .hbm, ⟨45, _⟩ => ⟨S_, .f32⟩
  | .hbm, ⟨46, _⟩ => ⟨S8192x1024, .f32⟩
  | .hbm, ⟨47, _⟩ => ⟨S8192x1024, .f32⟩
  | .hbm, ⟨48, _⟩ => ⟨S8192x1x512, .f32⟩
  | .hbm, ⟨49, _⟩ => ⟨S8192x512, .f32⟩
  | .hbm, ⟨50, _⟩ => ⟨S1x512x1024, .f32⟩
  | .hbm, ⟨51, _⟩ => ⟨S512x1024, .f32⟩
  | .hbm, ⟨52, _⟩ => ⟨S8192x1024, .f32⟩
  | .hbm, ⟨53, _⟩ => ⟨S8192x1024, .f32⟩
  | .hbm, ⟨54, _⟩ => ⟨S8192x1024, .f32⟩
  | .hbm, ⟨55, _⟩ => ⟨S8192x1024, .f32⟩
  | .hbm, ⟨56, _⟩ => ⟨S8192x1024, .f32⟩
  | .hbm, ⟨57, _⟩ => ⟨S8192x1024, .f32⟩
  | .hbm, ⟨58, _⟩ => ⟨S_, .f32⟩
  | .hbm, ⟨59, _⟩ => ⟨S8192x1024, .f32⟩
  | .hbm, ⟨60, _⟩ => ⟨S8192x1024, .f32⟩
  | .hbm, ⟨61, _⟩ => ⟨S_, .f32⟩
  | .hbm, ⟨62, _⟩ => ⟨S8192x1024, .f32⟩
  | .hbm, ⟨63, _⟩ => ⟨S8192x1024, .f32⟩
  | .hbm, ⟨64, _⟩ => ⟨S8192x1x512, .f32⟩
  | .hbm, ⟨65, _⟩ => ⟨S8192x512, .f32⟩
  | .hbm, ⟨66, _⟩ => ⟨S1x512x1024, .f32⟩
  | .hbm, ⟨67, _⟩ => ⟨S512x1024, .f32⟩
  | .hbm, ⟨68, _⟩ => ⟨S8192x1024, .f32⟩
  | .hbm, ⟨69, _⟩ => ⟨S8192x1024, .f32⟩
  | .hbm, ⟨70, _⟩ => ⟨S8192x1024, .f32⟩
  | .hbm, ⟨71, _⟩ => ⟨S8192x4x512, .bf16⟩
  | .hbm, ⟨72, _⟩ => ⟨S8192x2048, .bf16⟩
  | .hbm, ⟨73, _⟩ => ⟨S8192x10240, .bf16⟩
  | .hbm, ⟨74, _⟩ => ⟨S8192x1024, .bf16⟩
  | .hbm, ⟨75, _⟩ => ⟨S4x512x1024, .bf16⟩
  | .hbm, ⟨76, _⟩ => ⟨S1024x1024, .bf16⟩
  | .hbm, ⟨77, _⟩ => ⟨S8192x4096, .bf16⟩
  | .hbm, ⟨78, _⟩ => ⟨S8192x10240, .bf16⟩
  | .hbm, ⟨79, _⟩ => ⟨S1024x1024, .f32⟩
  | .hbm, ⟨80, _⟩ => ⟨S1024x1024, .bf16⟩
  | .hbm, ⟨81, _⟩ => ⟨S8x4x512x128, .f32⟩
  | .hbm, ⟨82, _⟩ => ⟨S8x4x512x128, .bf16⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S512x2048, .bf16⟩
  | .local _ .vmem, ⟨5, _⟩ => ⟨S512x2048, .bf16⟩
  | .local _ .vmem, ⟨6, _⟩ => ⟨S512x1024, .bf16⟩
  | .local _ .vmem, ⟨7, _⟩ => ⟨S512x1024, .bf16⟩
  | .local _ .vmem, ⟨8, _⟩ => ⟨S4x512x1024, .bf16⟩
  | .local _ .vmem, ⟨9, _⟩ => ⟨S1024x1024, .bf16⟩
  | .local _ .vmem, ⟨10, _⟩ => ⟨S512x2048, .bf16⟩
  | .local _ .vmem, ⟨11, _⟩ => ⟨S512x2048, .bf16⟩
  | .local _ .vmem, ⟨12, _⟩ => ⟨S512x2048, .bf16⟩
  | .local _ .vmem, ⟨13, _⟩ => ⟨S512x2048, .bf16⟩
  | .local _ .vmem, ⟨14, _⟩ => ⟨S512x1024, .f32⟩
  | .local _ .vmem, ⟨15, _⟩ => ⟨S1024x1024, .f32⟩
  | .local _ .vmem, ⟨16, _⟩ => ⟨S4x512x1024, .f32⟩
  | .local _ .vmem, ⟨17, _⟩ => ⟨S1024x1024, .bf16⟩
  | .local _ .vmem, ⟨18, _⟩ => ⟨S4x512x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_1 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_2 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_cst_4 : Ref sig .tc := ⟨.hbm, 42, rfl⟩
abbrev main_v32 : Ref sig .tc := ⟨.hbm, 43, rfl⟩
abbrev main_v33 : Ref sig .tc := ⟨.hbm, 44, rfl⟩
abbrev main_cst_5 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_cst_6 : Ref sig .tc := ⟨.hbm, 58, rfl⟩
abbrev main_v46 : Ref sig .tc := ⟨.hbm, 59, rfl⟩
abbrev main_v47 : Ref sig .tc := ⟨.hbm, 60, rfl⟩
abbrev main_cst_7 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63_0 : Ref sig .tc := ⟨.hbm, 77, rfl⟩
abbrev main_v63_1 : Ref sig .tc := ⟨.hbm, 78, rfl⟩
abbrev main_v63_2 : Ref sig .tc := ⟨.hbm, 79, rfl⟩
abbrev main_v63_3 : Ref sig .tc := ⟨.hbm, 80, rfl⟩
abbrev main_v63_4 : Ref sig .tc := ⟨.hbm, 81, rfl⟩
abbrev main_v63_5 : Ref sig .tc := ⟨.hbm, 82, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_scratch3 : Ref sig .tc := ⟨.vmem, 17, rfl⟩
abbrev cc0_scratch4 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨2, ![16, 2], ![false, false]⟩

def k0_off1 (i : grid0.Coords) (c0_i32_7 : BitVec 32) : Fin 3 → Nat :=
  let c2_i32 : BitVec 32 := 2#32
  let arg1 : BitVec 32 := BitVec.ofNat 32 (i 1).val
  let v11 : BitVec 32 := Scalar.muli c2_i32 arg1
  let v12 : BitVec 32 := Scalar.addi v11 c0_i32_7
  let v13 : Index := Scalar.indexCast v12
  let c0_8 : Index := 0#32
  let c0_9 : Index := 0#32
  ![v13.toNat, 0, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.addi c3_i32 arg1
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.addi c3_i32 arg1
  let c0_i32 : BitVec 32 := 0#32
  ![arg0.toNat, v0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S4x512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S512x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S512x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== ReferenceIdeal.lean ====
abbrev S8192x1024 : Shape := ⟨2, ![8192, 1024]⟩
abbrev S8192x4x512 : Shape := ⟨3, ![8192, 4, 512]⟩
abbrev S8192x10240 : Shape := ⟨2, ![8192, 10240]⟩
abbrev S4x512x1024 : Shape := ⟨3, ![4, 512, 1024]⟩
abbrev S1024x1024 : Shape := ⟨2, ![1024, 1024]⟩
abbrev S4x1024x8192 : Shape := ⟨3, ![4, 1024, 8192]⟩
abbrev S8192x4x1024 : Shape := ⟨3, ![8192, 4, 1024]⟩
abbrev S8192x4096 : Shape := ⟨2, ![8192, 4096]⟩
abbrev S_ : Shape := ⟨0, ![]⟩
abbrev S4x8192x512 : Shape := ⟨3, ![4, 8192, 512]⟩
abbrev S4x1024x512 : Shape := ⟨3, ![4, 1024, 512]⟩
abbrev S4x512x8x128 : Shape := ⟨4, ![4, 512, 8, 128]⟩
abbrev S8x4x512x128 : Shape := ⟨4, ![8, 4, 512, 128]⟩

abbrev nBuf : Space → Nat
  | .hbm => 47
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x4x512, .f32⟩
  | .hbm, ⟨2, _⟩ => ⟨S8192x10240, .f32⟩
  | .hbm, ⟨3, _⟩ => ⟨S4x512x1024, .f32⟩
  | .hbm, ⟨4, _⟩ => ⟨S1024x1024, .f32⟩
  | .hbm, ⟨5, _⟩ => ⟨S4x1024x8192, .f32⟩
  | .hbm, ⟨6, _⟩ => ⟨S8192x4x1024, .f32⟩
  | .hbm, ⟨7, _⟩ => ⟨S8192x4096, .f32⟩
  | .hbm, ⟨8, _⟩ => ⟨S8192x4x1024, .f32⟩
  | .hbm, ⟨9, _⟩ => ⟨S8192x4x1024, .f32⟩
  | .hbm, ⟨10, _⟩ => ⟨S8192x4x1024, .f32⟩
  | .hbm, ⟨11, _⟩ => ⟨S_, .f32⟩
  | .hbm, ⟨12, _⟩ => ⟨S8192x4x1024, .f32⟩
  | .hbm, ⟨13, _⟩ => ⟨S8192x4x1024, .f32⟩
  | .hbm, ⟨14, _⟩ => ⟨S_, .f32⟩
  | .hbm, ⟨15, _⟩ => ⟨S8192x4x1024, .f32⟩
  | .hbm, ⟨16, _⟩ => ⟨S8192x4x1024, .f32⟩
  | .hbm, ⟨17, _⟩ => ⟨S_, .f32⟩
  | .hbm, ⟨18, _⟩ => ⟨S8192x4x1024, .f32⟩
  | .hbm, ⟨19, _⟩ => ⟨S8192x4x1024, .f32⟩
  | .hbm, ⟨20, _⟩ => ⟨S8192x4x1024, .f32⟩
  | .hbm, ⟨21, _⟩ => ⟨S8192x4x1024, .f32⟩
  | .hbm, ⟨22, _⟩ => ⟨S_, .f32⟩
  | .hbm, ⟨23, _⟩ => ⟨S8192x1024, .f32⟩
  | .hbm, ⟨24, _⟩ => ⟨S8192x1024, .f32⟩
  | .hbm, ⟨25, _⟩ => ⟨S1024x1024, .f32⟩
  | .hbm, ⟨26, _⟩ => ⟨S1024x1024, .f32⟩
  | .hbm, ⟨27, _⟩ => ⟨S8192x1024, .f32⟩
  | .hbm, ⟨28, _⟩ => ⟨S8192x4x1024, .f32⟩
  | .hbm, ⟨29, _⟩ => ⟨S8192x4x1024, .f32⟩
  | .hbm, ⟨30, _⟩ => ⟨S8192x4x1024, .f32⟩
  | .hbm, ⟨31, _⟩ => ⟨S8192x4x1024, .f32⟩
  | .hbm, ⟨32, _⟩ => ⟨S8192x4096, .f32⟩
  | .hbm, ⟨33, _⟩ => ⟨S_, .f32⟩
  | .hbm, ⟨34, _⟩ => ⟨S8192x10240, .f32⟩
  | .hbm, ⟨35, _⟩ => ⟨S4x1024x8192, .f32⟩
  | .hbm, ⟨36, _⟩ => ⟨S4x8192x512, .f32⟩
  | .hbm, ⟨37, _⟩ => ⟨S8192x4x512, .f32⟩
  | .hbm, ⟨38, _⟩ => ⟨S4x1024x512, .f32⟩
  | .hbm, ⟨39, _⟩ => ⟨S4x512x1024, .f32⟩
  | .hbm, ⟨40, _⟩ => ⟨S4x512x8x128, .f32⟩
  | .hbm, ⟨41, _⟩ => ⟨S8x4x512x128, .f32⟩
  | .hbm, ⟨42, _⟩ => ⟨S8192x4096, .f32⟩
  | .hbm, ⟨43, _⟩ => ⟨S8192x4096, .bf16⟩
  | .hbm, ⟨44, _⟩ => ⟨S8192x10240, .bf16⟩
  | .hbm, ⟨45, _⟩ => ⟨S1024x1024, .bf16⟩
  | .hbm, ⟨46, _⟩ => ⟨S8x4x512x128, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_3 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩

abbrev nD : Nat := 1
abbrev τ : Topo := Topo.v7x

variable {F : FTy → Type} [FloatOps F]
-- ==== Kernel2.lean ====
abbrev S8192x1024 : Shape := ⟨2, ![8192, 1024]⟩
abbrev S8192x10240 : Shape := ⟨2, ![8192, 10240]⟩
abbrev S8x1024x1280 : Shape := ⟨3, ![8, 1024, 1280]⟩
abbrev S2048x1024 : Shape := ⟨2, ![2048, 1024]⟩
abbrev S2048x1280 : Shape := ⟨2, ![2048, 1280]⟩
abbrev S1x1024x1280 : Shape := ⟨3, ![1, 1024, 1280]⟩
abbrev S1024x1280 : Shape := ⟨2, ![1024, 1280]⟩

abbrev nBuf : Space → Nat
  | .hbm => 6
  | .vmem => 8
  | .smem => 0
  | _ => 0

abbrev bufTy : (tb : Table) → Fin (tcTables nBuf tb) → BufTy
  | .hbm, ⟨0, _⟩ => ⟨S8192x1024, .f32⟩
  | .hbm, ⟨1, _⟩ => ⟨S8192x10240, .f32⟩
  | .hbm, ⟨2, _⟩ => ⟨S8192x1024, .bf16⟩
  | .hbm, ⟨3, _⟩ => ⟨S8192x10240, .bf16⟩
  | .hbm, ⟨4, _⟩ => ⟨S8x1024x1280, .f32⟩
  | .hbm, ⟨5, _⟩ => ⟨S8x1024x1280, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1280, .bf16⟩
  | .local _ .vmem, ⟨3, _⟩ => ⟨S2048x1280, .bf16⟩
  | .local _ .vmem, ⟨4, _⟩ => ⟨S1x1024x1280, .f32⟩
  | .local _ .vmem, ⟨5, _⟩ => ⟨S1x1024x1280, .f32⟩
  | .local _ .vmem, ⟨6, _⟩ => ⟨S1x1024x1280, .bf16⟩
  | .local _ .vmem, ⟨7, _⟩ => ⟨S1x1024x1280, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 4], ![false, false]⟩

def k0_cond2 (i : grid0.Coords) : BitVec 1 :=
  let arg1 : BitVec 32 := BitVec.ofNat 32 (i 1).val
  let c3_i32 : BitVec 32 := 3#32
  let v14 : BitVec 1 := Scalar.cmpi .eq arg1 c3_i32
  let v15 : BitVec 32 := Scalar.extui v14
  let c0_i32_10 : BitVec 32 := 0#32
  let v16 : BitVec 1 := Scalar.cmpi .ne v15 c0_i32_10
  v16

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1280 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x1280 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024x1280 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]
-- ==== Reference2Ideal.lean ====
abbrev S8192x1024 : Shape := ⟨2, ![8192, 1024]⟩
abbrev S8192x10240 : Shape := ⟨2, ![8192, 10240]⟩
abbrev S_ : Shape := ⟨0, ![]⟩
abbrev S1024x10240 : Shape := ⟨2, ![1024, 10240]⟩
abbrev S10240x1024 : Shape := ⟨2, ![10240, 1024]⟩
abbrev S1024x8x1280 : Shape := ⟨3, ![1024, 8, 1280]⟩
abbrev S8x1024x1280 : Shape := ⟨3, ![8, 1024, 1280]⟩

abbrev nBuf : Space → Nat
  | .hbm => 10
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x10240, .f32⟩
  | .hbm, ⟨2, _⟩ => ⟨S_, .f32⟩
  | .hbm, ⟨3, _⟩ => ⟨S1024x10240, .f32⟩
  | .hbm, ⟨4, _⟩ => ⟨S8192x10240, .f32⟩
  | .hbm, ⟨5, _⟩ => ⟨S10240x1024, .f32⟩
  | .hbm, ⟨6, _⟩ => ⟨S1024x10240, .f32⟩
  | .hbm, ⟨7, _⟩ => ⟨S1024x8x1280, .f32⟩
  | .hbm, ⟨8, _⟩ => ⟨S8x1024x1280, .f32⟩
  | .hbm, ⟨9, _⟩ => ⟨S8x1024x1280, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel3.lean ====
abbrev S8192x10240 : Shape := ⟨2, ![8192, 10240]⟩
abbrev S1024x10240 : Shape := ⟨2, ![1024, 10240]⟩
abbrev S8192x1024 : Shape := ⟨2, ![8192, 1024]⟩
abbrev S1024 : Shape := ⟨1, ![1024]⟩
abbrev S2x512x8x1280 : Shape := ⟨4, ![2, 512, 8, 1280]⟩
abbrev S1x512x8x1280 : Shape := ⟨4, ![1, 512, 8, 1280]⟩
abbrev S512x8x1280 : Shape := ⟨3, ![512, 8, 1280]⟩
abbrev S8x512x1280 : Shape := ⟨3, ![8, 512, 1280]⟩
abbrev S1x1024 : Shape := ⟨2, ![1, 1024]⟩
abbrev S1024x2560 : Shape := ⟨2, ![1024, 2560]⟩
abbrev S2x512x1280 : Shape := ⟨3, ![2, 512, 1280]⟩
abbrev S1024x1024 : Shape := ⟨2, ![1024, 1024]⟩
abbrev S2 : Shape := ⟨1, ![2]⟩
abbrev S1 : Shape := ⟨1, ![1]⟩
abbrev S_ : Shape := ⟨0, ![]⟩
abbrev S1024x1280 : Shape := ⟨2, ![1024, 1280]⟩
abbrev S1024x512 : Shape := ⟨2, ![1024, 512]⟩
abbrev S1x512x1280 : Shape := ⟨3, ![1, 512, 1280]⟩
abbrev S512x1280 : Shape := ⟨2, ![512, 1280]⟩
abbrev S1024x1 : Shape := ⟨2, ![1024, 1]⟩

abbrev nBuf : Space → Nat
  | .hbm => 17
  | .vmem => 13
  | .smem => 0
  | _ => 0

abbrev bufTy : (tb : Table) → Fin (tcTables nBuf tb) → BufTy
  | .hbm, ⟨0, _⟩ => ⟨S8192x10240, .f32⟩
  | .hbm, ⟨1, _⟩ => ⟨S1024x10240, .f32⟩
  | .hbm, ⟨2, _⟩ => ⟨S8192x1024, .f32⟩
  | .hbm, ⟨3, _⟩ => ⟨S1024, .f32⟩
  | .hbm, ⟨4, _⟩ => ⟨S8192x1024, .f32⟩
  | .hbm, ⟨5, _⟩ => ⟨S1024x10240, .bf16⟩
  | .hbm, ⟨6, _⟩ => ⟨S2x512x8x1280, .bf16⟩
  | .hbm, ⟨7, _⟩ => ⟨S1x512x8x1280, .bf16⟩
  | .hbm, ⟨8, _⟩ => ⟨S512x8x1280, .bf16⟩
  | .hbm, ⟨9, _⟩ => ⟨S8x512x1280, .bf16⟩
  | .hbm, ⟨10, _⟩ => ⟨S1x512x8x1280, .bf16⟩
  | .hbm, ⟨11, _⟩ => ⟨S512x8x1280, .bf16⟩
  | .hbm, ⟨12, _⟩ => ⟨S8x512x1280, .bf16⟩
  | .hbm, ⟨13, _⟩ => ⟨S8192x10240, .bf16⟩
  | .hbm, ⟨14, _⟩ => ⟨S1x1024, .f32⟩
  | .hbm, ⟨15, _⟩ => ⟨S8192x1024, .f32⟩
  | .hbm, ⟨16, _⟩ => ⟨S1x1024, .f32⟩
  | .local _ .vmem, ⟨0, _⟩ => ⟨S1024x2560, .bf16⟩
  | .local _ .vmem, ⟨1, _⟩ => ⟨S1024x2560, .bf16⟩
  | .local _ .vmem, ⟨2, _⟩ => ⟨S2x512x1280, .bf16⟩
  | .local _ .vmem, ⟨3, _⟩ => ⟨S2x512x1280, .bf16⟩
  | .local _ .vmem, ⟨4, _⟩ => ⟨S2x512x1280, .bf16⟩
  | .local _ .vmem, ⟨5, _⟩ => ⟨S2x512x1280, .bf16⟩
  | .local _ .vmem, ⟨6, _⟩ => ⟨S1x1024, .f32⟩
  | .local _ .vmem, ⟨7, _⟩ => ⟨S1024x1024, .f32⟩
  | .local _ .vmem, ⟨8, _⟩ => ⟨S1024x1024, .f32⟩
  | .local _ .vmem, ⟨9, _⟩ => ⟨S1x1024, .f32⟩
  | .local _ .vmem, ⟨10, _⟩ => ⟨S1024x1024, .f32⟩
  | .local _ .vmem, ⟨11, _⟩ => ⟨S1024x1024, .f32⟩
  | .local _ .vmem, ⟨12, _⟩ => ⟨S1024x1024, .f32⟩
  | _, _ => ⟨S8192x10240, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10_0 : Ref sig .tc := ⟨.hbm, 15, rfl⟩
abbrev main_v10_1 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨2, ![8, 4], ![false, false]⟩

def k0_mult1 (i : grid0.Coords) : BitVec 32 :=
  let arg0 : BitVec 32 := BitVec.ofNat 32 (i 0).val
  let c1024_i32 : BitVec 32 := 1024#32
  let v0 : BitVec 32 := Scalar.muli arg0 c1024_i32
  v0
def k0_cond2 (i : grid0.Coords) : BitVec 1 :=
  let arg1 : BitVec 32 := BitVec.ofNat 32 (i 1).val
  let c0_i32_2 : BitVec 32 := 0#32
  let v7 : BitVec 1 := Scalar.cmpi .eq arg1 c0_i32_2
  let v8 : BitVec 32 := Scalar.extui v7
  let c0_i32_4 : BitVec 32 := 0#32
  let v9 : BitVec 1 := Scalar.cmpi .ne v8 c0_i32_4
  v9

def k0_off1 (i : grid0.Coords) : Fin 2 → Nat :=
  let arg0 : BitVec 32 := BitVec.ofNat 32 (i 0).val
  let c1024_i32 : BitVec 32 := 1024#32
  let v0 : BitVec 32 := Scalar.muli arg0 c1024_i32
  let v1 : BitVec 32 := v0
  let c0_i32_31 : BitVec 32 := 0#32
  ![v1.toNat, 0]
def k0_cond3 (i : grid0.Coords) : BitVec 1 :=
  let arg1 : BitVec 32 := BitVec.ofNat 32 (i 1).val
  let c3_i32 : BitVec 32 := 3#32
  let v38 : BitVec 1 := Scalar.cmpi .eq arg1 c3_i32
  let v39 : BitVec 32 := Scalar.extui v38
  let c0_i32_30 : BitVec 32 := 0#32
  let v40 : BitVec 1 := Scalar.cmpi .ne v39 c0_i32_30
  v40

def k0_off2 (i : grid0.Coords) : Fin 2 → Nat :=
  let arg0 : BitVec 32 := BitVec.ofNat 32 (i 0).val
  let c1024_i32 : BitVec 32 := 1024#32
  let v0 : BitVec 32 := Scalar.muli arg0 c1024_i32
  let v1 : BitVec 32 := v0
  let c0_i32_31 : BitVec 32 := 0#32
  ![v1.toNat, 0]
def k0_cond1 (i : grid0.Coords) : BitVec 1 :=
  let arg0 : BitVec 32 := BitVec.ofNat 32 (i 0).val
  let c0_i32 : BitVec 32 := 0#32
  let v2 : BitVec 1 := Scalar.cmpi .eq arg0 c0_i32
  let arg1 : BitVec 32 := BitVec.ofNat 32 (i 1).val
  let c0_i32_0 : BitVec 32 := 0#32
  let v3 : BitVec 1 := Scalar.cmpi .eq arg1 c0_i32_0
  let v4 : BitVec 1 := Scalar.andi v2 v3
  let v5 : BitVec 32 := Scalar.extui v4
  let c0_i32_1 : BitVec 32 := 0#32
  let v6 : BitVec 1 := Scalar.cmpi .ne v5 c0_i32_1
  v6

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x2560 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2x512x1280 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2x512x1280 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]
-- ==== Reference3Ideal.lean ====
abbrev S8192x10240 : Shape := ⟨2, ![8192, 10240]⟩
abbrev S1024x10240 : Shape := ⟨2, ![1024, 10240]⟩
abbrev S8192x1024 : Shape := ⟨2, ![8192, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 54
  | .vmem => 0
  | .smem => 0
  | _ => 0

abbrev bufTy : (tb : Table) → Fin (tcTables nBuf tb) → BufTy
  | .hbm, ⟨0, _⟩ => ⟨S8192x10240, .f32⟩
  | .hbm, ⟨1, _⟩ => ⟨S1024x10240, .f32⟩
  | .hbm, ⟨2, _⟩ => ⟨S8192x1024, .f32⟩
  | .hbm, ⟨3, _⟩ => ⟨S1024, .f32⟩
  | .hbm, ⟨4, _⟩ => ⟨S8192x1024, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x1024, .f32⟩
  | .hbm, ⟨21, _⟩ => ⟨S8192x1024, .f32⟩
  | .hbm, ⟨22, _⟩ => ⟨S1x1024, .f32⟩
  | .hbm, ⟨23, _⟩ => ⟨S8192x1024, .f32⟩
  | .hbm, ⟨24, _⟩ => ⟨S8192x1024, .f32⟩
  | .hbm, ⟨25, _⟩ => ⟨S8192x10240, .f32⟩
  | .hbm, ⟨26, _⟩ => ⟨S8192x1024, .f32⟩
  | .hbm, ⟨27, _⟩ => ⟨S8192x1024, .f32⟩
  | .hbm, ⟨28, _⟩ => ⟨S_, .f32⟩
  | .hbm, ⟨29, _⟩ => ⟨S1024, .f32⟩
  | .hbm, ⟨30, _⟩ => ⟨S1x1024, .f32⟩
  | .hbm, ⟨31, _⟩ => ⟨S8192x1024, .f32⟩
  | .hbm, ⟨32, _⟩ => ⟨S8192x1024, .f32⟩
  | .hbm, ⟨33, _⟩ => ⟨S_, .f32⟩
  | .hbm, ⟨34, _⟩ => ⟨S1024, .f32⟩
  | .hbm, ⟨35, _⟩ => ⟨S8192x1024, .f32⟩
  | .hbm, ⟨36, _⟩ => ⟨S_, .f32⟩
  | .hbm, ⟨37, _⟩ => ⟨S8192, .f32⟩
  | .hbm, ⟨38, _⟩ => ⟨S8192x1, .f32⟩
  | .hbm, ⟨39, _⟩ => ⟨S8192x1024, .f32⟩
  | .hbm, ⟨40, _⟩ => ⟨S8192x1024, .f32⟩
  | .hbm, ⟨41, _⟩ => ⟨S8192x1024, .f32⟩
  | .hbm, ⟨42, _⟩ => ⟨S8192x1, .f32⟩
  | .hbm, ⟨43, _⟩ => ⟨S_, .f32⟩
  | .hbm, ⟨44, _⟩ => ⟨S8192x1, .f32⟩
  | .hbm, ⟨45, _⟩ => ⟨S8192x1, .f32⟩
  | .hbm, ⟨46, _⟩ => ⟨S_, .f32⟩
  | .hbm, ⟨47, _⟩ => ⟨S8192, .f32⟩
  | .hbm, ⟨48, _⟩ => ⟨S8192x1024, .f32⟩
  | .hbm, ⟨49, _⟩ => ⟨S8192x1024, .f32⟩
  | .hbm, ⟨50, _⟩ => ⟨S8192x1024, .f32⟩
  | .hbm, ⟨51, _⟩ => ⟨S8192x1024, .f32⟩
  | .hbm, ⟨52, _⟩ => ⟨S8192x1024, .f32⟩
  | .hbm, ⟨53, _⟩ => ⟨S1x1024, .f32⟩
  | _, _ => ⟨S8192x10240, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_6 : Ref sig .tc := ⟨.hbm, 43, rfl⟩
abbrev main_v31 : Ref sig .tc := ⟨.hbm, 44, rfl⟩
abbrev main_v32 : Ref sig .tc := ⟨.hbm, 45, rfl⟩
abbrev main_cst_7 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩

abbrev nD : Nat := 1
abbrev τ : Topo := Topo.v7x

variable {F : FTy → Type} [FloatOps F]
-- ==== Kernel4.lean ====
abbrev S8192x1024 : Shape := ⟨2, ![8192, 1024]⟩
abbrev S1024 : Shape := ⟨1, ![1024]⟩
abbrev S1024x10240 : Shape := ⟨2, ![1024, 10240]⟩
abbrev S2x512x8x1280 : Shape := ⟨4, ![2, 512, 8, 1280]⟩
abbrev S1x512x8x1280 : Shape := ⟨4, ![1, 512, 8, 1280]⟩
abbrev S512x8x1280 : Shape := ⟨3, ![512, 8, 1280]⟩
abbrev S8x512x1280 : Shape := ⟨3, ![8, 512, 1280]⟩
abbrev S1x1024 : Shape := ⟨2, ![1, 1024]⟩
abbrev S8192x10240 : Shape := ⟨2, ![8192, 10240]⟩
abbrev S2048x1024 : Shape := ⟨2, ![2048, 1024]⟩
abbrev S1x512x1280 : Shape := ⟨3, ![1, 512, 1280]⟩
abbrev S2048x1280 : Shape := ⟨2, ![2048, 1280]⟩
abbrev S2048 : Shape := ⟨1, ![2048]⟩
abbrev S2048x1 : Shape := ⟨2, ![2048, 1]⟩
abbrev S2048x512 : Shape := ⟨2, ![2048, 512]⟩
abbrev S512x1280 : Shape := ⟨2, ![512, 1280]⟩

abbrev nBuf : Space → Nat
  | .hbm => 14
  | .vmem => 11
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x10240, .f32⟩
  | .hbm, ⟨3, _⟩ => ⟨S1024x10240, .bf16⟩
  | .hbm, ⟨4, _⟩ => ⟨S2x512x8x1280, .bf16⟩
  | .hbm, ⟨5, _⟩ => ⟨S1x512x8x1280, .bf16⟩
  | .hbm, ⟨6, _⟩ => ⟨S512x8x1280, .bf16⟩
  | .hbm, ⟨7, _⟩ => ⟨S8x512x1280, .bf16⟩
  | .hbm, ⟨8, _⟩ => ⟨S1x512x8x1280, .bf16⟩
  | .hbm, ⟨9, _⟩ => ⟨S512x8x1280, .bf16⟩
  | .hbm, ⟨10, _⟩ => ⟨S8x512x1280, .bf16⟩
  | .hbm, ⟨11, _⟩ => ⟨S1x1024, .f32⟩
  | .hbm, ⟨12, _⟩ => ⟨S8192x10240, .bf16⟩
  | .hbm, ⟨13, _⟩ => ⟨S8192x1024, .bf16⟩
  | .local _ .vmem, ⟨0, _⟩ => ⟨S2048x1024, .f32⟩
  | .local _ .vmem, ⟨1, _⟩ => ⟨S2048x1024, .f32⟩
  | .local _ .vmem, ⟨2, _⟩ => ⟨S1x1024, .f32⟩
  | .local _ .vmem, ⟨3, _⟩ => ⟨S1x512x1280, .bf16⟩
  | .local _ .vmem, ⟨4, _⟩ => ⟨S1x512x1280, .bf16⟩
  | .local _ .vmem, ⟨5, _⟩ => ⟨S1x512x1280, .bf16⟩
  | .local _ .vmem, ⟨6, _⟩ => ⟨S1x512x1280, .bf16⟩
  | .local _ .vmem, ⟨7, _⟩ => ⟨S2048x1280, .bf16⟩
  | .local _ .vmem, ⟨8, _⟩ => ⟨S2048x1280, .bf16⟩
  | .local _ .vmem, ⟨9, _⟩ => ⟨S2048x1024, .bf16⟩
  | .local _ .vmem, ⟨10, _⟩ => ⟨S2048x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9_0 : Ref sig .tc := ⟨.hbm, 12, rfl⟩
abbrev main_v9_1 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![4, 8], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x512x1280 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x512x1280 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S2048x1280 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S2048x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== Reference4Ideal.lean ====
abbrev S8192x1024 : Shape := ⟨2, ![8192, 1024]⟩
abbrev S1024 : Shape := ⟨1, ![1024]⟩
abbrev S1024x10240 : Shape := ⟨2, ![1024, 10240]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x10240 : Shape := ⟨2, ![8192, 10240]⟩

abbrev nBuf : Space → Nat
  | .hbm => 22
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x10240, .f32⟩
  | .hbm, ⟨3, _⟩ => ⟨S8192x1024, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x1024, .f32⟩
  | .hbm, ⟨15, _⟩ => ⟨S8192x1024, .f32⟩
  | .hbm, ⟨16, _⟩ => ⟨S1x1024, .f32⟩
  | .hbm, ⟨17, _⟩ => ⟨S8192x1024, .f32⟩
  | .hbm, ⟨18, _⟩ => ⟨S8192x1024, .f32⟩
  | .hbm, ⟨19, _⟩ => ⟨S8192x10240, .f32⟩
  | .hbm, ⟨20, _⟩ => ⟨S8192x10240, .bf16⟩
  | .hbm, ⟨21, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]
-- ==== Kernel5.lean ====
abbrev S8x2408x128 : Shape := ⟨3, ![8, 2408, 128]⟩
abbrev S2408x128 : Shape := ⟨2, ![2408, 128]⟩
abbrev S8x344x128 : Shape := ⟨3, ![8, 344, 128]⟩
abbrev S344x128 : Shape := ⟨2, ![344, 128]⟩
abbrev S1x344x128 : Shape := ⟨3, ![1, 344, 128]⟩

abbrev nBuf : Space → Nat
  | .hbm => 8
  | .vmem => 16
  | .smem => 0
  | _ => 0

abbrev bufTy : (tb : Table) → Fin (tcTables nBuf tb) → BufTy
  | .hbm, ⟨0, _⟩ => ⟨S8x2408x128, .f32⟩
  | .hbm, ⟨1, _⟩ => ⟨S2408x128, .f32⟩
  | .hbm, ⟨2, _⟩ => ⟨S2408x128, .f32⟩
  | .hbm, ⟨3, _⟩ => ⟨S2408x128, .f32⟩
  | .hbm, ⟨4, _⟩ => ⟨S2408x128, .f32⟩
  | .hbm, ⟨5, _⟩ => ⟨S2408x128, .f32⟩
  | .hbm, ⟨6, _⟩ => ⟨S2408x128, .f32⟩
  | .hbm, ⟨7, _⟩ => ⟨S2408x128, .f32⟩
  | .local _ .vmem, ⟨0, _⟩ => ⟨S8x344x128, .f32⟩
  | .local _ .vmem, ⟨1, _⟩ => ⟨S8x344x128, .f32⟩
  | .local _ .vmem, ⟨2, _⟩ => ⟨S344x128, .f32⟩
  | .local _ .vmem, ⟨3, _⟩ => ⟨S344x128, .f32⟩
  | .local _ .vmem, ⟨4, _⟩ => ⟨S344x128, .f32⟩
  | .local _ .vmem, ⟨5, _⟩ => ⟨S344x128, .f32⟩
  | .local _ .vmem, ⟨6, _⟩ => ⟨S344x128, .f32⟩
  | .local _ .vmem, ⟨7, _⟩ => ⟨S344x128, .f32⟩
  | .local _ .vmem, ⟨8, _⟩ => ⟨S344x128, .f32⟩
  | .local _ .vmem, ⟨9, _⟩ => ⟨S344x128, .f32⟩
  | .local _ .vmem, ⟨10, _⟩ => ⟨S344x128, .f32⟩
  | .local _ .vmem, ⟨11, _⟩ => ⟨S344x128, .f32⟩
  | .local _ .vmem, ⟨12, _⟩ => ⟨S344x128, .f32⟩
  | .local _ .vmem, ⟨13, _⟩ => ⟨S344x128, .f32⟩
  | .local _ .vmem, ⟨14, _⟩ => ⟨S344x128, .f32⟩
  | .local _ .vmem, ⟨15, _⟩ => ⟨S344x128, .f32⟩
  | _, _ => ⟨S8x2408x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![7], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x344x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S344x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S344x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S344x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S344x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S344x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S344x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S344x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference5Ideal.lean ====
abbrev S8x2408x128 : Shape := ⟨3, ![8, 2408, 128]⟩
abbrev S2408x128 : Shape := ⟨2, ![2408, 128]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S8x2408x128, .f32⟩
  | .hbm, ⟨1, _⟩ => ⟨S2408x128, .f32⟩
  | .hbm, ⟨2, _⟩ => ⟨S2408x128, .f32⟩
  | .hbm, ⟨3, _⟩ => ⟨S2408x128, .f32⟩
  | .hbm, ⟨4, _⟩ => ⟨S_, .f32⟩
  | .hbm, ⟨5, _⟩ => ⟨S2408x128, .f32⟩
  | .hbm, ⟨6, _⟩ => ⟨S_, .f32⟩
  | .hbm, ⟨7, _⟩ => ⟨S2408x128, .f32⟩
  | .hbm, ⟨8, _⟩ => ⟨S2408x128, .f32⟩
  | .hbm, ⟨9, _⟩ => ⟨S_, .f32⟩
  | .hbm, ⟨10, _⟩ => ⟨S2408x128, .f32⟩
  | .hbm, ⟨11, _⟩ => ⟨S2408x128, .f32⟩
  | .hbm, ⟨12, _⟩ => ⟨S2408x128, .f32⟩
  | .hbm, ⟨13, _⟩ => ⟨S_, .f32⟩
  | .hbm, ⟨14, _⟩ => ⟨S2408x128, .f32⟩
  | .hbm, ⟨15, _⟩ => ⟨S2408x128, .f32⟩
  | .hbm, ⟨16, _⟩ => ⟨S2408x128, .f32⟩
  | .hbm, ⟨17, _⟩ => ⟨S_, .f32⟩
  | .hbm, ⟨18, _⟩ => ⟨S2408x128, .f32⟩
  | .hbm, ⟨19, _⟩ => ⟨S2408x128, .f32⟩
  | .hbm, ⟨20, _⟩ => ⟨S2408x128, .f32⟩
  | .hbm, ⟨21, _⟩ => ⟨S_, .f32⟩
  | .hbm, ⟨22, _⟩ => ⟨S2408x128, .f32⟩
  | .hbm, ⟨23, _⟩ => ⟨S2408x128, .f32⟩
  | .hbm, ⟨24, _⟩ => ⟨S_, .f32⟩
  | .hbm, ⟨25, _⟩ => ⟨S2408x128, .f32⟩
  | .hbm, ⟨26, _⟩ => ⟨S2408x128, .f32⟩
  | .hbm, ⟨27, _⟩ => ⟨S2408x128, .f32⟩
  | .hbm, ⟨28, _⟩ => ⟨S_, .f32⟩
  | .hbm, ⟨29, _⟩ => ⟨S2408x128, .f32⟩
  | .hbm, ⟨30, _⟩ => ⟨S2408x128, .f32⟩
  | .hbm, ⟨31, _⟩ => ⟨S2408x128, .f32⟩
  | .hbm, ⟨32, _⟩ => ⟨S_, .f32⟩
  | .hbm, ⟨33, _⟩ => ⟨S2408x128, .f32⟩
  | .hbm, ⟨34, _⟩ => ⟨S2408x128, .f32⟩
  | .hbm, ⟨35, _⟩ => ⟨S2408x128, .f32⟩
  | .hbm, ⟨36, _⟩ => ⟨S_, .f32⟩
  | .hbm, ⟨37, _⟩ => ⟨S2408x128, .f32⟩
  | .hbm, ⟨38, _⟩ => ⟨S2408x128, .f32⟩
  | _, _ => ⟨S8x2408x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== Kernel6.lean ====
abbrev S1024x1280 : Shape := ⟨2, ![1024, 1280]⟩
abbrev S7x1024x1280 : Shape := ⟨3, ![7, 1024, 1280]⟩
abbrev S2x1024x1280 : Shape := ⟨3, ![2, 1024, 1280]⟩
abbrev S256x1280 : Shape := ⟨2, ![256, 1280]⟩
abbrev S7x256x1280 : Shape := ⟨3, ![7, 256, 1280]⟩
abbrev S1x256x1280 : Shape := ⟨3, ![1, 256, 1280]⟩

abbrev nBuf : Space → Nat
  | .hbm => 13
  | .vmem => 18
  | .smem => 0
  | _ => 0

abbrev bufTy : (tb : Table) → Fin (tcTables nBuf tb) → BufTy
  | .hbm, ⟨0, _⟩ => ⟨S1024x1280, .f32⟩
  | .hbm, ⟨1, _⟩ => ⟨S7x1024x1280, .bf16⟩
  | .hbm, ⟨2, _⟩ => ⟨S2x1024x1280, .f32⟩
  | .hbm, ⟨3, _⟩ => ⟨S2x1024x1280, .f32⟩
  | .hbm, ⟨4, _⟩ => ⟨S2x1024x1280, .f32⟩
  | .hbm, ⟨5, _⟩ => ⟨S2x1024x1280, .f32⟩
  | .hbm, ⟨6, _⟩ => ⟨S2x1024x1280, .f32⟩
  | .hbm, ⟨7, _⟩ => ⟨S2x1024x1280, .f32⟩
  | .hbm, ⟨8, _⟩ => ⟨S2x1024x1280, .f32⟩
  | .hbm, ⟨9, _⟩ => ⟨S2x1024x1280, .f32⟩
  | .hbm, ⟨10, _⟩ => ⟨S2x1024x1280, .f32⟩
  | .hbm, ⟨11, _⟩ => ⟨S2x1024x1280, .f32⟩
  | .hbm, ⟨12, _⟩ => ⟨S2x1024x1280, .f32⟩
  | .local _ .vmem, ⟨0, _⟩ => ⟨S256x1280, .f32⟩
  | .local _ .vmem, ⟨1, _⟩ => ⟨S256x1280, .f32⟩
  | .local _ .vmem, ⟨2, _⟩ => ⟨S7x256x1280, .bf16⟩
  | .local _ .vmem, ⟨3, _⟩ => ⟨S7x256x1280, .bf16⟩
  | .local _ .vmem, ⟨4, _⟩ => ⟨S1x256x1280, .f32⟩
  | .local _ .vmem, ⟨5, _⟩ => ⟨S1x256x1280, .f32⟩
  | .local _ .vmem, ⟨6, _⟩ => ⟨S1x256x1280, .f32⟩
  | .local _ .vmem, ⟨7, _⟩ => ⟨S1x256x1280, .f32⟩
  | .local _ .vmem, ⟨8, _⟩ => ⟨S1x256x1280, .f32⟩
  | .local _ .vmem, ⟨9, _⟩ => ⟨S1x256x1280, .f32⟩
  | .local _ .vmem, ⟨10, _⟩ => ⟨S1x256x1280, .f32⟩
  | .local _ .vmem, ⟨11, _⟩ => ⟨S1x256x1280, .f32⟩
  | .local _ .vmem, ⟨12, _⟩ => ⟨S1x256x1280, .f32⟩
  | .local _ .vmem, ⟨13, _⟩ => ⟨S1x256x1280, .f32⟩
  | .local _ .vmem, ⟨14, _⟩ => ⟨S1x256x1280, .f32⟩
  | .local _ .vmem, ⟨15, _⟩ => ⟨S1x256x1280, .f32⟩
  | .local _ .vmem, ⟨16, _⟩ => ⟨S1x256x1280, .f32⟩
  | .local _ .vmem, ⟨17, _⟩ => ⟨S1x256x1280, .f32⟩
  | _, _ => ⟨S1024x1280, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0_0 : Ref sig .tc := ⟨.hbm, 9, rfl⟩
abbrev main_v0_1 : Ref sig .tc := ⟨.hbm, 10, rfl⟩
abbrev main_v0_2 : Ref sig .tc := ⟨.hbm, 11, rfl⟩
abbrev main_v0_3 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S256x1280 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S7x256x1280 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x1280 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x1280 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256x1280 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256x1280 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x256x1280 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x256x1280 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x256x1280 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference6Ideal.lean ====
abbrev S1024x1280 : Shape := ⟨2, ![1024, 1280]⟩
abbrev S7x1024x1280 : Shape := ⟨3, ![7, 1024, 1280]⟩
abbrev S2x1024x1280 : Shape := ⟨3, ![2, 1024, 1280]⟩
abbrev S_ : Shape := ⟨0, ![]⟩
abbrev S1x1024x1280 : Shape := ⟨3, ![1, 1024, 1280]⟩

abbrev nBuf : Space → Nat
  | .hbm => 72
  | .vmem => 0
  | .smem => 0
  | _ => 0

abbrev bufTy : (tb : Table) → Fin (tcTables nBuf tb) → BufTy
  | .hbm, ⟨0, _⟩ => ⟨S1024x1280, .f32⟩
  | .hbm, ⟨1, _⟩ => ⟨S7x1024x1280, .bf16⟩
  | .hbm, ⟨2, _⟩ => ⟨S2x1024x1280, .f32⟩
  | .hbm, ⟨3, _⟩ => ⟨S2x1024x1280, .f32⟩
  | .hbm, ⟨4, _⟩ => ⟨S2x1024x1280, .f32⟩
  | .hbm, ⟨5, _⟩ => ⟨S2x1024x1280, .f32⟩
  | .hbm, ⟨6, _⟩ => ⟨S2x1024x1280, .f32⟩
  | .hbm, ⟨7, _⟩ => ⟨S2x1024x1280, .f32⟩
  | .hbm, ⟨8, _⟩ => ⟨S2x1024x1280, .f32⟩
  | .hbm, ⟨9, _⟩ => ⟨S7x1024x1280, .f32⟩
  | .hbm, ⟨10, _⟩ => ⟨S_, .f32⟩
  | .hbm, ⟨11, _⟩ => ⟨S1024x1280, .f32⟩
  | .hbm, ⟨12, _⟩ => ⟨S1024x1280, .f32⟩
  | .hbm, ⟨13, _⟩ => ⟨S1x1024x1280, .f32⟩
  | .hbm, ⟨14, _⟩ => ⟨S1024x1280, .f32⟩
  | .hbm, ⟨15, _⟩ => ⟨S1x1024x1280, .f32⟩
  | .hbm, ⟨16, _⟩ => ⟨S1024x1280, .f32⟩
  | .hbm, ⟨17, _⟩ => ⟨S1x1024x1280, .f32⟩
  | .hbm, ⟨18, _⟩ => ⟨S1024x1280, .f32⟩
  | .hbm, ⟨19, _⟩ => ⟨S_, .f32⟩
  | .hbm, ⟨20, _⟩ => ⟨S1024x1280, .f32⟩
  | .hbm, ⟨21, _⟩ => ⟨S1024x1280, .f32⟩
  | .hbm, ⟨22, _⟩ => ⟨S_, .f32⟩
  | .hbm, ⟨23, _⟩ => ⟨S1024x1280, .f32⟩
  | .hbm, ⟨24, _⟩ => ⟨S1024x1280, .f32⟩
  | .hbm, ⟨25, _⟩ => ⟨S1024x1280, .f32⟩
  | .hbm, ⟨26, _⟩ => ⟨S_, .f32⟩
  | .hbm, ⟨27, _⟩ => ⟨S1024x1280, .f32⟩
  | .hbm, ⟨28, _⟩ => ⟨S1024x1280, .f32⟩
  | .hbm, ⟨29, _⟩ => ⟨S1024x1280, .f32⟩
  | .hbm, ⟨30, _⟩ => ⟨S_, .f32⟩
  | .hbm, ⟨31, _⟩ => ⟨S1024x1280, .f32⟩
  | .hbm, ⟨32, _⟩ => ⟨S1024x1280, .f32⟩
  | .hbm, ⟨33, _⟩ => ⟨S1024x1280, .f32⟩
  | .hbm, ⟨34, _⟩ => ⟨S_, .f32⟩
  | .hbm, ⟨35, _⟩ => ⟨S1024x1280, .f32⟩
  | .hbm, ⟨36, _⟩ => ⟨S1024x1280, .f32⟩
  | .hbm, ⟨37, _⟩ => ⟨S_, .f32⟩
  | .hbm, ⟨38, _⟩ => ⟨S1024x1280, .f32⟩
  | .hbm, ⟨39, _⟩ => ⟨S1024x1280, .f32⟩
  | .hbm, ⟨40, _⟩ => ⟨S1024x1280, .f32⟩
  | .hbm, ⟨41, _⟩ => ⟨S_, .f32⟩
  | .hbm, ⟨42, _⟩ => ⟨S1024x1280, .f32⟩
  | .hbm, ⟨43, _⟩ => ⟨S1024x1280, .f32⟩
  | .hbm, ⟨44, _⟩ => ⟨S1024x1280, .f32⟩
  | .hbm, ⟨45, _⟩ => ⟨S_, .f32⟩
  | .hbm, ⟨46, _⟩ => ⟨S1024x1280, .f32⟩
  | .hbm, ⟨47, _⟩ => ⟨S1024x1280, .f32⟩
  | .hbm, ⟨48, _⟩ => ⟨S1024x1280, .f32⟩
  | .hbm, ⟨49, _⟩ => ⟨S_, .f32⟩
  | .hbm, ⟨50, _⟩ => ⟨S1024x1280, .f32⟩
  | .hbm, ⟨51, _⟩ => ⟨S1024x1280, .f32⟩
  | .hbm, ⟨52, _⟩ => ⟨S1x1024x1280, .f32⟩
  | .hbm, ⟨53, _⟩ => ⟨S1024x1280, .f32⟩
  | .hbm, ⟨54, _⟩ => ⟨S1x1024x1280, .f32⟩
  | .hbm, ⟨55, _⟩ => ⟨S1x1024x1280, .f32⟩
  | .hbm, ⟨56, _⟩ => ⟨S2x1024x1280, .f32⟩
  | .hbm, ⟨57, _⟩ => ⟨S1x1024x1280, .f32⟩
  | .hbm, ⟨58, _⟩ => ⟨S1024x1280, .f32⟩
  | .hbm, ⟨59, _⟩ => ⟨S1x1024x1280, .f32⟩
  | .hbm, ⟨60, _⟩ => ⟨S1x1024x1280, .f32⟩
  | .hbm, ⟨61, _⟩ => ⟨S2x1024x1280, .f32⟩
  | .hbm, ⟨62, _⟩ => ⟨S1x1024x1280, .f32⟩
  | .hbm, ⟨63, _⟩ => ⟨S1024x1280, .f32⟩
  | .hbm, ⟨64, _⟩ => ⟨S1x1024x1280, .f32⟩
  | .hbm, ⟨65, _⟩ => ⟨S1x1024x1280, .f32⟩
  | .hbm, ⟨66, _⟩ => ⟨S2x1024x1280, .f32⟩
  | .hbm, ⟨67, _⟩ => ⟨S1x1024x1280, .f32⟩
  | .hbm, ⟨68, _⟩ => ⟨S1024x1280, .f32⟩
  | .hbm, ⟨69, _⟩ => ⟨S1x1024x1280, .f32⟩
  | .hbm, ⟨70, _⟩ => ⟨S1x1024x1280, .f32⟩
  | .hbm, ⟨71, _⟩ => ⟨S2x1024x1280, .f32⟩
  | _, _ => ⟨S1024x1280, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_0 : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_2 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_cst_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_cst_4 : Ref sig .tc := ⟨.hbm, 34, rfl⟩
abbrev main_v20 : Ref sig .tc := ⟨.hbm, 35, rfl⟩
abbrev main_v21 : Ref sig .tc := ⟨.hbm, 36, rfl⟩
abbrev main_cst_5 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_cst_6 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_cst_7 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_cst_8 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩

abbrev nD : Nat := 1
abbrev τ : Topo := Topo.v7x

variable {F : FTy → Type} [FloatOps F]
-- ==== Kernel7.lean ====
abbrev S40x128 : Shape := ⟨2, ![40, 128]⟩

abbrev nBuf : Space → Nat
  | .hbm => 7
  | .vmem => 7
  | .smem => 0
  | _ => 0

abbrev bufTy : (tb : Table) → Fin (tcTables nBuf tb) → BufTy
  | .hbm, ⟨0, _⟩ => ⟨S40x128, .f32⟩
  | .hbm, ⟨1, _⟩ => ⟨S40x128, .f32⟩
  | .hbm, ⟨2, _⟩ => ⟨S40x128, .f32⟩
  | .hbm, ⟨3, _⟩ => ⟨S40x128, .f32⟩
  | .hbm, ⟨4, _⟩ => ⟨S40x128, .f32⟩
  | .hbm, ⟨5, _⟩ => ⟨S40x128, .f32⟩
  | .hbm, ⟨6, _⟩ => ⟨S40x128, .f32⟩
  | .local _ .vmem, ⟨0, _⟩ => ⟨S40x128, .f32⟩
  | .local _ .vmem, ⟨1, _⟩ => ⟨S40x128, .f32⟩
  | .local _ .vmem, ⟨2, _⟩ => ⟨S40x128, .f32⟩
  | .local _ .vmem, ⟨3, _⟩ => ⟨S40x128, .f32⟩
  | .local _ .vmem, ⟨4, _⟩ => ⟨S40x128, .f32⟩
  | .local _ .vmem, ⟨5, _⟩ => ⟨S40x128, .f32⟩
  | .local _ .vmem, ⟨6, _⟩ => ⟨S40x128, .f32⟩
  | _, _ => ⟨S40x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S40x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S40x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S40x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S40x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S40x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S40x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S40x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Reference7Ideal.lean ====
abbrev S40x128 : Shape := ⟨2, ![40, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S40x128, .f32⟩
  | .hbm, ⟨1, _⟩ => ⟨S40x128, .f32⟩
  | .hbm, ⟨2, _⟩ => ⟨S40x128, .f32⟩
  | .hbm, ⟨3, _⟩ => ⟨S40x128, .f32⟩
  | .hbm, ⟨4, _⟩ => ⟨S_, .f32⟩
  | .hbm, ⟨5, _⟩ => ⟨S40x128, .f32⟩
  | .hbm, ⟨6, _⟩ => ⟨S40x128, .f32⟩
  | .hbm, ⟨7, _⟩ => ⟨S_, .f32⟩
  | .hbm, ⟨8, _⟩ => ⟨S40x128, .f32⟩
  | .hbm, ⟨9, _⟩ => ⟨S40x128, .f32⟩
  | .hbm, ⟨10, _⟩ => ⟨S40x128, .f32⟩
  | .hbm, ⟨11, _⟩ => ⟨S_, .f32⟩
  | .hbm, ⟨12, _⟩ => ⟨S40x128, .f32⟩
  | .hbm, ⟨13, _⟩ => ⟨S40x128, .f32⟩
  | .hbm, ⟨14, _⟩ => ⟨S40x128, .f32⟩
  | .hbm, ⟨15, _⟩ => ⟨S_, .f32⟩
  | .hbm, ⟨16, _⟩ => ⟨S40x128, .f32⟩
  | .hbm, ⟨17, _⟩ => ⟨S40x128, .f32⟩
  | .hbm, ⟨18, _⟩ => ⟨S40x128, .f32⟩
  | .hbm, ⟨19, _⟩ => ⟨S_, .f32⟩
  | .hbm, ⟨20, _⟩ => ⟨S40x128, .f32⟩
  | .hbm, ⟨21, _⟩ => ⟨S40x128, .f32⟩
  | .hbm, ⟨22, _⟩ => ⟨S_, .f32⟩
  | .hbm, ⟨23, _⟩ => ⟨S40x128, .f32⟩
  | .hbm, ⟨24, _⟩ => ⟨S40x128, .f32⟩
  | .hbm, ⟨25, _⟩ => ⟨S40x128, .f32⟩
  | .hbm, ⟨26, _⟩ => ⟨S_, .f32⟩
  | .hbm, ⟨27, _⟩ => ⟨S40x128, .f32⟩
  | .hbm, ⟨28, _⟩ => ⟨S40x128, .f32⟩
  | .hbm, ⟨29, _⟩ => ⟨S40x128, .f32⟩
  | .hbm, ⟨30, _⟩ => ⟨S_, .f32⟩
  | .hbm, ⟨31, _⟩ => ⟨S40x128, .f32⟩
  | .hbm, ⟨32, _⟩ => ⟨S40x128, .f32⟩
  | .hbm, ⟨33, _⟩ => ⟨S40x128, .f32⟩
  | .hbm, ⟨34, _⟩ => ⟨S_, .f32⟩
  | .hbm, ⟨35, _⟩ => ⟨S40x128, .f32⟩
  | .hbm, ⟨36, _⟩ => ⟨S40x128, .f32⟩
  | _, _ => ⟨S40x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel8.lean ====
abbrev S2048x128 : Shape := ⟨2, ![2048, 128]⟩
abbrev S7x2048x128 : Shape := ⟨3, ![7, 2048, 128]⟩
abbrev S2x2048x128 : Shape := ⟨3, ![2, 2048, 128]⟩
abbrev S512x128 : Shape := ⟨2, ![512, 128]⟩
abbrev S7x512x128 : Shape := ⟨3, ![7, 512, 128]⟩
abbrev S1x512x128 : Shape := ⟨3, ![1, 512, 128]⟩

abbrev nBuf : Space → Nat
  | .hbm => 13
  | .vmem => 18
  | .smem => 0
  | _ => 0

abbrev bufTy : (tb : Table) → Fin (tcTables nBuf tb) → BufTy
  | .hbm, ⟨0, _⟩ => ⟨S2048x128, .f32⟩
  | .hbm, ⟨1, _⟩ => ⟨S7x2048x128, .bf16⟩
  | .hbm, ⟨2, _⟩ => ⟨S2x2048x128, .f32⟩
  | .hbm, ⟨3, _⟩ => ⟨S2x2048x128, .f32⟩
  | .hbm, ⟨4, _⟩ => ⟨S2x2048x128, .f32⟩
  | .hbm, ⟨5, _⟩ => ⟨S2x2048x128, .f32⟩
  | .hbm, ⟨6, _⟩ => ⟨S2x2048x128, .f32⟩
  | .hbm, ⟨7, _⟩ => ⟨S2x2048x128, .f32⟩
  | .hbm, ⟨8, _⟩ => ⟨S2x2048x128, .f32⟩
  | .hbm, ⟨9, _⟩ => ⟨S2x2048x128, .f32⟩
  | .hbm, ⟨10, _⟩ => ⟨S2x2048x128, .f32⟩
  | .hbm, ⟨11, _⟩ => ⟨S2x2048x128, .f32⟩
  | .hbm, ⟨12, _⟩ => ⟨S2x2048x128, .f32⟩
  | .local _ .vmem, ⟨0, _⟩ => ⟨S512x128, .f32⟩
  | .local _ .vmem, ⟨1, _⟩ => ⟨S512x128, .f32⟩
  | .local _ .vmem, ⟨2, _⟩ => ⟨S7x512x128, .bf16⟩
  | .local _ .vmem, ⟨3, _⟩ => ⟨S7x512x128, .bf16⟩
  | .local _ .vmem, ⟨4, _⟩ => ⟨S1x512x128, .f32⟩
  | .local _ .vmem, ⟨5, _⟩ => ⟨S1x512x128, .f32⟩
  | .local _ .vmem, ⟨6, _⟩ => ⟨S1x512x128, .f32⟩
  | .local _ .vmem, ⟨7, _⟩ => ⟨S1x512x128, .f32⟩
  | .local _ .vmem, ⟨8, _⟩ => ⟨S1x512x128, .f32⟩
  | .local _ .vmem, ⟨9, _⟩ => ⟨S1x512x128, .f32⟩
  | .local _ .vmem, ⟨10, _⟩ => ⟨S1x512x128, .f32⟩
  | .local _ .vmem, ⟨11, _⟩ => ⟨S1x512x128, .f32⟩
  | .local _ .vmem, ⟨12, _⟩ => ⟨S1x512x128, .f32⟩
  | .local _ .vmem, ⟨13, _⟩ => ⟨S1x512x128, .f32⟩
  | .local _ .vmem, ⟨14, _⟩ => ⟨S1x512x128, .f32⟩
  | .local _ .vmem, ⟨15, _⟩ => ⟨S1x512x128, .f32⟩
  | .local _ .vmem, ⟨16, _⟩ => ⟨S1x512x128, .f32⟩
  | .local _ .vmem, ⟨17, _⟩ => ⟨S1x512x128, .f32⟩
  | _, _ => ⟨S2048x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0_0 : Ref sig .tc := ⟨.hbm, 9, rfl⟩
abbrev main_v0_1 : Ref sig .tc := ⟨.hbm, 10, rfl⟩
abbrev main_v0_2 : Ref sig .tc := ⟨.hbm, 11, rfl⟩
abbrev main_v0_3 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S7x512x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference8Ideal.lean ====
abbrev S2048x128 : Shape := ⟨2, ![2048, 128]⟩
abbrev S7x2048x128 : Shape := ⟨3, ![7, 2048, 128]⟩
abbrev S2x2048x128 : Shape := ⟨3, ![2, 2048, 128]⟩
abbrev S_ : Shape := ⟨0, ![]⟩
abbrev S1x2048x128 : Shape := ⟨3, ![1, 2048, 128]⟩

abbrev nBuf : Space → Nat
  | .hbm => 72
  | .vmem => 0
  | .smem => 0
  | _ => 0

abbrev bufTy : (tb : Table) → Fin (tcTables nBuf tb) → BufTy
  | .hbm, ⟨0, _⟩ => ⟨S2048x128, .f32⟩
  | .hbm, ⟨1, _⟩ => ⟨S7x2048x128, .bf16⟩
  | .hbm, ⟨2, _⟩ => ⟨S2x2048x128, .f32⟩
  | .hbm, ⟨3, _⟩ => ⟨S2x2048x128, .f32⟩
  | .hbm, ⟨4, _⟩ => ⟨S2x2048x128, .f32⟩
  | .hbm, ⟨5, _⟩ => ⟨S2x2048x128, .f32⟩
  | .hbm, ⟨6, _⟩ => ⟨S2x2048x128, .f32⟩
  | .hbm, ⟨7, _⟩ => ⟨S2x2048x128, .f32⟩
  | .hbm, ⟨8, _⟩ => ⟨S2x2048x128, .f32⟩
  | .hbm, ⟨9, _⟩ => ⟨S7x2048x128, .f32⟩
  | .hbm, ⟨10, _⟩ => ⟨S_, .f32⟩
  | .hbm, ⟨11, _⟩ => ⟨S2048x128, .f32⟩
  | .hbm, ⟨12, _⟩ => ⟨S2048x128, .f32⟩
  | .hbm, ⟨13, _⟩ => ⟨S1x2048x128, .f32⟩
  | .hbm, ⟨14, _⟩ => ⟨S2048x128, .f32⟩
  | .hbm, ⟨15, _⟩ => ⟨S1x2048x128, .f32⟩
  | .hbm, ⟨16, _⟩ => ⟨S2048x128, .f32⟩
  | .hbm, ⟨17, _⟩ => ⟨S1x2048x128, .f32⟩
  | .hbm, ⟨18, _⟩ => ⟨S2048x128, .f32⟩
  | .hbm, ⟨19, _⟩ => ⟨S_, .f32⟩
  | .hbm, ⟨20, _⟩ => ⟨S2048x128, .f32⟩
  | .hbm, ⟨21, _⟩ => ⟨S2048x128, .f32⟩
  | .hbm, ⟨22, _⟩ => ⟨S_, .f32⟩
  | .hbm, ⟨23, _⟩ => ⟨S2048x128, .f32⟩
  | .hbm, ⟨24, _⟩ => ⟨S2048x128, .f32⟩
  | .hbm, ⟨25, _⟩ => ⟨S2048x128, .f32⟩
  | .hbm, ⟨26, _⟩ => ⟨S_, .f32⟩
  | .hbm, ⟨27, _⟩ => ⟨S2048x128, .f32⟩
  | .hbm, ⟨28, _⟩ => ⟨S2048x128, .f32⟩
  | .hbm, ⟨29, _⟩ => ⟨S2048x128, .f32⟩
  | .hbm, ⟨30, _⟩ => ⟨S_, .f32⟩
  | .hbm, ⟨31, _⟩ => ⟨S2048x128, .f32⟩
  | .hbm, ⟨32, _⟩ => ⟨S2048x128, .f32⟩
  | .hbm, ⟨33, _⟩ => ⟨S2048x128, .f32⟩
  | .hbm, ⟨34, _⟩ => ⟨S_, .f32⟩
  | .hbm, ⟨35, _⟩ => ⟨S2048x128, .f32⟩
  | .hbm, ⟨36, _⟩ => ⟨S2048x128, .f32⟩
  | .hbm, ⟨37, _⟩ => ⟨S_, .f32⟩
  | .hbm, ⟨38, _⟩ => ⟨S2048x128, .f32⟩
  | .hbm, ⟨39, _⟩ => ⟨S2048x128, .f32⟩
  | .hbm, ⟨40, _⟩ => ⟨S2048x128, .f32⟩
  | .hbm, ⟨41, _⟩ => ⟨S_, .f32⟩
  | .hbm, ⟨42, _⟩ => ⟨S2048x128, .f32⟩
  | .hbm, ⟨43, _⟩ => ⟨S2048x128, .f32⟩
  | .hbm, ⟨44, _⟩ => ⟨S2048x128, .f32⟩
  | .hbm, ⟨45, _⟩ => ⟨S_, .f32⟩
  | .hbm, ⟨46, _⟩ => ⟨S2048x128, .f32⟩
  | .hbm, ⟨47, _⟩ => ⟨S2048x128, .f32⟩
  | .hbm, ⟨48, _⟩ => ⟨S2048x128, .f32⟩
  | .hbm, ⟨49, _⟩ => ⟨S_, .f32⟩
  | .hbm, ⟨50, _⟩ => ⟨S2048x128, .f32⟩
  | .hbm, ⟨51, _⟩ => ⟨S2048x128, .f32⟩
  | .hbm, ⟨52, _⟩ => ⟨S1x2048x128, .f32⟩
  | .hbm, ⟨53, _⟩ => ⟨S2048x128, .f32⟩
  | .hbm, ⟨54, _⟩ => ⟨S1x2048x128, .f32⟩
  | .hbm, ⟨55, _⟩ => ⟨S1x2048x128, .f32⟩
  | .hbm, ⟨56, _⟩ => ⟨S2x2048x128, .f32⟩
  | .hbm, ⟨57, _⟩ => ⟨S1x2048x128, .f32⟩
  | .hbm, ⟨58, _⟩ => ⟨S2048x128, .f32⟩
  | .hbm, ⟨59, _⟩ => ⟨S1x2048x128, .f32⟩
  | .hbm, ⟨60, _⟩ => ⟨S1x2048x128, .f32⟩
  | .hbm, ⟨61, _⟩ => ⟨S2x2048x128, .f32⟩
  | .hbm, ⟨62, _⟩ => ⟨S1x2048x128, .f32⟩
  | .hbm, ⟨63, _⟩ => ⟨S2048x128, .f32⟩
  | .hbm, ⟨64, _⟩ => ⟨S1x2048x128, .f32⟩
  | .hbm, ⟨65, _⟩ => ⟨S1x2048x128, .f32⟩
  | .hbm, ⟨66, _⟩ => ⟨S2x2048x128, .f32⟩
  | .hbm, ⟨67, _⟩ => ⟨S1x2048x128, .f32⟩
  | .hbm, ⟨68, _⟩ => ⟨S2048x128, .f32⟩
  | .hbm, ⟨69, _⟩ => ⟨S1x2048x128, .f32⟩
  | .hbm, ⟨70, _⟩ => ⟨S1x2048x128, .f32⟩
  | .hbm, ⟨71, _⟩ => ⟨S2x2048x128, .f32⟩
  | _, _ => ⟨S2048x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_0 : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_2 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_cst_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_cst_4 : Ref sig .tc := ⟨.hbm, 34, rfl⟩
abbrev main_v20 : Ref sig .tc := ⟨.hbm, 35, rfl⟩
abbrev main_v21 : Ref sig .tc := ⟨.hbm, 36, rfl⟩
abbrev main_cst_5 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_cst_6 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_cst_7 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_cst_8 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩

abbrev nD : Nat := 1
abbrev τ : Topo := Topo.v7x

variable {F : FTy → Type} [FloatOps F]
-- ==== Kernel9.lean ====
abbrev S128x1024 : Shape := ⟨2, ![128, 1024]⟩
abbrev S7x128x1024 : Shape := ⟨3, ![7, 128, 1024]⟩
abbrev S2x128x1024 : Shape := ⟨3, ![2, 128, 1024]⟩
abbrev S64x1024 : Shape := ⟨2, ![64, 1024]⟩
abbrev S7x64x1024 : Shape := ⟨3, ![7, 64, 1024]⟩
abbrev S1x64x1024 : Shape := ⟨3, ![1, 64, 1024]⟩

abbrev nBuf : Space → Nat
  | .hbm => 13
  | .vmem => 18
  | .smem => 0
  | _ => 0

abbrev bufTy : (tb : Table) → Fin (tcTables nBuf tb) → BufTy
  | .hbm, ⟨0, _⟩ => ⟨S128x1024, .f32⟩
  | .hbm, ⟨1, _⟩ => ⟨S7x128x1024, .bf16⟩
  | .hbm, ⟨2, _⟩ => ⟨S2x128x1024, .f32⟩
  | .hbm, ⟨3, _⟩ => ⟨S2x128x1024, .f32⟩
  | .hbm, ⟨4, _⟩ => ⟨S2x128x1024, .f32⟩
  | .hbm, ⟨5, _⟩ => ⟨S2x128x1024, .f32⟩
  | .hbm, ⟨6, _⟩ => ⟨S2x128x1024, .f32⟩
  | .hbm, ⟨7, _⟩ => ⟨S2x128x1024, .f32⟩
  | .hbm, ⟨8, _⟩ => ⟨S2x128x1024, .f32⟩
  | .hbm, ⟨9, _⟩ => ⟨S2x128x1024, .f32⟩
  | .hbm, ⟨10, _⟩ => ⟨S2x128x1024, .f32⟩
  | .hbm, ⟨11, _⟩ => ⟨S2x128x1024, .f32⟩
  | .hbm, ⟨12, _⟩ => ⟨S2x128x1024, .f32⟩
  | .local _ .vmem, ⟨0, _⟩ => ⟨S64x1024, .f32⟩
  | .local _ .vmem, ⟨1, _⟩ => ⟨S64x1024, .f32⟩
  | .local _ .vmem, ⟨2, _⟩ => ⟨S7x64x1024, .bf16⟩
  | .local _ .vmem, ⟨3, _⟩ => ⟨S7x64x1024, .bf16⟩
  | .local _ .vmem, ⟨4, _⟩ => ⟨S1x64x1024, .f32⟩
  | .local _ .vmem, ⟨5, _⟩ => ⟨S1x64x1024, .f32⟩
  | .local _ .vmem, ⟨6, _⟩ => ⟨S1x64x1024, .f32⟩
  | .local _ .vmem, ⟨7, _⟩ => ⟨S1x64x1024, .f32⟩
  | .local _ .vmem, ⟨8, _⟩ => ⟨S1x64x1024, .f32⟩
  | .local _ .vmem, ⟨9, _⟩ => ⟨S1x64x1024, .f32⟩
  | .local _ .vmem, ⟨10, _⟩ => ⟨S1x64x1024, .f32⟩
  | .local _ .vmem, ⟨11, _⟩ => ⟨S1x64x1024, .f32⟩
  | .local _ .vmem, ⟨12, _⟩ => ⟨S1x64x1024, .f32⟩
  | .local _ .vmem, ⟨13, _⟩ => ⟨S1x64x1024, .f32⟩
  | .local _ .vmem, ⟨14, _⟩ => ⟨S1x64x1024, .f32⟩
  | .local _ .vmem, ⟨15, _⟩ => ⟨S1x64x1024, .f32⟩
  | .local _ .vmem, ⟨16, _⟩ => ⟨S1x64x1024, .f32⟩
  | .local _ .vmem, ⟨17, _⟩ => ⟨S1x64x1024, .f32⟩
  | _, _ => ⟨S128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0_0 : Ref sig .tc := ⟨.hbm, 9, rfl⟩
abbrev main_v0_1 : Ref sig .tc := ⟨.hbm, 10, rfl⟩
abbrev main_v0_2 : Ref sig .tc := ⟨.hbm, 11, rfl⟩
abbrev main_v0_3 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S64x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S7x64x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x64x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x64x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x64x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x64x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x64x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x64x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x64x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference9Ideal.lean ====
abbrev S128x1024 : Shape := ⟨2, ![128, 1024]⟩
abbrev S7x128x1024 : Shape := ⟨3, ![7, 128, 1024]⟩
abbrev S2x128x1024 : Shape := ⟨3, ![2, 128, 1024]⟩
abbrev S_ : Shape := ⟨0, ![]⟩
abbrev S1x128x1024 : Shape := ⟨3, ![1, 128, 1024]⟩

abbrev nBuf : Space → Nat
  | .hbm => 72
  | .vmem => 0
  | .smem => 0
  | _ => 0

abbrev bufTy : (tb : Table) → Fin (tcTables nBuf tb) → BufTy
  | .hbm, ⟨0, _⟩ => ⟨S128x1024, .f32⟩
  | .hbm, ⟨1, _⟩ => ⟨S7x128x1024, .bf16⟩
  | .hbm, ⟨2, _⟩ => ⟨S2x128x1024, .f32⟩
  | .hbm, ⟨3, _⟩ => ⟨S2x128x1024, .f32⟩
  | .hbm, ⟨4, _⟩ => ⟨S2x128x1024, .f32⟩
  | .hbm, ⟨5, _⟩ => ⟨S2x128x1024, .f32⟩
  | .hbm, ⟨6, _⟩ => ⟨S2x128x1024, .f32⟩
  | .hbm, ⟨7, _⟩ => ⟨S2x128x1024, .f32⟩
  | .hbm, ⟨8, _⟩ => ⟨S2x128x1024, .f32⟩
  | .hbm, ⟨9, _⟩ => ⟨S7x128x1024, .f32⟩
  | .hbm, ⟨10, _⟩ => ⟨S_, .f32⟩
  | .hbm, ⟨11, _⟩ => ⟨S128x1024, .f32⟩
  | .hbm, ⟨12, _⟩ => ⟨S128x1024, .f32⟩
  | .hbm, ⟨13, _⟩ => ⟨S1x128x1024, .f32⟩
  | .hbm, ⟨14, _⟩ => ⟨S128x1024, .f32⟩
  | .hbm, ⟨15, _⟩ => ⟨S1x128x1024, .f32⟩
  | .hbm, ⟨16, _⟩ => ⟨S128x1024, .f32⟩
  | .hbm, ⟨17, _⟩ => ⟨S1x128x1024, .f32⟩
  | .hbm, ⟨18, _⟩ => ⟨S128x1024, .f32⟩
  | .hbm, ⟨19, _⟩ => ⟨S_, .f32⟩
  | .hbm, ⟨20, _⟩ => ⟨S128x1024, .f32⟩
  | .hbm, ⟨21, _⟩ => ⟨S128x1024, .f32⟩
  | .hbm, ⟨22, _⟩ => ⟨S_, .f32⟩
  | .hbm, ⟨23, _⟩ => ⟨S128x1024, .f32⟩
  | .hbm, ⟨24, _⟩ => ⟨S128x1024, .f32⟩
  | .hbm, ⟨25, _⟩ => ⟨S128x1024, .f32⟩
  | .hbm, ⟨26, _⟩ => ⟨S_, .f32⟩
  | .hbm, ⟨27, _⟩ => ⟨S128x1024, .f32⟩
  | .hbm, ⟨28, _⟩ => ⟨S128x1024, .f32⟩
  | .hbm, ⟨29, _⟩ => ⟨S128x1024, .f32⟩
  | .hbm, ⟨30, _⟩ => ⟨S_, .f32⟩
  | .hbm, ⟨31, _⟩ => ⟨S128x1024, .f32⟩
  | .hbm, ⟨32, _⟩ => ⟨S128x1024, .f32⟩
  | .hbm, ⟨33, _⟩ => ⟨S128x1024, .f32⟩
  | .hbm, ⟨34, _⟩ => ⟨S_, .f32⟩
  | .hbm, ⟨35, _⟩ => ⟨S128x1024, .f32⟩
  | .hbm, ⟨36, _⟩ => ⟨S128x1024, .f32⟩
  | .hbm, ⟨37, _⟩ => ⟨S_, .f32⟩
  | .hbm, ⟨38, _⟩ => ⟨S128x1024, .f32⟩
  | .hbm, ⟨39, _⟩ => ⟨S128x1024, .f32⟩
  | .hbm, ⟨40, _⟩ => ⟨S128x1024, .f32⟩
  | .hbm, ⟨41, _⟩ => ⟨S_, .f32⟩
  | .hbm, ⟨42, _⟩ => ⟨S128x1024, .f32⟩
  | .hbm, ⟨43, _⟩ => ⟨S128x1024, .f32⟩
  | .hbm, ⟨44, _⟩ => ⟨S128x1024, .f32⟩
  | .hbm, ⟨45, _⟩ => ⟨S_, .f32⟩
  | .hbm, ⟨46, _⟩ => ⟨S128x1024, .f32⟩
  | .hbm, ⟨47, _⟩ => ⟨S128x1024, .f32⟩
  | .hbm, ⟨48, _⟩ => ⟨S128x1024, .f32⟩
  | .hbm, ⟨49, _⟩ => ⟨S_, .f32⟩
  | .hbm, ⟨50, _⟩ => ⟨S128x1024, .f32⟩
  | .hbm, ⟨51, _⟩ => ⟨S128x1024, .f32⟩
  | .hbm, ⟨52, _⟩ => ⟨S1x128x1024, .f32⟩
  | .hbm, ⟨53, _⟩ => ⟨S128x1024, .f32⟩
  | .hbm, ⟨54, _⟩ => ⟨S1x128x1024, .f32⟩
  | .hbm, ⟨55, _⟩ => ⟨S1x128x1024, .f32⟩
  | .hbm, ⟨56, _⟩ => ⟨S2x128x1024, .f32⟩
  | .hbm, ⟨57, _⟩ => ⟨S1x128x1024, .f32⟩
  | .hbm, ⟨58, _⟩ => ⟨S128x1024, .f32⟩
  | .hbm, ⟨59, _⟩ => ⟨S1x128x1024, .f32⟩
  | .hbm, ⟨60, _⟩ => ⟨S1x128x1024, .f32⟩
  | .hbm, ⟨61, _⟩ => ⟨S2x128x1024, .f32⟩
  | .hbm, ⟨62, _⟩ => ⟨S1x128x1024, .f32⟩
  | .hbm, ⟨63, _⟩ => ⟨S128x1024, .f32⟩
  | .hbm, ⟨64, _⟩ => ⟨S1x128x1024, .f32⟩
  | .hbm, ⟨65, _⟩ => ⟨S1x128x1024, .f32⟩
  | .hbm, ⟨66, _⟩ => ⟨S2x128x1024, .f32⟩
  | .hbm, ⟨67, _⟩ => ⟨S1x128x1024, .f32⟩
  | .hbm, ⟨68, _⟩ => ⟨S128x1024, .f32⟩
  | .hbm, ⟨69, _⟩ => ⟨S1x128x1024, .f32⟩
  | .hbm, ⟨70, _⟩ => ⟨S1x128x1024, .f32⟩
  | .hbm, ⟨71, _⟩ => ⟨S2x128x1024, .f32⟩
  | _, _ => ⟨S128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_0 : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_2 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_cst_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_cst_4 : Ref sig .tc := ⟨.hbm, 34, rfl⟩
abbrev main_v20 : Ref sig .tc := ⟨.hbm, 35, rfl⟩
abbrev main_v21 : Ref sig .tc := ⟨.hbm, 36, rfl⟩
abbrev main_cst_5 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_cst_6 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_cst_7 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_cst_8 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩

abbrev nD : Nat := 1
abbrev τ : Topo := Topo.v7x

variable {F : FTy → Type} [FloatOps F]
-- ==== Kernel10.lean ====
abbrev S8x8x128 : Shape := ⟨3, ![8, 8, 128]⟩
abbrev S8x128 : Shape := ⟨2, ![8, 128]⟩
abbrev S1x8x128 : Shape := ⟨3, ![1, 8, 128]⟩

abbrev nBuf : Space → Nat
  | .hbm => 8
  | .vmem => 8
  | .smem => 0
  | _ => 0

abbrev bufTy : (tb : Table) → Fin (tcTables nBuf tb) → BufTy
  | .hbm, ⟨0, _⟩ => ⟨S8x8x128, .f32⟩
  | .hbm, ⟨1, _⟩ => ⟨S8x128, .f32⟩
  | .hbm, ⟨2, _⟩ => ⟨S8x128, .f32⟩
  | .hbm, ⟨3, _⟩ => ⟨S8x128, .f32⟩
  | .hbm, ⟨4, _⟩ => ⟨S8x128, .f32⟩
  | .hbm, ⟨5, _⟩ => ⟨S8x128, .f32⟩
  | .hbm, ⟨6, _⟩ => ⟨S8x128, .f32⟩
  | .hbm, ⟨7, _⟩ => ⟨S8x128, .f32⟩
  | .local _ .vmem, ⟨0, _⟩ => ⟨S8x8x128, .f32⟩
  | .local _ .vmem, ⟨1, _⟩ => ⟨S8x128, .f32⟩
  | .local _ .vmem, ⟨2, _⟩ => ⟨S8x128, .f32⟩
  | .local _ .vmem, ⟨3, _⟩ => ⟨S8x128, .f32⟩
  | .local _ .vmem, ⟨4, _⟩ => ⟨S8x128, .f32⟩
  | .local _ .vmem, ⟨5, _⟩ => ⟨S8x128, .f32⟩
  | .local _ .vmem, ⟨6, _⟩ => ⟨S8x128, .f32⟩
  | .local _ .vmem, ⟨7, _⟩ => ⟨S8x128, .f32⟩
  | _, _ => ⟨S8x8x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x8x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S8x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S8x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S8x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S8x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S8x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S8x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Reference10Ideal.lean ====
abbrev S8x8x128 : Shape := ⟨3, ![8, 8, 128]⟩
abbrev S8x128 : Shape := ⟨2, ![8, 128]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S8x8x128, .f32⟩
  | .hbm, ⟨1, _⟩ => ⟨S8x128, .f32⟩
  | .hbm, ⟨2, _⟩ => ⟨S8x128, .f32⟩
  | .hbm, ⟨3, _⟩ => ⟨S8x128, .f32⟩
  | .hbm, ⟨4, _⟩ => ⟨S_, .f32⟩
  | .hbm, ⟨5, _⟩ => ⟨S8x128, .f32⟩
  | .hbm, ⟨6, _⟩ => ⟨S_, .f32⟩
  | .hbm, ⟨7, _⟩ => ⟨S8x128, .f32⟩
  | .hbm, ⟨8, _⟩ => ⟨S8x128, .f32⟩
  | .hbm, ⟨9, _⟩ => ⟨S_, .f32⟩
  | .hbm, ⟨10, _⟩ => ⟨S8x128, .f32⟩
  | .hbm, ⟨11, _⟩ => ⟨S8x128, .f32⟩
  | .hbm, ⟨12, _⟩ => ⟨S8x128, .f32⟩
  | .hbm, ⟨13, _⟩ => ⟨S_, .f32⟩
  | .hbm, ⟨14, _⟩ => ⟨S8x128, .f32⟩
  | .hbm, ⟨15, _⟩ => ⟨S8x128, .f32⟩
  | .hbm, ⟨16, _⟩ => ⟨S8x128, .f32⟩
  | .hbm, ⟨17, _⟩ => ⟨S_, .f32⟩
  | .hbm, ⟨18, _⟩ => ⟨S8x128, .f32⟩
  | .hbm, ⟨19, _⟩ => ⟨S8x128, .f32⟩
  | .hbm, ⟨20, _⟩ => ⟨S8x128, .f32⟩
  | .hbm, ⟨21, _⟩ => ⟨S_, .f32⟩
  | .hbm, ⟨22, _⟩ => ⟨S8x128, .f32⟩
  | .hbm, ⟨23, _⟩ => ⟨S8x128, .f32⟩
  | .hbm, ⟨24, _⟩ => ⟨S_, .f32⟩
  | .hbm, ⟨25, _⟩ => ⟨S8x128, .f32⟩
  | .hbm, ⟨26, _⟩ => ⟨S8x128, .f32⟩
  | .hbm, ⟨27, _⟩ => ⟨S8x128, .f32⟩
  | .hbm, ⟨28, _⟩ => ⟨S_, .f32⟩
  | .hbm, ⟨29, _⟩ => ⟨S8x128, .f32⟩
  | .hbm, ⟨30, _⟩ => ⟨S8x128, .f32⟩
  | .hbm, ⟨31, _⟩ => ⟨S8x128, .f32⟩
  | .hbm, ⟨32, _⟩ => ⟨S_, .f32⟩
  | .hbm, ⟨33, _⟩ => ⟨S8x128, .f32⟩
  | .hbm, ⟨34, _⟩ => ⟨S8x128, .f32⟩
  | .hbm, ⟨35, _⟩ => ⟨S8x128, .f32⟩
  | .hbm, ⟨36, _⟩ => ⟨S_, .f32⟩
  | .hbm, ⟨37, _⟩ => ⟨S8x128, .f32⟩
  | .hbm, ⟨38, _⟩ => ⟨S8x128, .f32⟩
  | _, _ => ⟨S8x8x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== Proof.SameText.lean ====
/- The kernel and its reading at the reals have the same text: a frame proved of the one over any float values is
   a frame of the other. -/
module

public import proofs.«01_k».proof.Defs
public import proofs.«01_k».proof.Proof.Gen.Kernel
public import proofs.«01_k».proof.Proof.Gen.KernelIdeal

@[expose] public section

set_option backward.isDefEq.respectTransparency.types false
set_option backward.isDefEq.respectTransparency false
set_option maxHeartbeats 4000000

noncomputable section

namespace Cert.Kernel.Same

open Idealize.ShloMosaic Idealize.SL.Sem

/-- The two bodies are the same. -/
theorem bodies : Cert.Kernel.defs₀ (F := Bits) = Cert.KernelIdeal.defs₀ (F := Bits) := by
  refine congrArg Defs.onTc (funext fun l => ?_)
  match l with
  | 0 => exact funext fun a => rfl
  | ⟨n + 1, h⟩ => exact absurd h (by omega)
/-- So are the tables of what the programs call, -/
theorem defs : Cert.Kernel.defs (F := Bits) = Cert.KernelIdeal.defs (F := Bits) :=
  congrArg (Pipeline.defs (Cert.KernelIdeal.pcfgs (F := Bits))) bodies
/-- and the host programs. -/
theorem main : Cert.Kernel.main (F := Bits) = Cert.KernelIdeal.main (F := Bits) := rfl

/-- A run of the kernel is a run of its reading. -/
theorem run (m : (ℓ : Loc Cert.KernelIdeal.nD Cert.KernelIdeal.τ Cert.KernelIdeal.sig) → Buf (Elt Bits) ℓ) (ρ : Dev Cert.KernelIdeal.nD → PrngReg) :
    θ_run (Cert.Kernel.defs (F := Bits)) (onTc (τ := Cert.Kernel.τ) (Cert.Kernel.main (F := Bits))) ⟨m, fun _ => 0, ρ⟩
      = θ_run (Cert.KernelIdeal.defs (F := Bits)) (onTc (τ := Cert.KernelIdeal.τ) (Cert.KernelIdeal.main (F := Bits))) ⟨m, fun _ => 0, ρ⟩ := by
  rw [defs, main]; exact rfl

end Cert.Kernel.Same

end
-- ==== Proof.Tables.lean ====
/-
  Tables read at natural numbers.

  A launch cuts a long axis into blocks, so the row of an array that a block holds is written with products and
  remainders of a grid point. To compare such rows without carrying their bounds, a table is read here at any two
  natural numbers: at the entry where there is one, and at zero outside.
-/
module

public import Idealize.ShloMosaic.Lib.Pointwise
public import Idealize.ShloMosaic.Lib.Pipeline.Value

@[expose] public section

noncomputable section

namespace Cert.Tables

open Idealize.ShloMosaic

/-- The entry of a table at row `a` and column `b`; zero outside the table. -/
def at2 {A B : ℕ} (x : (⟨2, ![A, B]⟩ : Shape).Idx → EReal) (a b : ℕ) : EReal :=
  if h : a < A ∧ b < B then x (ix2 ⟨a, h.1⟩ ⟨b, h.2⟩) else 0

/-- Inside the table, at an index whose coordinates have these values. -/
theorem at2_of {A B : ℕ} (x : (⟨2, ![A, B]⟩ : Shape).Idx → EReal) (i : (⟨2, ![A, B]⟩ : Shape).Idx) (a b : ℕ)
    (ha : (i 0).val = a) (hb : (i 1).val = b) : x i = at2 x a b := by
  subst ha hb
  have h0 : (i 0).val < A := (i 0).isLt
  have h1 : (i 1).val < B := (i 1).isLt
  unfold at2
  rw [dif_pos ⟨h0, h1⟩]
  exact congrArg x (eq_ix2 i)

/-- The entry of a table of three axes; zero outside the table. -/
def at3 {A B C : ℕ} (x : (⟨3, ![A, B, C]⟩ : Shape).Idx → EReal) (a b c : ℕ) : EReal :=
  if h : a < A ∧ b < B ∧ c < C then x (ix3 ⟨a, h.1⟩ ⟨b, h.2.1⟩ ⟨c, h.2.2⟩) else 0

theorem at3_of {A B C : ℕ} (x : (⟨3, ![A, B, C]⟩ : Shape).Idx → EReal) (i : (⟨3, ![A, B, C]⟩ : Shape).Idx) (a b c : ℕ)
    (ha : (i 0).val = a) (hb : (i 1).val = b) (hc : (i 2).val = c) : x i = at3 x a b c := by
  subst ha hb hc
  have h0 : (i 0).val < A := (i 0).isLt
  have h1 : (i 1).val < B := (i 1).isLt
  have h2 : (i 2).val < C := (i 2).isLt
  unfold at3
  rw [dif_pos ⟨h0, h1, h2⟩]
  exact congrArg x (eq_ix3 i)

end Cert.Tables

end
-- ==== Proof.GradWIn.lean ====
/-
  The gradient of the input projection: one block of columns at a time, the tokens summed in four strips of 2048.

  Point `t = 4g + j` of the launch adds, to the block of the 1280 columns that start at `1280 g`, the products of the
  tokens `2048 j … 2048 j + 2047`; the block is cleared at `j = 0` and stored at `j = 3`, once in f32 and once rounded to
  bf16. Over the extended reals rounding is the identity and the four strips are one sum over the 8192 tokens, which
  is the entry of the derivative of the projection.
-/
module

public import proofs.«01_k».proof.Proof.Tables
public import proofs.«01_k».proof.Proof.Gen.Kernel2Ideal.Value
public import proofs.«01_k».proof.Proof.Gen.Reference2Ideal.Read
public import Idealize.ShloMosaic.Lib.Pointwise

@[expose] public section

noncomputable section

namespace Cert.Kernel2Ideal.Strips

open Cert.Kernel2Ideal Cert.Kernel2Ideal.Gen Cert.Tables
open Idealize.ShloMosaic Idealize.ShloMosaic.TcCoe Idealize.SL.Sem
open Idealize.ShloMosaic.Pipeline (Dat)

theorem zero2 : (![0, 0] : Fin 2 → Nat) = fun _ => 0 := funext fun a => by fin_cases a <;> rfl
theorem zero3 : (![0, 0, 0] : Fin 3 → Nat) = fun _ => 0 := funext fun a => by fin_cases a <;> rfl

section AnyValues
variable {F : FTy → Type} [FloatOps F]

/-- A middle strip: the block so far plus the strip's products. -/
theorem strip_middle (c : Dev nD) (i : grid0.Coords) (a2 : Memref sig .tc .vmem S2048x1024 .bf16) (h2 : a2.IsWhole)
    (a3 : Memref sig .tc .vmem S2048x1280 .bf16) (h3 : a3.IsWhole) (a4 : Memref sig .tc .vmem S1x1024x1280 .f32) (h4 : a4.IsWhole)
    (a5 : Memref sig .tc .vmem S1x1024x1280 .bf16) (h5 : a5.IsWhole) (hc0 : ¬cond0_0 i) (hc1 : ¬cond0_1 i)
    (x0 : Vec F S2048x1024 .bf16) (x1 : Vec F S2048x1280 .bf16) (xo : Vec F S1x1024x1280 .f32) :
    out0_B_2 c i a2 h2 a3 h3 a4 h4 a5 h5 hc0 hc1 x0 x1 xo = k0_pay2 xo x0 x1 := by
  unfold out0_B_2
  rw [View.read_writes_eq_canon _ _ _ (cover0_B_2 c i a2 h2 a3 h3 a4 h4 a5 h5 hc0 hc1 x0 x1 xo)]
  unfold kernelRun0_B
  dsimp only
  rw [View.canon_unit_zero zero3]
  simp only [View.readAt_eq_ld, h2.read_unread, h3.read_unread, h4.read_unread, View.ld_unit_zero (S := S2048x1024) zero2,
    View.ld_unit_zero (S := S2048x1280) zero2, View.ld_unit_zero (S := S1x1024x1280) zero3]

/-- The first strip: the block cleared, plus the strip's products. -/
theorem strip_first (c : Dev nD) (i : grid0.Coords) (a2 : Memref sig .tc .vmem S2048x1024 .bf16) (h2 : a2.IsWhole)
    (a3 : Memref sig .tc .vmem S2048x1280 .bf16) (h3 : a3.IsWhole) (a4 : Memref sig .tc .vmem S1x1024x1280 .f32) (h4 : a4.IsWhole)
    (a5 : Memref sig .tc .vmem S1x1024x1280 .bf16) (h5 : a5.IsWhole) (hc0 : cond0_0 i) (hc1 : ¬cond0_1 i)
    (x0 : Vec F S2048x1024 .bf16) (x1 : Vec F S2048x1280 .bf16) :
    out0_A_2 c i a2 h2 a3 h3 a4 h4 a5 h5 hc0 hc1 x0 x1 = k0_pay2 k0_pay1 x0 x1 := by
  unfold out0_A_2
  rw [View.read_writes_eq_canon _ _ _ (cover0_A_2 c i a2 h2 a3 h3 a4 h4 a5 h5 hc0 hc1 x0 x1)]
  unfold kernelRun0_A
  dsimp only
  sl_unfold_words
  rw [View.canon_cons_unit_zero (S := S1x1024x1280) zero3, View.readCov_unit_zero (S := S1x1024x1280) _ zero3]
  simp only [View.readAt_eq_ld, h2.read_unread, h3.read_unread, View.ld_unit_zero (S := S2048x1024) zero2,
    View.ld_unit_zero (S := S2048x1280) zero2]

/-- The last strip: the block so far plus the strip's products. -/
theorem strip_last (c : Dev nD) (i : grid0.Coords) (a2 : Memref sig .tc .vmem S2048x1024 .bf16) (h2 : a2.IsWhole)
    (a3 : Memref sig .tc .vmem S2048x1280 .bf16) (h3 : a3.IsWhole) (a4 : Memref sig .tc .vmem S1x1024x1280 .f32) (h4 : a4.IsWhole)
    (a5 : Memref sig .tc .vmem S1x1024x1280 .bf16) (h5 : a5.IsWhole) (hc0 : ¬cond0_0 i) (hc1 : cond0_1 i)
    (x0 : Vec F S2048x1024 .bf16) (x1 : Vec F S2048x1280 .bf16) (xo : Vec F S1x1024x1280 .f32) :
    out0_C_2 c i a2 h2 a3 h3 a4 h4 a5 h5 hc0 hc1 x0 x1 xo = k0_pay2 xo x0 x1 := by
  unfold out0_C_2
  rw [View.read_writes_eq_canon _ _ _ (cover0_C_2 c i a2 h2 a3 h3 a4 h4 a5 h5 hc0 hc1 x0 x1 xo)]
  unfold kernelRun0_C
  dsimp only
  sl_unfold_words
  rw [View.canon_unit_zero zero3]
  simp only [View.readAt_eq_ld, h2.read_unread, h3.read_unread, h4.read_unread, View.ld_unit_zero (S := S2048x1024) zero2,
    View.ld_unit_zero (S := S2048x1280) zero2, View.ld_unit_zero (S := S1x1024x1280) zero3]

/-- The last strip's rounded copy of the block. -/
theorem strip_half (c : Dev nD) (i : grid0.Coords) (a2 : Memref sig .tc .vmem S2048x1024 .bf16) (h2 : a2.IsWhole)
    (a3 : Memref sig .tc .vmem S2048x1280 .bf16) (h3 : a3.IsWhole) (a4 : Memref sig .tc .vmem S1x1024x1280 .f32) (h4 : a4.IsWhole)
    (a5 : Memref sig .tc .vmem S1x1024x1280 .bf16) (h5 : a5.IsWhole) (hc0 : ¬cond0_0 i) (hc1 : cond0_1 i)
    (x0 : Vec F S2048x1024 .bf16) (x1 : Vec F S2048x1280 .bf16) (xo : Vec F S1x1024x1280 .f32) :
    out0_C_3 c i a2 h2 a3 h3 a4 h4 a5 h5 hc0 hc1 x0 x1 xo = k0_pay3 (k0_pay2 xo x0 x1) := by
  unfold out0_C_3
  rw [View.read_writes_eq_canon _ _ _ (cover0_C_3 c i a2 h2 a3 h3 a4 h4 a5 h5 hc0 hc1 x0 x1 xo)]
  unfold kernelRun0_C
  dsimp only
  sl_unfold_words
  rw [View.canon_unit_zero zero3, View.readCov_unit_zero (S := S1x1024x1280) _ zero3]
  simp only [View.readAt_eq_ld, h2.read_unread, h3.read_unread, h4.read_unread, View.ld_unit_zero (S := S2048x1024) zero2,
    View.ld_unit_zero (S := S2048x1280) zero2, View.ld_unit_zero (S := S1x1024x1280) zero3]

end AnyValues

/-! ## Over the extended reals -/

/-- A strip's step at an entry of the block. -/
theorem step_apply (xo : Vec Ideal S1x1024x1280 .f32) (x0 : Vec Ideal S2048x1024 .bf16) (x1 : Vec Ideal S2048x1280 .bf16)
    (y : S1x1024x1280.Idx) :
    (k0_pay2 xo x0 x1 : S1x1024x1280.Idx → EReal) y
      = xo y + ∑ k : Fin 2048, at2 x0 k.val (y 1).val * at2 x1 k.val (y 2).val := by
  obtain ⟨a, r, q, rfl⟩ : ∃ (a : Fin 1) (r : Fin 1024) (q : Fin 1280), y = ix3 a r q := ⟨y 0, y 1, y 2, eq_ix3 y⟩
  obtain rfl : a = 0 := Subsingleton.elim _ _
  have e : ∀ k : Fin 2048, at2 x0 k.val r.val * at2 x1 k.val q.val = x0 (ix2 k r) * x1 (ix2 k q) := fun k => by
    exact congrArg₂ (· * ·) (at2_of x0 (ix2 k r) _ _ rfl rfl).symm (at2_of x1 (ix2 k q) _ _ rfl rfl).symm
  simp only [ix3_1, ix3_2, e]
  unfold k0_pay2
  pointwise [dot_S2048x1024_S2048x1280_S1024x1280_0_0_1_1_n_n]

/-- The cleared block is zero. -/
theorem clear_apply (y : S1x1024x1280.Idx) : (k0_pay1 (F := Ideal) : S1x1024x1280.Idx → EReal) y = 0 := by
  unfold k0_pay1
  pointwise

/-- The rounded copy is the block. -/
theorem half_apply (x : Vec Ideal S1x1024x1280 .f32) (y : S1x1024x1280.Idx) :
    (k0_pay3 x : S1x1024x1280.Idx → EReal) y = x y := by
  obtain ⟨a, r, q, rfl⟩ : ∃ (a : Fin 1) (r : Fin 1024) (q : Fin 1280), y = ix3 a r q := ⟨y 0, y 1, y 2, eq_ix3 y⟩
  obtain rfl : a = 0 := Subsingleton.elim _ _
  unfold k0_pay3
  pointwise

variable (m : (ℓ : Loc nD τ sig) → Buf (Elt Ideal) ℓ) (ρ : Dev nD → PrngReg)

/-- The tokens' hidden values as the launch finds them. -/
abbrev hid (c : Dev nD) : S8192x1024.Idx → EReal := V m c main_v0
/-- The tokens' projection gradients as the launch finds them. -/
abbrev dpr (c : Dev nD) : S8192x10240.Idx → EReal := V m c main_v1

theorem map0 : ∀ t : Fin 32, win0_0.index t 0 = t.val % 4 ∧ win0_0.index t 1 = 0 := by decide +kernel
theorem map1 : ∀ t : Fin 32, win0_1.index t 0 = t.val % 4 ∧ win0_1.index t 1 = t.val / 4 := by decide +kernel
theorem map2 : ∀ t : Fin 32, win0_2.index t 0 = t.val / 4 ∧ win0_2.index t 1 = 0 ∧ win0_2.index t 2 = 0 := by decide +kernel
theorem map3 : ∀ t : Fin 32, win0_3.index t 0 = t.val / 4 ∧ win0_3.index t 1 = 0 ∧ win0_3.index t 2 = 0 := by decide +kernel

/-- The strip of hidden values at a point, entry by entry. -/
theorem block0 (c : Dev nD) (t : Fin cfg0.N) (a b : ℕ) (ha : a < 2048) (hb : b < 1024) :
    at2 (iblk m c 0 t : S2048x1024.Idx → EReal) a b = at2 (hid m c) (t.val % 4 * 2048 + a) b := by
  rw [← at2_of (iblk m c 0 t : S2048x1024.Idx → EReal) (ix2 ⟨a, ha⟩ ⟨b, hb⟩) a b rfl rfl]
  unfold iblk
  rw [View.read_apply]
  refine at2_of (hid m c) _ _ _ ?_ ?_
  · refine (win0_0.rect_emb_val t (ix2 ⟨a, ha⟩ ⟨b, hb⟩) 0).trans ?_
    rw [(map0 t).1]; rfl
  · refine (win0_0.rect_emb_val t (ix2 ⟨a, ha⟩ ⟨b, hb⟩) 1).trans ?_
    rw [(map0 t).2]; exact (Nat.zero_mul _).symm ▸ Nat.zero_add _

/-- The strip of projection gradients at a point, entry by entry. -/
theorem block1 (c : Dev nD) (t : Fin cfg0.N) (a b : ℕ) (ha : a < 2048) (hb : b < 1280) :
    at2 (iblk m c 1 t : S2048x1280.Idx → EReal) a b = at2 (dpr m c) (t.val % 4 * 2048 + a) (t.val / 4 * 1280 + b) := by
  rw [← at2_of (iblk m c 1 t : S2048x1280.Idx → EReal) (ix2 ⟨a, ha⟩ ⟨b, hb⟩) a b rfl rfl]
  unfold iblk
  rw [View.read_apply]
  refine at2_of (dpr m c) _ _ _ ?_ ?_
  · refine (win0_1.rect_emb_val t (ix2 ⟨a, ha⟩ ⟨b, hb⟩) 0).trans ?_
    rw [(map1 t).1]; rfl
  · refine (win0_1.rect_emb_val t (ix2 ⟨a, ha⟩ ⟨b, hb⟩) 1).trans ?_
    rw [(map1 t).2]; rfl

/-- What strip `j` adds to entry `(r, q)` of column block `g`. -/
def strip (c : Dev nD) (g j r q : ℕ) : EReal :=
  ∑ k : Fin 2048, at2 (hid m c) (j * 2048 + k.val) r * at2 (dpr m c) (j * 2048 + k.val) (g * 1280 + q)

/-- The step at a point, over what the point before left. -/
theorem step_at (c : Dev nD) (t : Fin cfg0.N) (xo : Vec Ideal S1x1024x1280 .f32) (y : S1x1024x1280.Idx) :
    (k0_pay2 xo (iblk m c 0 t) (iblk m c 1 t) : S1x1024x1280.Idx → EReal) y
      = xo y + strip m c (t.val / 4) (t.val % 4) (y 1).val (y 2).val := by
  rw [step_apply]
  refine congrArg (xo y + ·) (Finset.sum_congr rfl fun k _ => ?_)
  exact congrArg₂ (· * ·) (block0 m c t k.val (y 1).val k.isLt (y 1).isLt) (block1 m c t k.val (y 2).val k.isLt (y 2).isLt)

/-- The block after a point: the strips summed so far. -/
theorem sum_so_far (c : Dev nD) : ∀ (n : ℕ) (h : n < cfg0.N) (y : S1x1024x1280.Idx),
    ((outsAt0 m c n h).1 : S1x1024x1280.Idx → EReal) y
      = ∑ j ∈ Finset.range (n % 4 + 1), strip m c (n / 4) j (y 1).val (y 2).val
  | n, h, y => by
    by_cases h0 : n % 4 = 0
    · have h1 : ¬(⟨n, h⟩ : Fin cfg0.N).val % 4 = 3 := by dsimp only; omega
      rw [outsAt0_A m c ⟨n, h⟩ h0 h1]
      dsimp only
      rw [strip_first, step_at, clear_apply, zero_add, h0]
      simp only [h0, zero_add, Finset.sum_range_one]
    · have hp : n - 1 < cfg0.N := Nat.lt_of_le_of_lt (Nat.sub_le _ _) h
      have ih := sum_so_far c (n - 1) hp y
      have e : (k0_pay2 (outsAt0 m c (n - 1) hp).1 (iblk m c 0 ⟨n, h⟩) (iblk m c 1 ⟨n, h⟩) : S1x1024x1280.Idx → EReal) y
          = ∑ j ∈ Finset.range (n % 4 + 1), strip m c (n / 4) j (y 1).val (y 2).val := by
        have ed : (n - 1) / 4 = n / 4 := by omega
        have em : (n - 1) % 4 + 1 = n % 4 := by omega
        rw [step_at, ih, ed, em, Finset.sum_range_succ]
      by_cases h1 : n % 4 = 3
      · rw [outsAt0_C m c ⟨n, h⟩ h0 h1]
        dsimp only
        rw [strip_last]
        exact e
      · rw [outsAt0_B m c ⟨n, h⟩ h0 h1]
        dsimp only
        rw [strip_middle]
        exact e

/-- The four strips are one sum over the tokens. -/
def total (c : Dev nD) (g r q : ℕ) : EReal :=
  ∑ k : Fin 8192, at2 (hid m c) k.val r * at2 (dpr m c) k.val (g * 1280 + q)

theorem strips_total (c : Dev nD) (g r q : ℕ) : ∑ j ∈ Finset.range 4, strip m c g j r q = total m c g r q := by
  unfold total strip
  rw [Fin.sum_univ_tiles 4 2048 rfl, Finset.sum_range]

/-- The whole result, as a table. -/
def grad (c : Dev nD) : S8x1024x1280.Idx → EReal := fun i => total m c (i 0).val (i 1).val (i 2).val

theorem grad_of (c : Dev nD) (i : S8x1024x1280.Idx) (g r q : ℕ) (hg : (i 0).val = g) (hr : (i 1).val = r) (hq : (i 2).val = q) :
    total m c g r q = grad m c i := by
  subst hg hr hq
  rfl

set_option maxRecDepth 16384 in
theorem flushed_f32 (c : Dev nD) (t : Fin cfg0.N) (hf : (cfg0.win 2).flush t = true) :
    (dats m 0 c).flushed 2 t = ((cfg0.win 2).blk t).view.read (Elt Ideal) (grad m c) := by
  have h3 : t.val % 4 = 3 := (flush0_2 t).mp hf
  rw [Value.flushed2]
  funext y
  rw [View.read_apply]
  refine (sum_so_far m c t.val t.isLt y).trans ?_
  rw [h3, strips_total]
  have e0 := win0_2.rect_emb_val t y 0
  have e1 := win0_2.rect_emb_val t y 1
  have e2 := win0_2.rect_emb_val t y 2
  have y0 : (y 0).val = 0 := Nat.lt_one_iff.mp (y 0).isLt
  rw [(map2 t).1, y0] at e0
  rw [(map2 t).2.1] at e1
  rw [(map2 t).2.2] at e2
  exact grad_of m c _ _ _ _ (e0.trans (Nat.mul_one _)) (e1.trans ((congrArg (· + _) (Nat.zero_mul _)).trans (Nat.zero_add _)))
    (e2.trans ((congrArg (· + _) (Nat.zero_mul _)).trans (Nat.zero_add _)))

set_option maxRecDepth 16384 in
theorem flushed_bf16 (c : Dev nD) (t : Fin cfg0.N) (hf : (cfg0.win 3).flush t = true) :
    (dats m 0 c).flushed 3 t = ((cfg0.win 3).blk t).view.read (Elt Ideal) (grad m c) := by
  have h3 : t.val % 4 = 3 := (flush0_3 t).mp hf
  have h0 : ¬t.val % 4 = 0 := by omega
  rw [Value.flushed3_C m c t h0 h3]
  funext y
  rw [View.read_apply, strip_half]
  refine (half_apply _ y).trans ?_
  have e := sum_so_far m c t.val t.isLt y
  rw [outsAt0_C m c t h0 h3] at e
  dsimp only at e
  rw [strip_last] at e
  refine e.trans ?_
  rw [h3, strips_total]
  have e0 := win0_3.rect_emb_val t y 0
  have e1 := win0_3.rect_emb_val t y 1
  have e2 := win0_3.rect_emb_val t y 2
  have y0 : (y 0).val = 0 := Nat.lt_one_iff.mp (y 0).isLt
  rw [(map3 t).1, y0] at e0
  rw [(map3 t).2.1] at e1
  rw [(map3 t).2.2] at e2
  exact grad_of m c _ _ _ _ (e0.trans (Nat.mul_one _)) (e1.trans ((congrArg (· + _) (Nat.zero_mul _)).trans (Nat.zero_add _)))
    (e2.trans ((congrArg (· + _) (Nat.zero_mul _)).trans (Nat.zero_add _)))

/-- The point that stores column block `g`. -/
abbrev lastStrip (g : Fin 8) : Fin cfg0.N := ⟨4 * g.val + 3, by have := g.isLt; show _ < grid0.N; rw [N_0]; omega⟩

theorem covered2 (i : S8x1024x1280.Idx) : ∃ t : Fin cfg0.N, (cfg0.win 2).flush t = true ∧ i ∈ ((cfg0.win 2).blk t).view.set := by
  have h0 : (i 0).val < 8 := (i 0).isLt
  have h1 : (i 1).val < 1024 := (i 1).isLt
  have h2 : (i 2).val < 1280 := (i 2).isLt
  refine ⟨lastStrip (i 0), (flush0_2 _).mpr (by dsimp only; omega), ?_⟩
  obtain ⟨m0, m1, m2⟩ := map2 (lastStrip (i 0))
  show i ∈ ((View.whole main_v2_0).slice (win0_2.rect (lastStrip (i 0)))).set
  rw [View.set_slice_whole, Rect.mem_set_unit]
  intro a
  match a with
  | ⟨0, _⟩ =>
    show win0_2.index (lastStrip (i 0)) 0 * 1 ≤ (i 0).val ∧ (i 0).val < win0_2.index (lastStrip (i 0)) 0 * 1 + 1
    rw [m0]; dsimp only; omega
  | ⟨1, _⟩ =>
    show win0_2.index (lastStrip (i 0)) 1 * 1024 ≤ (i 1).val ∧ (i 1).val < win0_2.index (lastStrip (i 0)) 1 * 1024 + 1024
    rw [m1]; omega
  | ⟨2, _⟩ =>
    show win0_2.index (lastStrip (i 0)) 2 * 1280 ≤ (i 2).val ∧ (i 2).val < win0_2.index (lastStrip (i 0)) 2 * 1280 + 1280
    rw [m2]; omega

theorem covered3 (i : S8x1024x1280.Idx) : ∃ t : Fin cfg0.N, (cfg0.win 3).flush t = true ∧ i ∈ ((cfg0.win 3).blk t).view.set := by
  have h0 : (i 0).val < 8 := (i 0).isLt
  have h1 : (i 1).val < 1024 := (i 1).isLt
  have h2 : (i 2).val < 1280 := (i 2).isLt
  refine ⟨lastStrip (i 0), (flush0_3 _).mpr (by dsimp only; omega), ?_⟩
  obtain ⟨m0, m1, m2⟩ := map3 (lastStrip (i 0))
  show i ∈ ((View.whole main_v2_1).slice (win0_3.rect (lastStrip (i 0)))).set
  rw [View.set_slice_whole, Rect.mem_set_unit]
  intro a
  match a with
  | ⟨0, _⟩ =>
    show win0_3.index (lastStrip (i 0)) 0 * 1 ≤ (i 0).val ∧ (i 0).val < win0_3.index (lastStrip (i 0)) 0 * 1 + 1
    rw [m0]; dsimp only; omega
  | ⟨1, _⟩ =>
    show win0_3.index (lastStrip (i 0)) 1 * 1024 ≤ (i 1).val ∧ (i 1).val < win0_3.index (lastStrip (i 0)) 1 * 1024 + 1024
    rw [m1]; omega
  | ⟨2, _⟩ =>
    show win0_3.index (lastStrip (i 0)) 2 * 1280 ≤ (i 2).val ∧ (i 2).val < win0_3.index (lastStrip (i 0)) 2 * 1280 + 1280
    rw [m2]; omega

/-- The launch's operands are the arguments: rounding is the identity. -/
theorem operand0 (c : Dev nD) : @Eq (FVec Ideal S8192x1024 .bf16) (V m c main_v0)
    (truncf .bf16 (m ((c : Thread nD τ).loc main_arg0) : FVec Ideal S8192x1024 .f32) bitsLt_bf16_f32 ) := by
  unfold V
  simp only [hostOps0]
  after_results

theorem operand1 (c : Dev nD) : @Eq (FVec Ideal S8192x10240 .bf16) (V m c main_v1)
    (truncf .bf16 (m ((c : Thread nD τ).loc main_arg1) : FVec Ideal S8192x10240 .f32) bitsLt_bf16_f32 ) := by
  unfold V
  simp only [hostOps0]
  after_results

theorem hid_eq (c : Dev nD) : hid m c = m ((c : Thread nD τ).loc main_arg0) := (operand0 m c).trans (funext fun _ => rfl)
theorem dpr_eq (c : Dev nD) : dpr m c = m ((c : Thread nD τ).loc main_arg1) := (operand1 m c).trans (funext fun _ => rfl)

/-- The derivative of the projection, as a function of the two arguments. -/
def gradOf (h : S8192x1024.Idx → EReal) (d : S8192x10240.Idx → EReal) : S8x1024x1280.Idx → EReal := fun i =>
  ∑ k : Fin 8192, at2 h k.val (i 1).val * at2 d k.val ((i 0).val * 1280 + (i 2).val)

theorem grad_eq (c : Dev nD) : grad m c = gradOf (m ((c : Thread nD τ).loc main_arg0)) (m ((c : Thread nD τ).loc main_arg1)) := by
  funext i
  unfold grad gradOf total
  rw [hid_eq, dpr_eq]

/-- The run: both results at the derivative, the arguments unchanged. -/
theorem run : θ_run defs (onTc (τ := τ) (main (F := Ideal))) ⟨m, fun _ => 0, ρ⟩ fun r => ∀ c : Dev nD,
      r.2.mem ((c : Thread nD τ).loc main_v2_0) = gradOf (m ((c : Thread nD τ).loc main_arg0)) (m ((c : Thread nD τ).loc main_arg1))
      ∧ r.2.mem ((c : Thread nD τ).loc main_v2_1) = gradOf (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => by
      obtain ⟨h2, h3, ha, hb⟩ := h c
      refine ⟨h2.trans ?_, h3.trans ?_, ha, hb⟩
      · exact ((dats m 0 c).arrAt_eq_of_cover 2 (grad m c) (flushed_f32 m c) covered2).trans (grad_eq m c)
      · exact ((dats m 0 c).arrAt_eq_of_cover 3 (grad m c) (flushed_bf16 m c) covered3).trans (grad_eq m c))
    (Value.run_blocks m ρ)

end Cert.Kernel2Ideal.Strips

namespace Cert.Reference2Ideal.Strips

open Cert.Reference2Ideal Cert.Reference2Ideal.Gen Cert.Reference2Ideal.Read Cert.Tables
open Idealize.ShloMosaic Idealize.ShloMosaic.TcCoe Idealize.SL.Sem

/-- The reference's derivative, entry by entry. -/
theorem entry (h : S8192x1024.Idx → EReal) (d : S8192x10240.Idx → EReal) (i : S8x1024x1280.Idx) :
    (val_main_v5 (F := Ideal) h d : S8x1024x1280.Idx → EReal) i = Cert.Kernel2Ideal.Strips.gradOf h d i := by
  rw [val_main_v5_apply, val_main_v4_apply, val_main_v3_apply, val_main_v2_apply]
  unfold Cert.Kernel2Ideal.Strips.gradOf
  refine Finset.sum_congr rfl fun k _ => ?_
  have h0 : (i 0).val < 8 := (i 0).isLt
  have h1 : (i 1).val < 1024 := (i 1).isLt
  have h2 : (i 2).val < 1280 := (i 2).isLt
  rw [mul_comm]
  refine congrArg₂ (· * ·) (at2_of h _ _ _ rfl ?_) (at2_of d _ _ _ rfl ?_)
  · show (((i 1).val * 8 + (i 0).val) * 1280 + (i 2).val) / 10240 = (i 1).val
    omega
  · show (((i 1).val * 8 + (i 0).val) * 1280 + (i 2).val) % 10240 = (i 0).val * 1280 + (i 2).val
    omega

theorem whole (h : S8192x1024.Idx → EReal) (d : S8192x10240.Idx → EReal) :
    (val_main_v5 (F := Ideal) h d : S8x1024x1280.Idx → EReal) = Cert.Kernel2Ideal.Strips.gradOf h d := funext (entry h d)

theorem whole_half (h : S8192x1024.Idx → EReal) (d : S8192x10240.Idx → EReal) :
    (val_main_v6 (F := Ideal) h d : S8x1024x1280.Idx → EReal) = Cert.Kernel2Ideal.Strips.gradOf h d :=
  funext fun i => (val_main_v6_apply (F := Ideal) h d i).trans (entry h d i)

end Cert.Reference2Ideal.Strips

end
-- ==== Proof.MergeSlices.lean ====
/-
  Where the merge gradient's copies put things. The gradient of the branch products is summed as a table of branch,
  row and column; the copies cut its 1024 columns into eight strips of 128, one strip to each leading index of the
  result. Eight windows written one after another, each with its strip, hold the table laid out that way.
-/
module

public import proofs.«01_k».proof.Proof.Gen.KernelIdeal.Frame
public import Idealize.ShloMosaic.Lib.ValueIdxCore

@[expose] public section

set_option maxRecDepth 16384

noncomputable section

namespace Cert.KernelIdeal.Merge

open Cert.KernelIdeal Cert.KernelIdeal.Gen
open Idealize.ShloMosaic Idealize.ShloMosaic.TcCoe Idealize.SL.Sem Idealize.ShloMosaic.ValueIdx

variable {F : FTy → Type} [FloatOps F]

/-- The table laid out by strips: strip `d` holds the columns `128 d … 128 d + 127`. -/
def layout {α : Type} (x : S4x512x1024.Idx → α) : S8x4x512x128.Idx → α := fun i =>
  x (ix3 (i 1) (i 2) ⟨128 * (i 0).val + (i 3).val, by
    have h0 : (i 0).val < 8 := (i 0).isLt
    have h3 : (i 3).val < 128 := (i 3).isLt
    show _ < 1024
    omega⟩)

theorem drop_one (x : S4x512x128.Idx) (h : S4x512x128.numel = S1x4x512x128.numel) :
    Shape.reshapeEquiv h x = (ix4 (⟨0, by decide⟩ : Fin 1) (x 0) (x 1) (x 2) : S1x4x512x128.Idx) := by
  apply Shape.reshapeEquiv_eq_of_rowMajor
  rw [Shape.rowMajor_val_four, Shape.rowMajor_val_three]
  show ((0 * 4 + (x 0).val) * 512 + (x 1).val) * 128 + (x 2).val = ((x 0).val * 512 + (x 1).val) * 128 + (x 2).val
  omega

theorem emb_strip (d : ℕ) (hb : ∀ a, (![d, 0, 0, 0] : Fin 4 → ℕ) a + S1x4x512x128.size a ≤ S8x4x512x128.size a)
    (h : S4x512x128.numel = S1x4x512x128.numel) (x : S4x512x128.Idx) (a : Fin 4) :
    ((Rect.unit (s := S8x4x512x128) ![d, 0, 0, 0] S1x4x512x128.size hb).emb (Shape.reshapeEquiv h x) a).val
      = (![d, (x 0).val, (x 1).val, (x 2).val] : Fin 4 → ℕ) a := by
  rw [drop_one]
  fin_cases a
  · show d + 1 * 0 = d; omega
  · show 0 + 1 * (x 0).val = (x 0).val; omega
  · show 0 + 1 * (x 1).val = (x 1).val; omega
  · show 0 + 1 * (x 2).val = (x 2).val; omega

/-- A strip written into `main_v63_4` changes that strip only. -/
theorem write_strip (d : ℕ) (hb : ∀ a, (![d, 0, 0, 0] : Fin 4 → ℕ) a + S1x4x512x128.size a ≤ S8x4x512x128.size a) (hu)
    (g : (⟨S8x4x512x128, .f32⟩ : BufTy).Contents (Elt F)) (p : S4x512x128.Idx → Elt F .f32) (i : S8x4x512x128.Idx) :
    (View.write (Elt F) ((((Memref.whole main_v63_4 : Memref sig .tc .hbm S8x4x512x128 .f32).slice
        (Rect.unit (s := S8x4x512x128) ![d, 0, 0, 0] S1x4x512x128.size hb) hu).squeeze S4x512x128 squeezes_S1x4x512x128_S4x512x128).view)
        g p Finset.univ : (⟨S8x4x512x128, .f32⟩ : BufTy).Contents (Elt F)) i
      = if (i 0).val = d then p (ix3 (i 1) (i 2) (i 3)) else g i := by
  split
  · next h =>
    have hi : i = (((Memref.whole main_v63_4 : Memref sig .tc .hbm S8x4x512x128 .f32).slice
        (Rect.unit (s := S8x4x512x128) ![d, 0, 0, 0] S1x4x512x128.size hb) hu).squeeze S4x512x128 squeezes_S1x4x512x128_S4x512x128).view.emb
          (ix3 (i 1) (i 2) (i 3)) := funext fun a => Fin.ext ((emb_strip d hb squeezes_S1x4x512x128_S4x512x128.numel_eq (ix3 (i 1) (i 2) (i 3)) a).trans
            (by subst h; fin_cases a <;> rfl)).symm
    conv_lhs => rw [hi]
    exact View.write_emb_of_mem _ _ (Finset.mem_univ _)
  · next h =>
    refine View.write_of_not_mem _ _ _ fun hm => h ?_
    obtain ⟨x, -, hx⟩ := Finset.mem_map.mp hm
    rw [← hx]
    exact emb_strip d hb squeezes_S1x4x512x128_S4x512x128.numel_eq x 0

/-- A strip written into `main_v63_5` changes that strip only. -/
theorem write_strip_half (d : ℕ) (hb : ∀ a, (![d, 0, 0, 0] : Fin 4 → ℕ) a + S1x4x512x128.size a ≤ S8x4x512x128.size a) (hu)
    (g : (⟨S8x4x512x128, .bf16⟩ : BufTy).Contents (Elt F)) (p : S4x512x128.Idx → Elt F .bf16) (i : S8x4x512x128.Idx) :
    (View.write (Elt F) ((((Memref.whole main_v63_5 : Memref sig .tc .hbm S8x4x512x128 .bf16).slice
        (Rect.unit (s := S8x4x512x128) ![d, 0, 0, 0] S1x4x512x128.size hb) hu).squeeze S4x512x128 squeezes_S1x4x512x128_S4x512x128).view)
        g p Finset.univ : (⟨S8x4x512x128, .bf16⟩ : BufTy).Contents (Elt F)) i
      = if (i 0).val = d then p (ix3 (i 1) (i 2) (i 3)) else g i := by
  split
  · next h =>
    have hi : i = (((Memref.whole main_v63_5 : Memref sig .tc .hbm S8x4x512x128 .bf16).slice
        (Rect.unit (s := S8x4x512x128) ![d, 0, 0, 0] S1x4x512x128.size hb) hu).squeeze S4x512x128 squeezes_S1x4x512x128_S4x512x128).view.emb
          (ix3 (i 1) (i 2) (i 3)) := funext fun a => Fin.ext ((emb_strip d hb squeezes_S1x4x512x128_S4x512x128.numel_eq (ix3 (i 1) (i 2) (i 3)) a).trans
            (by subst h; fin_cases a <;> rfl)).symm
    conv_lhs => rw [hi]
    exact View.write_emb_of_mem _ _ (Finset.mem_univ _)
  · next h =>
    refine View.write_of_not_mem _ _ _ fun hm => h ?_
    obtain ⟨x, -, hx⟩ := Finset.mem_map.mp hm
    rw [← hx]
    exact emb_strip d hb squeezes_S1x4x512x128_S4x512x128.numel_eq x 0

/-- The eight strips of a table, written one after another, are the table laid out by strips. -/
theorem strips (g : (⟨S8x4x512x128, .f32⟩ : BufTy).Contents (Elt F)) (p0 p1 p2 p3 p4 p5 p6 p7 : S4x512x128.Idx → Elt F .f32) (x : S4x512x1024.Idx → Elt F .f32)
    (h0 : ∀ a r q, p0 (ix3 a r q) = x (ix3 a r ⟨0 + q.val, by omega⟩))
    (h1 : ∀ a r q, p1 (ix3 a r q) = x (ix3 a r ⟨128 + q.val, by omega⟩))
    (h2 : ∀ a r q, p2 (ix3 a r q) = x (ix3 a r ⟨256 + q.val, by omega⟩))
    (h3 : ∀ a r q, p3 (ix3 a r q) = x (ix3 a r ⟨384 + q.val, by omega⟩))
    (h4 : ∀ a r q, p4 (ix3 a r q) = x (ix3 a r ⟨512 + q.val, by omega⟩))
    (h5 : ∀ a r q, p5 (ix3 a r q) = x (ix3 a r ⟨640 + q.val, by omega⟩))
    (h6 : ∀ a r q, p6 (ix3 a r q) = x (ix3 a r ⟨768 + q.val, by omega⟩))
    (h7 : ∀ a r q, p7 (ix3 a r q) = x (ix3 a r ⟨896 + q.val, by omega⟩)) :
    ((View.write (Elt F) ((((Memref.whole main_v63_4 : Memref sig .tc .hbm S8x4x512x128 .f32).slice (Rect.unit (s := S8x4x512x128) ![7, 0, 0, 0] S1x4x512x128.size inb_S8x4x512x128_S1x4x512x128_7_0_0_0) (fun _ => rfl)).squeeze S4x512x128 squeezes_S1x4x512x128_S4x512x128).view) (View.write (Elt F) ((((Memref.whole main_v63_4 : Memref sig .tc .hbm S8x4x512x128 .f32).slice (Rect.unit (s := S8x4x512x128) ![6, 0, 0, 0] S1x4x512x128.size inb_S8x4x512x128_S1x4x512x128_6_0_0_0) (fun _ => rfl)).squeeze S4x512x128 squeezes_S1x4x512x128_S4x512x128).view) (View.write (Elt F) ((((Memref.whole main_v63_4 : Memref sig .tc .hbm S8x4x512x128 .f32).slice (Rect.unit (s := S8x4x512x128) ![5, 0, 0, 0] S1x4x512x128.size inb_S8x4x512x128_S1x4x512x128_5_0_0_0) (fun _ => rfl)).squeeze S4x512x128 squeezes_S1x4x512x128_S4x512x128).view) (View.write (Elt F) ((((Memref.whole main_v63_4 : Memref sig .tc .hbm S8x4x512x128 .f32).slice (Rect.unit (s := S8x4x512x128) ![4, 0, 0, 0] S1x4x512x128.size inb_S8x4x512x128_S1x4x512x128_4_0_0_0) (fun _ => rfl)).squeeze S4x512x128 squeezes_S1x4x512x128_S4x512x128).view) (View.write (Elt F) ((((Memref.whole main_v63_4 : Memref sig .tc .hbm S8x4x512x128 .f32).slice (Rect.unit (s := S8x4x512x128) ![3, 0, 0, 0] S1x4x512x128.size inb_S8x4x512x128_S1x4x512x128_3_0_0_0) (fun _ => rfl)).squeeze S4x512x128 squeezes_S1x4x512x128_S4x512x128).view) (View.write (Elt F) ((((Memref.whole main_v63_4 : Memref sig .tc .hbm S8x4x512x128 .f32).slice (Rect.unit (s := S8x4x512x128) ![2, 0, 0, 0] S1x4x512x128.size inb_S8x4x512x128_S1x4x512x128_2_0_0_0) (fun _ => rfl)).squeeze S4x512x128 squeezes_S1x4x512x128_S4x512x128).view) (View.write (Elt F) ((((Memref.whole main_v63_4 : Memref sig .tc .hbm S8x4x512x128 .f32).slice (Rect.unit (s := S8x4x512x128) ![1, 0, 0, 0] S1x4x512x128.size inb_S8x4x512x128_S1x4x512x128_1_0_0_0) (fun _ => rfl)).squeeze S4x512x128 squeezes_S1x4x512x128_S4x512x128).view) (View.write (Elt F) ((((Memref.whole main_v63_4 : Memref sig .tc .hbm S8x4x512x128 .f32).slice (Rect.unit (s := S8x4x512x128) ![0, 0, 0, 0] S1x4x512x128.size inb_S8x4x512x128_S1x4x512x128_0_0_0_0) (fun _ => rfl)).squeeze S4x512x128 squeezes_S1x4x512x128_S4x512x128).view) g p0 Finset.univ) p1 Finset.univ) p2 Finset.univ) p3 Finset.univ) p4 Finset.univ) p5 Finset.univ) p6 Finset.univ) p7 Finset.univ) : (⟨S8x4x512x128, .f32⟩ : BufTy).Contents (Elt F)) = layout x := by
  funext i
  have hi : (i 0).val < 8 := (i 0).isLt
  refine (write_strip 7 _ _ _ _ i).trans ?_
  by_cases h7' : (i 0).val = 7
  · exact (if_pos h7').trans ((h7 _ _ _).trans (congrArg x (congrArg (ix3 _ _) (Fin.ext (by show _ = 128 * (i 0).val + _; rw [h7'])))))
  refine (if_neg h7').trans ?_
  refine (write_strip 6 _ _ _ _ i).trans ?_
  by_cases h6' : (i 0).val = 6
  · exact (if_pos h6').trans ((h6 _ _ _).trans (congrArg x (congrArg (ix3 _ _) (Fin.ext (by show _ = 128 * (i 0).val + _; rw [h6'])))))
  refine (if_neg h6').trans ?_
  refine (write_strip 5 _ _ _ _ i).trans ?_
  by_cases h5' : (i 0).val = 5
  · exact (if_pos h5').trans ((h5 _ _ _).trans (congrArg x (congrArg (ix3 _ _) (Fin.ext (by show _ = 128 * (i 0).val + _; rw [h5'])))))
  refine (if_neg h5').trans ?_
  refine (write_strip 4 _ _ _ _ i).trans ?_
  by_cases h4' : (i 0).val = 4
  · exact (if_pos h4').trans ((h4 _ _ _).trans (congrArg x (congrArg (ix3 _ _) (Fin.ext (by show _ = 128 * (i 0).val + _; rw [h4'])))))
  refine (if_neg h4').trans ?_
  refine (write_strip 3 _ _ _ _ i).trans ?_
  by_cases h3' : (i 0).val = 3
  · exact (if_pos h3').trans ((h3 _ _ _).trans (congrArg x (congrArg (ix3 _ _) (Fin.ext (by show _ = 128 * (i 0).val + _; rw [h3'])))))
  refine (if_neg h3').trans ?_
  refine (write_strip 2 _ _ _ _ i).trans ?_
  by_cases h2' : (i 0).val = 2
  · exact (if_pos h2').trans ((h2 _ _ _).trans (congrArg x (congrArg (ix3 _ _) (Fin.ext (by show _ = 128 * (i 0).val + _; rw [h2'])))))
  refine (if_neg h2').trans ?_
  refine (write_strip 1 _ _ _ _ i).trans ?_
  by_cases h1' : (i 0).val = 1
  · exact (if_pos h1').trans ((h1 _ _ _).trans (congrArg x (congrArg (ix3 _ _) (Fin.ext (by show _ = 128 * (i 0).val + _; rw [h1'])))))
  refine (if_neg h1').trans ?_
  refine (write_strip 0 _ _ _ _ i).trans ?_
  by_cases h0' : (i 0).val = 0
  · exact (if_pos h0').trans ((h0 _ _ _).trans (congrArg x (congrArg (ix3 _ _) (Fin.ext (by show _ = 128 * (i 0).val + _; rw [h0'])))))
  refine (if_neg h0').trans ?_
  omega

/-- The eight strips of a table, written one after another, are the table laid out by strips. -/
theorem strips_half (g : (⟨S8x4x512x128, .bf16⟩ : BufTy).Contents (Elt F)) (p0 p1 p2 p3 p4 p5 p6 p7 : S4x512x128.Idx → Elt F .bf16) (x : S4x512x1024.Idx → Elt F .bf16)
    (h0 : ∀ a r q, p0 (ix3 a r q) = x (ix3 a r ⟨0 + q.val, by omega⟩))
    (h1 : ∀ a r q, p1 (ix3 a r q) = x (ix3 a r ⟨128 + q.val, by omega⟩))
    (h2 : ∀ a r q, p2 (ix3 a r q) = x (ix3 a r ⟨256 + q.val, by omega⟩))
    (h3 : ∀ a r q, p3 (ix3 a r q) = x (ix3 a r ⟨384 + q.val, by omega⟩))
    (h4 : ∀ a r q, p4 (ix3 a r q) = x (ix3 a r ⟨512 + q.val, by omega⟩))
    (h5 : ∀ a r q, p5 (ix3 a r q) = x (ix3 a r ⟨640 + q.val, by omega⟩))
    (h6 : ∀ a r q, p6 (ix3 a r q) = x (ix3 a r ⟨768 + q.val, by omega⟩))
    (h7 : ∀ a r q, p7 (ix3 a r q) = x (ix3 a r ⟨896 + q.val, by omega⟩)) :
    ((View.write (Elt F) ((((Memref.whole main_v63_5 : Memref sig .tc .hbm S8x4x512x128 .bf16).slice (Rect.unit (s := S8x4x512x128) ![7, 0, 0, 0] S1x4x512x128.size inb_S8x4x512x128_S1x4x512x128_7_0_0_0) (fun _ => rfl)).squeeze S4x512x128 squeezes_S1x4x512x128_S4x512x128).view) (View.write (Elt F) ((((Memref.whole main_v63_5 : Memref sig .tc .hbm S8x4x512x128 .bf16).slice (Rect.unit (s := S8x4x512x128) ![6, 0, 0, 0] S1x4x512x128.size inb_S8x4x512x128_S1x4x512x128_6_0_0_0) (fun _ => rfl)).squeeze S4x512x128 squeezes_S1x4x512x128_S4x512x128).view) (View.write (Elt F) ((((Memref.whole main_v63_5 : Memref sig .tc .hbm S8x4x512x128 .bf16).slice (Rect.unit (s := S8x4x512x128) ![5, 0, 0, 0] S1x4x512x128.size inb_S8x4x512x128_S1x4x512x128_5_0_0_0) (fun _ => rfl)).squeeze S4x512x128 squeezes_S1x4x512x128_S4x512x128).view) (View.write (Elt F) ((((Memref.whole main_v63_5 : Memref sig .tc .hbm S8x4x512x128 .bf16).slice (Rect.unit (s := S8x4x512x128) ![4, 0, 0, 0] S1x4x512x128.size inb_S8x4x512x128_S1x4x512x128_4_0_0_0) (fun _ => rfl)).squeeze S4x512x128 squeezes_S1x4x512x128_S4x512x128).view) (View.write (Elt F) ((((Memref.whole main_v63_5 : Memref sig .tc .hbm S8x4x512x128 .bf16).slice (Rect.unit (s := S8x4x512x128) ![3, 0, 0, 0] S1x4x512x128.size inb_S8x4x512x128_S1x4x512x128_3_0_0_0) (fun _ => rfl)).squeeze S4x512x128 squeezes_S1x4x512x128_S4x512x128).view) (View.write (Elt F) ((((Memref.whole main_v63_5 : Memref sig .tc .hbm S8x4x512x128 .bf16).slice (Rect.unit (s := S8x4x512x128) ![2, 0, 0, 0] S1x4x512x128.size inb_S8x4x512x128_S1x4x512x128_2_0_0_0) (fun _ => rfl)).squeeze S4x512x128 squeezes_S1x4x512x128_S4x512x128).view) (View.write (Elt F) ((((Memref.whole main_v63_5 : Memref sig .tc .hbm S8x4x512x128 .bf16).slice (Rect.unit (s := S8x4x512x128) ![1, 0, 0, 0] S1x4x512x128.size inb_S8x4x512x128_S1x4x512x128_1_0_0_0) (fun _ => rfl)).squeeze S4x512x128 squeezes_S1x4x512x128_S4x512x128).view) (View.write (Elt F) ((((Memref.whole main_v63_5 : Memref sig .tc .hbm S8x4x512x128 .bf16).slice (Rect.unit (s := S8x4x512x128) ![0, 0, 0, 0] S1x4x512x128.size inb_S8x4x512x128_S1x4x512x128_0_0_0_0) (fun _ => rfl)).squeeze S4x512x128 squeezes_S1x4x512x128_S4x512x128).view) g p0 Finset.univ) p1 Finset.univ) p2 Finset.univ) p3 Finset.univ) p4 Finset.univ) p5 Finset.univ) p6 Finset.univ) p7 Finset.univ) : (⟨S8x4x512x128, .bf16⟩ : BufTy).Contents (Elt F)) = layout x := by
  funext i
  have hi : (i 0).val < 8 := (i 0).isLt
  refine (write_strip_half 7 _ _ _ _ i).trans ?_
  by_cases h7' : (i 0).val = 7
  · exact (if_pos h7').trans ((h7 _ _ _).trans (congrArg x (congrArg (ix3 _ _) (Fin.ext (by show _ = 128 * (i 0).val + _; rw [h7'])))))
  refine (if_neg h7').trans ?_
  refine (write_strip_half 6 _ _ _ _ i).trans ?_
  by_cases h6' : (i 0).val = 6
  · exact (if_pos h6').trans ((h6 _ _ _).trans (congrArg x (congrArg (ix3 _ _) (Fin.ext (by show _ = 128 * (i 0).val + _; rw [h6'])))))
  refine (if_neg h6').trans ?_
  refine (write_strip_half 5 _ _ _ _ i).trans ?_
  by_cases h5' : (i 0).val = 5
  · exact (if_pos h5').trans ((h5 _ _ _).trans (congrArg x (congrArg (ix3 _ _) (Fin.ext (by show _ = 128 * (i 0).val + _; rw [h5'])))))
  refine (if_neg h5').trans ?_
  refine (write_strip_half 4 _ _ _ _ i).trans ?_
  by_cases h4' : (i 0).val = 4
  · exact (if_pos h4').trans ((h4 _ _ _).trans (congrArg x (congrArg (ix3 _ _) (Fin.ext (by show _ = 128 * (i 0).val + _; rw [h4'])))))
  refine (if_neg h4').trans ?_
  refine (write_strip_half 3 _ _ _ _ i).trans ?_
  by_cases h3' : (i 0).val = 3
  · exact (if_pos h3').trans ((h3 _ _ _).trans (congrArg x (congrArg (ix3 _ _) (Fin.ext (by show _ = 128 * (i 0).val + _; rw [h3'])))))
  refine (if_neg h3').trans ?_
  refine (write_strip_half 2 _ _ _ _ i).trans ?_
  by_cases h2' : (i 0).val = 2
  · exact (if_pos h2').trans ((h2 _ _ _).trans (congrArg x (congrArg (ix3 _ _) (Fin.ext (by show _ = 128 * (i 0).val + _; rw [h2'])))))
  refine (if_neg h2').trans ?_
  refine (write_strip_half 1 _ _ _ _ i).trans ?_
  by_cases h1' : (i 0).val = 1
  · exact (if_pos h1').trans ((h1 _ _ _).trans (congrArg x (congrArg (ix3 _ _) (Fin.ext (by show _ = 128 * (i 0).val + _; rw [h1'])))))
  refine (if_neg h1').trans ?_
  refine (write_strip_half 0 _ _ _ _ i).trans ?_
  by_cases h0' : (i 0).val = 0
  · exact (if_pos h0').trans ((h0 _ _ _).trans (congrArg x (congrArg (ix3 _ _) (Fin.ext (by show _ = 128 * (i 0).val + _; rw [h0'])))))
  refine (if_neg h0').trans ?_
  omega

end Cert.KernelIdeal.Merge

end
-- ==== Proof.MergeCopies.lean ====
module

public import proofs.«01_k».proof.Proof.Gen.KernelIdeal.Frame
public import proofs.«01_k».proof.Proof.Gen.KernelIdeal.Skeleton
public import Idealize.ShloMosaic.Lib.Pipeline.FrameValue
public import proofs.«01_k».proof.Proof.MergeSlices

@[expose] public section

set_option maxRecDepth 16384

noncomputable section

namespace Cert.KernelIdeal.Merge

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

abbrev dmM : Memref sig .tc .vmem S512x1024 .f32 := Memref.whole cc0_scratch0
abbrev woM : Memref sig .tc .vmem S1024x1024 .f32 := Memref.whole cc0_scratch1
abbrev wbM : Memref sig .tc .vmem S4x512x1024 .f32 := Memref.whole cc0_scratch2
abbrev woHalfM : Memref sig .tc .vmem S1024x1024 .bf16 := Memref.whole cc0_scratch3
abbrev wbHalfM : Memref sig .tc .vmem S4x512x1024 .bf16 := Memref.whole cc0_scratch4
abbrev gwoM : Memref sig .tc .hbm S1024x1024 .f32 := Memref.whole main_v63_2
abbrev gwoHalfM : Memref sig .tc .hbm S1024x1024 .bf16 := Memref.whole main_v63_3
abbrev gwbM : Memref sig .tc .hbm S8x4x512x128 .f32 := Memref.whole main_v63_4
abbrev gwbHalfM : Memref sig .tc .hbm S8x4x512x128 .bf16 := Memref.whole main_v63_5

abbrev pt (c : Dev nD) {sp : Space} {S : Shape} {e : EltTy} (M : Memref sig .tc sp S e) (f : Buf (Elt F) (M.view.loc (c : Thread nD τ))) : sProp 𝕄 :=
  M.view.loc (c : Thread nD τ) ↦{fullShare} f

/-- The eighteen copies' cells, all at nothing landed. -/
def cells0 (c : Dev nD) : sProp 𝕄 :=
  iprop(semVal ((c : Thread nD τ), SemLoc.dma 14) 0 ∗ semVal ((c : Thread nD τ), SemLoc.dma 15) 0 ∗ semVal ((c : Thread nD τ), SemLoc.dma 16) 0
      ∗ semVal ((c : Thread nD τ), SemLoc.dma 17) 0 ∗ semVal ((c : Thread nD τ), SemLoc.dma 18) 0 ∗ semVal ((c : Thread nD τ), SemLoc.dma 19) 0
      ∗ semVal ((c : Thread nD τ), SemLoc.dma 20) 0 ∗ semVal ((c : Thread nD τ), SemLoc.dma 21) 0 ∗ semVal ((c : Thread nD τ), SemLoc.dma 22) 0
      ∗ semVal ((c : Thread nD τ), SemLoc.dma 23) 0 ∗ semVal ((c : Thread nD τ), SemLoc.dma 24) 0 ∗ semVal ((c : Thread nD τ), SemLoc.dma 25) 0
      ∗ semVal ((c : Thread nD τ), SemLoc.dma 26) 0 ∗ semVal ((c : Thread nD τ), SemLoc.dma 27) 0 ∗ semVal ((c : Thread nD τ), SemLoc.dma 28) 0
      ∗ semVal ((c : Thread nD τ), SemLoc.dma 29) 0 ∗ semVal ((c : Thread nD τ), SemLoc.dma 30) 0 ∗ semVal ((c : Thread nD τ), SemLoc.dma 31) 0)

theorem pt_of {c : Dev nD} {sp : Space} {S : Shape} {e : EltTy} {M : Memref sig .tc sp S e}
    {f g : Buf (Elt F) (M.view.loc (c : Thread nD τ))} (hfg : f = g) : (pt c M f : sProp 𝕄) ⊢ pt c M g := hfg ▸ .rfl

theorem zeros3 : (![0, 0, 0] : Fin 3 → ℕ) = fun _ => 0 := by decide
theorem zeros2 : (![0, 0] : Fin 2 → ℕ) = fun _ => 0 := by decide

theorem wo_half_written (x : S1024x1024.Idx → Elt F .f32) (f : (⟨S1024x1024, .bf16⟩ : BufTy).Contents (Elt F)) :
    (woHalfM.view.writes (Elt F) f [⟨Rect.unit ![0, 0] S1024x1024.size inb_S1024x1024_S1024x1024_0_0,
      k0_pay2 (View.readAt (Elt F) woM.view (Rect.unit ![0, 0] S1024x1024.size inb_S1024x1024_S1024x1024_0_0).toLoadRect x)⟩]
      : (⟨S1024x1024, .bf16⟩ : BufTy).Contents (Elt F)) = k0_pay2 x :=
  (Memref.write_access_unit_zero_univ (Elt F) cc0_scratch3 zeros2 inb_S1024x1024_S1024x1024_0_0 f _).trans
    (congrArg k0_pay2 (Memref.readAt_unit_zero (Elt F) cc0_scratch1 zeros2 inb_S1024x1024_S1024x1024_0_0 x))

theorem wb_half_written (x : S4x512x1024.Idx → Elt F .f32) (f : (⟨S4x512x1024, .bf16⟩ : BufTy).Contents (Elt F)) :
    (wbHalfM.view.writes (Elt F) f [⟨Rect.unit ![0, 0, 0] S4x512x1024.size inb_S4x512x1024_S4x512x1024_0_0_0,
      k0_pay3 (View.readAt (Elt F) wbM.view (Rect.unit ![0, 0, 0] S4x512x1024.size inb_S4x512x1024_S4x512x1024_0_0_0).toLoadRect x)⟩]
      : (⟨S4x512x1024, .bf16⟩ : BufTy).Contents (Elt F)) = k0_pay3 x :=
  (Memref.write_access_unit_zero_univ (Elt F) cc0_scratch4 zeros3 inb_S4x512x1024_S4x512x1024_0_0_0 f _).trans
    (congrArg k0_pay3 (Memref.readAt_unit_zero (Elt F) cc0_scratch2 zeros3 inb_S4x512x1024_S4x512x1024_0_0_0 x))

/-- A strip of 128 columns of a table, read at a row and a column of the strip. -/
theorem strip_emb (o : ℕ) (hb : ∀ a, (![0, 0, o] : Fin 3 → ℕ) a + S4x512x128.size a ≤ S4x512x1024.size a)
    (a : Fin 4) (r : Fin 512) (q : Fin 128) (h : o + q.val < 1024) :
    (Rect.unit (s := S4x512x1024) ![0, 0, o] S4x512x128.size hb).emb (ValueIdx.ix3 a r q) = ValueIdx.ix3 a r ⟨o + q.val, h⟩ := by
  funext k
  apply Fin.ext
  fin_cases k
  · show 0 + 1 * a.val = a.val; omega
  · show 0 + 1 * r.val = r.val; omega
  · show o + 1 * q.val = o + q.val; omega

theorem strip_copied (x : S4x512x1024.Idx → Elt F .f32) (o : ℕ) (hb : ∀ a, (![0, 0, o] : Fin 3 → ℕ) a + S4x512x128.size a ≤ S4x512x1024.size a)
    (hu) (a : Fin 4) (r : Fin 512) (q : Fin 128) (h : o + q.val < 1024) :
    (ReadAs.same.apply (View.read (Elt F) (wbM.slice (Rect.unit ![0, 0, o] S4x512x128.size hb) hu).view x) : S4x512x128.Idx → Elt F .f32) (ValueIdx.ix3 a r q)
      = x (ValueIdx.ix3 a r ⟨o + q.val, h⟩) :=
  congrArg x (strip_emb o hb a r q h)

theorem strip_half_copied (x : S4x512x1024.Idx → Elt F .f32) (f : (⟨S4x512x1024, .bf16⟩ : BufTy).Contents (Elt F)) (o : ℕ)
    (hb : ∀ a, (![0, 0, o] : Fin 3 → ℕ) a + S4x512x128.size a ≤ S4x512x1024.size a)
    (hu) (a : Fin 4) (r : Fin 512) (q : Fin 128) (h : o + q.val < 1024) :
    (ReadAs.same.apply (View.read (Elt F) (wbHalfM.slice (Rect.unit ![0, 0, o] S4x512x128.size hb) hu).view
      (wbHalfM.view.writes (Elt F) f [⟨Rect.unit ![0, 0, 0] S4x512x1024.size inb_S4x512x1024_S4x512x1024_0_0_0,
        k0_pay3 (View.readAt (Elt F) wbM.view (Rect.unit ![0, 0, 0] S4x512x1024.size inb_S4x512x1024_S4x512x1024_0_0_0).toLoadRect x)⟩])) : S4x512x128.Idx → Elt F .bf16) (ValueIdx.ix3 a r q)
      = k0_pay3 x (ValueIdx.ix3 a r ⟨o + q.val, h⟩) := by
  rw [wb_half_written]
  exact congrArg (k0_pay3 x) (strip_emb o hb a r q h)

def copies (i : grid0.Coords) (arg2 : Memref sig .tc .vmem S512x1024 .f32) (harg2 : arg2.IsWhole) (arg3 : Memref sig .tc .vmem S512x1024 .bf16) (harg3 : arg3.IsWhole) (arg4 : Memref sig .tc .vmem S512x2048 .bf16) (harg4 : arg4.IsWhole) (arg5 : Memref sig .tc .vmem S512x1024 .bf16) (harg5 : arg5.IsWhole) (arg6 : Memref sig .tc .vmem S4x512x1024 .bf16) (harg6 : arg6.IsWhole) (arg7 : Memref sig .tc .vmem S1024x1024 .bf16) (harg7 : arg7.IsWhole) (arg8 : Memref sig .tc .vmem S512x2048 .bf16) (harg8 : arg8.IsWhole) (arg9 : Memref sig .tc .vmem S512x2048 .bf16) (harg9 : arg9.IsWhole) (arg10 : Memref sig .tc .hbm S1024x1024 .f32) (harg10 : arg10.IsWhole) (arg11 : Memref sig .tc .hbm S1024x1024 .bf16) (harg11 : arg11.IsWhole) (arg12 : Memref sig .tc .hbm S8x4x512x128 .f32) (harg12 : arg12.IsWhole) (arg13 : Memref sig .tc .hbm S8x4x512x128 .bf16) (harg13 : arg13.IsWhole) (arg14 : Memref sig .tc .vmem S512x1024 .f32) (harg14 : arg14.IsWhole) (arg15 : Memref sig .tc .vmem S1024x1024 .f32) (harg15 : arg15.IsWhole) (arg16 : Memref sig .tc .vmem S4x512x1024 .f32) (harg16 : arg16.IsWhole) (arg17 : Memref sig .tc .vmem S1024x1024 .bf16) (harg17 : arg17.IsWhole) (arg18 : Memref sig .tc .vmem S4x512x1024 .bf16) (harg18 : arg18.IsWhole) (arg19 : DmaSems sig S18) :
    Prog (TpuEff nD τ sig (Elt F) Λ₀ .tc) PUnit := do
  k0_part1 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19
  k0_part2 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19
  k0_part3 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19
  k0_part4 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19
  k0_part5 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19
  k0_part6 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19
  k0_part7 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19
  k0_part8 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19
  let v255 : Memref sig .tc .hbm S1x4x512x128 .bf16 := arg13.slice (Rect.unit (s := S8x4x512x128) ![7, 0, 0, 0] S1x4x512x128.size inb_S8x4x512x128_S1x4x512x128_7_0_0_0) (fun _ => rfl)
  let v256 : Memref sig .tc .hbm S4x512x128 .bf16 := v255.squeeze S4x512x128 squeezes_S1x4x512x128_S4x512x128
  let v257 : Memref sig .tc .vmem S4x512x128 .bf16 := arg18.slice (Rect.unit (s := S4x512x1024) ![0, 0, 896] S4x512x128.size inb_S4x512x1024_S4x512x128_0_0_896) (fun _ => rfl)
  let v253 : DmaSems sig S1 := arg19.slice (Rect.unit (s := S18) ![17] S1.size inb_S18_S1_17)
  let v254 : DmaSems sig S_ := v253.squeeze S_ squeezes_S1_S_
  Prog.lift (.waitDma2 v254.sem v257 v256 (harg18.wordExact_slice rfl _ wordsbf16_S4x512x1024_S4x512x128_0_0_896) ((harg13.wordExact_slice rfl _ wordsbf16_S8x4x512x128_S1x4x512x128_7_0_0_0).reshape _ _))
  pure ⟨⟩

set_option maxHeartbeats 1000000 in
theorem run_copies (c : Dev nD) (i : grid0.Coords) (arg2 : Memref sig .tc .vmem S512x1024 .f32) (harg2 : arg2.IsWhole) (arg3 : Memref sig .tc .vmem S512x1024 .bf16) (harg3 : arg3.IsWhole) (arg4 : Memref sig .tc .vmem S512x2048 .bf16) (harg4 : arg4.IsWhole) (arg5 : Memref sig .tc .vmem S512x1024 .bf16) (harg5 : arg5.IsWhole) (arg6 : Memref sig .tc .vmem S4x512x1024 .bf16) (harg6 : arg6.IsWhole) (arg7 : Memref sig .tc .vmem S1024x1024 .bf16) (harg7 : arg7.IsWhole) (arg8 : Memref sig .tc .vmem S512x2048 .bf16) (harg8 : arg8.IsWhole) (arg9 : Memref sig .tc .vmem S512x2048 .bf16) (harg9 : arg9.IsWhole)
    (f1 : Buf (Elt F) (woM.view.loc (c : Thread nD τ))) (f2 : Buf (Elt F) (wbM.view.loc (c : Thread nD τ)))
    (f3 : Buf (Elt F) (woHalfM.view.loc (c : Thread nD τ))) (f4 : Buf (Elt F) (wbHalfM.view.loc (c : Thread nD τ)))
    (g2 : Buf (Elt F) (gwoM.view.loc (c : Thread nD τ))) (g3 : Buf (Elt F) (gwoHalfM.view.loc (c : Thread nD τ)))
    (g4 : Buf (Elt F) (gwbM.view.loc (c : Thread nD τ))) (g5 : Buf (Elt F) (gwbHalfM.view.loc (c : Thread nD τ)))
    (W : Waits sig Unit) (K : PUnit → sProp 𝕄) :
    iprop(pt c woM f1 ∗ pt c wbM f2 ∗ pt c woHalfM f3 ∗ pt c wbHalfM f4
      ∗ pt c gwoM g2 ∗ pt c gwoHalfM g3 ∗ pt c gwbM g4 ∗ pt c gwbHalfM g5
      ∗ cells0 c
      ∗ owes (c : Thread nD τ) 0 W
      ∗ (iprop(pt c woM f1 ∗ pt c wbM f2 ∗ (∃ f, pt c woHalfM f) ∗ (∃ f, pt c wbHalfM f)
          ∗ pt c gwoM f1 ∗ pt c gwoHalfM (k0_pay2 f1) ∗ pt c gwbM (layout f2) ∗ pt c gwbHalfM (layout (k0_pay3 f2))
          ∗ cells0 c ∗ (∃ W, owes (c : Thread nD τ) 0 W)) -∗ K ⟨⟩))
      ⊢ wp frame (wpE (defs₀ (F := F)) Variants.none c none) Set.univ
        (copies i arg2 harg2 arg3 harg3 arg4 harg4 arg5 harg5 arg6 harg6 arg7 harg7 arg8 harg8 arg9 harg9
          gwoM (Memref.isWhole_whole _) gwoHalfM (Memref.isWhole_whole _) gwbM (Memref.isWhole_whole _) gwbHalfM (Memref.isWhole_whole _)
          dmM (Memref.isWhole_whole _) woM (Memref.isWhole_whole _) wbM (Memref.isWhole_whole _) woHalfM (Memref.isWhole_whole _) wbHalfM (Memref.isWhole_whole _) cc0_scratch5) K := by
  unfold copies cells0
  iintro ⟨H1, H2, H3, H4, G2, G3, G4, G5, ⟨S0, S1, S2, S3, S4, S5, S6, S7, S8, S9, S10, S11, S12, S13, S14, S15, S16, S17⟩, HW, Hk⟩
  simp only [k0_part1_eq_skeleton, k0_part2_eq_skeleton, k0_part3_eq_skeleton, k0_part4_eq_skeleton, k0_part5_eq_skeleton, k0_part6_eq_skeleton, k0_part7_eq_skeleton, k0_part8_eq_skeleton]
  set_option sl_exec.dmaWindow true in
  sl_exec
  sl_step
  iapply Hk
  isplitl [H1]; · iexact H1
  isplitl [H2]; · iexact H2
  isplitl [H3]; · iexists _; iexact H3
  isplitl [H4]; · iexists _; iexact H4
  isplitl [G2]
  · iapply pt_of (show View.write (Elt F) gwoM.view g2 (run_copies.sl.dma6 c f1) Finset.univ = f1 by sl_unfold_words; exact View.write_whole_univ _ _ _)
    iexact G2
  isplitl [G3]
  · iapply pt_of (show View.write (Elt F) gwoHalfM.view g3 (run_copies.sl.dma6_1 c f1 f3) Finset.univ = k0_pay2 f1 by sl_unfold_words; exact (View.write_whole_univ _ _ _).trans (wo_half_written f1 f3))
    iexact G3
  isplitl [G4]
  · iapply pt_of (strips g4 (run_copies.sl.dma6_2 c f2) (run_copies.sl.dma6_4 c f2) (run_copies.sl.dma6_6 c f2) (run_copies.sl.dma6_8 c f2) (run_copies.sl.dma6_10 c f2) (run_copies.sl.dma6_12 c f2) (run_copies.sl.dma6_14 c f2) (run_copies.sl.dma6_16 c f2) f2
      (by intro a r q; sl_unfold_words; exact strip_copied f2 _ _ _ a r q _) (by intro a r q; sl_unfold_words; exact strip_copied f2 _ _ _ a r q _) (by intro a r q; sl_unfold_words; exact strip_copied f2 _ _ _ a r q _) (by intro a r q; sl_unfold_words; exact strip_copied f2 _ _ _ a r q _) (by intro a r q; sl_unfold_words; exact strip_copied f2 _ _ _ a r q _) (by intro a r q; sl_unfold_words; exact strip_copied f2 _ _ _ a r q _) (by intro a r q; sl_unfold_words; exact strip_copied f2 _ _ _ a r q _) (by intro a r q; sl_unfold_words; exact strip_copied f2 _ _ _ a r q _))
    iexact G4
  isplitl [G5]
  · iapply pt_of (strips_half g5 (run_copies.sl.dma6_3 c f2 f4) (run_copies.sl.dma6_5 c f2 f4) (run_copies.sl.dma6_7 c f2 f4) (run_copies.sl.dma6_9 c f2 f4) (run_copies.sl.dma6_11 c f2 f4) (run_copies.sl.dma6_13 c f2 f4) (run_copies.sl.dma6_15 c f2 f4) (run_copies.sl.dma6_17 c f2 f4) (k0_pay3 f2)
      (by intro a r q; sl_unfold_words; exact strip_half_copied f2 f4 _ _ _ a r q _) (by intro a r q; sl_unfold_words; exact strip_half_copied f2 f4 _ _ _ a r q _) (by intro a r q; sl_unfold_words; exact strip_half_copied f2 f4 _ _ _ a r q _) (by intro a r q; sl_unfold_words; exact strip_half_copied f2 f4 _ _ _ a r q _) (by intro a r q; sl_unfold_words; exact strip_half_copied f2 f4 _ _ _ a r q _) (by intro a r q; sl_unfold_words; exact strip_half_copied f2 f4 _ _ _ a r q _) (by intro a r q; sl_unfold_words; exact strip_half_copied f2 f4 _ _ _ a r q _) (by intro a r q; sl_unfold_words; exact strip_half_copied f2 f4 _ _ _ a r q _))
    iexact G5
  isplitr [HW]
  · isplitl [S0]; · iexact S0
    isplitl [S1]; · iexact S1
    isplitl [S2]; · iexact S2
    isplitl [S3]; · iexact S3
    isplitl [S4]; · iexact S4
    isplitl [S5]; · iexact S5
    isplitl [S6]; · iexact S6
    isplitl [S7]; · iexact S7
    isplitl [S8]; · iexact S8
    isplitl [S9]; · iexact S9
    isplitl [S10]; · iexact S10
    isplitl [S11]; · iexact S11
    isplitl [S12]; · iexact S12
    isplitl [S13]; · iexact S13
    isplitl [S14]; · iexact S14
    isplitl [S15]; · iexact S15
    isplitl [S16]; · iexact S16
    iexact S17
  iexists _
  iexact HW

end Cert.KernelIdeal.Merge

end
-- ==== Proof.MergeRun.lean ====
module

public import proofs.«01_k».proof.Proof.Gen.KernelIdeal.Frame
public import proofs.«01_k».proof.Proof.Gen.KernelIdeal.Skeleton
public import Idealize.ShloMosaic.Lib.Pipeline.FrameValue
public import Idealize.ShloMosaic.Lib.Pipeline.Value
public import proofs.«01_k».proof.Proof.MergeCopies

@[expose] public section

set_option maxRecDepth 16384

noncomputable section

namespace Cert.KernelIdeal.Merge

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

def bodyC (i : grid0.Coords) (arg2 : Memref sig .tc .vmem S512x1024 .f32) (harg2 : arg2.IsWhole) (arg3 : Memref sig .tc .vmem S512x1024 .bf16) (harg3 : arg3.IsWhole) (arg4 : Memref sig .tc .vmem S512x2048 .bf16) (harg4 : arg4.IsWhole) (arg5 : Memref sig .tc .vmem S512x1024 .bf16) (harg5 : arg5.IsWhole) (arg6 : Memref sig .tc .vmem S4x512x1024 .bf16) (harg6 : arg6.IsWhole) (arg7 : Memref sig .tc .vmem S1024x1024 .bf16) (harg7 : arg7.IsWhole) (arg8 : Memref sig .tc .vmem S512x2048 .bf16) (harg8 : arg8.IsWhole) (arg9 : Memref sig .tc .vmem S512x2048 .bf16) (harg9 : arg9.IsWhole) (arg10 : Memref sig .tc .hbm S1024x1024 .f32) (harg10 : arg10.IsWhole) (arg11 : Memref sig .tc .hbm S1024x1024 .bf16) (harg11 : arg11.IsWhole) (arg12 : Memref sig .tc .hbm S8x4x512x128 .f32) (harg12 : arg12.IsWhole) (arg13 : Memref sig .tc .hbm S8x4x512x128 .bf16) (harg13 : arg13.IsWhole) (arg14 : Memref sig .tc .vmem S512x1024 .f32) (harg14 : arg14.IsWhole) (arg15 : Memref sig .tc .vmem S1024x1024 .f32) (harg15 : arg15.IsWhole) (arg16 : Memref sig .tc .vmem S4x512x1024 .f32) (harg16 : arg16.IsWhole) (arg17 : Memref sig .tc .vmem S1024x1024 .bf16) (harg17 : arg17.IsWhole) (arg18 : Memref sig .tc .vmem S4x512x1024 .bf16) (harg18 : arg18.IsWhole) (arg19 : DmaSems sig S18) :
    Prog (TpuEff nD τ sig (Elt F) Λ₀ .tc) PUnit := do
  let ⟨arg0, arg1, v8, v10, v22, v31⟩ : Σ' (arg0 : BitVec 32) (arg1 : BitVec 32) (v8 : Vec F S512x1024 .f32) (v10 : FVec F S512x512 .bf16) (v22 : FVec F S512x1024 .bf16), BitVec 32 ← k0_part9 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19
  let ⟨v43, v55, v65⟩ : Σ' (v43 : FVec F S512x512 .bf16) (v55 : FVec F S512x1024 .bf16), BitVec 32 ← k0_part10 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 arg1 v8 v10 v22 v31
  let v67 : Vec F S1x512x1024 .f32 ← Prog.lift (.load arg16 (Rect.unit (s := S4x512x1024) (k0_off1 i 1#32) S1x512x1024.size (k0_off1_inb i 1)).toLoadRect (View.loadsAt_vmem h_S1x512x1024))
  let v72 : Vec F S1x512x1024 .f32 ← Prog.lift (.load arg16 (Rect.unit (s := S4x512x1024) (k0_off1 i 1#32) S1x512x1024.size (k0_off1_inb i 1)).toLoadRect (View.loadsAt_vmem h_S1x512x1024))
  Prog.lift (.store arg16 (Rect.unit (s := S4x512x1024) (k0_off1 i 1#32) S1x512x1024.size (k0_off1_inb i 1)) (k0_pay1 v43 v55 v67) Finset.univ (View.stores_vmem_bits_univ h_S1x512x1024 rfl) (.inl rfl))
  let v75 : BitVec 1 := Scalar.cmpi .eq arg0 15#32
  let v76 : BitVec 1 := Scalar.cmpi .eq arg1 1#32
  let v77 : BitVec 1 := Scalar.andi v75 v76
  let v78 : BitVec 32 := Scalar.extui v77
  let v79 : BitVec 1 := Scalar.cmpi .ne v78 0#32
  if k0_h3 : v79 = 1#1 then do
    copies i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19
  else do
    pure ⟨⟩
  pure ⟨⟩

set_option maxRecDepth 65536 in
theorem cc0_eq_bodyC : cc0_merge_out_bwd (F := F) = bodyC (F := F) := rfl

abbrev condInit (i : grid0.Coords) : Prop :=
  Scalar.cmpi .ne (Scalar.extui (Scalar.andi (Scalar.cmpi .eq (BitVec.ofNat 32 (i 0).val) 0#32) (Scalar.cmpi .eq (BitVec.ofNat 32 (i 1).val) 0#32)) : BitVec 32) 0#32 = 1#1
abbrev condDm (i : grid0.Coords) : Prop :=
  Scalar.cmpi .ne (Scalar.extui (Scalar.cmpi .eq (BitVec.ofNat 32 (i 1).val) 0#32) : BitVec 32) 0#32 = 1#1
abbrev condCopy (i : grid0.Coords) : Prop :=
  Scalar.cmpi .ne (Scalar.extui (Scalar.andi (Scalar.cmpi .eq (BitVec.ofNat 32 (i 0).val) 15#32) (Scalar.cmpi .eq (BitVec.ofNat 32 (i 1).val) 1#32)) : BitVec 32) 0#32 = 1#1

/-- What a point reads of its blocks: the two halves of its pair of branch inputs and of its gates, and the two rows of a
    table of branches that the point works on. -/
abbrev zLo (x : Vec F S512x1024 .bf16) : Vec F S512x512 .bf16 := View.ld x (Rect.unit (s := S512x1024) ![0, 0] S512x512.size inb_S512x1024_S512x512_0_0)
abbrev zHi (x : Vec F S512x1024 .bf16) : Vec F S512x512 .bf16 := View.ld x (Rect.unit (s := S512x1024) ![0, 512] S512x512.size inb_S512x1024_S512x512_0_512)
abbrev gLo (x : Vec F S512x2048 .bf16) : Vec F S512x1024 .bf16 := View.ld x (Rect.unit (s := S512x2048) ![0, 0] S512x1024.size inb_S512x2048_S512x1024_0_0)
abbrev gHi (x : Vec F S512x2048 .bf16) : Vec F S512x1024 .bf16 := View.ld x (Rect.unit (s := S512x2048) ![0, 1024] S512x1024.size inb_S512x2048_S512x1024_0_1024)
abbrev rowLo {e : EltTy} (i : grid0.Coords) (x : Vec F S4x512x1024 e) : Vec F S1x512x1024 e := View.ld x (Rect.unit (s := S4x512x1024) (k0_off1 i 0#32) S1x512x1024.size (k0_off1_inb i 0))
abbrev rowHi {e : EltTy} (i : grid0.Coords) (x : Vec F S4x512x1024 e) : Vec F S1x512x1024 e := View.ld x (Rect.unit (s := S4x512x1024) (k0_off1 i 1#32) S1x512x1024.size (k0_off1_inb i 1))

/-- The two results' blocks of a point, half by half. -/
def out6 (dm : Vec F S512x1024 .f32) (x2 : Vec F S512x2048 .bf16) : Vec F S512x2048 .bf16 :=
  View.canon (Val := Elt F) (s := S512x2048) (e := .bf16)
    [⟨Rect.unit (s := S512x2048) ![0, 1024] S512x1024.size inb_S512x2048_S512x1024_0_1024, k0_pay16 dm (gHi x2)⟩,
      ⟨Rect.unit (s := S512x2048) ![0, 0] S512x1024.size inb_S512x2048_S512x1024_0_0, k0_pay11 dm (gLo x2)⟩]
def out7 (i : grid0.Coords) (dm : Vec F S512x1024 .f32) (x1 : Vec F S512x1024 .bf16) (x2 : Vec F S512x2048 .bf16) (x4 : Vec F S4x512x1024 .bf16) : Vec F S512x2048 .bf16 :=
  View.canon (Val := Elt F) (s := S512x2048) (e := .bf16)
    [⟨Rect.unit (s := S512x2048) ![0, 1024] S512x1024.size inb_S512x2048_S512x1024_0_1024, k0_pay17 dm (zHi x1) (rowHi i x4) (gHi x2)⟩,
      ⟨Rect.unit (s := S512x2048) ![0, 0] S512x1024.size inb_S512x2048_S512x1024_0_0, k0_pay12 dm (zLo x1) (rowLo i x4) (gLo x2)⟩]

/-- The branch table after a point: its two rows with the point's products added. -/
def wbStep (i : grid0.Coords) (dm : Vec F S512x1024 .f32) (x1 : Vec F S512x1024 .bf16) (x2 : Vec F S512x2048 .bf16) (wb : Vec F S4x512x1024 .f32) : Vec F S4x512x1024 .f32 :=
  wbM.view.writes (Elt F) wb
    [⟨Rect.unit (s := S4x512x1024) (k0_off1 i 1#32) S1x512x1024.size (k0_off1_inb i 1), k0_pay1 (k0_pay14 (zHi x1)) (k0_pay16 dm (gHi x2)) (rowHi i wb)⟩,
      ⟨Rect.unit (s := S4x512x1024) (k0_off1 i 0#32) S1x512x1024.size (k0_off1_inb i 0), k0_pay13 (k0_pay9 (zLo x1)) (k0_pay11 dm (gLo x2)) (rowLo i wb)⟩]

theorem half_cover (p q : Vec F S512x1024 .bf16) (y : S512x2048.Idx) :
    ∃ pc ∈ ([⟨Rect.unit (s := S512x2048) ![0, 1024] S512x1024.size inb_S512x2048_S512x1024_0_1024, p⟩,
      ⟨Rect.unit (s := S512x2048) ![0, 0] S512x1024.size inb_S512x2048_S512x1024_0_0, q⟩] : List (View.Piece (Elt F) S512x2048 .bf16)), y ∈ pc.1.set :=
  View.cover_of_tiledL ([⟨Rect.unit (s := S512x2048) ![0, 1024] S512x1024.size inb_S512x2048_S512x1024_0_1024, p⟩,
      ⟨Rect.unit (s := S512x2048) ![0, 0] S512x1024.size inb_S512x2048_S512x1024_0_0, q⟩] : List (View.Piece (Elt F) S512x2048 .bf16)) S512x1024.size (by sl_kernel_rfl) y

/-- The point's two rows are different rows. -/
theorem rows_apart (i : grid0.Coords) (y : S1x512x1024.Idx) :
    (Rect.unit (s := S4x512x1024) (k0_off1 i 1#32) S1x512x1024.size (k0_off1_inb i 1)).emb y
      ∉ Finset.univ.map (Rect.unit (s := S4x512x1024) (k0_off1 i 0#32) S1x512x1024.size (k0_off1_inb i 0)).emb := by
  intro hm
  obtain ⟨x, -, hx⟩ := Finset.mem_map.mp hm
  have h0 : (k0_off1 i 0#32) 0 = 2 * (i 1).val + 0 := congrFun (k0_off1_eq i 0) 0
  have h1 : (k0_off1 i 1#32) 0 = 2 * (i 1).val + 1 := congrFun (k0_off1_eq i 1) 0
  have e : (k0_off1 i 0#32) 0 + 1 * (x 0).val = (k0_off1 i 1#32) 0 + 1 * (y 0).val := congrArg Fin.val (congrFun hx 0)
  have hx0 : (x 0).val < 1 := (x 0).isLt
  have hy0 : (y 0).val < 1 := (y 0).isLt
  omega

theorem hi_past_lo (i : grid0.Coords) (p : Vec F S1x512x1024 .f32) (wb : Vec F S4x512x1024 .f32) :
    View.readAt (Elt F) wbM.view (Rect.unit (s := S4x512x1024) (k0_off1 i 1#32) S1x512x1024.size (k0_off1_inb i 1)).toLoadRect
      (wbM.view.writes (Elt F) wb [⟨Rect.unit (s := S4x512x1024) (k0_off1 i 0#32) S1x512x1024.size (k0_off1_inb i 0), p⟩])
      = rowHi i wb := by
  rw [View.readAt_eq_ld, View.writes_singleton]
  funext y
  have := View.read_slice_write_of_not_mem (v := wbM.view) (Val := Elt F) (Rect.unit (s := S4x512x1024) (k0_off1 i 0#32) S1x512x1024.size (k0_off1_inb i 0)) wb p _ (rows_apart i y)
  exact this

theorem dm_written (f p : Vec F S512x1024 .f32) :
    (dmM.view.writes (Elt F) f [⟨Rect.unit ![0, 0] S512x1024.size inb_S512x1024_S512x1024_0_0, p⟩] : Vec F S512x1024 .f32) = p :=
  Memref.write_access_unit_zero_univ (Elt F) cc0_scratch0 zeros2 inb_S512x1024_S512x1024_0_0 f p

theorem wo_written (f p : Vec F S1024x1024 .f32) (L) :
    (woM.view.writes (Elt F) f (⟨Rect.unit ![0, 0] S1024x1024.size inb_S1024x1024_S1024x1024_0_0, p⟩ :: L) : Vec F S1024x1024 .f32) = p :=
  Memref.write_access_unit_zero_univ (Elt F) cc0_scratch1 zeros2 inb_S1024x1024_S1024x1024_0_0 _ p

theorem wb_written (f p : Vec F S4x512x1024 .f32) :
    (wbM.view.writes (Elt F) f [⟨Rect.unit ![0, 0, 0] S4x512x1024.size inb_S4x512x1024_S4x512x1024_0_0_0, p⟩] : Vec F S4x512x1024 .f32) = p :=
  Memref.write_access_unit_zero_univ (Elt F) cc0_scratch2 zeros3 inb_S4x512x1024_S4x512x1024_0_0_0 f p

/-- The six input blocks of a point, at these contents. -/
def ins (c : Dev nD) (arg2 : Memref sig .tc .vmem S512x1024 .f32) (arg3 : Memref sig .tc .vmem S512x1024 .bf16) (arg4 : Memref sig .tc .vmem S512x2048 .bf16)
    (arg5 : Memref sig .tc .vmem S512x1024 .bf16) (arg6 : Memref sig .tc .vmem S4x512x1024 .bf16) (arg7 : Memref sig .tc .vmem S1024x1024 .bf16)
    (x0 : Vec F S512x1024 .f32) (x1 : Vec F S512x1024 .bf16) (x2 : Vec F S512x2048 .bf16) (x3 : Vec F S512x1024 .bf16) (x4 : Vec F S4x512x1024 .bf16) (x5 : Vec F S1024x1024 .bf16) : sProp 𝕄 :=
  iprop(owns (c : Thread nD τ) arg2 fullShare x0 ∗ owns (c : Thread nD τ) arg3 fullShare x1 ∗ owns (c : Thread nD τ) arg4 fullShare x2
      ∗ owns (c : Thread nD τ) arg5 fullShare x3 ∗ owns (c : Thread nD τ) arg6 fullShare x4 ∗ owns (c : Thread nD τ) arg7 fullShare x5)
/-- One point with what follows its work left open. -/
def bodyT (i : grid0.Coords) (arg2 : Memref sig .tc .vmem S512x1024 .f32) (harg2 : arg2.IsWhole) (arg3 : Memref sig .tc .vmem S512x1024 .bf16) (harg3 : arg3.IsWhole) (arg4 : Memref sig .tc .vmem S512x2048 .bf16) (harg4 : arg4.IsWhole) (arg5 : Memref sig .tc .vmem S512x1024 .bf16) (harg5 : arg5.IsWhole) (arg6 : Memref sig .tc .vmem S4x512x1024 .bf16) (harg6 : arg6.IsWhole) (arg7 : Memref sig .tc .vmem S1024x1024 .bf16) (harg7 : arg7.IsWhole) (arg8 : Memref sig .tc .vmem S512x2048 .bf16) (harg8 : arg8.IsWhole) (arg9 : Memref sig .tc .vmem S512x2048 .bf16) (harg9 : arg9.IsWhole) (arg10 : Memref sig .tc .hbm S1024x1024 .f32) (harg10 : arg10.IsWhole) (arg11 : Memref sig .tc .hbm S1024x1024 .bf16) (harg11 : arg11.IsWhole) (arg12 : Memref sig .tc .hbm S8x4x512x128 .f32) (harg12 : arg12.IsWhole) (arg13 : Memref sig .tc .hbm S8x4x512x128 .bf16) (harg13 : arg13.IsWhole) (arg14 : Memref sig .tc .vmem S512x1024 .f32) (harg14 : arg14.IsWhole) (arg15 : Memref sig .tc .vmem S1024x1024 .f32) (harg15 : arg15.IsWhole) (arg16 : Memref sig .tc .vmem S4x512x1024 .f32) (harg16 : arg16.IsWhole) (arg17 : Memref sig .tc .vmem S1024x1024 .bf16) (harg17 : arg17.IsWhole) (arg18 : Memref sig .tc .vmem S4x512x1024 .bf16) (harg18 : arg18.IsWhole) (arg19 : DmaSems sig S18)
    (tail : Prog (TpuEff nD τ sig (Elt F) Λ₀ .tc) PUnit) :
    Prog (TpuEff nD τ sig (Elt F) Λ₀ .tc) PUnit := do
  let ⟨arg0, arg1, v8, v10, v22, v31⟩ : Σ' (arg0 : BitVec 32) (arg1 : BitVec 32) (v8 : Vec F S512x1024 .f32) (v10 : FVec F S512x512 .bf16) (v22 : FVec F S512x1024 .bf16), BitVec 32 ← k0_part9 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19
  let ⟨v43, v55, v65⟩ : Σ' (v43 : FVec F S512x512 .bf16) (v55 : FVec F S512x1024 .bf16), BitVec 32 ← k0_part10 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 arg1 v8 v10 v22 v31
  let v67 : Vec F S1x512x1024 .f32 ← Prog.lift (.load arg16 (Rect.unit (s := S4x512x1024) (k0_off1 i 1#32) S1x512x1024.size (k0_off1_inb i 1)).toLoadRect (View.loadsAt_vmem h_S1x512x1024))
  let v72 : Vec F S1x512x1024 .f32 ← Prog.lift (.load arg16 (Rect.unit (s := S4x512x1024) (k0_off1 i 1#32) S1x512x1024.size (k0_off1_inb i 1)).toLoadRect (View.loadsAt_vmem h_S1x512x1024))
  Prog.lift (.store arg16 (Rect.unit (s := S4x512x1024) (k0_off1 i 1#32) S1x512x1024.size (k0_off1_inb i 1)) (k0_pay1 v43 v55 v67) Finset.univ (View.stores_vmem_bits_univ h_S1x512x1024 rfl) (.inl rfl))
  let v75 : BitVec 1 := Scalar.cmpi .eq arg0 15#32
  let v76 : BitVec 1 := Scalar.cmpi .eq arg1 1#32
  let v77 : BitVec 1 := Scalar.andi v75 v76
  let v78 : BitVec 32 := Scalar.extui v77
  let v79 : BitVec 1 := Scalar.cmpi .ne v78 0#32
  if k0_h3 : v79 = 1#1 then do
    tail
  else do
    pure ⟨⟩
  pure ⟨⟩

set_option maxRecDepth 65536 in
theorem bodyC_eq_bodyT (i : grid0.Coords) (arg2 : Memref sig .tc .vmem S512x1024 .f32) (harg2 : arg2.IsWhole) (arg3 : Memref sig .tc .vmem S512x1024 .bf16) (harg3 : arg3.IsWhole) (arg4 : Memref sig .tc .vmem S512x2048 .bf16) (harg4 : arg4.IsWhole) (arg5 : Memref sig .tc .vmem S512x1024 .bf16) (harg5 : arg5.IsWhole) (arg6 : Memref sig .tc .vmem S4x512x1024 .bf16) (harg6 : arg6.IsWhole) (arg7 : Memref sig .tc .vmem S1024x1024 .bf16) (harg7 : arg7.IsWhole) (arg8 : Memref sig .tc .vmem S512x2048 .bf16) (harg8 : arg8.IsWhole) (arg9 : Memref sig .tc .vmem S512x2048 .bf16) (harg9 : arg9.IsWhole) (arg10 : Memref sig .tc .hbm S1024x1024 .f32) (harg10 : arg10.IsWhole) (arg11 : Memref sig .tc .hbm S1024x1024 .bf16) (harg11 : arg11.IsWhole) (arg12 : Memref sig .tc .hbm S8x4x512x128 .f32) (harg12 : arg12.IsWhole) (arg13 : Memref sig .tc .hbm S8x4x512x128 .bf16) (harg13 : arg13.IsWhole) (arg14 : Memref sig .tc .vmem S512x1024 .f32) (harg14 : arg14.IsWhole) (arg15 : Memref sig .tc .vmem S1024x1024 .f32) (harg15 : arg15.IsWhole) (arg16 : Memref sig .tc .vmem S4x512x1024 .f32) (harg16 : arg16.IsWhole) (arg17 : Memref sig .tc .vmem S1024x1024 .bf16) (harg17 : arg17.IsWhole) (arg18 : Memref sig .tc .vmem S4x512x1024 .bf16) (harg18 : arg18.IsWhole) (arg19 : DmaSems sig S18) :
    bodyC (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 = bodyT (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 (copies i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19) := rfl

theorem read_dx (a : Memref sig .tc .vmem S512x1024 .f32) (h : a.IsWhole) (x : Vec F S512x1024 .f32) :
    View.readAt (Elt F) a.view (Rect.unit (s := S512x1024) ![0, 0] S512x1024.size inb_S512x1024_S512x1024_0_0).toLoadRect (h.unread x) = x := by
  rw [View.readAt_eq_ld, h.read_unread]
  exact View.ld_unit_zero (S := S512x1024) zeros2 _ _

theorem read_merged (a : Memref sig .tc .vmem S512x1024 .bf16) (h : a.IsWhole) (x : Vec F S512x1024 .bf16) :
    View.readAt (Elt F) a.view (Rect.unit (s := S512x1024) ![0, 0] S512x1024.size inb_S512x1024_S512x1024_0_0).toLoadRect (h.unread x) = x := by
  rw [View.readAt_eq_ld, h.read_unread]
  exact View.ld_unit_zero (S := S512x1024) zeros2 _ _

theorem read_wo (a : Memref sig .tc .vmem S1024x1024 .bf16) (h : a.IsWhole) (x : Vec F S1024x1024 .bf16) :
    View.readAt (Elt F) a.view (Rect.unit (s := S1024x1024) ![0, 0] S1024x1024.size inb_S1024x1024_S1024x1024_0_0).toLoadRect (h.unread x) = x := by
  rw [View.readAt_eq_ld, h.read_unread]
  exact View.ld_unit_zero (S := S1024x1024) zeros2 _ _

theorem read_zLo (a : Memref sig .tc .vmem S512x1024 .bf16) (h : a.IsWhole) (x : Vec F S512x1024 .bf16) :
    View.readAt (Elt F) a.view (Rect.unit (s := S512x1024) ![0, 0] S512x512.size inb_S512x1024_S512x512_0_0).toLoadRect (h.unread x) = zLo x := by
  rw [View.readAt_eq_ld, h.read_unread]

theorem read_zHi (a : Memref sig .tc .vmem S512x1024 .bf16) (h : a.IsWhole) (x : Vec F S512x1024 .bf16) :
    View.readAt (Elt F) a.view (Rect.unit (s := S512x1024) ![0, 512] S512x512.size inb_S512x1024_S512x512_0_512).toLoadRect (h.unread x) = zHi x := by
  rw [View.readAt_eq_ld, h.read_unread]

theorem read_gLo (a : Memref sig .tc .vmem S512x2048 .bf16) (h : a.IsWhole) (x : Vec F S512x2048 .bf16) :
    View.readAt (Elt F) a.view (Rect.unit (s := S512x2048) ![0, 0] S512x1024.size inb_S512x2048_S512x1024_0_0).toLoadRect (h.unread x) = gLo x := by
  rw [View.readAt_eq_ld, h.read_unread]

theorem read_gHi (a : Memref sig .tc .vmem S512x2048 .bf16) (h : a.IsWhole) (x : Vec F S512x2048 .bf16) :
    View.readAt (Elt F) a.view (Rect.unit (s := S512x2048) ![0, 1024] S512x1024.size inb_S512x2048_S512x1024_0_1024).toLoadRect (h.unread x) = gHi x := by
  rw [View.readAt_eq_ld, h.read_unread]

theorem read_wLo (i : grid0.Coords) (a : Memref sig .tc .vmem S4x512x1024 .bf16) (h : a.IsWhole) (x : Vec F S4x512x1024 .bf16) :
    View.readAt (Elt F) a.view (Rect.unit (s := S4x512x1024) (k0_off1 i 0#32) S1x512x1024.size (k0_off1_inb i 0)).toLoadRect (h.unread x) = rowLo i x := by
  rw [View.readAt_eq_ld, h.read_unread]

theorem read_wHi (i : grid0.Coords) (a : Memref sig .tc .vmem S4x512x1024 .bf16) (h : a.IsWhole) (x : Vec F S4x512x1024 .bf16) :
    View.readAt (Elt F) a.view (Rect.unit (s := S4x512x1024) (k0_off1 i 1#32) S1x512x1024.size (k0_off1_inb i 1)).toLoadRect (h.unread x) = rowHi i x := by
  rw [View.readAt_eq_ld, h.read_unread]

theorem read_dm (x : Vec F S512x1024 .f32) :
    View.readAt (Elt F) dmM.view (Rect.unit ![0, 0] S512x1024.size inb_S512x1024_S512x1024_0_0).toLoadRect x = x :=
  Memref.readAt_unit_zero (Elt F) cc0_scratch0 zeros2 inb_S512x1024_S512x1024_0_0 x

theorem read_acc (x : Vec F S1024x1024 .f32) :
    View.readAt (Elt F) woM.view (Rect.unit ![0, 0] S1024x1024.size inb_S1024x1024_S1024x1024_0_0).toLoadRect x = x :=
  Memref.readAt_unit_zero (Elt F) cc0_scratch1 zeros2 inb_S1024x1024_S1024x1024_0_0 x

theorem hi_past_lo' (i : grid0.Coords) (p : Vec F S1x512x1024 .f32) (wb : Vec F S4x512x1024 .f32) :
    View.readAt (Elt F) wbM.view (Rect.unit (s := S4x512x1024) (k0_off1 i 1#32) ![1, 512, 1024] (k0_off1_inb i 1)).toLoadRect
      (wbM.view.writes (Elt F) wb [⟨Rect.unit (s := S4x512x1024) (k0_off1 i 0#32) S1x512x1024.size (k0_off1_inb i 0), p⟩])
      = rowHi i wb :=
  hi_past_lo i p wb

theorem wb_base (f p : Vec F S4x512x1024 .f32) (a : View.Piece (Elt F) S4x512x1024 .f32) :
    (wbM.view.writes (Elt F) f [a, ⟨Rect.unit ![0, 0, 0] S4x512x1024.size inb_S4x512x1024_S4x512x1024_0_0_0, p⟩] : Vec F S4x512x1024 .f32)
      = wbM.view.writes (Elt F) p [a] := by
  rw [View.writes_cons, View.writes_singleton, View.writes_singleton]
  exact congrArg (fun g => (wbM.view.slice a.1).write (Elt F) g a.2 Finset.univ) (wb_written f p)

theorem wb_base2 (f p : Vec F S4x512x1024 .f32) (a b : View.Piece (Elt F) S4x512x1024 .f32) :
    (wbM.view.writes (Elt F) f [a, b, ⟨Rect.unit ![0, 0, 0] S4x512x1024.size inb_S4x512x1024_S4x512x1024_0_0_0, p⟩] : Vec F S4x512x1024 .f32)
      = wbM.view.writes (Elt F) p [a, b] := by
  rw [View.writes_cons, wb_base]
  simp only [View.writes_cons, View.writes_nil]

theorem run_C (c : Dev nD) (i : grid0.Coords) (arg2 : Memref sig .tc .vmem S512x1024 .f32) (harg2 : arg2.IsWhole) (arg3 : Memref sig .tc .vmem S512x1024 .bf16) (harg3 : arg3.IsWhole) (arg4 : Memref sig .tc .vmem S512x2048 .bf16) (harg4 : arg4.IsWhole) (arg5 : Memref sig .tc .vmem S512x1024 .bf16) (harg5 : arg5.IsWhole) (arg6 : Memref sig .tc .vmem S4x512x1024 .bf16) (harg6 : arg6.IsWhole) (arg7 : Memref sig .tc .vmem S1024x1024 .bf16) (harg7 : arg7.IsWhole) (arg8 : Memref sig .tc .vmem S512x2048 .bf16) (harg8 : arg8.IsWhole) (arg9 : Memref sig .tc .vmem S512x2048 .bf16) (harg9 : arg9.IsWhole)
    (hcI : ¬ condInit i) (hcD : ¬ condDm i) (hcC : ¬ condCopy i)
    (x0 : Vec F S512x1024 .f32) (x1 : Vec F S512x1024 .bf16) (x2 : Vec F S512x2048 .bf16) (x3 : Vec F S512x1024 .bf16) (x4 : Vec F S4x512x1024 .bf16) (x5 : Vec F S1024x1024 .bf16)
    (f14 : Vec F S512x1024 .f32) (f15 : Vec F S1024x1024 .f32) (f16 : Vec F S4x512x1024 .f32)
    (K : PUnit → sProp 𝕄) :
    iprop(ins c arg2 arg3 arg4 arg5 arg6 arg7 x0 x1 x2 x3 x4 x5
      ∗ (∃ d, owns (c : Thread nD τ) arg8 fullShare d) ∗ (∃ d, owns (c : Thread nD τ) arg9 fullShare d)
      ∗ pt c dmM f14 ∗ pt c woM f15 ∗ pt c wbM f16
      ∗ (iprop(ins c arg2 arg3 arg4 arg5 arg6 arg7 x0 x1 x2 x3 x4 x5
          ∗ owns (c : Thread nD τ) arg8 fullShare (out6 f14 x2) ∗ owns (c : Thread nD τ) arg9 fullShare (out7 i f14 x1 x2 x4)
          ∗ pt c dmM f14 ∗ pt c woM f15 ∗ pt c wbM (wbStep i f14 x1 x2 f16)) -∗ K ⟨⟩))
      ⊢ wp frame (wpE (defs₀ (F := F)) Variants.none c none) Set.univ
        (cc0_merge_out_bwd i arg2 harg2 arg3 harg3 arg4 harg4 arg5 harg5 arg6 harg6 arg7 harg7 arg8 harg8 arg9 harg9
          gwoM (Memref.isWhole_whole _) gwoHalfM (Memref.isWhole_whole _) gwbM (Memref.isWhole_whole _) gwbHalfM (Memref.isWhole_whole _)
          dmM (Memref.isWhole_whole _) woM (Memref.isWhole_whole _) wbM (Memref.isWhole_whole _) woHalfM (Memref.isWhole_whole _) wbHalfM (Memref.isWhole_whole _) cc0_scratch5) K := by
  rw [cc0_eq_bodyC]
  unfold bodyC
  unfold ins owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩⟩, ⟨%d6, %f6, %hf6, H6⟩, ⟨%d7, %f7, %hf7, H7⟩, H14, H15, H16, Hk⟩
  obtain rfl := harg2.eq_unread hf0
  obtain rfl := harg3.eq_unread hf1
  obtain rfl := harg4.eq_unread hf2
  obtain rfl := harg5.eq_unread hf3
  obtain rfl := harg6.eq_unread hf4
  obtain rfl := harg7.eq_unread hf5
  simp only [k0_part9_eq_skeleton, k0_part10_eq_skeleton]
  unfold k0_part9_skel k0_part10_skel
  sl_exec (disch := first | sl_exact hcI | sl_exact hcD | sl_exact hcC)
  sl_step
  iapply Hk
  isplitl [H0 H1 H2 H3 H4 H5]
  · isplitl [H0]; · iexists _; isplitr; · ipureintro; exact harg2.read_unread _
                    iexact H0
    isplitl [H1]; · iexists _; isplitr; · ipureintro; exact harg3.read_unread _
                    iexact H1
    isplitl [H2]; · iexists _; isplitr; · ipureintro; exact harg4.read_unread _
                    iexact H2
    isplitl [H3]; · iexists _; isplitr; · ipureintro; exact harg5.read_unread _
                    iexact H3
    isplitl [H4]; · iexists _; isplitr; · ipureintro; exact harg6.read_unread _
                    iexact H4
    iexists _; isplitr; · ipureintro; exact harg7.read_unread _
    iexact H5
  isplitl [H6]
  · iexists _; isplitr
    swap; · iexact H6
    ipureintro
    rw [View.read_writes_eq_canon _ _ _ (half_cover _ _)]
    unfold out6
    sl_unfold_run_names
    simp -proj only [wb_written, wb_base, wb_base2, read_dx, read_merged, read_wo, read_zLo, read_zHi, read_gLo, read_gHi, read_wLo, read_wHi, read_dm, read_acc, View.readCov_unit_zero (S := S512x1024) _ zeros2, View.readCov_unit_zero (S := S1024x1024) _ zeros2, dm_written, wo_written, hi_past_lo, hi_past_lo']
  isplitl [H7]
  · iexists _; isplitr
    swap; · iexact H7
    ipureintro
    rw [View.read_writes_eq_canon _ _ _ (half_cover _ _)]
    unfold out7
    sl_unfold_run_names
    simp -proj only [wb_written, wb_base, wb_base2, read_dx, read_merged, read_wo, read_zLo, read_zHi, read_gLo, read_gHi, read_wLo, read_wHi, read_dm, read_acc, View.readCov_unit_zero (S := S512x1024) _ zeros2, View.readCov_unit_zero (S := S1024x1024) _ zeros2, dm_written, wo_written, hi_past_lo, hi_past_lo']
  sl_unfold_run_names
  simp -proj only [wb_written, wb_base, wb_base2, read_dx, read_merged, read_wo, read_zLo, read_zHi, read_gLo, read_gHi, read_wLo, read_wHi, read_dm, read_acc, View.readCov_unit_zero (S := S512x1024) _ zeros2, View.readCov_unit_zero (S := S1024x1024) _ zeros2, dm_written, wo_written, hi_past_lo, hi_past_lo']
  isplitl [H14]; · iexact H14
  isplitl [H15]; · iexact H15
  iexact H16

theorem run_B (c : Dev nD) (i : grid0.Coords) (arg2 : Memref sig .tc .vmem S512x1024 .f32) (harg2 : arg2.IsWhole) (arg3 : Memref sig .tc .vmem S512x1024 .bf16) (harg3 : arg3.IsWhole) (arg4 : Memref sig .tc .vmem S512x2048 .bf16) (harg4 : arg4.IsWhole) (arg5 : Memref sig .tc .vmem S512x1024 .bf16) (harg5 : arg5.IsWhole) (arg6 : Memref sig .tc .vmem S4x512x1024 .bf16) (harg6 : arg6.IsWhole) (arg7 : Memref sig .tc .vmem S1024x1024 .bf16) (harg7 : arg7.IsWhole) (arg8 : Memref sig .tc .vmem S512x2048 .bf16) (harg8 : arg8.IsWhole) (arg9 : Memref sig .tc .vmem S512x2048 .bf16) (harg9 : arg9.IsWhole)
    (hcI : ¬ condInit i) (hcD : condDm i) (hcC : ¬ condCopy i)
    (x0 : Vec F S512x1024 .f32) (x1 : Vec F S512x1024 .bf16) (x2 : Vec F S512x2048 .bf16) (x3 : Vec F S512x1024 .bf16) (x4 : Vec F S4x512x1024 .bf16) (x5 : Vec F S1024x1024 .bf16)
    (f14 : Vec F S512x1024 .f32) (f15 : Vec F S1024x1024 .f32) (f16 : Vec F S4x512x1024 .f32)
    (K : PUnit → sProp 𝕄) :
    iprop(ins c arg2 arg3 arg4 arg5 arg6 arg7 x0 x1 x2 x3 x4 x5
      ∗ (∃ d, owns (c : Thread nD τ) arg8 fullShare d) ∗ (∃ d, owns (c : Thread nD τ) arg9 fullShare d)
      ∗ pt c dmM f14 ∗ pt c woM f15 ∗ pt c wbM f16
      ∗ (iprop(ins c arg2 arg3 arg4 arg5 arg6 arg7 x0 x1 x2 x3 x4 x5
          ∗ owns (c : Thread nD τ) arg8 fullShare (out6 (k0_pay7 x0 x5) x2) ∗ owns (c : Thread nD τ) arg9 fullShare (out7 i (k0_pay7 x0 x5) x1 x2 x4)
          ∗ pt c dmM (k0_pay7 x0 x5) ∗ pt c woM (k0_pay8 x0 f15 x3) ∗ pt c wbM (wbStep i (k0_pay7 x0 x5) x1 x2 f16)) -∗ K ⟨⟩))
      ⊢ wp frame (wpE (defs₀ (F := F)) Variants.none c none) Set.univ
        (cc0_merge_out_bwd i arg2 harg2 arg3 harg3 arg4 harg4 arg5 harg5 arg6 harg6 arg7 harg7 arg8 harg8 arg9 harg9
          gwoM (Memref.isWhole_whole _) gwoHalfM (Memref.isWhole_whole _) gwbM (Memref.isWhole_whole _) gwbHalfM (Memref.isWhole_whole _)
          dmM (Memref.isWhole_whole _) woM (Memref.isWhole_whole _) wbM (Memref.isWhole_whole _) woHalfM (Memref.isWhole_whole _) wbHalfM (Memref.isWhole_whole _) cc0_scratch5) K := by
  rw [cc0_eq_bodyC]
  unfold bodyC
  unfold ins owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩⟩, ⟨%d6, %f6, %hf6, H6⟩, ⟨%d7, %f7, %hf7, H7⟩, H14, H15, H16, Hk⟩
  obtain rfl := harg2.eq_unread hf0
  obtain rfl := harg3.eq_unread hf1
  obtain rfl := harg4.eq_unread hf2
  obtain rfl := harg5.eq_unread hf3
  obtain rfl := harg6.eq_unread hf4
  obtain rfl := harg7.eq_unread hf5
  simp only [k0_part9_eq_skeleton, k0_part10_eq_skeleton]
  unfold k0_part9_skel k0_part10_skel
  sl_exec (disch := first | sl_exact hcI | sl_exact hcD | sl_exact hcC)
  sl_step
  iapply Hk
  isplitl [H0 H1 H2 H3 H4 H5]
  · isplitl [H0]; · iexists _; isplitr; · ipureintro; exact harg2.read_unread _
                    iexact H0
    isplitl [H1]; · iexists _; isplitr; · ipureintro; exact harg3.read_unread _
                    iexact H1
    isplitl [H2]; · iexists _; isplitr; · ipureintro; exact harg4.read_unread _
                    iexact H2
    isplitl [H3]; · iexists _; isplitr; · ipureintro; exact harg5.read_unread _
                    iexact H3
    isplitl [H4]; · iexists _; isplitr; · ipureintro; exact harg6.read_unread _
                    iexact H4
    iexists _; isplitr; · ipureintro; exact harg7.read_unread _
    iexact H5
  isplitl [H6]
  · iexists _; isplitr
    swap; · iexact H6
    ipureintro
    rw [View.read_writes_eq_canon _ _ _ (half_cover _ _)]
    unfold out6
    sl_unfold_run_names
    simp -proj only [wb_written, wb_base, wb_base2, read_dx, read_merged, read_wo, read_zLo, read_zHi, read_gLo, read_gHi, read_wLo, read_wHi, read_dm, read_acc, View.readCov_unit_zero (S := S512x1024) _ zeros2, View.readCov_unit_zero (S := S1024x1024) _ zeros2, dm_written, wo_written, hi_past_lo, hi_past_lo']
  isplitl [H7]
  · iexists _; isplitr
    swap; · iexact H7
    ipureintro
    rw [View.read_writes_eq_canon _ _ _ (half_cover _ _)]
    unfold out7
    sl_unfold_run_names
    simp -proj only [wb_written, wb_base, wb_base2, read_dx, read_merged, read_wo, read_zLo, read_zHi, read_gLo, read_gHi, read_wLo, read_wHi, read_dm, read_acc, View.readCov_unit_zero (S := S512x1024) _ zeros2, View.readCov_unit_zero (S := S1024x1024) _ zeros2, dm_written, wo_written, hi_past_lo, hi_past_lo']
  sl_unfold_run_names
  simp -proj only [wb_written, wb_base, wb_base2, read_dx, read_merged, read_wo, read_zLo, read_zHi, read_gLo, read_gHi, read_wLo, read_wHi, read_dm, read_acc, View.readCov_unit_zero (S := S512x1024) _ zeros2, View.readCov_unit_zero (S := S1024x1024) _ zeros2, dm_written, wo_written, hi_past_lo, hi_past_lo']
  isplitl [H14]; · iexact H14
  isplitl [H15]; · iexact H15
  iexact H16

set_option maxHeartbeats 400000 in
theorem run_A (c : Dev nD) (i : grid0.Coords) (arg2 : Memref sig .tc .vmem S512x1024 .f32) (harg2 : arg2.IsWhole) (arg3 : Memref sig .tc .vmem S512x1024 .bf16) (harg3 : arg3.IsWhole) (arg4 : Memref sig .tc .vmem S512x2048 .bf16) (harg4 : arg4.IsWhole) (arg5 : Memref sig .tc .vmem S512x1024 .bf16) (harg5 : arg5.IsWhole) (arg6 : Memref sig .tc .vmem S4x512x1024 .bf16) (harg6 : arg6.IsWhole) (arg7 : Memref sig .tc .vmem S1024x1024 .bf16) (harg7 : arg7.IsWhole) (arg8 : Memref sig .tc .vmem S512x2048 .bf16) (harg8 : arg8.IsWhole) (arg9 : Memref sig .tc .vmem S512x2048 .bf16) (harg9 : arg9.IsWhole)
    (hcI : condInit i) (hcD : condDm i) (hcC : ¬ condCopy i)
    (x0 : Vec F S512x1024 .f32) (x1 : Vec F S512x1024 .bf16) (x2 : Vec F S512x2048 .bf16) (x3 : Vec F S512x1024 .bf16) (x4 : Vec F S4x512x1024 .bf16) (x5 : Vec F S1024x1024 .bf16)
    (f14 : Vec F S512x1024 .f32) (f15 : Vec F S1024x1024 .f32) (f16 : Vec F S4x512x1024 .f32)
    (K : PUnit → sProp 𝕄) :
    iprop(ins c arg2 arg3 arg4 arg5 arg6 arg7 x0 x1 x2 x3 x4 x5
      ∗ (∃ d, owns (c : Thread nD τ) arg8 fullShare d) ∗ (∃ d, owns (c : Thread nD τ) arg9 fullShare d)
      ∗ pt c dmM f14 ∗ pt c woM f15 ∗ pt c wbM f16
      ∗ (iprop(ins c arg2 arg3 arg4 arg5 arg6 arg7 x0 x1 x2 x3 x4 x5
          ∗ owns (c : Thread nD τ) arg8 fullShare (out6 (k0_pay7 x0 x5) x2) ∗ owns (c : Thread nD τ) arg9 fullShare (out7 i (k0_pay7 x0 x5) x1 x2 x4)
          ∗ pt c dmM (k0_pay7 x0 x5) ∗ pt c woM (k0_pay8 x0 k0_pay4 x3) ∗ pt c wbM (wbStep i (k0_pay7 x0 x5) x1 x2 k0_pay5)) -∗ K ⟨⟩))
      ⊢ wp frame (wpE (defs₀ (F := F)) Variants.none c none) Set.univ
        (cc0_merge_out_bwd i arg2 harg2 arg3 harg3 arg4 harg4 arg5 harg5 arg6 harg6 arg7 harg7 arg8 harg8 arg9 harg9
          gwoM (Memref.isWhole_whole _) gwoHalfM (Memref.isWhole_whole _) gwbM (Memref.isWhole_whole _) gwbHalfM (Memref.isWhole_whole _)
          dmM (Memref.isWhole_whole _) woM (Memref.isWhole_whole _) wbM (Memref.isWhole_whole _) woHalfM (Memref.isWhole_whole _) wbHalfM (Memref.isWhole_whole _) cc0_scratch5) K := by
  rw [cc0_eq_bodyC]
  unfold bodyC
  unfold ins owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩⟩, ⟨%d6, %f6, %hf6, H6⟩, ⟨%d7, %f7, %hf7, H7⟩, H14, H15, H16, Hk⟩
  obtain rfl := harg2.eq_unread hf0
  obtain rfl := harg3.eq_unread hf1
  obtain rfl := harg4.eq_unread hf2
  obtain rfl := harg5.eq_unread hf3
  obtain rfl := harg6.eq_unread hf4
  obtain rfl := harg7.eq_unread hf5
  simp only [k0_part9_eq_skeleton, k0_part10_eq_skeleton]
  unfold k0_part9_skel k0_part10_skel
  sl_exec (disch := first | sl_exact hcI | sl_exact hcD | sl_exact hcC)
  sl_step
  iapply Hk
  isplitl [H0 H1 H2 H3 H4 H5]
  · isplitl [H0]; · iexists _; isplitr; · ipureintro; exact harg2.read_unread _
                    iexact H0
    isplitl [H1]; · iexists _; isplitr; · ipureintro; exact harg3.read_unread _
                    iexact H1
    isplitl [H2]; · iexists _; isplitr; · ipureintro; exact harg4.read_unread _
                    iexact H2
    isplitl [H3]; · iexists _; isplitr; · ipureintro; exact harg5.read_unread _
                    iexact H3
    isplitl [H4]; · iexists _; isplitr; · ipureintro; exact harg6.read_unread _
                    iexact H4
    iexists _; isplitr; · ipureintro; exact harg7.read_unread _
    iexact H5
  isplitl [H6]
  · iexists _; isplitr
    swap; · iexact H6
    ipureintro
    rw [View.read_writes_eq_canon _ _ _ (half_cover _ _)]
    unfold out6
    sl_unfold_run_names
    simp -proj only [wb_written, wb_base, wb_base2, read_dx, read_merged, read_wo, read_zLo, read_zHi, read_gLo, read_gHi, read_wLo, read_wHi, read_dm, read_acc, View.readCov_unit_zero (S := S512x1024) _ zeros2, View.readCov_unit_zero (S := S1024x1024) _ zeros2, dm_written, wo_written, hi_past_lo, hi_past_lo']
  isplitl [H7]
  · iexists _; isplitr
    swap; · iexact H7
    ipureintro
    rw [View.read_writes_eq_canon _ _ _ (half_cover _ _)]
    unfold out7
    sl_unfold_run_names
    simp -proj only [wb_written, wb_base, wb_base2, read_dx, read_merged, read_wo, read_zLo, read_zHi, read_gLo, read_gHi, read_wLo, read_wHi, read_dm, read_acc, View.readCov_unit_zero (S := S512x1024) _ zeros2, View.readCov_unit_zero (S := S1024x1024) _ zeros2, dm_written, wo_written, hi_past_lo, hi_past_lo']
  sl_unfold_run_names
  simp -proj only [wb_written, wb_base, wb_base2, read_dx, read_merged, read_wo, read_zLo, read_zHi, read_gLo, read_gHi, read_wLo, read_wHi, read_dm, read_acc, View.readCov_unit_zero (S := S512x1024) _ zeros2, View.readCov_unit_zero (S := S1024x1024) _ zeros2, dm_written, wo_written, hi_past_lo, hi_past_lo']
  isplitl [H14]; · iexact H14
  isplitl [H15]; · iexact H15
  iexact H16

theorem work_D (c : Dev nD) (i : grid0.Coords) (arg2 : Memref sig .tc .vmem S512x1024 .f32) (harg2 : arg2.IsWhole) (arg3 : Memref sig .tc .vmem S512x1024 .bf16) (harg3 : arg3.IsWhole) (arg4 : Memref sig .tc .vmem S512x2048 .bf16) (harg4 : arg4.IsWhole) (arg5 : Memref sig .tc .vmem S512x1024 .bf16) (harg5 : arg5.IsWhole) (arg6 : Memref sig .tc .vmem S4x512x1024 .bf16) (harg6 : arg6.IsWhole) (arg7 : Memref sig .tc .vmem S1024x1024 .bf16) (harg7 : arg7.IsWhole) (arg8 : Memref sig .tc .vmem S512x2048 .bf16) (harg8 : arg8.IsWhole) (arg9 : Memref sig .tc .vmem S512x2048 .bf16) (harg9 : arg9.IsWhole)
    (hcI : ¬ condInit i) (hcD : ¬ condDm i) (hcC : condCopy i)
    (x0 : Vec F S512x1024 .f32) (x1 : Vec F S512x1024 .bf16) (x2 : Vec F S512x2048 .bf16) (x3 : Vec F S512x1024 .bf16) (x4 : Vec F S4x512x1024 .bf16) (x5 : Vec F S1024x1024 .bf16)
    (f14 : Vec F S512x1024 .f32) (f15 : Vec F S1024x1024 .f32) (f16 : Vec F S4x512x1024 .f32)
    (tail : Prog (TpuEff nD τ sig (Elt F) Λ₀ .tc) PUnit) (K : PUnit → sProp 𝕄) :
    iprop(ins c arg2 arg3 arg4 arg5 arg6 arg7 x0 x1 x2 x3 x4 x5
      ∗ (∃ d, owns (c : Thread nD τ) arg8 fullShare d) ∗ (∃ d, owns (c : Thread nD τ) arg9 fullShare d)
      ∗ pt c dmM f14 ∗ pt c woM f15 ∗ pt c wbM f16
      ∗ (iprop(ins c arg2 arg3 arg4 arg5 arg6 arg7 x0 x1 x2 x3 x4 x5
          ∗ owns (c : Thread nD τ) arg8 fullShare (out6 f14 x2) ∗ owns (c : Thread nD τ) arg9 fullShare (out7 i f14 x1 x2 x4)
          ∗ pt c dmM f14 ∗ pt c woM f15 ∗ pt c wbM (wbStep i f14 x1 x2 f16)) -∗ wp frame (wpE (defs₀ (F := F)) Variants.none c none) Set.univ (tail >>= fun _ => pure ⟨⟩) K))
      ⊢ wp frame (wpE (defs₀ (F := F)) Variants.none c none) Set.univ
        (bodyT i arg2 harg2 arg3 harg3 arg4 harg4 arg5 harg5 arg6 harg6 arg7 harg7 arg8 harg8 arg9 harg9
          gwoM (Memref.isWhole_whole _) gwoHalfM (Memref.isWhole_whole _) gwbM (Memref.isWhole_whole _) gwbHalfM (Memref.isWhole_whole _)
          dmM (Memref.isWhole_whole _) woM (Memref.isWhole_whole _) wbM (Memref.isWhole_whole _) woHalfM (Memref.isWhole_whole _) wbHalfM (Memref.isWhole_whole _) cc0_scratch5 tail) K := by
  unfold bodyT
  unfold ins owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩⟩, ⟨%d6, %f6, %hf6, H6⟩, ⟨%d7, %f7, %hf7, H7⟩, H14, H15, H16, Hk⟩
  obtain rfl := harg2.eq_unread hf0
  obtain rfl := harg3.eq_unread hf1
  obtain rfl := harg4.eq_unread hf2
  obtain rfl := harg5.eq_unread hf3
  obtain rfl := harg6.eq_unread hf4
  obtain rfl := harg7.eq_unread hf5
  simp only [k0_part9_eq_skeleton, k0_part10_eq_skeleton]
  unfold k0_part9_skel k0_part10_skel
  sl_exec (disch := first | sl_exact hcI | sl_exact hcD | sl_exact hcC)
  iapply Hk
  isplitl [H0 H1 H2 H3 H4 H5]
  · isplitl [H0]; · iexists _; isplitr; · ipureintro; exact harg2.read_unread _
                    iexact H0
    isplitl [H1]; · iexists _; isplitr; · ipureintro; exact harg3.read_unread _
                    iexact H1
    isplitl [H2]; · iexists _; isplitr; · ipureintro; exact harg4.read_unread _
                    iexact H2
    isplitl [H3]; · iexists _; isplitr; · ipureintro; exact harg5.read_unread _
                    iexact H3
    isplitl [H4]; · iexists _; isplitr; · ipureintro; exact harg6.read_unread _
                    iexact H4
    iexists _; isplitr; · ipureintro; exact harg7.read_unread _
    iexact H5
  isplitl [H6]
  · iexists _; isplitr
    swap; · iexact H6
    ipureintro
    rw [View.read_writes_eq_canon _ _ _ (half_cover _ _)]
    unfold out6
    sl_unfold_run_names
    simp -proj only [wb_written, wb_base, wb_base2, read_dx, read_merged, read_wo, read_zLo, read_zHi, read_gLo, read_gHi, read_wLo, read_wHi, read_dm, read_acc, View.readCov_unit_zero (S := S512x1024) _ zeros2, View.readCov_unit_zero (S := S1024x1024) _ zeros2, dm_written, wo_written, hi_past_lo, hi_past_lo']
  isplitl [H7]
  · iexists _; isplitr
    swap; · iexact H7
    ipureintro
    rw [View.read_writes_eq_canon _ _ _ (half_cover _ _)]
    unfold out7
    sl_unfold_run_names
    simp -proj only [wb_written, wb_base, wb_base2, read_dx, read_merged, read_wo, read_zLo, read_zHi, read_gLo, read_gHi, read_wLo, read_wHi, read_dm, read_acc, View.readCov_unit_zero (S := S512x1024) _ zeros2, View.readCov_unit_zero (S := S1024x1024) _ zeros2, dm_written, wo_written, hi_past_lo, hi_past_lo']
  sl_unfold_run_names
  simp -proj only [wb_written, wb_base, wb_base2, read_dx, read_merged, read_wo, read_zLo, read_zHi, read_gLo, read_gHi, read_wLo, read_wHi, read_dm, read_acc, View.readCov_unit_zero (S := S512x1024) _ zeros2, View.readCov_unit_zero (S := S1024x1024) _ zeros2, dm_written, wo_written, hi_past_lo, hi_past_lo']
  isplitl [H14]; · iexact H14
  isplitl [H15]; · iexact H15
  iexact H16

theorem run_D (c : Dev nD) (i : grid0.Coords) (arg2 : Memref sig .tc .vmem S512x1024 .f32) (harg2 : arg2.IsWhole) (arg3 : Memref sig .tc .vmem S512x1024 .bf16) (harg3 : arg3.IsWhole) (arg4 : Memref sig .tc .vmem S512x2048 .bf16) (harg4 : arg4.IsWhole) (arg5 : Memref sig .tc .vmem S512x1024 .bf16) (harg5 : arg5.IsWhole) (arg6 : Memref sig .tc .vmem S4x512x1024 .bf16) (harg6 : arg6.IsWhole) (arg7 : Memref sig .tc .vmem S1024x1024 .bf16) (harg7 : arg7.IsWhole) (arg8 : Memref sig .tc .vmem S512x2048 .bf16) (harg8 : arg8.IsWhole) (arg9 : Memref sig .tc .vmem S512x2048 .bf16) (harg9 : arg9.IsWhole)
    (hcI : ¬ condInit i) (hcD : ¬ condDm i) (hcC : condCopy i)
    (x0 : Vec F S512x1024 .f32) (x1 : Vec F S512x1024 .bf16) (x2 : Vec F S512x2048 .bf16) (x3 : Vec F S512x1024 .bf16) (x4 : Vec F S4x512x1024 .bf16) (x5 : Vec F S1024x1024 .bf16)
    (W : Waits sig Unit) (f14 : Vec F S512x1024 .f32) (f15 : Vec F S1024x1024 .f32) (f16 : Vec F S4x512x1024 .f32)
    (K : PUnit → sProp 𝕄) :
    iprop(ins c arg2 arg3 arg4 arg5 arg6 arg7 x0 x1 x2 x3 x4 x5
      ∗ (∃ d, owns (c : Thread nD τ) arg8 fullShare d) ∗ (∃ d, owns (c : Thread nD τ) arg9 fullShare d)
      ∗ pt c dmM f14 ∗ pt c woM f15 ∗ pt c wbM f16
      ∗ (∃ f, pt c woHalfM f) ∗ (∃ f, pt c wbHalfM f) ∗ (∃ f, pt c gwoM f) ∗ (∃ f, pt c gwoHalfM f) ∗ (∃ f, pt c gwbM f) ∗ (∃ f, pt c gwbHalfM f)
      ∗ cells0 c ∗ owes (c : Thread nD τ) 0 W
      ∗ (iprop(ins c arg2 arg3 arg4 arg5 arg6 arg7 x0 x1 x2 x3 x4 x5
          ∗ owns (c : Thread nD τ) arg8 fullShare (out6 f14 x2) ∗ owns (c : Thread nD τ) arg9 fullShare (out7 i f14 x1 x2 x4)
          ∗ pt c dmM f14 ∗ pt c woM f15 ∗ pt c wbM (wbStep i f14 x1 x2 f16)
          ∗ (∃ f, pt c woHalfM f) ∗ (∃ f, pt c wbHalfM f)
          ∗ pt c gwoM f15 ∗ pt c gwoHalfM (k0_pay2 f15) ∗ pt c gwbM (layout (wbStep i f14 x1 x2 f16)) ∗ pt c gwbHalfM (layout (k0_pay3 (wbStep i f14 x1 x2 f16)))
          ∗ cells0 c ∗ (∃ W, owes (c : Thread nD τ) 0 W)) -∗ K ⟨⟩))
      ⊢ wp frame (wpE (defs₀ (F := F)) Variants.none c none) Set.univ
        (cc0_merge_out_bwd i arg2 harg2 arg3 harg3 arg4 harg4 arg5 harg5 arg6 harg6 arg7 harg7 arg8 harg8 arg9 harg9
          gwoM (Memref.isWhole_whole _) gwoHalfM (Memref.isWhole_whole _) gwbM (Memref.isWhole_whole _) gwbHalfM (Memref.isWhole_whole _)
          dmM (Memref.isWhole_whole _) woM (Memref.isWhole_whole _) wbM (Memref.isWhole_whole _) woHalfM (Memref.isWhole_whole _) wbHalfM (Memref.isWhole_whole _) cc0_scratch5) K := by
  rw [cc0_eq_bodyC, bodyC_eq_bodyT]
  iintro ⟨HI, H6, H7, H14, H15, H16, ⟨%f17, H17⟩, ⟨%f18, H18⟩, ⟨%g2, G2⟩, ⟨%g3, G3⟩, ⟨%g4, G4⟩, ⟨%g5, G5⟩, HC, HW, Hk⟩
  iapply work_D c i arg2 harg2 arg3 harg3 arg4 harg4 arg5 harg5 arg6 harg6 arg7 harg7 arg8 harg8 arg9 harg9 hcI hcD hcC x0 x1 x2 x3 x4 x5 f14 f15 f16
  isplitl [HI]; · iexact HI
  isplitl [H6]; · iexact H6
  isplitl [H7]; · iexact H7
  isplitl [H14]; · iexact H14
  isplitl [H15]; · iexact H15
  isplitl [H16]; · iexact H16
  iintro ⟨HI, H6, H7, H14, H15, H16⟩
  rw [wp_bind]
  iapply run_copies c i arg2 harg2 arg3 harg3 arg4 harg4 arg5 harg5 arg6 harg6 arg7 harg7 arg8 harg8 arg9 harg9 f15 (wbStep i f14 x1 x2 f16) f17 f18 g2 g3 g4 g5 W
  isplitl [H15]; · iexact H15
  isplitl [H16]; · iexact H16
  isplitl [H17]; · iexact H17
  isplitl [H18]; · iexact H18
  isplitl [G2]; · iexact G2
  isplitl [G3]; · iexact G3
  isplitl [G4]; · iexact G4
  isplitl [G5]; · iexact G5
  isplitl [HC]; · iexact HC
  isplitl [HW]; · iexact HW
  iintro ⟨H15, H16, H17, H18, G2, G3, G4, G5, HC, HW⟩
  sl_step
  iapply Hk
  isplitl [HI]; · iexact HI
  isplitl [H6]; · iexact H6
  isplitl [H7]; · iexact H7
  isplitl [H14]; · iexact H14
  isplitl [H15]; · iexact H15
  isplitl [H16]; · iexact H16
  isplitl [H17]; · iexact H17
  isplitl [H18]; · iexact H18
  isplitl [G2]; · iexact G2
  isplitl [G3]; · iexact G3
  isplitl [G4]; · iexact G4
  isplitl [G5]; · iexact G5
  isplitl [HC]; · iexact HC
  iexact HW

end Cert.KernelIdeal.Merge

end
-- ==== Proof.MergeFrame.lean ====
module

public import proofs.«01_k».proof.Proof.Gen.KernelIdeal.Frame
public import proofs.«01_k».proof.Proof.Gen.KernelIdeal.Skeleton
public import Idealize.ShloMosaic.Lib.Pipeline.FrameValue
public import Idealize.ShloMosaic.Lib.Pipeline.Value
public import proofs.«01_k».proof.Proof.MergeRun

@[expose] public section

set_option maxRecDepth 16384

noncomputable section

namespace Cert.KernelIdeal.Merge

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## What each point finds and leaves -/

/-- The blocks the body is given at a point. -/
abbrev b0 (c : Dev nD) (t : Fin cfg0.N) : Vec F S512x1024 .f32 := iblk m c 0 t
abbrev b1 (c : Dev nD) (t : Fin cfg0.N) : Vec F S512x1024 .bf16 := iblk m c 1 t
abbrev b2 (c : Dev nD) (t : Fin cfg0.N) : Vec F S512x2048 .bf16 := iblk m c 2 t
abbrev b3 (c : Dev nD) (t : Fin cfg0.N) : Vec F S512x1024 .bf16 := iblk m c 3 t
abbrev b4 (c : Dev nD) (t : Fin cfg0.N) : Vec F S4x512x1024 .bf16 := iblk m c 4 t
abbrev b5 (c : Dev nD) (t : Fin cfg0.N) : Vec F S1024x1024 .bf16 := iblk m c 5 t

/-- The grid's points by number. -/
def pnt (n : ℕ) : Fin cfg0.N := ⟨n % 32, by show _ < grid0.N; rw [N_0]; omega⟩
theorem pnt_val (t : Fin cfg0.N) : pnt t.val = t := Fin.ext (Nat.mod_eq_of_lt (by have h : t.val < grid0.N := t.isLt; rw [N_0] at h; exact h))

/-- The gradient of the merged rows after `n` points: the even points renew it. -/
def dmS (c : Dev nD) : ℕ → Vec F S512x1024 .f32
  | 0 => k0_pay7 (b0 m c (pnt 0)) (b5 m c (pnt 0))
  | n + 1 => if n % 2 = 0 then k0_pay7 (b0 m c (pnt n)) (b5 m c (pnt n)) else dmS c n
/-- The sum for the output projection after `n` points: the even points add to it. -/
def woS (c : Dev nD) : ℕ → Vec F S1024x1024 .f32
  | 0 => k0_pay4
  | n + 1 => if n % 2 = 0 then k0_pay8 (b0 m c (pnt n)) (woS c n) (b3 m c (pnt n)) else woS c n
/-- The sums for the branch tables after `n` points: each point adds to two of the four. -/
def wbS (c : Dev nD) : ℕ → Vec F S4x512x1024 .f32
  | 0 => k0_pay5
  | n + 1 => wbStep (grid0.coords (pnt n)) (dmS m c (n + 1)) (b1 m c (pnt n)) (b2 m c (pnt n)) (wbS c n)

theorem dmS_even (c : Dev nD) (t : Fin cfg0.N) (h : t.val % 2 = 0) : dmS m c (t.val + 1) = k0_pay7 (b0 m c t) (b5 m c t) := by
  rw [dmS, if_pos h, pnt_val]
theorem dmS_odd (c : Dev nD) (t : Fin cfg0.N) (h : ¬ t.val % 2 = 0) : dmS m c (t.val + 1) = dmS m c t.val := by
  rw [dmS, if_neg h]
theorem woS_even (c : Dev nD) (t : Fin cfg0.N) (h : t.val % 2 = 0) : woS m c (t.val + 1) = k0_pay8 (b0 m c t) (woS m c t.val) (b3 m c t) := by
  rw [woS, if_pos h, pnt_val]
theorem woS_odd (c : Dev nD) (t : Fin cfg0.N) (h : ¬ t.val % 2 = 0) : woS m c (t.val + 1) = woS m c t.val := by
  rw [woS, if_neg h]
theorem wbS_succ (c : Dev nD) (t : Fin cfg0.N) :
    wbS m c (t.val + 1) = wbStep (grid0.coords t) (dmS m c (t.val + 1)) (b1 m c t) (b2 m c t) (wbS m c t.val) := by
  rw [wbS, pnt_val]

/-- The points the body's three tests hold at. -/
theorem condInit_iff : ∀ t : Fin cfg0.N, condInit (grid0.coords t) ↔ t.val = 0 := by decide +kernel
theorem condDm_iff : ∀ t : Fin cfg0.N, condDm (grid0.coords t) ↔ t.val % 2 = 0 := by decide +kernel
theorem condCopy_iff : ∀ t : Fin cfg0.N, condCopy (grid0.coords t) ↔ t.val = 31 := by decide +kernel

/-! ## The results the body writes itself, the cells it uses -/

def R0 : Finset (Ref sig .tc) := {main_v63_2, main_v63_3, main_v63_4, main_v63_5}
def H0 : Finset (Ref sig .tc) := ∅
theorem H0_sub : H0 ⊆ Pipeline.restRefs sig spec0 := by decide
theorem R0_sub : R0 ⊆ Pipeline.restRefs sig spec0 \ H0 := by decide

abbrev osem0 : Fin 18 → SemLoc sig := fun j => (![SemLoc.dma 14, SemLoc.dma 15, SemLoc.dma 16, SemLoc.dma 17, SemLoc.dma 18, SemLoc.dma 19, SemLoc.dma 20, SemLoc.dma 21, SemLoc.dma 22, SemLoc.dma 23, SemLoc.dma 24, SemLoc.dma 25, SemLoc.dma 26, SemLoc.dma 27, SemLoc.dma 28, SemLoc.dma 29, SemLoc.dma 30, SemLoc.dma 31] : Fin 18 → SemLoc sig) j
theorem ownSemFacts0 : Pipeline.OwnSemFacts spec0 osem0 := by decide
theorem ownSems00_eq (c : Dev nD) :
    (Pipeline.ownSems0 (Ix := Unit) (Name := ℕ) (U := Pipeline.UD sig nD τ) (Lvl := ℕ) (Val := Elt F) (τ := τ) osem0 c : sProp 𝕄) = cells0 c := by
  rw [Pipeline.ownSems0_eq_of_list c osem0 [0, 1, 2, 3, 4, 5, 6, 7, 8, 9, 10, 11, 12, 13, 14, 15, 16, 17] (by decide) (by decide)]; rfl

/-- What the four results hold when the program has ended. -/
def G (c : Dev nD) : (b : Ref sig .tc) → Buf (Elt F) ((c : Thread nD τ).loc b) :=
  Function.update (Function.update (Function.update (Function.update (V m c) main_v63_2 (woS m c 32)) main_v63_3 (k0_pay2 (woS m c 32)))
    main_v63_4 (layout (wbS m c 32))) main_v63_5 (layout (k0_pay3 (wbS m c 32)))

theorem G_2 (c : Dev nD) : G m c main_v63_2 = woS m c 32 := by
  unfold G; rw [Function.update_of_ne (by decide), Function.update_of_ne (by decide), Function.update_of_ne (by decide), Function.update_self]
theorem G_3 (c : Dev nD) : G m c main_v63_3 = k0_pay2 (woS m c 32) := by
  unfold G; rw [Function.update_of_ne (by decide), Function.update_of_ne (by decide), Function.update_self]
theorem G_4 (c : Dev nD) : G m c main_v63_4 = layout (wbS m c 32) := by
  unfold G; rw [Function.update_of_ne (by decide), Function.update_self]
theorem G_5 (c : Dev nD) : G m c main_v63_5 = layout (k0_pay3 (wbS m c 32)) := by
  unfold G; rw [Function.update_self]

theorem routed_eq (c : Dev nD) (W : (b : Ref sig .tc) → Buf (Elt F) ((c : Thread nD τ).loc b)) :
    (Pipeline.routed R0 c W : sProp 𝕄)
      = iprop(pt c gwoM (W main_v63_2) ∗ pt c gwoHalfM (W main_v63_3) ∗ pt c gwbM (W main_v63_4) ∗ pt c gwbHalfM (W main_v63_5)) := by
  unfold Pipeline.routed
  rw [BI.bigSep_eq_bigSepL_of_eq [main_v63_2, main_v63_3, main_v63_4, main_v63_5] (by decide) (by decide)]; rfl

/-! ## The invariant -/

/-- After `n` points: the three running arrays at their values (before the first point at anything), the four results at theirs
    once all points have passed. -/
def Inv (c : Dev nD) (n : ℕ) : sProp 𝕄 :=
  iprop(∃ f14 f15 f16 g2 g3 g4 g5, ⌜(n ≠ 0 → f14 = dmS m c n ∧ f15 = woS m c n ∧ f16 = wbS m c n)
      ∧ (n = 32 → g2 = woS m c 32 ∧ g3 = k0_pay2 (woS m c 32) ∧ g4 = layout (wbS m c 32) ∧ g5 = layout (k0_pay3 (wbS m c 32)))⌝
    ∗ pt c dmM f14 ∗ pt c woM f15 ∗ pt c wbM f16 ∗ (∃ f, pt c woHalfM f) ∗ (∃ f, pt c wbHalfM f)
    ∗ pt c gwoM g2 ∗ pt c gwoHalfM g3 ∗ pt c gwbM g4 ∗ pt c gwbHalfM g5 ∗ cells0 c ∗ (∃ r, prngReg c r))

theorem Inv_in (W : (c : Dev nD) → (b : Ref sig .tc) → Buf (Elt F) ((c : Thread nD τ).loc b)) (c : Dev nD) :
    (Pipeline.ΦDRG osem0 spec0 H0 R0 W W c : sProp 𝕄) ⊢ Inv m c 0 := by
  rw [Pipeline.ΦDRG_eq, scopedRest0_eq, ownSems00_eq, routed_eq]
  unfold Inv
  iintro ⟨⟨⟨%f14, H14⟩, ⟨%f15, H15⟩, ⟨%f16, H16⟩, H17, H18⟩, Hg, HC, -, G2, G3, G4, G5⟩
  iexists f14, f15, f16, W c main_v63_2, W c main_v63_3, W c main_v63_4, W c main_v63_5
  isplitr
  · ipureintro; exact ⟨fun h => absurd rfl h, fun h => absurd h (by decide)⟩
  isplitl [H14]; · iexact H14
  isplitl [H15]; · iexact H15
  isplitl [H16]; · iexact H16
  isplitl [H17]; · iexact H17
  isplitl [H18]; · iexact H18
  isplitl [G2]; · iexact G2
  isplitl [G3]; · iexact G3
  isplitl [G4]; · iexact G4
  isplitl [G5]; · iexact G5
  isplitl [HC]; · iexact HC
  iexact Hg

theorem Inv_out (c : Dev nD) : Inv m c 32 ⊢ (Pipeline.ΦDRG osem0 spec0 H0 R0 (V m) (G m) c : sProp 𝕄) := by
  rw [Pipeline.ΦDRG_eq, scopedRest0_eq, ownSems00_eq, routed_eq, G_2, G_3, G_4, G_5]
  unfold Inv
  iintro ⟨%f14, %f15, %f16, %g2, %g3, %g4, %g5, %hp, H14, H15, H16, H17, H18, G2, G3, G4, G5, HC, Hg⟩
  obtain ⟨rfl, rfl, rfl, rfl⟩ := hp.2 rfl
  isplitl [H14 H15 H16 H17 H18]
  · isplitl [H14]; · iexists _; iexact H14
    isplitl [H15]; · iexists _; iexact H15
    isplitl [H16]; · iexists _; iexact H16
    isplitl [H17]; · iexact H17
    iexact H18
  isplitl [Hg]; · iexact Hg
  isplitl [HC]; · iexact HC
  isplitr
  · unfold H0; rw [BI.bigSep_empty]; iempintro
  isplitl [G2]; · iexact G2
  isplitl [G3]; · iexact G3
  isplitl [G4]; · iexact G4
  iexact G5

/-! ## The pipeline's proof data -/

def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => out6 (dmS m c (t.val + 1)) (b2 m c t)
    | ⟨7, _⟩ => out7 (grid0.coords t) (dmS m c (t.val + 1)) (b1 m c t) (b2 m c t) (b4 m c t)
  Φ n := Inv m c n.val
  q _ := fullShare
  owed _ := 0

theorem A_eq (c : Dev nD) (w : Fin cfg0.W) : (dats m 0 c).A w = V m c (Pipeline.arrRef spec0 w) := by
  dsimp only [dats]
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = out6 (dmS m c (t.val + 1)) (b2 m c t) := by dsimp only [dats]
theorem after_7 (c : Dev nD) (t : Fin cfg0.N) : (dats m 0 c).after 7 t = out7 (grid0.coords t) (dmS m c (t.val + 1)) (b1 m c t) (b2 m c t) (b4 m c t) := by
  dsimp only [dats]

theorem before_0 (c : Dev nD) (t : Fin cfg0.N) (d) : (dats m 0 c).before 0 t d = iblk m c 0 t :=
  ((dats m 0 c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (c : Dev nD) (t : Fin cfg0.N) (d) : (dats m 0 c).before 1 t d = iblk m c 1 t :=
  ((dats m 0 c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem before_2 (c : Dev nD) (t : Fin cfg0.N) (d) : (dats m 0 c).before 2 t d = iblk m c 2 t :=
  ((dats m 0 c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)
theorem before_3 (c : Dev nD) (t : Fin cfg0.N) (d) : (dats m 0 c).before 3 t d = iblk m c 3 t :=
  ((dats m 0 c).before_in_eq_fetched 3 rfl (fun _ => rfl) (fun _ _ _ => rfl) (fun t => by rw [after_3]; unfold Dat.blockOf iblk; rw [A_eq]; try rfl) t d).trans
    (by unfold Dat.fetched Dat.blockOf iblk; rw [A_eq]; try rfl)
theorem before_4 (c : Dev nD) (t : Fin cfg0.N) (d) : (dats m 0 c).before 4 t d = iblk m c 4 t :=
  ((dats m 0 c).before_in_eq_fetched 4 rfl (fun _ => rfl) (fun _ _ _ => rfl) (fun t => by rw [after_4]; unfold Dat.blockOf iblk; rw [A_eq]; try rfl) t d).trans
    (by unfold Dat.fetched Dat.blockOf iblk; rw [A_eq]; try rfl)
theorem before_5 (c : Dev nD) (t : Fin cfg0.N) (d) : (dats m 0 c).before 5 t d = iblk m c 5 t :=
  ((dats m 0 c).before_in_eq_fetched 5 rfl (fun _ => rfl) (fun _ _ _ => rfl) (fun t => by rw [after_5]; unfold Dat.blockOf iblk; rw [A_eq]; try rfl) t d).trans
    (by unfold Dat.fetched Dat.blockOf iblk; rw [A_eq]; try rfl)

/-! ## One point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, after_0, after_1, after_2, after_3, after_4, after_5, after_6, after_7]
  rw [show (dats m 0 c).Φ t.castSucc = Inv m c t.val from rfl, show (dats m 0 c).Φ t.succ = Inv m c (t.val + 1) from rfl]
  unfold Dat.owesAt Pipeline.owesWithin
  rw [show (dats m 0 c).owed t.castSucc = 0 from rfl, show (dats m 0 c).owed t.succ = 0 from rfl]
  unfold Inv
  have ht : t.val < 32 := by have h : t.val < grid0.N := t.isLt; rw [N_0] at h; exact h
  iintro ⟨⟨%f14, %f15, %f16, %g2, %g3, %g4, %g5, %hp, H14, H15, H16, H17, H18, G2, G3, G4, G5, HC, Hg⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩⟩
  by_cases h2 : t.val % 2 = 0
  · by_cases h0 : t.val = 0
    · iapply run_A c (grid0.coords t) _ _ _ _ _ _ _ _ _ _ _ _ _ _ _ _ ((condInit_iff t).2 h0) ((condDm_iff t).2 h2) (fun h => by have := (condCopy_iff t).1 h; omega) (b0 m c t) (b1 m c t) (b2 m c t) (b3 m c t) (b4 m c t) (b5 m c t) f14 f15 f16
      isplitl [H0 H1 H2 H3 H4 H5]
      · unfold ins
        isplitl [H0]; · iexact H0
        isplitl [H1]; · iexact H1
        isplitl [H2]; · iexact H2
        isplitl [H3]; · iexact H3
        isplitl [H4]; · iexact H4
        iexact H5
      isplitl [H6]; · iexists _; iexact H6
      isplitl [H7]; · iexists _; iexact H7
      isplitl [H14]; · iexact H14
      isplitl [H15]; · iexact H15
      isplitl [H16]; · iexact H16
      iintro ⟨HI, H6, H7, H14, H15, H16⟩
      unfold ins
      icases HI with ⟨H0, H1, H2, H3, H4, H5⟩
      isplitl [H14 H15 H16 H17 H18 G2 G3 G4 G5 HC Hg]
      · iexists _, _, _, _, _, _, _
        isplitr
        swap
        · isplitl [H14]; · iexact H14
          isplitl [H15]; · iexact H15
          isplitl [H16]; · iexact H16
          isplitl [H17]; · iexact H17
          isplitl [H18]; · iexact H18
          isplitl [G2]; · iexact G2
          isplitl [G3]; · iexact G3
          isplitl [G4]; · iexact G4
          isplitl [G5]; · iexact G5
          isplitl [HC]; · iexact HC
          iexact Hg
        ipureintro
        exact ⟨fun _ => ⟨(dmS_even m c t h2).symm, by rw [woS_even m c t h2, h0]; rfl, by rw [wbS_succ, dmS_even m c t h2, h0]; rfl⟩, fun h => absurd h (by omega)⟩
      isplitl [HW]
      · iexists W; isplitr; · ipureintro; exact fun _ _ => Or.inl trivial
        iexact HW
      isplitl [H0]; · iexact H0
      isplitl [H1]; · iexact H1
      isplitl [H2]; · iexact H2
      isplitl [H3]; · iexact H3
      isplitl [H4]; · iexact H4
      isplitl [H5]; · iexact H5
      rw [dmS_even m c t h2]
      isplitl [H6]; · iexact H6
      iexact H7
    · iapply run_B c (grid0.coords t) _ _ _ _ _ _ _ _ _ _ _ _ _ _ _ _ (fun h => by have := (condInit_iff t).1 h; omega) ((condDm_iff t).2 h2) (fun h => by have := (condCopy_iff t).1 h; omega) (b0 m c t) (b1 m c t) (b2 m c t) (b3 m c t) (b4 m c t) (b5 m c t) f14 f15 f16
      isplitl [H0 H1 H2 H3 H4 H5]
      · unfold ins
        isplitl [H0]; · iexact H0
        isplitl [H1]; · iexact H1
        isplitl [H2]; · iexact H2
        isplitl [H3]; · iexact H3
        isplitl [H4]; · iexact H4
        iexact H5
      isplitl [H6]; · iexists _; iexact H6
      isplitl [H7]; · iexists _; iexact H7
      isplitl [H14]; · iexact H14
      isplitl [H15]; · iexact H15
      isplitl [H16]; · iexact H16
      iintro ⟨HI, H6, H7, H14, H15, H16⟩
      unfold ins
      icases HI with ⟨H0, H1, H2, H3, H4, H5⟩
      isplitl [H14 H15 H16 H17 H18 G2 G3 G4 G5 HC Hg]
      · iexists _, _, _, _, _, _, _
        isplitr
        swap
        · isplitl [H14]; · iexact H14
          isplitl [H15]; · iexact H15
          isplitl [H16]; · iexact H16
          isplitl [H17]; · iexact H17
          isplitl [H18]; · iexact H18
          isplitl [G2]; · iexact G2
          isplitl [G3]; · iexact G3
          isplitl [G4]; · iexact G4
          isplitl [G5]; · iexact G5
          isplitl [HC]; · iexact HC
          iexact Hg
        ipureintro
        exact ⟨fun _ => ⟨(dmS_even m c t h2).symm, by rw [woS_even m c t h2, ← (hp.1 h0).2.1], by rw [wbS_succ, dmS_even m c t h2, ← (hp.1 h0).2.2]⟩, fun h => absurd h (by omega)⟩
      isplitl [HW]
      · iexists W; isplitr; · ipureintro; exact fun _ _ => Or.inl trivial
        iexact HW
      isplitl [H0]; · iexact H0
      isplitl [H1]; · iexact H1
      isplitl [H2]; · iexact H2
      isplitl [H3]; · iexact H3
      isplitl [H4]; · iexact H4
      isplitl [H5]; · iexact H5
      rw [dmS_even m c t h2]
      isplitl [H6]; · iexact H6
      iexact H7
  · by_cases h0 : t.val = 31
    · iapply run_D c (grid0.coords t) _ _ _ _ _ _ _ _ _ _ _ _ _ _ _ _ (fun h => by have := (condInit_iff t).1 h; omega) (fun h => h2 ((condDm_iff t).1 h)) ((condCopy_iff t).2 h0) (b0 m c t) (b1 m c t) (b2 m c t) (b3 m c t) (b4 m c t) (b5 m c t) W f14 f15 f16
      isplitl [H0 H1 H2 H3 H4 H5]
      · unfold ins
        isplitl [H0]; · iexact H0
        isplitl [H1]; · iexact H1
        isplitl [H2]; · iexact H2
        isplitl [H3]; · iexact H3
        isplitl [H4]; · iexact H4
        iexact H5
      isplitl [H6]; · iexists _; iexact H6
      isplitl [H7]; · iexists _; iexact H7
      isplitl [H14]; · iexact H14
      isplitl [H15]; · iexact H15
      isplitl [H16]; · iexact H16
      isplitl [H17]; · iexact H17
      isplitl [H18]; · iexact H18
      isplitl [G2]; · iexists _; iexact G2
      isplitl [G3]; · iexists _; iexact G3
      isplitl [G4]; · iexists _; iexact G4
      isplitl [G5]; · iexists _; iexact G5
      isplitl [HC]; · iexact HC
      isplitl [HW]; · iexact HW
      iintro ⟨HI, H6, H7, H14, H15, H16, H17, H18, G2, G3, G4, G5, HC, ⟨%W2, HW⟩⟩
      unfold ins
      icases HI with ⟨H0, H1, H2, H3, H4, H5⟩
      isplitl [H14 H15 H16 H17 H18 G2 G3 G4 G5 HC Hg]
      · iexists _, _, _, _, _, _, _
        isplitr
        swap
        · isplitl [H14]; · iexact H14
          isplitl [H15]; · iexact H15
          isplitl [H16]; · iexact H16
          isplitl [H17]; · iexact H17
          isplitl [H18]; · iexact H18
          isplitl [G2]; · iexact G2
          isplitl [G3]; · iexact G3
          isplitl [G4]; · iexact G4
          isplitl [G5]; · iexact G5
          isplitl [HC]; · iexact HC
          iexact Hg
        ipureintro
        have h1 := hp.1 (by omega)
        have e15 : f15 = woS m c 32 := by rw [h1.2.1, ← woS_odd m c t h2, h0]
        have e16 : wbStep (grid0.coords t) f14 (b1 m c t) (b2 m c t) f16 = wbS m c 32 := by rw [h1.1, h1.2.2, ← dmS_odd m c t h2, ← wbS_succ, h0]
        rw [show t.val + 1 = 32 by omega]
        exact ⟨fun _ => ⟨by rw [h1.1, ← dmS_odd m c t h2, h0], e15, e16⟩, fun _ => ⟨e15, congrArg _ e15, congrArg _ e16, congrArg (fun x => layout (k0_pay3 x)) e16⟩⟩
      isplitl [HW]
      · iexists W2; isplitr; · ipureintro; exact fun _ _ => Or.inl trivial
        iexact HW
      isplitl [H0]; · iexact H0
      isplitl [H1]; · iexact H1
      isplitl [H2]; · iexact H2
      isplitl [H3]; · iexact H3
      isplitl [H4]; · iexact H4
      isplitl [H5]; · iexact H5
      rw [dmS_odd m c t h2, ← (hp.1 (by omega)).1]
      isplitl [H6]; · iexact H6
      iexact H7
    · iapply run_C c (grid0.coords t) _ _ _ _ _ _ _ _ _ _ _ _ _ _ _ _ (fun h => by have := (condInit_iff t).1 h; omega) (fun h => h2 ((condDm_iff t).1 h)) (fun h => h0 ((condCopy_iff t).1 h)) (b0 m c t) (b1 m c t) (b2 m c t) (b3 m c t) (b4 m c t) (b5 m c t) f14 f15 f16
      isplitl [H0 H1 H2 H3 H4 H5]
      · unfold ins
        isplitl [H0]; · iexact H0
        isplitl [H1]; · iexact H1
        isplitl [H2]; · iexact H2
        isplitl [H3]; · iexact H3
        isplitl [H4]; · iexact H4
        iexact H5
      isplitl [H6]; · iexists _; iexact H6
      isplitl [H7]; · iexists _; iexact H7
      isplitl [H14]; · iexact H14
      isplitl [H15]; · iexact H15
      isplitl [H16]; · iexact H16
      iintro ⟨HI, H6, H7, H14, H15, H16⟩
      unfold ins
      icases HI with ⟨H0, H1, H2, H3, H4, H5⟩
      isplitl [H14 H15 H16 H17 H18 G2 G3 G4 G5 HC Hg]
      · iexists _, _, _, _, _, _, _
        isplitr
        swap
        · isplitl [H14]; · iexact H14
          isplitl [H15]; · iexact H15
          isplitl [H16]; · iexact H16
          isplitl [H17]; · iexact H17
          isplitl [H18]; · iexact H18
          isplitl [G2]; · iexact G2
          isplitl [G3]; · iexact G3
          isplitl [G4]; · iexact G4
          isplitl [G5]; · iexact G5
          isplitl [HC]; · iexact HC
          iexact Hg
        ipureintro
        have h1 := hp.1 (by omega)
        exact ⟨fun _ => ⟨h1.1.trans (dmS_odd m c t h2).symm, h1.2.1.trans (woS_odd m c t h2).symm, by rw [wbS_succ, dmS_odd m c t h2, ← h1.1, ← h1.2.2]⟩, fun h => absurd h (by omega)⟩
      isplitl [HW]
      · iexists W; isplitr; · ipureintro; exact fun _ _ => Or.inl trivial
        iexact HW
      isplitl [H0]; · iexact H0
      isplitl [H1]; · iexact H1
      isplitl [H2]; · iexact H2
      isplitl [H3]; · iexact H3
      isplitl [H4]; · iexact H4
      isplitl [H5]; · iexact H5
      rw [dmS_odd m c t h2, ← (hp.1 (by omega)).1]
      isplitl [H6]; · iexact H6
      iexact H7

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run -/

set_option maxHeartbeats 800000 in
theorem main_upto (𝒱₀ : Variants) : Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

set_option backward.isDefEq.respectTransparency.types false in
theorem run_main : θ_run defs (onTc (τ := τ) (main (F := F))) (s₀ m ρ) (fun r => Pipeline.FramePostRG cfgs (dats m) 0 R0 (V m) (G m) r ∧ r.2.sem = fun _ => 0) :=
  Pipeline.θ_run_frame_dmaRG (Q' := _) cfgs (dats m) (0 : Fin 1) launch0 osem0 defs₀ Variants.none ownSemFacts0 H0 R0 H0_sub R0_sub m ρ main
    (hbody := fun c => (body_obligation m c).loose) (hshare := fun c => (dats m 0 c).share_full fun _ => rfl)
    (howed := fun _ _ => rfl) (V := V m) (hmain := main_upto m Variants.none) (hA := A_eq m) (G := G m)
    (hin := fun c => Inv_in m (V m) c) (hout := fun c => by
      rw [show (dats m 0 c).Φ (Fin.last cfg0.N) = Inv m c 32 from congrArg (Inv m c) (show grid0.N = 32 from N_0)]
      exact Inv_out m c)

/-- The argument arrays at the end of a run. -/
theorem args_kept {r : PUnit × MemSt nD τ sig (Elt F)} (h : Pipeline.FramePostR cfgs (dats m) 0 R0 (V m) r) (c : Dev nD) :
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4) :=
  ⟨((h c).1 0).trans (((dats m 0 c).arrAt_in 0 rfl _).trans ((A_eq m c 0).trans (V_main_arg0 m c))),
    ((h c).2 main_arg1 (Finset.mem_sdiff.mpr ⟨Pipeline.mem_restRefs_of main_arg1 (by decide) (by decide), by decide⟩)).trans (V_main_arg1 m c),
    ((h c).2 main_arg2 (Finset.mem_sdiff.mpr ⟨Pipeline.mem_restRefs_of main_arg2 (by decide) (by decide), by decide⟩)).trans (V_main_arg2 m c),
    ((h c).2 main_arg3 (Finset.mem_sdiff.mpr ⟨Pipeline.mem_restRefs_of main_arg3 (by decide) (by decide), by decide⟩)).trans (V_main_arg3 m c),
    ((h c).2 main_arg4 (Finset.mem_sdiff.mpr ⟨Pipeline.mem_restRefs_of main_arg4 (by decide) (by decide), by decide⟩)).trans (V_main_arg4 m c)⟩

end Cert.KernelIdeal.Merge

end
-- ==== Proof.MergePay.lean ====
/-
  What one point of the merge's backward launch computes, entry by entry, over the extended reals.
-/
module

public import proofs.«01_k».proof.Proof.GradWIn
public import proofs.«01_k».proof.Proof.MergeFrame
public import Idealize.ShloMosaic.Lib.Pointwise

@[expose] public section

noncomputable section

namespace Cert.KernelIdeal.Merge

open Cert.KernelIdeal Cert.KernelIdeal.Gen Cert.Tables
open Idealize.ShloMosaic Idealize.ShloMosaic.TcCoe Idealize.SL.Sem

/-- The gate of one entry. -/
def gate (x : EReal) : EReal := Ideal.logistic x

/-- The gradient of the merged rows at an entry. -/
theorem dm_apply (x0 : Vec Ideal S512x1024 .f32) (x5 : Vec Ideal S1024x1024 .bf16) (y : S512x1024.Idx) :
    (k0_pay7 x0 x5 : S512x1024.Idx → EReal) y = ∑ k : Fin 1024, at2 x0 (y 0).val k.val * at2 x5 (y 1).val k.val := by
  obtain ⟨r, q, rfl⟩ : ∃ (r : Fin 512) (q : Fin 1024), y = ix2 r q := ⟨y 0, y 1, eq_ix2 y⟩
  have e : ∀ k : Fin 1024, at2 x0 r.val k.val * at2 x5 q.val k.val = x0 (ix2 r k) * x5 (ix2 q k) := fun k => by
    exact congrArg₂ (· * ·) (at2_of x0 (ix2 r k) _ _ rfl rfl).symm (at2_of x5 (ix2 q k) _ _ rfl rfl).symm
  simp only [ix2_0, ix2_1, e]
  unfold k0_pay7 k0_pay6
  pointwise [dot_S512x1024_S1024x1024_S512x1024_1_1_0_0_n_n]

/-- The output projection's sum after one more point. -/
theorem wo_apply (x0 : Vec Ideal S512x1024 .f32) (a : Vec Ideal S1024x1024 .f32) (x3 : Vec Ideal S512x1024 .bf16) (y : S1024x1024.Idx) :
    (k0_pay8 x0 a x3 : S1024x1024.Idx → EReal) y = a y + ∑ k : Fin 512, at2 x3 k.val (y 0).val * at2 x0 k.val (y 1).val := by
  obtain ⟨r, q, rfl⟩ : ∃ (r : Fin 1024) (q : Fin 1024), y = ix2 r q := ⟨y 0, y 1, eq_ix2 y⟩
  have e : ∀ k : Fin 512, at2 x3 k.val r.val * at2 x0 k.val q.val = x3 (ix2 k r) * x0 (ix2 k q) := fun k => by
    exact congrArg₂ (· * ·) (at2_of x3 (ix2 k r) _ _ rfl rfl).symm (at2_of x0 (ix2 k q) _ _ rfl rfl).symm
  simp only [ix2_0, ix2_1, e]
  unfold k0_pay8 k0_pay6
  pointwise [dot_S512x1024_S512x1024_S1024x1024_0_0_1_1_n_n]

theorem wo_clear (y : S1024x1024.Idx) : (k0_pay4 (F := Ideal) : S1024x1024.Idx → EReal) y = 0 := by
  unfold k0_pay4
  pointwise
theorem wb_clear (y : S4x512x1024.Idx) : (k0_pay5 (F := Ideal) : S4x512x1024.Idx → EReal) y = 0 := by
  unfold k0_pay5
  pointwise
theorem wo_half (x : Vec Ideal S1024x1024 .f32) (y : S1024x1024.Idx) : (k0_pay2 x : S1024x1024.Idx → EReal) y = x y := by
  obtain ⟨r, q, rfl⟩ : ∃ (r : Fin 1024) (q : Fin 1024), y = ix2 r q := ⟨y 0, y 1, eq_ix2 y⟩
  unfold k0_pay2
  pointwise
theorem wb_half (x : Vec Ideal S4x512x1024 .f32) (y : S4x512x1024.Idx) : (k0_pay3 x : S4x512x1024.Idx → EReal) y = x y := by
  obtain ⟨k, r, q, rfl⟩ : ∃ (k : Fin 4) (r : Fin 512) (q : Fin 1024), y = ix3 k r q := ⟨y 0, y 1, y 2, eq_ix3 y⟩
  unfold k0_pay3
  pointwise

/-- The gradient of a branch's output at an entry. -/
theorem dbo_lo (dm : Vec Ideal S512x1024 .f32) (g : Vec Ideal S512x1024 .bf16) (y : S512x1024.Idx) :
    (k0_pay11 dm g : S512x1024.Idx → EReal) y = dm y * gate (g y) := by
  obtain ⟨r, q, rfl⟩ : ∃ (r : Fin 512) (q : Fin 1024), y = ix2 r q := ⟨y 0, y 1, eq_ix2 y⟩
  unfold k0_pay11 k0_pay10 gate
  pointwise
theorem dbo_hi (dm : Vec Ideal S512x1024 .f32) (g : Vec Ideal S512x1024 .bf16) (y : S512x1024.Idx) :
    (k0_pay16 dm g : S512x1024.Idx → EReal) y = dm y * gate (g y) := dbo_lo dm g y

/-- The gradient of a gate's input at an entry. -/
theorem dgate_lo (dm : Vec Ideal S512x1024 .f32) (z : Vec Ideal S512x512 .bf16) (w : Vec Ideal S1x512x1024 .bf16) (g : Vec Ideal S512x1024 .bf16) (y : S512x1024.Idx) :
    (k0_pay12 dm z w g : S512x1024.Idx → EReal) y
      = dm y * (∑ k : Fin 512, at2 z (y 0).val k.val * at3 w 0 k.val (y 1).val) * gate (g y) * (1 - gate (g y)) := by
  obtain ⟨r, q, rfl⟩ : ∃ (r : Fin 512) (q : Fin 1024), y = ix2 r q := ⟨y 0, y 1, eq_ix2 y⟩
  have e : ∀ k : Fin 512, at2 z r.val k.val * at3 w 0 k.val q.val = z (ix2 r k) * w (ix3 0 k q) := fun k => by
    exact congrArg₂ (· * ·) (at2_of z (ix2 r k) _ _ rfl rfl).symm (at3_of w (ix3 0 k q) _ _ _ rfl rfl rfl).symm
  simp only [ix2_0, ix2_1, e]
  unfold k0_pay12 k0_pay10 k0_pay9 gate
  pointwise [dot_S512x512_S512x1024_S512x1024_1_0_0_1_n_n]
theorem dgate_hi (dm : Vec Ideal S512x1024 .f32) (z : Vec Ideal S512x512 .bf16) (w : Vec Ideal S1x512x1024 .bf16) (g : Vec Ideal S512x1024 .bf16) (y : S512x1024.Idx) :
    (k0_pay17 dm z w g : S512x1024.Idx → EReal) y
      = dm y * (∑ k : Fin 512, at2 z (y 0).val k.val * at3 w 0 k.val (y 1).val) * gate (g y) * (1 - gate (g y)) := dgate_lo dm z w g y

/-- A branch table's sum after one more point. -/
theorem wb_lo (z : Vec Ideal S512x512 .bf16) (d : Vec Ideal S512x1024 .bf16) (w : Vec Ideal S1x512x1024 .f32) (y : S1x512x1024.Idx) :
    (k0_pay13 (k0_pay9 z) d w : S1x512x1024.Idx → EReal) y
      = w y + ∑ k : Fin 512, at2 z k.val (y 1).val * at2 d k.val (y 2).val := by
  obtain ⟨a, r, q, rfl⟩ : ∃ (a : Fin 1) (r : Fin 512) (q : Fin 1024), y = ix3 a r q := ⟨y 0, y 1, y 2, eq_ix3 y⟩
  obtain rfl : a = 0 := Subsingleton.elim _ _
  have e : ∀ k : Fin 512, at2 z k.val r.val * at2 d k.val q.val = z (ix2 k r) * d (ix2 k q) := fun k => by
    exact congrArg₂ (· * ·) (at2_of z (ix2 k r) _ _ rfl rfl).symm (at2_of d (ix2 k q) _ _ rfl rfl).symm
  simp only [ix3_1, ix3_2, e]
  unfold k0_pay13 k0_pay9
  pointwise [dot_S512x512_S512x1024_S512x1024_0_0_1_1_n_n]
theorem wb_hi (z : Vec Ideal S512x512 .bf16) (d : Vec Ideal S512x1024 .bf16) (w : Vec Ideal S1x512x1024 .f32) (y : S1x512x1024.Idx) :
    (k0_pay1 (k0_pay14 z) d w : S1x512x1024.Idx → EReal) y
      = w y + ∑ k : Fin 512, at2 z k.val (y 1).val * at2 d k.val (y 2).val := wb_lo z d w y

end Cert.KernelIdeal.Merge

end
-- ==== Proof.MergeBlocks.lean ====
/-
  The blocks and the running sums of the merge's backward launch, entry by entry, over the extended reals.

  Point `t = 2i + h` works on the tokens `512 i … 512 i + 511` and on the branches `2h` and `2h + 1`. It writes, for these
  tokens and branches, the gradients of the branches' outputs and of the gates' inputs, and adds the tokens' products to
  the branch tables' sums; the points with `h = 0` also add the tokens' products to the output projection's sum.
-/
module

public import proofs.«01_k».proof.Proof.MergePay
public import Idealize.ShloMosaic.Lib.Pipeline.ValueKit.Tiles

@[expose] public section

noncomputable section

namespace Cert.KernelIdeal.Merge

open Cert.KernelIdeal Cert.KernelIdeal.Gen Cert.Tables
open Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-! ## The operands and their blocks -/

abbrev dxA (c : Dev nD) : S8192x1024.Idx → EReal := V m c main_arg0
abbrev zA (c : Dev nD) : S8192x2048.Idx → EReal := V m c main_v58
abbrev pA (c : Dev nD) : S8192x10240.Idx → EReal := V m c main_v59
abbrev mgA (c : Dev nD) : S8192x1024.Idx → EReal := V m c main_v60
abbrev wA (c : Dev nD) : S4x512x1024.Idx → EReal := V m c main_v61
abbrev woA (c : Dev nD) : S1024x1024.Idx → EReal := V m c main_v62

theorem map0 : ∀ t : Fin 32, win0_0.index t 0 = t.val / 2 ∧ win0_0.index t 1 = 0 := by decide +kernel
theorem map1 : ∀ t : Fin 32, win0_1.index t 0 = t.val / 2 ∧ win0_1.index t 1 = t.val % 2 := by decide +kernel
theorem map2 : ∀ t : Fin 32, win0_2.index t 0 = t.val / 2 ∧ win0_2.index t 1 = 3 + t.val % 2 := by decide +kernel
theorem map3 : ∀ t : Fin 32, win0_3.index t 0 = t.val / 2 ∧ win0_3.index t 1 = 0 := by decide +kernel
theorem map5 : ∀ t : Fin 32, win0_5.index t 0 = 0 ∧ win0_5.index t 1 = 0 := by decide +kernel
theorem map6 : ∀ t : Fin 32, win0_6.index t 0 = t.val / 2 ∧ win0_6.index t 1 = t.val % 2 := by decide +kernel
theorem map7 : ∀ t : Fin 32, win0_7.index t 0 = t.val / 2 ∧ win0_7.index t 1 = 3 + t.val % 2 := by decide +kernel
theorem map4 : ∀ t : Fin 32, win0_4.index t 0 = 0 ∧ win0_4.index t 1 = 0 ∧ win0_4.index t 2 = 0 := by decide +kernel
theorem coord_half : ∀ t : Fin 32, ((grid0.coords t) 1).val = t.val % 2 := by decide +kernel

theorem block0 (c : Dev nD) (t : Fin cfg0.N) (a b : ℕ) (ha : a < 512) (hb : b < 1024) :
    at2 (b0 m c t : S512x1024.Idx → EReal) a b = at2 (dxA m c) ((t.val / 2) * 512 + a) (b) := by
  rw [← at2_of (b0 m c t : S512x1024.Idx → EReal) (ix2 ⟨a, ha⟩ ⟨b, hb⟩) a b rfl rfl]
  unfold b0 iblk
  rw [View.read_apply]
  refine at2_of (dxA m c) _ _ _ ?_ ?_
  · refine (win0_0.rect_emb_val t (ix2 ⟨a, ha⟩ ⟨b, hb⟩) 0).trans ?_
    rw [(map0 t).1]; rfl
  · refine (win0_0.rect_emb_val t (ix2 ⟨a, ha⟩ ⟨b, hb⟩) 1).trans ?_
    rw [(map0 t).2]; exact (Nat.zero_mul _).symm ▸ Nat.zero_add _

theorem block1 (c : Dev nD) (t : Fin cfg0.N) (a b : ℕ) (ha : a < 512) (hb : b < 1024) :
    at2 (b1 m c t : S512x1024.Idx → EReal) a b = at2 (zA m c) ((t.val / 2) * 512 + a) ((t.val % 2) * 1024 + b) := by
  rw [← at2_of (b1 m c t : S512x1024.Idx → EReal) (ix2 ⟨a, ha⟩ ⟨b, hb⟩) a b rfl rfl]
  unfold b1 iblk
  rw [View.read_apply]
  refine at2_of (zA m c) _ _ _ ?_ ?_
  · refine (win0_1.rect_emb_val t (ix2 ⟨a, ha⟩ ⟨b, hb⟩) 0).trans ?_
    rw [(map1 t).1]; rfl
  · refine (win0_1.rect_emb_val t (ix2 ⟨a, ha⟩ ⟨b, hb⟩) 1).trans ?_
    rw [(map1 t).2]; rfl

theorem block2 (c : Dev nD) (t : Fin cfg0.N) (a b : ℕ) (ha : a < 512) (hb : b < 2048) :
    at2 (b2 m c t : S512x2048.Idx → EReal) a b = at2 (pA m c) ((t.val / 2) * 512 + a) ((3 + t.val % 2) * 2048 + b) := by
  rw [← at2_of (b2 m c t : S512x2048.Idx → EReal) (ix2 ⟨a, ha⟩ ⟨b, hb⟩) a b rfl rfl]
  unfold b2 iblk
  rw [View.read_apply]
  refine at2_of (pA m c) _ _ _ ?_ ?_
  · refine (win0_2.rect_emb_val t (ix2 ⟨a, ha⟩ ⟨b, hb⟩) 0).trans ?_
    rw [(map2 t).1]; rfl
  · refine (win0_2.rect_emb_val t (ix2 ⟨a, ha⟩ ⟨b, hb⟩) 1).trans ?_
    rw [(map2 t).2]; rfl

theorem block3 (c : Dev nD) (t : Fin cfg0.N) (a b : ℕ) (ha : a < 512) (hb : b < 1024) :
    at2 (b3 m c t : S512x1024.Idx → EReal) a b = at2 (mgA m c) ((t.val / 2) * 512 + a) (b) := by
  rw [← at2_of (b3 m c t : S512x1024.Idx → EReal) (ix2 ⟨a, ha⟩ ⟨b, hb⟩) a b rfl rfl]
  unfold b3 iblk
  rw [View.read_apply]
  refine at2_of (mgA m c) _ _ _ ?_ ?_
  · refine (win0_3.rect_emb_val t (ix2 ⟨a, ha⟩ ⟨b, hb⟩) 0).trans ?_
    rw [(map3 t).1]; rfl
  · refine (win0_3.rect_emb_val t (ix2 ⟨a, ha⟩ ⟨b, hb⟩) 1).trans ?_
    rw [(map3 t).2]; exact (Nat.zero_mul _).symm ▸ Nat.zero_add _

theorem block5 (c : Dev nD) (t : Fin cfg0.N) (a b : ℕ) (ha : a < 1024) (hb : b < 1024) :
    at2 (b5 m c t : S1024x1024.Idx → EReal) a b = at2 (woA m c) (a) (b) := by
  rw [← at2_of (b5 m c t : S1024x1024.Idx → EReal) (ix2 ⟨a, ha⟩ ⟨b, hb⟩) a b rfl rfl]
  unfold b5 iblk
  rw [View.read_apply]
  refine at2_of (woA m c) _ _ _ ?_ ?_
  · refine (win0_5.rect_emb_val t (ix2 ⟨a, ha⟩ ⟨b, hb⟩) 0).trans ?_
    rw [(map5 t).1]; exact (Nat.zero_mul _).symm ▸ Nat.zero_add _
  · refine (win0_5.rect_emb_val t (ix2 ⟨a, ha⟩ ⟨b, hb⟩) 1).trans ?_
    rw [(map5 t).2]; exact (Nat.zero_mul _).symm ▸ Nat.zero_add _

theorem block4 (c : Dev nD) (t : Fin cfg0.N) (k a b : ℕ) (hk : k < 4) (ha : a < 512) (hb : b < 1024) :
    at3 (b4 m c t : S4x512x1024.Idx → EReal) k a b = at3 (wA m c) k a b := by
  rw [← at3_of (b4 m c t : S4x512x1024.Idx → EReal) (ix3 ⟨k, hk⟩ ⟨a, ha⟩ ⟨b, hb⟩) k a b rfl rfl rfl]
  unfold b4 iblk
  rw [View.read_apply]
  refine at3_of (wA m c) _ _ _ _ ?_ ?_ ?_
  · refine (win0_4.rect_emb_val t (ix3 ⟨k, hk⟩ ⟨a, ha⟩ ⟨b, hb⟩) 0).trans ?_
    rw [(map4 t).1]; exact (Nat.zero_mul _).symm ▸ Nat.zero_add _
  · refine (win0_4.rect_emb_val t (ix3 ⟨k, hk⟩ ⟨a, ha⟩ ⟨b, hb⟩) 1).trans ?_
    rw [(map4 t).2.1]; exact (Nat.zero_mul _).symm ▸ Nat.zero_add _
  · refine (win0_4.rect_emb_val t (ix3 ⟨k, hk⟩ ⟨a, ha⟩ ⟨b, hb⟩) 2).trans ?_
    rw [(map4 t).2.2]; exact (Nat.zero_mul _).symm ▸ Nat.zero_add _

/-! ## Halves and rows of a block -/

theorem zLo_at (x : Vec Ideal S512x1024 .bf16) (a b : ℕ) (ha : a < 512) (hb : b < 512) :
    at2 (zLo x : S512x512.Idx → EReal) a b = at2 (x : S512x1024.Idx → EReal) a (0 + b) := by
  rw [← at2_of (zLo x : S512x512.Idx → EReal) (ix2 ⟨a, ha⟩ ⟨b, hb⟩) a b rfl rfl,
    ← at2_of (x : S512x1024.Idx → EReal) (ix2 ⟨a, ha⟩ ⟨0 + b, by omega⟩) a (0 + b) rfl rfl]
  exact View.ld_unit_apply_of x _ _ _ _ _ (fun d => match d with | ⟨0, _⟩ => (Nat.zero_add a).symm | ⟨1, _⟩ => rfl)

theorem zHi_at (x : Vec Ideal S512x1024 .bf16) (a b : ℕ) (ha : a < 512) (hb : b < 512) :
    at2 (zHi x : S512x512.Idx → EReal) a b = at2 (x : S512x1024.Idx → EReal) a (512 + b) := by
  rw [← at2_of (zHi x : S512x512.Idx → EReal) (ix2 ⟨a, ha⟩ ⟨b, hb⟩) a b rfl rfl,
    ← at2_of (x : S512x1024.Idx → EReal) (ix2 ⟨a, ha⟩ ⟨512 + b, by omega⟩) a (512 + b) rfl rfl]
  exact View.ld_unit_apply_of x _ _ _ _ _ (fun d => match d with | ⟨0, _⟩ => (Nat.zero_add a).symm | ⟨1, _⟩ => rfl)

theorem gLo_at (x : Vec Ideal S512x2048 .bf16) (a b : ℕ) (ha : a < 512) (hb : b < 1024) :
    at2 (gLo x : S512x1024.Idx → EReal) a b = at2 (x : S512x2048.Idx → EReal) a (0 + b) := by
  rw [← at2_of (gLo x : S512x1024.Idx → EReal) (ix2 ⟨a, ha⟩ ⟨b, hb⟩) a b rfl rfl,
    ← at2_of (x : S512x2048.Idx → EReal) (ix2 ⟨a, ha⟩ ⟨0 + b, by omega⟩) a (0 + b) rfl rfl]
  exact View.ld_unit_apply_of x _ _ _ _ _ (fun d => match d with | ⟨0, _⟩ => (Nat.zero_add a).symm | ⟨1, _⟩ => rfl)

theorem gHi_at (x : Vec Ideal S512x2048 .bf16) (a b : ℕ) (ha : a < 512) (hb : b < 1024) :
    at2 (gHi x : S512x1024.Idx → EReal) a b = at2 (x : S512x2048.Idx → EReal) a (1024 + b) := by
  rw [← at2_of (gHi x : S512x1024.Idx → EReal) (ix2 ⟨a, ha⟩ ⟨b, hb⟩) a b rfl rfl,
    ← at2_of (x : S512x2048.Idx → EReal) (ix2 ⟨a, ha⟩ ⟨1024 + b, by omega⟩) a (1024 + b) rfl rfl]
  exact View.ld_unit_apply_of x _ _ _ _ _ (fun d => match d with | ⟨0, _⟩ => (Nat.zero_add a).symm | ⟨1, _⟩ => rfl)

theorem rowLo_at (i : grid0.Coords) (x : Vec Ideal S4x512x1024 .bf16) (n a b : ℕ) (hn : (i 1).val = n) (ha : a < 512) (hb : b < 1024) :
    at3 (rowLo i x : S1x512x1024.Idx → EReal) 0 a b = at3 (x : S4x512x1024.Idx → EReal) (2 * n + 0) a b := by
  subst hn
  have hi : (i 1).val < 2 := (i 1).isLt
  rw [← at3_of (rowLo i x : S1x512x1024.Idx → EReal) (ix3 0 ⟨a, ha⟩ ⟨b, hb⟩) 0 a b rfl rfl rfl,
    ← at3_of (x : S4x512x1024.Idx → EReal) (ix3 ⟨2 * (i 1).val + 0, by omega⟩ ⟨a, ha⟩ ⟨b, hb⟩) (2 * (i 1).val + 0) a b rfl rfl rfl]
  have h0 : (k0_off1 i 0#32) 0 = 2 * (i 1).val + 0 := congrFun (k0_off1_eq i 0) 0
  have h1 : (k0_off1 i 0#32) 1 = 0 := congrFun (k0_off1_eq i 0) 1
  have h2 : (k0_off1 i 0#32) 2 = 0 := congrFun (k0_off1_eq i 0) 2
  exact View.ld_unit_apply_of x _ _ _ _ _ (fun d => match d with
    | ⟨0, _⟩ => by show 2 * (i 1).val + 0 = (k0_off1 i 0#32) 0 + 0; omega
    | ⟨1, _⟩ => by show a = (k0_off1 i 0#32) 1 + a; omega
    | ⟨2, _⟩ => by show b = (k0_off1 i 0#32) 2 + b; omega)

theorem rowHi_at (i : grid0.Coords) (x : Vec Ideal S4x512x1024 .bf16) (n a b : ℕ) (hn : (i 1).val = n) (ha : a < 512) (hb : b < 1024) :
    at3 (rowHi i x : S1x512x1024.Idx → EReal) 0 a b = at3 (x : S4x512x1024.Idx → EReal) (2 * n + 1) a b := by
  subst hn
  have hi : (i 1).val < 2 := (i 1).isLt
  rw [← at3_of (rowHi i x : S1x512x1024.Idx → EReal) (ix3 0 ⟨a, ha⟩ ⟨b, hb⟩) 0 a b rfl rfl rfl,
    ← at3_of (x : S4x512x1024.Idx → EReal) (ix3 ⟨2 * (i 1).val + 1, by omega⟩ ⟨a, ha⟩ ⟨b, hb⟩) (2 * (i 1).val + 1) a b rfl rfl rfl]
  have h0 : (k0_off1 i 1#32) 0 = 2 * (i 1).val + 1 := congrFun (k0_off1_eq i 1) 0
  have h1 : (k0_off1 i 1#32) 1 = 0 := congrFun (k0_off1_eq i 1) 1
  have h2 : (k0_off1 i 1#32) 2 = 0 := congrFun (k0_off1_eq i 1) 2
  exact View.ld_unit_apply_of x _ _ _ _ _ (fun d => match d with
    | ⟨0, _⟩ => by show 2 * (i 1).val + 1 = (k0_off1 i 1#32) 0 + 0; omega
    | ⟨1, _⟩ => by show a = (k0_off1 i 1#32) 1 + a; omega
    | ⟨2, _⟩ => by show b = (k0_off1 i 1#32) 2 + b; omega)

theorem rowLo_acc (i : grid0.Coords) (x : Vec Ideal S4x512x1024 .f32) (n a b : ℕ) (hn : (i 1).val = n) (ha : a < 512) (hb : b < 1024) :
    at3 (rowLo i x : S1x512x1024.Idx → EReal) 0 a b = at3 (x : S4x512x1024.Idx → EReal) (2 * n + 0) a b := by
  subst hn
  have hi : (i 1).val < 2 := (i 1).isLt
  rw [← at3_of (rowLo i x : S1x512x1024.Idx → EReal) (ix3 0 ⟨a, ha⟩ ⟨b, hb⟩) 0 a b rfl rfl rfl,
    ← at3_of (x : S4x512x1024.Idx → EReal) (ix3 ⟨2 * (i 1).val + 0, by omega⟩ ⟨a, ha⟩ ⟨b, hb⟩) (2 * (i 1).val + 0) a b rfl rfl rfl]
  have h0 : (k0_off1 i 0#32) 0 = 2 * (i 1).val + 0 := congrFun (k0_off1_eq i 0) 0
  have h1 : (k0_off1 i 0#32) 1 = 0 := congrFun (k0_off1_eq i 0) 1
  have h2 : (k0_off1 i 0#32) 2 = 0 := congrFun (k0_off1_eq i 0) 2
  exact View.ld_unit_apply_of x _ _ _ _ _ (fun d => match d with
    | ⟨0, _⟩ => by show 2 * (i 1).val + 0 = (k0_off1 i 0#32) 0 + 0; omega
    | ⟨1, _⟩ => by show a = (k0_off1 i 0#32) 1 + a; omega
    | ⟨2, _⟩ => by show b = (k0_off1 i 0#32) 2 + b; omega)

theorem rowHi_acc (i : grid0.Coords) (x : Vec Ideal S4x512x1024 .f32) (n a b : ℕ) (hn : (i 1).val = n) (ha : a < 512) (hb : b < 1024) :
    at3 (rowHi i x : S1x512x1024.Idx → EReal) 0 a b = at3 (x : S4x512x1024.Idx → EReal) (2 * n + 1) a b := by
  subst hn
  have hi : (i 1).val < 2 := (i 1).isLt
  rw [← at3_of (rowHi i x : S1x512x1024.Idx → EReal) (ix3 0 ⟨a, ha⟩ ⟨b, hb⟩) 0 a b rfl rfl rfl,
    ← at3_of (x : S4x512x1024.Idx → EReal) (ix3 ⟨2 * (i 1).val + 1, by omega⟩ ⟨a, ha⟩ ⟨b, hb⟩) (2 * (i 1).val + 1) a b rfl rfl rfl]
  have h0 : (k0_off1 i 1#32) 0 = 2 * (i 1).val + 1 := congrFun (k0_off1_eq i 1) 0
  have h1 : (k0_off1 i 1#32) 1 = 0 := congrFun (k0_off1_eq i 1) 1
  have h2 : (k0_off1 i 1#32) 2 = 0 := congrFun (k0_off1_eq i 1) 2
  exact View.ld_unit_apply_of x _ _ _ _ _ (fun d => match d with
    | ⟨0, _⟩ => by show 2 * (i 1).val + 1 = (k0_off1 i 1#32) 0 + 0; omega
    | ⟨1, _⟩ => by show a = (k0_off1 i 1#32) 1 + a; omega
    | ⟨2, _⟩ => by show b = (k0_off1 i 1#32) 2 + b; omega)

/-! ## The entries -/

/-- The gradient of the merged rows. -/
def dmE (c : Dev nD) (r q : ℕ) : EReal := ∑ k : Fin 1024, at2 (dxA m c) r k.val * at2 (woA m c) q k.val
/-- A branch's output. -/
def boE (c : Dev nD) (r k q : ℕ) : EReal := ∑ j : Fin 512, at2 (zA m c) r (k * 512 + j.val) * at3 (wA m c) k j.val q
/-- A branch's gate. -/
def sgE (c : Dev nD) (r k q : ℕ) : EReal := gate (at2 (pA m c) r (6144 + k * 1024 + q))

theorem dm_at (c : Dev nD) (t : Fin cfg0.N) (h : t.val % 2 = 0) (y : S512x1024.Idx) :
    (dmS m c (t.val + 1) : S512x1024.Idx → EReal) y = dmE m c (t.val / 2 * 512 + (y 0).val) (y 1).val := by
  rw [dmS_even m c t h, dm_apply]
  refine Finset.sum_congr rfl fun k _ => ?_
  exact congrArg₂ (· * ·) (block0 m c t _ _ (y 0).isLt k.isLt) (block5 m c t _ _ (y 1).isLt k.isLt)

/-- Both points of a pair see the pair's gradient. -/
theorem dm_val (c : Dev nD) (t : Fin cfg0.N) (y : S512x1024.Idx) :
    (dmS m c (t.val + 1) : S512x1024.Idx → EReal) y = dmE m c (t.val / 2 * 512 + (y 0).val) (y 1).val := by
  by_cases h : t.val % 2 = 0
  · exact dm_at m c t h y
  · rw [dmS_odd m c t h]
    have e := dm_at m c ⟨t.val - 1, Nat.lt_of_le_of_lt (Nat.sub_le _ _) t.isLt⟩ (by dsimp only; omega) y
    dsimp only at e
    rw [show t.val - 1 + 1 = t.val by omega, show (t.val - 1) / 2 = t.val / 2 by omega] at e
    exact e

theorem dbo_at_lo (c : Dev nD) (t : Fin cfg0.N) (y : S512x1024.Idx) :
    (k0_pay11 (dmS m c (t.val + 1)) (gLo (b2 m c t)) : S512x1024.Idx → EReal) y
      = dmE m c (t.val / 2 * 512 + (y 0).val) (y 1).val * sgE m c (t.val / 2 * 512 + (y 0).val) (2 * (t.val % 2) + 0) (y 1).val := by
  have h1 : (y 1).val < 1024 := (y 1).isLt
  rw [dbo_lo, dm_val, at2_of (gLo (b2 m c t) : S512x1024.Idx → EReal) y _ _ rfl rfl, gLo_at _ _ _ (y 0).isLt (y 1).isLt,
    block2 m c t _ _ (y 0).isLt (by omega)]
  unfold sgE
  rw [show (3 + t.val % 2) * 2048 + (0 + (y 1).val) = 6144 + (2 * (t.val % 2) + 0) * 1024 + (y 1).val by omega]

theorem dbo_at_hi (c : Dev nD) (t : Fin cfg0.N) (y : S512x1024.Idx) :
    (k0_pay16 (dmS m c (t.val + 1)) (gHi (b2 m c t)) : S512x1024.Idx → EReal) y
      = dmE m c (t.val / 2 * 512 + (y 0).val) (y 1).val * sgE m c (t.val / 2 * 512 + (y 0).val) (2 * (t.val % 2) + 1) (y 1).val := by
  have h1 : (y 1).val < 1024 := (y 1).isLt
  rw [dbo_hi, dm_val, at2_of (gHi (b2 m c t) : S512x1024.Idx → EReal) y _ _ rfl rfl, gHi_at _ _ _ (y 0).isLt (y 1).isLt,
    block2 m c t _ _ (y 0).isLt (by omega)]
  unfold sgE
  rw [show (3 + t.val % 2) * 2048 + (1024 + (y 1).val) = 6144 + (2 * (t.val % 2) + 1) * 1024 + (y 1).val by omega]

theorem dgate_at_lo (c : Dev nD) (t : Fin cfg0.N) (y : S512x1024.Idx) :
    (k0_pay12 (dmS m c (t.val + 1)) (zLo (b1 m c t)) (rowLo (grid0.coords t) (b4 m c t)) (gLo (b2 m c t)) : S512x1024.Idx → EReal) y
      = dmE m c (t.val / 2 * 512 + (y 0).val) (y 1).val * boE m c (t.val / 2 * 512 + (y 0).val) (2 * (t.val % 2) + 0) (y 1).val
        * sgE m c (t.val / 2 * 512 + (y 0).val) (2 * (t.val % 2) + 0) (y 1).val
        * (1 - sgE m c (t.val / 2 * 512 + (y 0).val) (2 * (t.val % 2) + 0) (y 1).val) := by
  have h0 : (y 0).val < 512 := (y 0).isLt
  have h1 : (y 1).val < 1024 := (y 1).isLt
  have hg : gate ((gLo (b2 m c t) : S512x1024.Idx → EReal) y) = sgE m c (t.val / 2 * 512 + (y 0).val) (2 * (t.val % 2) + 0) (y 1).val := by
    rw [at2_of (gLo (b2 m c t) : S512x1024.Idx → EReal) y _ _ rfl rfl, gLo_at _ _ _ h0 h1, block2 m c t _ _ h0 (by omega)]
    unfold sgE
    rw [show (3 + t.val % 2) * 2048 + (0 + (y 1).val) = 6144 + (2 * (t.val % 2) + 0) * 1024 + (y 1).val by omega]
  have hb : (∑ k : Fin 512, at2 (zLo (b1 m c t) : S512x512.Idx → EReal) (y 0).val k.val
      * at3 (rowLo (grid0.coords t) (b4 m c t) : S1x512x1024.Idx → EReal) 0 k.val (y 1).val)
      = boE m c (t.val / 2 * 512 + (y 0).val) (2 * (t.val % 2) + 0) (y 1).val := by
    refine Finset.sum_congr rfl fun k _ => ?_
    have hk : k.val < 512 := k.isLt
    rw [zLo_at _ _ _ h0 hk, block1 m c t _ _ h0 (by omega), rowLo_at _ _ _ _ _ (coord_half t) hk h1, block4 m c t _ _ _ (by omega) hk h1,
      show t.val % 2 * 1024 + (0 + k.val) = (2 * (t.val % 2) + 0) * 512 + k.val by omega]
  rw [dgate_lo, dm_val, hg, hb]

theorem dgate_at_hi (c : Dev nD) (t : Fin cfg0.N) (y : S512x1024.Idx) :
    (k0_pay17 (dmS m c (t.val + 1)) (zHi (b1 m c t)) (rowHi (grid0.coords t) (b4 m c t)) (gHi (b2 m c t)) : S512x1024.Idx → EReal) y
      = dmE m c (t.val / 2 * 512 + (y 0).val) (y 1).val * boE m c (t.val / 2 * 512 + (y 0).val) (2 * (t.val % 2) + 1) (y 1).val
        * sgE m c (t.val / 2 * 512 + (y 0).val) (2 * (t.val % 2) + 1) (y 1).val
        * (1 - sgE m c (t.val / 2 * 512 + (y 0).val) (2 * (t.val % 2) + 1) (y 1).val) := by
  have h0 : (y 0).val < 512 := (y 0).isLt
  have h1 : (y 1).val < 1024 := (y 1).isLt
  have hg : gate ((gHi (b2 m c t) : S512x1024.Idx → EReal) y) = sgE m c (t.val / 2 * 512 + (y 0).val) (2 * (t.val % 2) + 1) (y 1).val := by
    rw [at2_of (gHi (b2 m c t) : S512x1024.Idx → EReal) y _ _ rfl rfl, gHi_at _ _ _ h0 h1, block2 m c t _ _ h0 (by omega)]
    unfold sgE
    rw [show (3 + t.val % 2) * 2048 + (1024 + (y 1).val) = 6144 + (2 * (t.val % 2) + 1) * 1024 + (y 1).val by omega]
  have hb : (∑ k : Fin 512, at2 (zHi (b1 m c t) : S512x512.Idx → EReal) (y 0).val k.val
      * at3 (rowHi (grid0.coords t) (b4 m c t) : S1x512x1024.Idx → EReal) 0 k.val (y 1).val)
      = boE m c (t.val / 2 * 512 + (y 0).val) (2 * (t.val % 2) + 1) (y 1).val := by
    refine Finset.sum_congr rfl fun k _ => ?_
    have hk : k.val < 512 := k.isLt
    rw [zHi_at _ _ _ h0 hk, block1 m c t _ _ h0 (by omega), rowHi_at _ _ _ _ _ (coord_half t) hk h1, block4 m c t _ _ _ (by omega) hk h1,
      show t.val % 2 * 1024 + (512 + k.val) = (2 * (t.val % 2) + 1) * 512 + k.val by omega]
  rw [dgate_hi, dm_val, hg, hb]

end Cert.KernelIdeal.Merge

end
-- ==== Proof.MergeSums.lean ====
/-
  The running sums of the merge's backward launch and the blocks it writes, over the extended reals.
-/
module

public import proofs.«01_k».proof.Proof.MergeBlocks

@[expose] public section

noncomputable section

namespace Cert.KernelIdeal.Merge

open Cert.KernelIdeal Cert.KernelIdeal.Gen Cert.Tables
open Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-! ## The two written blocks -/

/-- The gradient of branch `k`'s output. -/
def dboE (c : Dev nD) (r k q : ℕ) : EReal := dmE m c r q * sgE m c r k q
/-- The gradient of branch `k`'s gate input. -/
def dgE (c : Dev nD) (r k q : ℕ) : EReal := dmE m c r q * boE m c r k q * sgE m c r k q * (1 - sgE m c r k q)

theorem out6_at (c : Dev nD) (t : Fin cfg0.N) (y : S512x2048.Idx) :
    (out6 (dmS m c (t.val + 1)) (b2 m c t) : S512x2048.Idx → EReal) y
      = dboE m c (t.val / 2 * 512 + (y 0).val) ((t.val % 2 * 2048 + (y 1).val) / 1024) ((t.val % 2 * 2048 + (y 1).val) % 1024) := by
  unfold out6
  refine View.canon_eq_of_allAt _ y _ (half_cover _ _ y) ?_
  refine View.allAt_cons_unit _ _ _ _ _ (fun x hx => ?_) (View.allAt_cons_unit _ _ _ _ _ (fun x hx => ?_) (View.allAt_nil _ _))
  · have e0 : (y 0).val = 0 + (x 0).val := hx 0
    have e1 : (y 1).val = 1024 + (x 1).val := hx 1
    have l1 : (x 1).val < 1024 := (x 1).isLt
    refine (dbo_at_hi m c t x).trans ?_
    unfold dboE
    rw [e0, e1, Nat.zero_add, show (t.val % 2 * 2048 + (1024 + (x 1).val)) / 1024 = 2 * (t.val % 2) + 1 by omega,
      show (t.val % 2 * 2048 + (1024 + (x 1).val)) % 1024 = (x 1).val by omega]
  · have e0 : (y 0).val = 0 + (x 0).val := hx 0
    have e1 : (y 1).val = 0 + (x 1).val := hx 1
    have l1 : (x 1).val < 1024 := (x 1).isLt
    refine (dbo_at_lo m c t x).trans ?_
    unfold dboE
    rw [e0, e1, Nat.zero_add, show (t.val % 2 * 2048 + (0 + (x 1).val)) / 1024 = 2 * (t.val % 2) + 0 by omega,
      show (t.val % 2 * 2048 + (0 + (x 1).val)) % 1024 = (x 1).val by omega]

theorem out7_at (c : Dev nD) (t : Fin cfg0.N) (y : S512x2048.Idx) :
    (out7 (grid0.coords t) (dmS m c (t.val + 1)) (b1 m c t) (b2 m c t) (b4 m c t) : S512x2048.Idx → EReal) y
      = dgE m c (t.val / 2 * 512 + (y 0).val) ((t.val % 2 * 2048 + (y 1).val) / 1024) ((t.val % 2 * 2048 + (y 1).val) % 1024) := by
  unfold out7
  refine View.canon_eq_of_allAt _ y _ (half_cover _ _ y) ?_
  refine View.allAt_cons_unit _ _ _ _ _ (fun x hx => ?_) (View.allAt_cons_unit _ _ _ _ _ (fun x hx => ?_) (View.allAt_nil _ _))
  · have e0 : (y 0).val = 0 + (x 0).val := hx 0
    have e1 : (y 1).val = 1024 + (x 1).val := hx 1
    have l1 : (x 1).val < 1024 := (x 1).isLt
    refine (dgate_at_hi m c t x).trans ?_
    unfold dgE
    rw [e0, e1, Nat.zero_add, show (t.val % 2 * 2048 + (1024 + (x 1).val)) / 1024 = 2 * (t.val % 2) + 1 by omega,
      show (t.val % 2 * 2048 + (1024 + (x 1).val)) % 1024 = (x 1).val by omega]
  · have e0 : (y 0).val = 0 + (x 0).val := hx 0
    have e1 : (y 1).val = 0 + (x 1).val := hx 1
    have l1 : (x 1).val < 1024 := (x 1).isLt
    refine (dgate_at_lo m c t x).trans ?_
    unfold dgE
    rw [e0, e1, Nat.zero_add, show (t.val % 2 * 2048 + (0 + (x 1).val)) / 1024 = 2 * (t.val % 2) + 0 by omega,
      show (t.val % 2 * 2048 + (0 + (x 1).val)) % 1024 = (x 1).val by omega]

/-! ## The branch tables' sums -/

/-- The products of the tokens of row block `i` for an entry of branch `k`'s table. -/
def wbStrip (c : Dev nD) (i k j q : ℕ) : EReal :=
  ∑ r : Fin 512, at2 (zA m c) (i * 512 + r.val) (k * 512 + j) * dboE m c (i * 512 + r.val) k q

/-- A point's addition to the lower of its two rows. -/
theorem wb_at_lo (c : Dev nD) (t : Fin cfg0.N) (w : Vec Ideal S1x512x1024 .f32) (y : S1x512x1024.Idx) :
    (k0_pay13 (k0_pay9 (zLo (b1 m c t))) (k0_pay11 (dmS m c (t.val + 1)) (gLo (b2 m c t))) w : S1x512x1024.Idx → EReal) y
      = w y + wbStrip m c (t.val / 2) (2 * (t.val % 2) + 0) (y 1).val (y 2).val := by
  have h1 : (y 1).val < 512 := (y 1).isLt
  have h2 : (y 2).val < 1024 := (y 2).isLt
  rw [wb_lo]
  refine congrArg (w y + ·) (Finset.sum_congr rfl fun k _ => ?_)
  have hk : k.val < 512 := k.isLt
  refine congrArg₂ (· * ·) ?_ ?_
  · rw [zLo_at _ _ _ hk h1, block1 m c t _ _ hk (by omega),
      show t.val % 2 * 1024 + (0 + (y 1).val) = (2 * (t.val % 2) + 0) * 512 + (y 1).val by omega]
  · rw [← at2_of (k0_pay11 (dmS m c (t.val + 1)) (gLo (b2 m c t)) : S512x1024.Idx → EReal) (ix2 ⟨k.val, hk⟩ ⟨(y 2).val, h2⟩) k.val (y 2).val rfl rfl]
    exact dbo_at_lo m c t (ix2 ⟨k.val, hk⟩ ⟨(y 2).val, h2⟩)

/-- A point's addition to the upper of its two rows. -/
theorem wb_at_hi (c : Dev nD) (t : Fin cfg0.N) (w : Vec Ideal S1x512x1024 .f32) (y : S1x512x1024.Idx) :
    (k0_pay1 (k0_pay14 (zHi (b1 m c t))) (k0_pay16 (dmS m c (t.val + 1)) (gHi (b2 m c t))) w : S1x512x1024.Idx → EReal) y
      = w y + wbStrip m c (t.val / 2) (2 * (t.val % 2) + 1) (y 1).val (y 2).val := by
  have h1 : (y 1).val < 512 := (y 1).isLt
  have h2 : (y 2).val < 1024 := (y 2).isLt
  rw [wb_hi]
  refine congrArg (w y + ·) (Finset.sum_congr rfl fun k _ => ?_)
  have hk : k.val < 512 := k.isLt
  refine congrArg₂ (· * ·) ?_ ?_
  · rw [zHi_at _ _ _ hk h1, block1 m c t _ _ hk (by omega),
      show t.val % 2 * 1024 + (512 + (y 1).val) = (2 * (t.val % 2) + 1) * 512 + (y 1).val by omega]
  · rw [← at2_of (k0_pay16 (dmS m c (t.val + 1)) (gHi (b2 m c t)) : S512x1024.Idx → EReal) (ix2 ⟨k.val, hk⟩ ⟨(y 2).val, h2⟩) k.val (y 2).val rfl rfl]
    exact dbo_at_hi m c t (ix2 ⟨k.val, hk⟩ ⟨(y 2).val, h2⟩)

abbrev rLo (i : grid0.Coords) : Rect S4x512x1024 := Rect.unit (s := S4x512x1024) (k0_off1 i 0#32) S1x512x1024.size (k0_off1_inb i 0)
abbrev rHi (i : grid0.Coords) : Rect S4x512x1024 := Rect.unit (s := S4x512x1024) (k0_off1 i 1#32) S1x512x1024.size (k0_off1_inb i 1)

theorem row_in_lo (t : Fin cfg0.N) (y : S4x512x1024.Idx) : y ∈ (rLo (grid0.coords t)).set ↔ (y 0).val = 2 * (t.val % 2) + 0 := by
  have h0 : (k0_off1 (grid0.coords t) 0#32) 0 = 2 * (t.val % 2) + 0 := (congrFun (k0_off1_eq (grid0.coords t) 0) 0).trans (congrArg (2 * · + 0) (coord_half t))
  have h1 : (k0_off1 (grid0.coords t) 0#32) 1 = 0 := congrFun (k0_off1_eq (grid0.coords t) 0) 1
  have h2 : (k0_off1 (grid0.coords t) 0#32) 2 = 0 := congrFun (k0_off1_eq (grid0.coords t) 0) 2
  have y1 : (y 1).val < 512 := (y 1).isLt
  have y2 : (y 2).val < 1024 := (y 2).isLt
  rw [Rect.mem_set_unit]
  constructor
  · intro h
    have := h 0
    have a : (k0_off1 (grid0.coords t) 0#32) 0 ≤ (y 0).val ∧ (y 0).val < (k0_off1 (grid0.coords t) 0#32) 0 + 1 := this
    omega
  · intro h a
    match a with
    | ⟨0, _⟩ => show (k0_off1 (grid0.coords t) 0#32) 0 ≤ (y 0).val ∧ (y 0).val < (k0_off1 (grid0.coords t) 0#32) 0 + 1; omega
    | ⟨1, _⟩ => show (k0_off1 (grid0.coords t) 0#32) 1 ≤ (y 1).val ∧ (y 1).val < (k0_off1 (grid0.coords t) 0#32) 1 + 512; omega
    | ⟨2, _⟩ => show (k0_off1 (grid0.coords t) 0#32) 2 ≤ (y 2).val ∧ (y 2).val < (k0_off1 (grid0.coords t) 0#32) 2 + 1024; omega

theorem row_in_hi (t : Fin cfg0.N) (y : S4x512x1024.Idx) : y ∈ (rHi (grid0.coords t)).set ↔ (y 0).val = 2 * (t.val % 2) + 1 := by
  have h0 : (k0_off1 (grid0.coords t) 1#32) 0 = 2 * (t.val % 2) + 1 := (congrFun (k0_off1_eq (grid0.coords t) 1) 0).trans (congrArg (2 * · + 1) (coord_half t))
  have h1 : (k0_off1 (grid0.coords t) 1#32) 1 = 0 := congrFun (k0_off1_eq (grid0.coords t) 1) 1
  have h2 : (k0_off1 (grid0.coords t) 1#32) 2 = 0 := congrFun (k0_off1_eq (grid0.coords t) 1) 2
  have y1 : (y 1).val < 512 := (y 1).isLt
  have y2 : (y 2).val < 1024 := (y 2).isLt
  rw [Rect.mem_set_unit]
  constructor
  · intro h
    have := h 0
    have a : (k0_off1 (grid0.coords t) 1#32) 0 ≤ (y 0).val ∧ (y 0).val < (k0_off1 (grid0.coords t) 1#32) 0 + 1 := this
    omega
  · intro h a
    match a with
    | ⟨0, _⟩ => show (k0_off1 (grid0.coords t) 1#32) 0 ≤ (y 0).val ∧ (y 0).val < (k0_off1 (grid0.coords t) 1#32) 0 + 1; omega
    | ⟨1, _⟩ => show (k0_off1 (grid0.coords t) 1#32) 1 ≤ (y 1).val ∧ (y 1).val < (k0_off1 (grid0.coords t) 1#32) 1 + 512; omega
    | ⟨2, _⟩ => show (k0_off1 (grid0.coords t) 1#32) 2 ≤ (y 2).val ∧ (y 2).val < (k0_off1 (grid0.coords t) 1#32) 2 + 1024; omega

/-- What a store through a rectangle leaves under the rectangle, and elsewhere. -/
theorem wb_under (f : Vec Ideal S4x512x1024 .f32) (r : Rect S4x512x1024) (p : r.shape.Idx → EReal) (L : List (View.Piece (Elt Ideal) S4x512x1024 .f32)) (x : r.shape.Idx) :
    (wbM.view.writes (Elt Ideal) f ((⟨r, p⟩ : View.Piece (Elt Ideal) S4x512x1024 .f32) :: L) : S4x512x1024.Idx → EReal) (r.emb x) = p x :=
  View.write_emb_of_mem (v := wbM.view.slice r) (Val := Elt Ideal) _ _ (Finset.mem_univ x)
theorem wb_beside (f : Vec Ideal S4x512x1024 .f32) (r : Rect S4x512x1024) (p : r.shape.Idx → EReal) (L : List (View.Piece (Elt Ideal) S4x512x1024 .f32)) (y : S4x512x1024.Idx) (h : y ∉ r.set) :
    (wbM.view.writes (Elt Ideal) f ((⟨r, p⟩ : View.Piece (Elt Ideal) S4x512x1024 .f32) :: L) : S4x512x1024.Idx → EReal) y
      = (wbM.view.writes (Elt Ideal) f L : S4x512x1024.Idx → EReal) y := by
  refine View.write_of_not_mem (v := wbM.view.slice r) (Val := Elt Ideal) _ _ _ ?_
  rw [View.setOn_univ]
  show y ∉ ((View.whole cc0_scratch2).slice r).set
  rw [View.set_slice_whole]
  exact h

theorem wbStep_at (c : Dev nD) (t : Fin cfg0.N) (wb : Vec Ideal S4x512x1024 .f32) (y : S4x512x1024.Idx) :
    (wbStep (grid0.coords t) (dmS m c (t.val + 1)) (b1 m c t) (b2 m c t) wb : S4x512x1024.Idx → EReal) y
      = if (y 0).val / 2 = t.val % 2 then wb y + wbStrip m c (t.val / 2) (y 0).val (y 1).val (y 2).val else wb y := by
  have y0 : (y 0).val < 4 := (y 0).isLt
  unfold wbStep
  by_cases hH : y ∈ (rHi (grid0.coords t)).set
  · have e := (row_in_hi t y).mp hH
    rw [if_pos (by omega)]
    obtain ⟨x, rfl⟩ := (rHi (grid0.coords t)).exists_idx_of_mem hH
    refine (wb_under wb (rHi (grid0.coords t)) _ _ x).trans ?_
    refine (wb_at_hi m c t _ x).trans ?_
    have x1 : (((rHi (grid0.coords t)).idx x) 1).val = (x 1).val := (Rect.idx_unit_val _ _ _ x 1).trans ((congrArg (· + (x 1).val) (congrFun (k0_off1_eq (grid0.coords t) 1) 1)).trans (Nat.zero_add _))
    have x2 : (((rHi (grid0.coords t)).idx x) 2).val = (x 2).val := (Rect.idx_unit_val _ _ _ x 2).trans ((congrArg (· + (x 2).val) (congrFun (k0_off1_eq (grid0.coords t) 1) 2)).trans (Nat.zero_add _))
    rw [e, x1, x2]
  · refine (wb_beside wb (rHi (grid0.coords t)) _ _ y hH).trans ?_
    have nH : ¬ (y 0).val = 2 * (t.val % 2) + 1 := fun e => hH ((row_in_hi t y).mpr e)
    by_cases hL : y ∈ (rLo (grid0.coords t)).set
    · have e := (row_in_lo t y).mp hL
      rw [if_pos (by omega)]
      obtain ⟨x, rfl⟩ := (rLo (grid0.coords t)).exists_idx_of_mem hL
      refine (wb_under wb (rLo (grid0.coords t)) _ _ x).trans ?_
      refine (wb_at_lo m c t _ x).trans ?_
      have x1 : (((rLo (grid0.coords t)).idx x) 1).val = (x 1).val := (Rect.idx_unit_val _ _ _ x 1).trans ((congrArg (· + (x 1).val) (congrFun (k0_off1_eq (grid0.coords t) 0) 1)).trans (Nat.zero_add _))
      have x2 : (((rLo (grid0.coords t)).idx x) 2).val = (x 2).val := (Rect.idx_unit_val _ _ _ x 2).trans ((congrArg (· + (x 2).val) (congrFun (k0_off1_eq (grid0.coords t) 0) 2)).trans (Nat.zero_add _))
      rw [e, x1, x2]
    · have nL : ¬ (y 0).val = 2 * (t.val % 2) + 0 := fun e => hL ((row_in_lo t y).mpr e)
      rw [if_neg (by omega)]
      exact wb_beside wb (rLo (grid0.coords t)) _ [] y hL

theorem wb_sums (c : Dev nD) : ∀ (n : ℕ), n ≤ 32 → ∀ (y : S4x512x1024.Idx),
    (wbS m c n : S4x512x1024.Idx → EReal) y
      = ∑ i ∈ Finset.range ((n + 1 - (y 0).val / 2) / 2), wbStrip m c i (y 0).val (y 1).val (y 2).val
  | 0, _, y => by
    rw [show (0 + 1 - (y 0).val / 2) / 2 = 0 by omega]
    exact wb_clear y
  | n + 1, h, y => by
    have y0 : (y 0).val < 4 := (y 0).isLt
    have ih := wb_sums c n (by omega) y
    have hN : n < cfg0.N := by show n < grid0.N; rw [N_0]; omega
    have e := wbStep_at m c ⟨n, hN⟩ (wbS m c n) y
    rw [← wbS_succ m c ⟨n, hN⟩] at e
    refine e.trans ?_
    dsimp only
    by_cases hp : (y 0).val / 2 = n % 2
    · rw [if_pos hp, ih, show (n + 1 + 1 - (y 0).val / 2) / 2 = (n + 1 - (y 0).val / 2) / 2 + 1 by omega, Finset.sum_range_succ,
        show (n + 1 - (y 0).val / 2) / 2 = n / 2 by omega]
    · rw [if_neg hp, ih, show (n + 1 + 1 - (y 0).val / 2) / 2 = (n + 1 - (y 0).val / 2) / 2 by omega]

/-- The branch tables' gradient. -/
def gwbE (c : Dev nD) (k j q : ℕ) : EReal := ∑ r : Fin 8192, at2 (zA m c) r.val (k * 512 + j) * dboE m c r.val k q

theorem wb_total (c : Dev nD) (y : S4x512x1024.Idx) :
    (wbS m c 32 : S4x512x1024.Idx → EReal) y = gwbE m c (y 0).val (y 1).val (y 2).val := by
  have y0 : (y 0).val < 4 := (y 0).isLt
  rw [wb_sums m c 32 le_rfl y, show (32 + 1 - (y 0).val / 2) / 2 = 16 by omega]
  unfold gwbE wbStrip
  rw [Fin.sum_univ_tiles 16 512 rfl, Finset.sum_range]

/-! ## The output projection's sum -/

def woStrip (c : Dev nD) (i j q : ℕ) : EReal :=
  ∑ r : Fin 512, at2 (mgA m c) (i * 512 + r.val) j * at2 (dxA m c) (i * 512 + r.val) q

theorem wo_sums (c : Dev nD) : ∀ (n : ℕ), n ≤ 32 → ∀ (y : S1024x1024.Idx),
    (woS m c n : S1024x1024.Idx → EReal) y = ∑ i ∈ Finset.range ((n + 1) / 2), woStrip m c i (y 0).val (y 1).val
  | 0, _, y => wo_clear y
  | n + 1, h, y => by
    have ih := wo_sums c n (by omega) y
    have hN : n < cfg0.N := by show n < grid0.N; rw [N_0]; omega
    by_cases hp : n % 2 = 0
    · refine (congrFun (woS_even m c ⟨n, hN⟩ hp) y).trans ?_
      rw [wo_apply, ih, show (n + 1 + 1) / 2 = (n + 1) / 2 + 1 by omega, Finset.sum_range_succ,
        show (n + 1) / 2 = n / 2 by omega]
      refine congrArg (_ + ·) (Finset.sum_congr rfl fun k _ => ?_)
      exact congrArg₂ (· * ·) (block3 m c ⟨n, hN⟩ _ _ k.isLt (y 0).isLt) (block0 m c ⟨n, hN⟩ _ _ k.isLt (y 1).isLt)
    · refine (congrFun (woS_odd m c ⟨n, hN⟩ hp) y).trans ?_
      rw [ih, show (n + 1 + 1) / 2 = (n + 1) / 2 by omega]

/-- The output projection's gradient. -/
def gwoE (c : Dev nD) (j q : ℕ) : EReal := ∑ r : Fin 8192, at2 (mgA m c) r.val j * at2 (dxA m c) r.val q

theorem wo_total (c : Dev nD) (y : S1024x1024.Idx) :
    (woS m c 32 : S1024x1024.Idx → EReal) y = gwoE m c (y 0).val (y 1).val := by
  rw [wo_sums m c 32 le_rfl y]
  unfold gwoE woStrip
  rw [Fin.sum_univ_tiles 16 512 rfl, Finset.sum_range]

end Cert.KernelIdeal.Merge

end
-- ==== Proof.MergeOperands.lean ====
/-
  The operands of the merge's backward launch, from the arguments: casts are the identity over the extended reals, and
  the merged rows are the four gated branches summed.
-/
module

public import proofs.«01_k».proof.Proof.MergeSums

@[expose] public section

noncomputable section

namespace Cert.KernelIdeal.Merge

open Cert.KernelIdeal Cert.KernelIdeal.Gen Cert.Tables
open Idealize.ShloMosaic Idealize.ShloMosaic.TcCoe Idealize.SL.Sem
open Idealize.ShloMosaic.Pipeline (Dat)

/-! ## The host's values -/

section Host
variable {F : FTy → Type} [FloatOps F]

def onesH : FVec F S8192x1024 .f32 := broadcastInDim S8192x1024 ![] bcast_S_S8192x1024 (constant S_ .f32 0x3F800000#32)
def zerosH : FVec F S8192x1024 .f32 := broadcastInDim S8192x1024 ![] bcast_S_S8192x1024 (constant S_ .f32 0x00000000#32)
/-- A branch's gate, from its columns. -/
def gateH (g : FVec F S8192x1024 .f32) : FVec F S8192x1024 .f32 := Host.divf onesH (addf onesH (Host.exp (Host.negf g)))
/-- A branch's output, from its values and its table. -/
def branchH (z : FVec F S8192x1x512 .f32) (w : FVec F S1x512x1024 .f32) : FVec F S8192x1024 .f32 :=
  Host.dotGeneral dot_S8192x512_S512x1024_S8192x1024_1_0_0_1_n_n none (shapeCast S8192x512 z shapeCasts_S8192x1x512_S8192x512)
    (shapeCast S512x1024 w shapeCasts_S1x512x1024_S512x1024)
/-- The merged rows. -/
def mergedH (z : FVec F S8192x4x512 .f32) (p : FVec F S8192x10240 .f32) (w : FVec F S4x512x1024 .f32) : FVec F S8192x1024 .f32 :=
  addf (addf (addf (addf zerosH
    (mulf (gateH (extractStridedSlice S8192x1024 ![0, 6144] p slices_S8192x10240_S8192x1024_0_6144))
      (branchH (extractStridedSlice S8192x1x512 ![0, 0, 0] z slices_S8192x4x512_S8192x1x512_0_0_0) (extractStridedSlice S1x512x1024 ![0, 0, 0] w slices_S4x512x1024_S1x512x1024_0_0_0))))
    (mulf (gateH (extractStridedSlice S8192x1024 ![0, 7168] p slices_S8192x10240_S8192x1024_0_7168))
      (branchH (extractStridedSlice S8192x1x512 ![0, 1, 0] z slices_S8192x4x512_S8192x1x512_0_1_0) (extractStridedSlice S1x512x1024 ![1, 0, 0] w slices_S4x512x1024_S1x512x1024_1_0_0))))
    (mulf (gateH (extractStridedSlice S8192x1024 ![0, 8192] p slices_S8192x10240_S8192x1024_0_8192))
      (branchH (extractStridedSlice S8192x1x512 ![0, 2, 0] z slices_S8192x4x512_S8192x1x512_0_2_0) (extractStridedSlice S1x512x1024 ![2, 0, 0] w slices_S4x512x1024_S1x512x1024_2_0_0))))
    (mulf (gateH (extractStridedSlice S8192x1024 ![0, 9216] p slices_S8192x10240_S8192x1024_0_9216))
      (branchH (extractStridedSlice S8192x1x512 ![0, 3, 0] z slices_S8192x4x512_S8192x1x512_0_3_0) (extractStridedSlice S1x512x1024 ![3, 0, 0] w slices_S4x512x1024_S1x512x1024_3_0_0)))

end Host

variable (m : (ℓ : Loc nD τ sig) → Buf (Elt Ideal) ℓ) (ρ : Dev nD → PrngReg)

/-- The five arguments, as tables. -/
abbrev dxT (c : Dev nD) : S8192x1024.Idx → EReal := m ((c : Thread nD τ).loc main_arg0)
abbrev zT (c : Dev nD) : S8192x4x512.Idx → EReal := m ((c : Thread nD τ).loc main_arg1)
abbrev pT (c : Dev nD) : S8192x10240.Idx → EReal := m ((c : Thread nD τ).loc main_arg2)
abbrev wT (c : Dev nD) : S4x512x1024.Idx → EReal := m ((c : Thread nD τ).loc main_arg3)
abbrev woT (c : Dev nD) : S1024x1024.Idx → EReal := m ((c : Thread nD τ).loc main_arg4)

theorem operand0 (c : Dev nD) : @Eq (FVec Ideal S8192x1024 .f32) (V m c main_arg0) (m ((c : Thread nD τ).loc main_arg0)) := by
  unfold V
  simp only [hostOps0]
  after_results
theorem operand1 (c : Dev nD) : @Eq (FVec Ideal S8192x2048 .bf16) (V m c main_v58)
    (shapeCast S8192x2048 (truncf .bf16 (m ((c : Thread nD τ).loc main_arg1) : FVec Ideal S8192x4x512 .f32) bitsLt_bf16_f32) shapeCasts_S8192x4x512_S8192x2048) := by
  unfold V
  simp only [hostOps0]
  after_results
  rfl
theorem operand2 (c : Dev nD) : @Eq (FVec Ideal S8192x10240 .bf16) (V m c main_v59)
    (truncf .bf16 (m ((c : Thread nD τ).loc main_arg2) : FVec Ideal S8192x10240 .f32) bitsLt_bf16_f32) := by
  unfold V
  simp only [hostOps0]
  after_results
theorem operand4 (c : Dev nD) : @Eq (FVec Ideal S4x512x1024 .bf16) (V m c main_v61)
    (truncf .bf16 (m ((c : Thread nD τ).loc main_arg3) : FVec Ideal S4x512x1024 .f32) bitsLt_bf16_f32) := by
  unfold V
  simp only [hostOps0]
  after_results
theorem operand5 (c : Dev nD) : @Eq (FVec Ideal S1024x1024 .bf16) (V m c main_v62)
    (truncf .bf16 (m ((c : Thread nD τ).loc main_arg4) : FVec Ideal S1024x1024 .f32) bitsLt_bf16_f32) := by
  unfold V
  simp only [hostOps0]
  after_results
theorem operand3 (c : Dev nD) : @Eq (FVec Ideal S8192x1024 .bf16) (V m c main_v60)
    (truncf .bf16 (mergedH (m ((c : Thread nD τ).loc main_arg1) : FVec Ideal S8192x4x512 .f32) (m ((c : Thread nD τ).loc main_arg2) : FVec Ideal S8192x10240 .f32)
      (m ((c : Thread nD τ).loc main_arg3) : FVec Ideal S4x512x1024 .f32)) bitsLt_bf16_f32) := by
  unfold V
  simp only [hostOps0]
  after_results
  rfl

theorem dxA_eq (c : Dev nD) : dxA m c = dxT m c := operand0 m c
theorem pA_eq (c : Dev nD) : pA m c = pT m c := (operand2 m c).trans (funext fun _ => rfl)
theorem wA_eq (c : Dev nD) : wA m c = wT m c := (operand4 m c).trans (funext fun _ => rfl)
theorem woA_eq (c : Dev nD) : woA m c = woT m c := (operand5 m c).trans (funext fun _ => rfl)
theorem zA_at (c : Dev nD) (r k j : ℕ) (hr : r < 8192) (hk : k < 4) (hj : j < 512) :
    at2 (zA m c) r (k * 512 + j) = at3 (zT m c) r k j := by
  rw [← at2_of (zA m c) (ix2 ⟨r, hr⟩ ⟨k * 512 + j, by omega⟩) r (k * 512 + j) rfl rfl,
    ← at3_of (zT m c) (ix3 ⟨r, hr⟩ ⟨k, hk⟩ ⟨j, hj⟩) r k j rfl rfl rfl]
  refine (congrFun (operand1 m c) _).trans ?_
  refine shapeCast_apply _ shapeCasts_S8192x4x512_S8192x2048 _ (ix3 ⟨r, hr⟩ ⟨k, hk⟩ ⟨j, hj⟩) ?_
  rewrite [Shape.rowMajor_val_three, Shape.rowMajor_val_two]
  show (r * 4 + k) * 512 + j = r * 2048 + (k * 512 + j)
  omega

/-! ## The merged rows, entry by entry -/

theorem gateH_at (p : FVec Ideal S8192x10240 .f32) (o : ℕ) (h) (y : S8192x1024.Idx) :
    (gateH (extractStridedSlice S8192x1024 ![0, o] p h) : S8192x1024.Idx → EReal) y = gate (at2 (p : S8192x10240.Idx → EReal) (y 0).val (o + (y 1).val)) := by
  have e : (extractStridedSlice S8192x1024 ![0, o] p h : S8192x1024.Idx → EReal) y = at2 (p : S8192x10240.Idx → EReal) (y 0).val (o + (y 1).val) :=
    at2_of p _ _ _ (by show 0 + (y 0).val = _; omega) rfl
  rw [← e]
  unfold gateH onesH gate
  generalize extractStridedSlice S8192x1024 ![0, o] p h = g
  pointwise
  rfl

theorem branchH_at (z : FVec Ideal S8192x4x512 .f32) (w : FVec Ideal S4x512x1024 .f32) (k : ℕ) (hz) (hw) (y : S8192x1024.Idx) :
    (branchH (extractStridedSlice S8192x1x512 ![0, k, 0] z hz) (extractStridedSlice S1x512x1024 ![k, 0, 0] w hw) : S8192x1024.Idx → EReal) y
      = ∑ j : Fin 512, at3 (z : S8192x4x512.Idx → EReal) (y 0).val k j.val * at3 (w : S4x512x1024.Idx → EReal) k j.val (y 1).val := by
  have ez : ∀ j : Fin 512, at3 (z : S8192x4x512.Idx → EReal) (y 0).val k j.val = (extractStridedSlice S8192x1x512 ![0, k, 0] z hz : S8192x1x512.Idx → EReal) (ix3 (y 0) 0 j) := fun j =>
    (at3_of z _ _ _ _ (by show 0 + (y 0).val = _; omega) (by show k + 0 = _; omega) (by show 0 + j.val = _; omega)).symm
  have ew : ∀ j : Fin 512, at3 (w : S4x512x1024.Idx → EReal) k j.val (y 1).val = (extractStridedSlice S1x512x1024 ![k, 0, 0] w hw : S1x512x1024.Idx → EReal) (ix3 0 j (y 1)) := fun j =>
    (at3_of w _ _ _ _ (by show k + 0 = _; omega) (by show 0 + j.val = _; omega) (by show 0 + (y 1).val = _; omega)).symm
  simp only [ez, ew]
  generalize extractStridedSlice S8192x1x512 ![0, k, 0] z hz = z'
  generalize extractStridedSlice S1x512x1024 ![k, 0, 0] w hw = w'
  obtain ⟨r, q, rfl⟩ : ∃ (r : Fin 8192) (q : Fin 1024), y = ix2 r q := ⟨y 0, y 1, eq_ix2 y⟩
  unfold branchH
  pointwise [dot_S8192x512_S512x1024_S8192x1024_1_0_0_1_n_n]

/-! ## The gradients, from the arguments -/

/-- The gradient of the merged rows. -/
def dmF (dx : S8192x1024.Idx → EReal) (wo : S1024x1024.Idx → EReal) (r q : ℕ) : EReal := ∑ k : Fin 1024, at2 dx r k.val * at2 wo q k.val
/-- A branch's output. -/
def boF (z : S8192x4x512.Idx → EReal) (w : S4x512x1024.Idx → EReal) (r k q : ℕ) : EReal := ∑ j : Fin 512, at3 z r k j.val * at3 w k j.val q
/-- A branch's gate. -/
def sgF (p : S8192x10240.Idx → EReal) (r k q : ℕ) : EReal := gate (at2 p r (6144 + k * 1024 + q))
/-- The merged rows. -/
def mgF (z : S8192x4x512.Idx → EReal) (p : S8192x10240.Idx → EReal) (w : S4x512x1024.Idx → EReal) (r q : ℕ) : EReal :=
  ∑ k : Fin 4, sgF p r k.val q * boF z w r k.val q

theorem mgA_at (c : Dev nD) (r q : ℕ) (hr : r < 8192) (hq : q < 1024) : at2 (mgA m c) r q = mgF (zT m c) (pT m c) (wT m c) r q := by
  rw [← at2_of (mgA m c) (ix2 ⟨r, hr⟩ ⟨q, hq⟩) r q rfl rfl]
  refine (congrFun (operand3 m c) _).trans ?_
  show (mergedH (F := Ideal) (zT m c) (pT m c) (wT m c) : S8192x1024.Idx → EReal) (ix2 ⟨r, hr⟩ ⟨q, hq⟩) = _
  unfold mergedH
  refine (congrArg₂ (· + ·) (congrArg₂ (· + ·) (congrArg₂ (· + ·) (congrArg₂ (· + ·) (?_ : _ = (0 : EReal))
    (congrArg₂ (· * ·) (gateH_at _ _ _ _) (branchH_at _ _ _ _ _ _))) (congrArg₂ (· * ·) (gateH_at _ _ _ _) (branchH_at _ _ _ _ _ _)))
    (congrArg₂ (· * ·) (gateH_at _ _ _ _) (branchH_at _ _ _ _ _ _))) (congrArg₂ (· * ·) (gateH_at _ _ _ _) (branchH_at _ _ _ _ _ _))).trans ?_
  · unfold zerosH
    pointwise
  · rw [zero_add]
    unfold mgF
    rw [Fin.sum_univ_four]
    rfl

theorem dmE_eq (c : Dev nD) (r q : ℕ) : dmE m c r q = dmF (dxT m c) (woT m c) r q := by
  unfold dmE dmF
  rw [dxA_eq, woA_eq]
theorem sgE_eq (c : Dev nD) (r k q : ℕ) : sgE m c r k q = sgF (pT m c) r k q := by
  unfold sgE sgF
  rw [pA_eq]
theorem boE_eq (c : Dev nD) (r k q : ℕ) (hr : r < 8192) (hk : k < 4) : boE m c r k q = boF (zT m c) (wT m c) r k q := by
  unfold boE boF
  rw [wA_eq]
  refine Finset.sum_congr rfl fun j _ => ?_
  rw [zA_at m c r k j.val hr hk j.isLt]

/-- The gradient of the branches' outputs. -/
def dboT (dx : S8192x1024.Idx → EReal) (p : S8192x10240.Idx → EReal) (wo : S1024x1024.Idx → EReal) : S8192x4096.Idx → EReal := fun i =>
  dmF dx wo (i 0).val ((i 1).val % 1024) * sgF p (i 0).val ((i 1).val / 1024) ((i 1).val % 1024)
/-- The gradient of the gates' inputs, the columns from 6144 on. -/
def dgT (dx : S8192x1024.Idx → EReal) (z : S8192x4x512.Idx → EReal) (p : S8192x10240.Idx → EReal) (w : S4x512x1024.Idx → EReal) (wo : S1024x1024.Idx → EReal) :
    S8192x10240.Idx → EReal := fun i =>
  dmF dx wo (i 0).val (((i 1).val - 6144) % 1024) * boF z w (i 0).val (((i 1).val - 6144) / 1024) (((i 1).val - 6144) % 1024)
    * sgF p (i 0).val (((i 1).val - 6144) / 1024) (((i 1).val - 6144) % 1024)
    * (1 - sgF p (i 0).val (((i 1).val - 6144) / 1024) (((i 1).val - 6144) % 1024))
/-- The gradient of the output projection. -/
def gwoT (dx : S8192x1024.Idx → EReal) (z : S8192x4x512.Idx → EReal) (p : S8192x10240.Idx → EReal) (w : S4x512x1024.Idx → EReal) : S1024x1024.Idx → EReal := fun i =>
  ∑ r : Fin 8192, mgF z p w r.val (i 0).val * at2 dx r.val (i 1).val
/-- The gradient of the branch tables, in shards of 128 columns. -/
def gwbT (dx : S8192x1024.Idx → EReal) (z : S8192x4x512.Idx → EReal) (p : S8192x10240.Idx → EReal) (wo : S1024x1024.Idx → EReal) : S8x4x512x128.Idx → EReal := fun i =>
  ∑ r : Fin 8192, at3 z r.val (i 1).val (i 2).val
    * (dmF dx wo r.val (128 * (i 0).val + (i 3).val) * sgF p r.val (i 1).val (128 * (i 0).val + (i 3).val))

theorem gwo_eq (c : Dev nD) (y : S1024x1024.Idx) : gwoE m c (y 0).val (y 1).val = gwoT (dxT m c) (zT m c) (pT m c) (wT m c) y := by
  unfold gwoE gwoT
  rw [dxA_eq]
  refine Finset.sum_congr rfl fun r _ => ?_
  rw [mgA_at m c r.val (y 0).val r.isLt (y 0).isLt]

theorem gwb_eq (c : Dev nD) (i : S8x4x512x128.Idx) :
    gwbE m c (i 1).val (i 2).val (128 * (i 0).val + (i 3).val) = gwbT (dxT m c) (zT m c) (pT m c) (woT m c) i := by
  unfold gwbE gwbT
  refine Finset.sum_congr rfl fun r _ => ?_
  rw [zA_at m c r.val (i 1).val (i 2).val r.isLt (i 1).isLt (i 2).isLt]
  unfold dboE
  rw [dmE_eq, sgE_eq]

end Cert.KernelIdeal.Merge

end
-- ==== Proof.MergeValue.lean ====
/-
  What the merge's backward launch leaves in its six results, over the extended reals.
-/
module

public import proofs.«01_k».proof.Proof.MergeOperands

@[expose] public section

noncomputable section

namespace Cert.KernelIdeal.Merge

open Cert.KernelIdeal Cert.KernelIdeal.Gen Cert.Tables
open Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- The point that writes the block of a row and a half of the branches. -/
theorem point_lt (r h : ℕ) (hr : r < 8192) (hh : h < 2) : 2 * (r / 512) + h < cfg0.N := by
  show _ < grid0.N
  rw [N_0]
  omega

theorem dbo_of (c : Dev nD) (i : S8192x4096.Idx) (r C : ℕ) (hr : (i 0).val = r) (hC : (i 1).val = C) :
    dboE m c r (C / 1024) (C % 1024) = dboT (dxT m c) (pT m c) (woT m c) i := by
  subst hr hC
  unfold dboE dboT
  rw [dmE_eq, sgE_eq]

set_option maxRecDepth 16384 in
theorem flushed_dbo (c : Dev nD) (t : Fin cfg0.N) (hf : (cfg0.win 6).flush t = true) :
    (dats m 0 c).flushed 6 t = ((cfg0.win 6).blk t).view.read (Elt Ideal) (dboT (dxT m c) (pT m c) (woT m c)) := by
  show (cfg0.win 6).cut (grid0.coords t) ((dats m 0 c).after 6 t) = _
  rw [after_6]
  funext y
  rw [View.read_apply]
  refine (out6_at m c t y).trans ?_
  have e0 := win0_6.rect_emb_val t y 0
  have e1 := win0_6.rect_emb_val t y 1
  rw [(map6 t).1] at e0
  rw [(map6 t).2] at e1
  exact dbo_of m c _ _ _ e0 e1

theorem covered_dbo (i : S8192x4096.Idx) : ∃ t : Fin cfg0.N, (cfg0.win 6).flush t = true ∧ i ∈ ((cfg0.win 6).blk t).view.set := by
  have h0 : (i 0).val < 8192 := (i 0).isLt
  have h1 : (i 1).val < 4096 := (i 1).isLt
  have hN : 2 * ((i 0).val / 512) + (i 1).val / 2048 < cfg0.N := point_lt _ _ h0 (by omega)
  obtain ⟨t, ht⟩ : ∃ t : Fin cfg0.N, t.val = 2 * ((i 0).val / 512) + (i 1).val / 2048 := ⟨⟨_, hN⟩, rfl⟩
  refine ⟨t, flush0_6 t, ?_⟩
  obtain ⟨m0, m1⟩ := map6 t
  show i ∈ ((View.whole main_v63_0).slice (win0_6.rect t)).set
  rw [View.set_slice_whole, Rect.mem_set_unit]
  intro a
  match a with
  | ⟨0, _⟩ =>
    show win0_6.index t 0 * 512 ≤ (i 0).val ∧ (i 0).val < win0_6.index t 0 * 512 + 512
    rw [m0]; omega
  | ⟨1, _⟩ =>
    show win0_6.index t 1 * 2048 ≤ (i 1).val ∧ (i 1).val < win0_6.index t 1 * 2048 + 2048
    rw [m1]; omega

theorem dg_of (c : Dev nD) (i : S8192x10240.Idx) (r C : ℕ) (hr : (i 0).val = r) (hC : (i 1).val = 6144 + C) (hC4 : C < 4096) :
    dgE m c r (C / 1024) (C % 1024) = dgT (dxT m c) (zT m c) (pT m c) (wT m c) (woT m c) i := by
  have h0 : (i 0).val < 8192 := (i 0).isLt
  unfold dgE dgT
  rw [hC, Nat.add_sub_cancel_left, dmE_eq, sgE_eq, boE_eq m c r _ _ (by omega) (by omega), hr]

set_option maxRecDepth 16384 in
/-- Every written entry of the projection's gradient. -/
theorem entry_dg (c : Dev nD) (t : Fin cfg0.N) (i : S8192x10240.Idx) (hi : i ∈ ((cfg0.win 7).blk t).view.set) :
    ((dats m 0 c).arrAt 7 cfg0.N : S8192x10240.Idx → EReal) i = dgT (dxT m c) (zT m c) (pT m c) (wT m c) (woT m c) i := by
  refine Dat.arrAt_forall_of_flushed (dat := dats m 0 c) 7
    (fun i v => (show EReal from v) = dgT (dxT m c) (zT m c) (pT m c) (wT m c) (woT m c) i) (fun t' hf y => ?_) cfg0.N t i t.isLt (flush0_7 t) hi
  show (cfg0.win 7).cut (grid0.coords t') ((dats m 0 c).after 7 t') y = _
  rw [after_7]
  refine (out7_at m c t' y).trans ?_
  have e0 := win0_7.rect_emb_val t' y 0
  have e1 := win0_7.rect_emb_val t' y 1
  rw [(map7 t').1] at e0
  rw [(map7 t').2] at e1
  have y1 : (y 1).val < 2048 := (y 1).isLt
  refine dg_of m c _ _ _ e0 (e1.trans ?_) (by omega)
  show (3 + t'.val % 2) * 2048 + (y 1).val = 6144 + (t'.val % 2 * 2048 + (y 1).val)
  omega

theorem covered_dg (i : S8192x10240.Idx) (hi : 6144 ≤ (i 1).val) : ∃ t : Fin cfg0.N, i ∈ ((cfg0.win 7).blk t).view.set := by
  have h0 : (i 0).val < 8192 := (i 0).isLt
  have h1 : (i 1).val < 10240 := (i 1).isLt
  have hN : 2 * ((i 0).val / 512) + ((i 1).val - 6144) / 2048 < cfg0.N := point_lt _ _ h0 (by omega)
  obtain ⟨t, ht⟩ : ∃ t : Fin cfg0.N, t.val = 2 * ((i 0).val / 512) + ((i 1).val - 6144) / 2048 := ⟨⟨_, hN⟩, rfl⟩
  refine ⟨t, ?_⟩
  obtain ⟨m0, m1⟩ := map7 t
  show i ∈ ((View.whole main_v63_1).slice (win0_7.rect t)).set
  rw [View.set_slice_whole, Rect.mem_set_unit]
  intro a
  match a with
  | ⟨0, _⟩ =>
    show win0_7.index t 0 * 512 ≤ (i 0).val ∧ (i 0).val < win0_7.index t 0 * 512 + 512
    rw [m0]; omega
  | ⟨1, _⟩ =>
    show win0_7.index t 1 * 2048 ≤ (i 1).val ∧ (i 1).val < win0_7.index t 1 * 2048 + 2048
    rw [m1]; omega

attribute [local irreducible] woS wbS

theorem whole_gwo (c : Dev nD) : (woS m c 32 : S1024x1024.Idx → EReal) = gwoT (dxT m c) (zT m c) (pT m c) (wT m c) :=
  funext fun y => (wo_total m c y).trans (gwo_eq m c y)
theorem whole_gwb (c : Dev nD) : (layout (wbS m c 32 : S4x512x1024.Idx → EReal) : S8x4x512x128.Idx → EReal) = gwbT (dxT m c) (zT m c) (pT m c) (woT m c) :=
  funext fun i => (wb_total m c _).trans (gwb_eq m c i)
theorem half_gwo (c : Dev nD) : (k0_pay2 (woS m c 32) : S1024x1024.Idx → EReal) = gwoT (dxT m c) (zT m c) (pT m c) (wT m c) :=
  (funext fun y => wo_half _ y).trans (whole_gwo m c)
theorem half_gwb (c : Dev nD) : (layout (k0_pay3 (wbS m c 32) : S4x512x1024.Idx → EReal) : S8x4x512x128.Idx → EReal) = gwbT (dxT m c) (zT m c) (pT m c) (woT m c) :=
  (funext fun i => wb_half _ _).trans (whole_gwb m c)

/-- The run: the six results, and the arguments unchanged. -/
theorem run_value : θ_run defs (onTc (τ := τ) (main (F := Ideal))) ⟨m, fun _ => 0, ρ⟩ fun r => ∀ c : Dev nD,
      r.2.mem ((c : Thread nD τ).loc main_v63_0) = dboT (dxT m c) (pT m c) (woT m c)
      ∧ (∀ i : S8192x10240.Idx, 6144 ≤ (i 1).val →
          (r.2.mem ((c : Thread nD τ).loc main_v63_1) : S8192x10240.Idx → EReal) i = dgT (dxT m c) (zT m c) (pT m c) (wT m c) (woT m c) i)
      ∧ r.2.mem ((c : Thread nD τ).loc main_v63_2) = gwoT (dxT m c) (zT m c) (pT m c) (wT m c)
      ∧ r.2.mem ((c : Thread nD τ).loc main_v63_3) = gwoT (dxT m c) (zT m c) (pT m c) (wT m c)
      ∧ r.2.mem ((c : Thread nD τ).loc main_v63_4) = gwbT (dxT m c) (zT m c) (pT m c) (woT m c)
      ∧ r.2.mem ((c : Thread nD τ).loc main_v63_5) = gwbT (dxT m c) (zT m c) (pT m c) (woT m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => by
      have hR := h.1.toR
      refine ⟨?_, fun i hi => ?_, ?_, ?_, ?_, ?_, args_kept m hR c⟩
      · exact ((h.1.1 c).1 6).trans ((dats m 0 c).arrAt_eq_of_cover 6 _ (flushed_dbo m c) covered_dbo)
      · obtain ⟨t, ht⟩ := covered_dg i hi
        exact (congrFun ((h.1.1 c).1 7) i).trans (entry_dg m c t i ht)
      · exact ((h.1.2 c main_v63_2 (by decide)).trans (G_2 m c)).trans (whole_gwo m c)
      · exact ((h.1.2 c main_v63_3 (by decide)).trans (G_3 m c)).trans (half_gwo m c)
      · exact ((h.1.2 c main_v63_4 (by decide)).trans (G_4 m c)).trans (whole_gwb m c)
      · exact ((h.1.2 c main_v63_5 (by decide)).trans (G_5 m c)).trans (half_gwb m c))
    (run_main m ρ)

end Cert.KernelIdeal.Merge

end
-- ==== Proof.MergeReference.lean ====
/-
  The reference's derivative of the merge, entry by entry, against the tables the launch leaves.
-/
module

public import proofs.«01_k».proof.Proof.MergeOperands
public import proofs.«01_k».proof.Proof.Gen.ReferenceIdeal.Read
public import Idealize.ShloMosaic.Lib.KernelVsHost

@[expose] public section

noncomputable section

namespace Cert.ReferenceIdeal.Merge

open Cert.ReferenceIdeal Cert.ReferenceIdeal.Gen Cert.ReferenceIdeal.Read Cert.Tables
open Cert.KernelIdeal.Merge (gate dmF boF sgF mgF dboT dgT gwoT gwbT)
open Idealize.ShloMosaic Idealize.ShloMosaic.TcCoe Idealize.SL.Sem

variable (dx : S8192x1024.Idx → EReal) (z : S8192x4x512.Idx → EReal) (p : S8192x10240.Idx → EReal)
  (w : S4x512x1024.Idx → EReal) (wo : S1024x1024.Idx → EReal)

/-- The gate. -/
theorem gate_at (i : S8192x4x1024.Idx) : (val_main_v9 (F := Ideal) p : S8192x4x1024.Idx → EReal) i = sgF p (i 0).val (i 1).val (i 2).val := by
  have h0 : (i 0).val < 8192 := (i 0).isLt
  have h1 : (i 1).val < 4 := (i 1).isLt
  have h2 : (i 2).val < 1024 := (i 2).isLt
  have e : (val_main_v3 (F := Ideal) p : S8192x4x1024.Idx → EReal) i = at2 p (i 0).val (6144 + (i 1).val * 1024 + (i 2).val) := by
    rw [val_main_v3_apply, val_main_v2_apply]
    refine at2_of p _ _ _ ?_ ?_
    · show (((i 0).val * 4 + (i 1).val) * 1024 + (i 2).val) / 4096 = (i 0).val
      omega
    · show 6144 + (((i 0).val * 4 + (i 1).val) * 1024 + (i 2).val) % 4096 = 6144 + (i 1).val * 1024 + (i 2).val
      omega
  unfold sgF gate
  rw [← e, val_main_v9_apply, val_main_v7_apply, val_main_v5_apply, val_main_v4_apply, val_main_v8_apply, val_main_v6_apply]
  generalize val_main_v3 (F := Ideal) p i = g
  unfold val_main_cst val_main_cst_0
  pointwise
  rfl

theorem one_at (i : S8192x4x1024.Idx) : (val_main_v10 (F := Ideal) : S8192x4x1024.Idx → EReal) i = 1 := by
  rw [val_main_v10_apply]
  unfold val_main_cst_1
  pointwise

/-- A branch's output. -/
theorem branch_at (i : S8192x4x1024.Idx) : (val_main_v1 (F := Ideal) z w : S8192x4x1024.Idx → EReal) i = boF z w (i 0).val (i 1).val (i 2).val := by
  rw [val_main_v1_apply, val_main_v0_apply]
  unfold boF
  refine Finset.sum_congr rfl fun j _ => ?_
  rw [mul_comm]
  exact congrArg₂ (· * ·) (at3_of z _ _ _ _ rfl rfl rfl) (at3_of w _ _ _ _ rfl rfl rfl)

/-- The gradient of the merged rows. -/
theorem dm_at (i : S8192x4x1024.Idx) : (val_main_v19 (F := Ideal) dx wo : S8192x4x1024.Idx → EReal) i = dmF dx wo (i 0).val (i 2).val := by
  rw [val_main_v19_apply, val_main_v18_apply]
  unfold dmF
  refine Finset.sum_congr rfl fun j _ => ?_
  exact congrArg₂ (· * ·) (at2_of dx _ _ _ rfl rfl) (at2_of wo _ _ _ rfl rfl)

/-- The gradient of a branch's output. -/
theorem dbo_at (i : S8192x4x1024.Idx) :
    (val_main_v20 (F := Ideal) dx p wo : S8192x4x1024.Idx → EReal) i = dmF dx wo (i 0).val (i 2).val * sgF p (i 0).val (i 1).val (i 2).val := by
  rw [val_main_v20_apply, gate_at, dm_at]
  exact mul_comm _ _

theorem result0 : (val_main_v33 (F := Ideal) dx p wo : S8192x4096.Idx → EReal) = dboT dx p wo := funext fun i => by
  have h0 : (i 0).val < 8192 := (i 0).isLt
  have h1 : (i 1).val < 4096 := (i 1).isLt
  rw [val_main_v33_apply]
  show (val_main_v32 (F := Ideal) dx p wo : S8192x4096.Idx → EReal) i = _
  rw [val_main_v32_apply, dbo_at]
  unfold dboT
  show dmF dx wo (((i 0).val * 4096 + (i 1).val) / 4096) (((i 0).val * 4096 + (i 1).val) % 1024)
    * sgF p (((i 0).val * 4096 + (i 1).val) / 4096) (((i 0).val * 4096 + (i 1).val) / 1024 % 4) (((i 0).val * 4096 + (i 1).val) % 1024) = _
  rw [show ((i 0).val * 4096 + (i 1).val) / 4096 = (i 0).val by omega, show ((i 0).val * 4096 + (i 1).val) % 1024 = (i 1).val % 1024 by omega,
    show ((i 0).val * 4096 + (i 1).val) / 1024 % 4 = (i 1).val / 1024 by omega]

theorem dgate_at (i : S8192x4x1024.Idx) :
    (val_main_v22 (F := Ideal) dx z p w wo : S8192x4x1024.Idx → EReal) i
      = dmF dx wo (i 0).val (i 2).val * boF z w (i 0).val (i 1).val (i 2).val * sgF p (i 0).val (i 1).val (i 2).val
        * (1 - sgF p (i 0).val (i 1).val (i 2).val) := by
  rw [val_main_v22_apply, val_main_v21_apply, val_main_v12_apply, val_main_v11_apply, gate_at, dm_at, branch_at, one_at]
  exact (mul_assoc _ _ _).symm

theorem column_split (i : S8192x10240.Idx) (C : ℕ) (hlt : C < 4096) :
    dmF dx wo (((i 0).val * 4096 + C) / 4096) (((i 0).val * 4096 + C) % 1024)
      * boF z w (((i 0).val * 4096 + C) / 4096) (((i 0).val * 4096 + C) / 1024 % 4) (((i 0).val * 4096 + C) % 1024)
      * sgF p (((i 0).val * 4096 + C) / 4096) (((i 0).val * 4096 + C) / 1024 % 4) (((i 0).val * 4096 + C) % 1024)
      * (1 - sgF p (((i 0).val * 4096 + C) / 4096) (((i 0).val * 4096 + C) / 1024 % 4) (((i 0).val * 4096 + C) % 1024))
      = dmF dx wo (i 0).val (C % 1024) * boF z w (i 0).val (C / 1024) (C % 1024) * sgF p (i 0).val (C / 1024) (C % 1024)
        * (1 - sgF p (i 0).val (C / 1024) (C % 1024)) := by
  have e0 : ((i 0).val * 4096 + C) / 4096 = (i 0).val := by omega
  have e1 : ((i 0).val * 4096 + C) / 1024 % 4 = C / 1024 := by omega
  have e2 : ((i 0).val * 4096 + C) % 1024 = C % 1024 := by omega
  rw [e0, e1, e2]

theorem result1 (i : S8192x10240.Idx) (hi : 6144 ≤ (i 1).val) :
    (val_main_v34 (F := Ideal) dx z p w wo : S8192x10240.Idx → EReal) i = dgT dx z p w wo i := by
  have h0 : (i 0).val < 8192 := (i 0).isLt
  have h1 : (i 1).val < 10240 := (i 1).isLt
  rw [val_main_v34_apply]
  show (val_main_v24 (F := Ideal) dx z p w wo : S8192x10240.Idx → EReal) i = _
  unfold val_main_v24
  refine (pad_apply_of_inside _ _ _ _ _ _ _ i (ix2 ⟨(i 0).val, h0⟩ ⟨(i 1).val - 6144, by omega⟩) ?_).trans ?_
  · have k0 : (i 0).val = 0 + (i 0).val * (0 + 1) := by omega
    have k1 : (i 1).val = 6144 + ((i 1).val - 6144) * (0 + 1) := by omega
    exact fun a => match a with
      | ⟨0, _⟩ => k0
      | ⟨1, _⟩ => k1
  rw [val_main_v23_apply, dgate_at]
  unfold dgT
  have hsub : ∀ C, (i 1).val - 6144 = C → C < 4096 := fun C e => by omega
  refine column_split dx z p w wo i ((i 1).val - 6144) (hsub _ rfl)

/-- The merged rows. -/
theorem merged_at (i : S8192x1024.Idx) : (val_main_v14 (F := Ideal) z p w : S8192x1024.Idx → EReal) i = mgF z p w (i 0).val (i 1).val := by
  rw [val_main_v14_apply]
  have e : (val_main_cst_2 (F := Ideal) : S_.Idx → EReal) (Shape.Idx.first h_S_) = 0 := by
    unfold val_main_cst_2
    pointwise
  rw [e, zero_add]
  unfold mgF
  refine Finset.sum_congr rfl fun k _ => ?_
  rw [val_main_v13_apply, gate_at, branch_at]
  rfl

theorem result2 : (val_main_v17 (F := Ideal) dx z p w : S1024x1024.Idx → EReal) = gwoT dx z p w := funext fun i => by
  rw [val_main_v17_apply, val_main_v16_apply]
  unfold gwoT
  refine Finset.sum_congr rfl fun r _ => ?_
  rw [mul_comm, merged_at]
  exact congrArg (mgF z p w r.val (i 0).val * ·) (at2_of dx _ _ _ rfl rfl)

theorem result3 : (val_main_v35 (F := Ideal) dx z p w : S1024x1024.Idx → EReal) = gwoT dx z p w :=
  (funext fun i => val_main_v35_apply (F := Ideal) dx z p w i).trans (result2 dx z p w)

theorem result4 : (val_main_v31 (F := Ideal) dx z p wo : S8x4x512x128.Idx → EReal) = gwbT dx z p wo := funext fun i => by
  have h0 : (i 0).val < 8 := (i 0).isLt
  have h1 : (i 1).val < 4 := (i 1).isLt
  have h2 : (i 2).val < 512 := (i 2).isLt
  have h3 : (i 3).val < 128 := (i 3).isLt
  rw [val_main_v31_apply, val_main_v30_apply, val_main_v29_apply, val_main_v28_apply]
  unfold gwbT
  refine Finset.sum_congr rfl fun r _ => ?_
  rw [val_main_v25_apply, dbo_at, mul_comm]
  have e0 : ((((i 1).val * 512 + (i 2).val) * 8 + (i 0).val) * 128 + (i 3).val) / 524288 = (i 1).val := by omega
  have e1 : ((((i 1).val * 512 + (i 2).val) * 8 + (i 0).val) * 128 + (i 3).val) / 1024 % 512 = (i 2).val := by omega
  have e2 : ((((i 1).val * 512 + (i 2).val) * 8 + (i 0).val) * 128 + (i 3).val) % 1024 = 128 * (i 0).val + (i 3).val := by omega
  refine congrArg₂ (· * ·) (at3_of z _ _ _ _ rfl e0 e1) ?_
  show dmF dx wo r.val (((((i 1).val * 512 + (i 2).val) * 8 + (i 0).val) * 128 + (i 3).val) % 1024)
    * sgF p r.val (((((i 1).val * 512 + (i 2).val) * 8 + (i 0).val) * 128 + (i 3).val) / 524288) (((((i 1).val * 512 + (i 2).val) * 8 + (i 0).val) * 128 + (i 3).val) % 1024) = _
  rw [e0, e2]

theorem result5 : (val_main_v36 (F := Ideal) dx z p wo : S8x4x512x128.Idx → EReal) = gwbT dx z p wo :=
  (funext fun i => val_main_v36_apply (F := Ideal) dx z p wo i).trans (result4 dx z p wo)

end Cert.ReferenceIdeal.Merge

end
-- ==== Proof.SameText3.lean ====
/- The kernel and its reading at the reals have the same text: a frame proved of the one over any float values is
   a frame of the other. -/
module

public import proofs.«01_k».proof.Defs
public import proofs.«01_k».proof.Proof.Gen.Kernel3
public import proofs.«01_k».proof.Proof.Gen.Kernel3Ideal

@[expose] public section

set_option backward.isDefEq.respectTransparency.types false
set_option backward.isDefEq.respectTransparency false
set_option maxHeartbeats 4000000

noncomputable section

namespace Cert.Kernel3.Same

open Idealize.ShloMosaic Idealize.SL.Sem

/-- The two bodies are the same. -/
theorem bodies : Cert.Kernel3.defs₀ (F := Bits) = Cert.Kernel3Ideal.defs₀ (F := Bits) := by
  refine congrArg Defs.onTc (funext fun l => ?_)
  match l with
  | 0 => exact funext fun a => rfl
  | ⟨n + 1, h⟩ => exact absurd h (by omega)
/-- So are the tables of what the programs call, -/
theorem defs : Cert.Kernel3.defs (F := Bits) = Cert.Kernel3Ideal.defs (F := Bits) :=
  congrArg (Pipeline.defs (Cert.Kernel3Ideal.pcfgs (F := Bits))) bodies
/-- and the host programs. -/
theorem main : Cert.Kernel3.main (F := Bits) = Cert.Kernel3Ideal.main (F := Bits) := rfl

/-- A run of the kernel is a run of its reading. -/
theorem run (m : (ℓ : Loc Cert.Kernel3Ideal.nD Cert.Kernel3Ideal.τ Cert.Kernel3Ideal.sig) → Buf (Elt Bits) ℓ) (ρ : Dev Cert.Kernel3Ideal.nD → PrngReg) :
    θ_run (Cert.Kernel3.defs (F := Bits)) (onTc (τ := Cert.Kernel3.τ) (Cert.Kernel3.main (F := Bits))) ⟨m, fun _ => 0, ρ⟩
      = θ_run (Cert.Kernel3Ideal.defs (F := Bits)) (onTc (τ := Cert.Kernel3Ideal.τ) (Cert.Kernel3Ideal.main (F := Bits))) ⟨m, fun _ => 0, ρ⟩ := by
  rw [defs, main]; exact rfl

end Cert.Kernel3.Same

end
-- ==== Proof.InProjRun.lean ====
module

public import proofs.«01_k».proof.Proof.Gen.Kernel3Ideal.Frame
public import proofs.«01_k».proof.Proof.Gen.Kernel3Ideal.Skeleton
public import Idealize.ShloMosaic.Lib.Pipeline.FrameValue
public import Idealize.ShloMosaic.Lib.Pipeline.Value

@[expose] public section

set_option maxRecDepth 16384

noncomputable section

namespace Cert.Kernel3Ideal.InProj

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! ## The buffers the body works in -/

abbrev xM : Memref sig .tc .hbm S8192x1024 .f32 := Memref.whole main_arg2
abbrev gM : Memref sig .tc .hbm S8192x1024 .f32 := Memref.whole main_arg4
abbrev accM : Memref sig .tc .vmem S1024x1024 .f32 := Memref.whole cc0_scratch0
abbrev xbM : Memref sig .tc .vmem S1024x1024 .f32 := Memref.whole cc0_scratch1
abbrev gbM : Memref sig .tc .vmem S1024x1024 .f32 := Memref.whole cc0_scratch2

/-- A whole buffer of this core, at these contents. -/
abbrev pt (c : Dev nD) {sp : Space} {S : Shape} {e : EltTy} (M : Memref sig .tc sp S e) (f : Buf (Elt F) (M.view.loc (c : Thread nD τ))) : sProp 𝕄 :=
  M.view.loc (c : Thread nD τ) ↦{fullShare} f

/-- What a point reads of its blocks. -/
abbrev dLo (x : Vec F S1024x2560 .bf16) : Vec F S1024x1280 .bf16 := View.ld x (Rect.unit (s := S1024x2560) ![0, 0] S1024x1280.size inb_S1024x2560_S1024x1280_0_0)
abbrev dHi (x : Vec F S1024x2560 .bf16) : Vec F S1024x1280 .bf16 := View.ld x (Rect.unit (s := S1024x2560) ![0, 1280] S1024x1280.size inb_S1024x2560_S1024x1280_0_1280)
abbrev wLo (x : Vec F S2x512x1280 .bf16) : Vec F S1x512x1280 .bf16 := View.ld x (Rect.unit (s := S2x512x1280) ![0, 0, 0] S1x512x1280.size inb_S2x512x1280_S1x512x1280_0_0_0)
abbrev wHi (x : Vec F S2x512x1280 .bf16) : Vec F S1x512x1280 .bf16 := View.ld x (Rect.unit (s := S2x512x1280) ![1, 0, 0] S1x512x1280.size inb_S2x512x1280_S1x512x1280_1_0_0)
abbrev aLo (x : Vec F S1024x1024 .f32) : Vec F S1024x512 .f32 := View.ld x (Rect.unit (s := S1024x1024) ![0, 0] S1024x512.size inb_S1024x1024_S1024x512_0_0)
abbrev aHi (x : Vec F S1024x1024 .f32) : Vec F S1024x512 .f32 := View.ld x (Rect.unit (s := S1024x1024) ![0, 512] S1024x512.size inb_S1024x1024_S1024x512_0_512)

/-- The gradient of the normalised rows after a point: each half of its columns with the point's two products added. -/
def accStep (x0 : Vec F S1024x2560 .bf16) (xu xl : Vec F S2x512x1280 .bf16) (a : Vec F S1024x1024 .f32) : Vec F S1024x1024 .f32 :=
  View.canon (Val := Elt F) (s := S1024x1024) (e := .f32)
    [⟨Rect.unit (s := S1024x1024) ![0, 512] S1024x512.size inb_S1024x1024_S1024x512_0_512, k0_pay1 (k0_pay12 (dLo x0)) (k0_pay13 (dHi x0)) (aHi a) (wLo xl) (wHi xl)⟩,
      ⟨Rect.unit (s := S1024x1024) ![0, 0] S1024x512.size inb_S1024x1024_S1024x512_0_0, k0_pay14 (dLo x0) (dHi x0) (aLo a) (wLo xu) (wHi xu)⟩]

/-- The two gradients of a block of rows, from its normalised rows' gradient, its rows, the scales and what comes from the layer after. -/
def dxOf (a x : Vec F S1024x1024 .f32) (g : Vec F S1x1024 .f32) (o : Vec F S1024x1024 .f32) : Vec F S1024x1024 .f32 :=
  k0_pay2 (k0_pay3 x) (k0_pay4 x) (k0_pay7 a x g o) (k0_pay8 a x g) (k0_pay9 (F := F))

/-- The four input blocks of a point, at these contents. -/
def ins (c : Dev nD) (arg2 : Memref sig .tc .vmem S1024x2560 .bf16) (arg3 arg4 : Memref sig .tc .vmem S2x512x1280 .bf16) (arg6 : Memref sig .tc .vmem S1x1024 .f32)
    (x0 : Vec F S1024x2560 .bf16) (xu xl : Vec F S2x512x1280 .bf16) (xg : Vec F S1x1024 .f32) : sProp 𝕄 :=
  iprop(owns (c : Thread nD τ) arg2 fullShare x0 ∗ owns (c : Thread nD τ) arg3 fullShare xu ∗ owns (c : Thread nD τ) arg4 fullShare xl
      ∗ owns (c : Thread nD τ) arg6 fullShare xg)

theorem half_cover (p q : Vec F S1024x512 .f32) (y : S1024x1024.Idx) :
    ∃ pc ∈ ([⟨Rect.unit (s := S1024x1024) ![0, 512] S1024x512.size inb_S1024x1024_S1024x512_0_512, p⟩,
      ⟨Rect.unit (s := S1024x1024) ![0, 0] S1024x512.size inb_S1024x1024_S1024x512_0_0, q⟩] : List (View.Piece (Elt F) S1024x1024 .f32)), y ∈ pc.1.set :=
  View.cover_of_tiledL ([⟨Rect.unit (s := S1024x1024) ![0, 512] S1024x512.size inb_S1024x1024_S1024x512_0_512, p⟩,
      ⟨Rect.unit (s := S1024x1024) ![0, 0] S1024x512.size inb_S1024x1024_S1024x512_0_0, q⟩] : List (View.Piece (Elt F) S1024x1024 .f32)) S1024x512.size (by sl_kernel_rfl) y

/-- Two stores that cover the running gradient leave what they store, whatever was there. -/
theorem acc_written (f : Vec F S1024x1024 .f32) (p q : Vec F S1024x512 .f32) :
    (accM.view.writes (Elt F) f [⟨Rect.unit (s := S1024x1024) ![0, 512] S1024x512.size inb_S1024x1024_S1024x512_0_512, p⟩,
      ⟨Rect.unit (s := S1024x1024) ![0, 0] S1024x512.size inb_S1024x1024_S1024x512_0_0, q⟩] : Vec F S1024x1024 .f32)
      = View.canon (Val := Elt F) (s := S1024x1024) (e := .f32) [⟨Rect.unit (s := S1024x1024) ![0, 512] S1024x512.size inb_S1024x1024_S1024x512_0_512, p⟩,
      ⟨Rect.unit (s := S1024x1024) ![0, 0] S1024x512.size inb_S1024x1024_S1024x512_0_0, q⟩] := by
  rw [← View.read_writes_eq_canon accM.view f _ (half_cover p q)]
  generalize accM.view.writes (Elt F) f _ = g
  rfl

theorem read_dLo (a : Memref sig .tc .vmem S1024x2560 .bf16) (h : a.IsWhole) (x : Vec F S1024x2560 .bf16) :
    View.readAt (Elt F) a.view (Rect.unit (s := S1024x2560) ![0, 0] S1024x1280.size inb_S1024x2560_S1024x1280_0_0).toLoadRect (h.unread x) = dLo x := by
  rw [View.readAt_eq_ld, h.read_unread]

theorem read_dHi (a : Memref sig .tc .vmem S1024x2560 .bf16) (h : a.IsWhole) (x : Vec F S1024x2560 .bf16) :
    View.readAt (Elt F) a.view (Rect.unit (s := S1024x2560) ![0, 1280] S1024x1280.size inb_S1024x2560_S1024x1280_0_1280).toLoadRect (h.unread x) = dHi x := by
  rw [View.readAt_eq_ld, h.read_unread]

theorem read_wLo (a : Memref sig .tc .vmem S2x512x1280 .bf16) (h : a.IsWhole) (x : Vec F S2x512x1280 .bf16) :
    View.readAt (Elt F) a.view (Rect.unit (s := S2x512x1280) ![0, 0, 0] S1x512x1280.size inb_S2x512x1280_S1x512x1280_0_0_0).toLoadRect (h.unread x) = wLo x := by
  rw [View.readAt_eq_ld, h.read_unread]

theorem read_wHi (a : Memref sig .tc .vmem S2x512x1280 .bf16) (h : a.IsWhole) (x : Vec F S2x512x1280 .bf16) :
    View.readAt (Elt F) a.view (Rect.unit (s := S2x512x1280) ![1, 0, 0] S1x512x1280.size inb_S2x512x1280_S1x512x1280_1_0_0).toLoadRect (h.unread x) = wHi x := by
  rw [View.readAt_eq_ld, h.read_unread]

theorem read_aLo (x : Vec F S1024x1024 .f32) :
    View.readAt (Elt F) accM.view (Rect.unit (s := S1024x1024) ![0, 0] S1024x512.size inb_S1024x1024_S1024x512_0_0).toLoadRect x = aLo x :=
  View.readAt_eq_ld _ _ _

theorem read_aHi (x : Vec F S1024x1024 .f32) :
    View.readAt (Elt F) accM.view (Rect.unit (s := S1024x1024) ![0, 512] S1024x512.size inb_S1024x1024_S1024x512_0_512).toLoadRect x = aHi x :=
  View.readAt_eq_ld _ _ _

theorem read_wLo' (a : Memref sig .tc .vmem S2x512x1280 .bf16) (h : a.IsWhole) (x : Vec F S2x512x1280 .bf16) :
    View.readAt (Elt F) a.view (Rect.unit (s := S2x512x1280) ![0, 0, 0] ![1, 512, 1280] inb_S2x512x1280_S1x512x1280_0_0_0).toLoadRect (h.unread x) = wLo x :=
  read_wLo a h x

theorem read_wHi' (a : Memref sig .tc .vmem S2x512x1280 .bf16) (h : a.IsWhole) (x : Vec F S2x512x1280 .bf16) :
    View.readAt (Elt F) a.view (Rect.unit (s := S2x512x1280) ![1, 0, 0] ![1, 512, 1280] inb_S2x512x1280_S1x512x1280_1_0_0).toLoadRect (h.unread x) = wHi x :=
  read_wHi a h x

theorem acc_written' (f : Vec F S1024x1024 .f32) (p q : Vec F S1024x512 .f32) :
    (accM.view.writes (Elt F) f [⟨Rect.unit (s := S1024x1024) ![0, 512] ![1024, 512] inb_S1024x1024_S1024x512_0_512, p⟩,
      ⟨Rect.unit (s := S1024x1024) ![0, 0] S1024x512.size inb_S1024x1024_S1024x512_0_0, q⟩] : Vec F S1024x1024 .f32)
      = View.canon (Val := Elt F) (s := S1024x1024) (e := .f32) [⟨Rect.unit (s := S1024x1024) ![0, 512] S1024x512.size inb_S1024x1024_S1024x512_0_512, p⟩,
      ⟨Rect.unit (s := S1024x1024) ![0, 0] S1024x512.size inb_S1024x1024_S1024x512_0_0, q⟩] :=
  acc_written f p q

theorem zeros2 : (![0, 0] : Fin 2 → ℕ) = fun _ => 0 := by decide

/-- The first store of a block of rows leaves all of the running gradient. -/
theorem acc_cleared (f z : Vec F S1024x1024 .f32) :
    (accM.view.writes (Elt F) f [⟨Rect.unit (s := S1024x1024) ![0, 0] S1024x1024.size inb_S1024x1024_S1024x1024_0_0, z⟩] : Vec F S1024x1024 .f32) = z :=
  Memref.write_access_unit_zero_univ (Elt F) cc0_scratch0 zeros2 inb_S1024x1024_S1024x1024_0_0 f z

theorem acc_read_cleared (f z : Vec F S1024x1024 .f32) :
    View.read (Elt F) accM.view (accM.view.writes (Elt F) f [⟨Rect.unit (s := S1024x1024) ![0, 0] S1024x1024.size inb_S1024x1024_S1024x1024_0_0, z⟩]) = z := by
  have h := acc_cleared f z
  generalize accM.view.writes (Elt F) f _ = g at h ⊢
  exact h

theorem cov_lo (z : Vec F S1024x1024 .f32) :
    accM.view.readCov (Val := Elt F) [⟨Rect.unit (s := S1024x1024) ![0, 0] S1024x1024.size inb_S1024x1024_S1024x1024_0_0, z⟩]
      (Rect.unit (s := S1024x1024) ![0, 0] S1024x512.size inb_S1024x1024_S1024x512_0_0).toLoadRect = aLo z := by
  unfold View.readCov
  rw [View.readAt_eq_ld, acc_read_cleared]

theorem halves_apart (y : S1024x512.Idx) :
    (Rect.unit (s := S1024x1024) ![0, 512] S1024x512.size inb_S1024x1024_S1024x512_0_512).emb y
      ∉ Finset.univ.map (Rect.unit (s := S1024x1024) ![0, 0] S1024x512.size inb_S1024x1024_S1024x512_0_0).emb := by
  intro hm
  obtain ⟨x, -, hx⟩ := Finset.mem_map.mp hm
  have e : 0 + 1 * (x 1).val = 512 + 1 * (y 1).val := congrArg Fin.val (congrFun hx 1)
  have hx1 : (x 1).val < 512 := (x 1).isLt
  omega

theorem cov_hi (p : Vec F S1024x512 .f32) (z : Vec F S1024x1024 .f32) :
    accM.view.readCov (Val := Elt F) [⟨Rect.unit (s := S1024x1024) ![0, 0] S1024x512.size inb_S1024x1024_S1024x512_0_0, p⟩,
        ⟨Rect.unit (s := S1024x1024) ![0, 0] S1024x1024.size inb_S1024x1024_S1024x1024_0_0, z⟩]
      (Rect.unit (s := S1024x1024) ![0, 512] S1024x512.size inb_S1024x1024_S1024x512_0_512).toLoadRect = aHi z := by
  unfold View.readCov
  rw [View.readAt_eq_ld, View.writes_cons]
  refine Eq.trans ?_ (congrArg (fun g => View.ld g (Rect.unit (s := S1024x1024) ![0, 512] S1024x512.size inb_S1024x1024_S1024x512_0_512)) (acc_read_cleared accM.view.junk z))
  generalize accM.view.writes (Elt F) _ _ = g
  funext y
  exact View.read_slice_write_of_not_mem (v := accM.view) (Val := Elt F) (Rect.unit (s := S1024x1024) ![0, 0] S1024x512.size inb_S1024x1024_S1024x512_0_0) g p _ (halves_apart y)

theorem acc_rewritten (f z : Vec F S1024x1024 .f32) (p q : Vec F S1024x512 .f32) :
    (accM.view.writes (Elt F) f [⟨Rect.unit (s := S1024x1024) ![0, 512] ![1024, 512] inb_S1024x1024_S1024x512_0_512, p⟩,
      ⟨Rect.unit (s := S1024x1024) ![0, 0] S1024x512.size inb_S1024x1024_S1024x512_0_0, q⟩,
      ⟨Rect.unit (s := S1024x1024) ![0, 0] S1024x1024.size inb_S1024x1024_S1024x1024_0_0, z⟩] : Vec F S1024x1024 .f32)
      = View.canon (Val := Elt F) (s := S1024x1024) (e := .f32) [⟨Rect.unit (s := S1024x1024) ![0, 512] S1024x512.size inb_S1024x1024_S1024x512_0_512, p⟩,
      ⟨Rect.unit (s := S1024x1024) ![0, 0] S1024x512.size inb_S1024x1024_S1024x512_0_0, q⟩] := by
  rw [View.writes_cons, View.writes_cons]
  generalize accM.view.writes (Elt F) f _ = g
  have h := acc_written' g p q
  rw [View.writes_cons, View.writes_cons, View.writes_nil] at h
  exact h

/-- The rows of an array that a point's copy carries. -/
def rowsOf (i : grid0.Coords) (h : k0_cond2 i = 1#1) (f : Vec F S8192x1024 .f32) : Vec F S1024x1024 .f32 :=
  View.ld f (Rect.unit (s := S8192x1024) (k0_off1 i) S1024x1024.size (k0_off1_inb i h))

/-- The two copies on their way: each brings its buffer at these contents and gives back the rows it reads. -/
def inFlight (c : Dev nD) (fx fg : Vec F S8192x1024 .f32) (x y : Vec F S1024x1024 .f32) : sProp 𝕄 :=
  iprop(∃ S S', Transfers.Flight countersEmb (c : Thread nD τ) (SemLoc.dma 10) default 131072 iprop(pt c xbM x ∗ (xM.view.loc (c : Thread nD τ) ↦[S]{fullShare} fx))
      ∗ (xM.view.loc (c : Thread nD τ) ↦[Finset.univ \ S]{fullShare} fx)
      ∗ Transfers.Flight countersEmb (c : Thread nD τ) (SemLoc.dma 11) default 131072 iprop(pt c gbM y ∗ (gM.view.loc (c : Thread nD τ) ↦[S']{fullShare} fg))
      ∗ (gM.view.loc (c : Thread nD τ) ↦[Finset.univ \ S']{fullShare} fg))

/-- Nothing on its way. -/
def atRest (c : Dev nD) (fx fg : Vec F S8192x1024 .f32) (x y : Vec F S1024x1024 .f32) : sProp 𝕄 :=
  iprop(pt c xbM x ∗ pt c gbM y ∗ pt c xM fx ∗ pt c gM fg ∗ semVal ((c : Thread nD τ), SemLoc.dma 10) 0 ∗ semVal ((c : Thread nD τ), SemLoc.dma 11) 0)

theorem pt_of {c : Dev nD} {sp : Space} {S : Shape} {e : EltTy} {M : Memref sig .tc sp S e}
    {f g : Buf (Elt F) (M.view.loc (c : Thread nD τ))} (hfg : f = g) : (pt c M f : sProp 𝕄) ⊢ pt c M g := hfg ▸ .rfl

theorem xb_landed (c : Dev nD) (f w g : Vec F S1024x1024 .f32) (h : w = g) :
    (pt c xbM (View.write (Elt F) xbM.view f w Finset.univ) : sProp 𝕄) ⊢ pt c xbM g :=
  pt_of ((View.write_whole_univ cc0_scratch1 f w).trans h)

theorem gb_landed (c : Dev nD) (f w g : Vec F S1024x1024 .f32) (h : w = g) :
    (pt c gbM (View.write (Elt F) gbM.view f w Finset.univ) : sProp 𝕄) ⊢ pt c gbM g :=
  pt_of ((View.write_whole_univ cc0_scratch2 f w).trans h)

/-- A store of a whole block, read back. -/
theorem read_stored {sp : Space} {S : Shape} {e : EltTy} (v : View sig .tc sp S e) (f : v.ty.Contents (Elt F)) {off : Fin S.rank → ℕ}
    (h : off = fun _ => 0) (inb : ∀ a, off a + S.size a ≤ S.size a) (w : S.Idx → Elt F e) :
    View.read (Elt F) v (v.writes (Elt F) f [⟨Rect.unit off S.size inb, w⟩]) = w := by
  rw [View.writes_singleton]
  funext y
  have hy : (Rect.unit off S.size inb).emb y = y := funext fun a => Fin.ext (by
    subst h
    exact (Nat.zero_add _).trans (Nat.one_mul _))
  have := View.read_writes_cons_emb (v := v) (f := f) (Rect.unit off S.size inb) w [] y
  rw [hy, View.writes_singleton] at this
  exact this

theorem cov_all (p q : Vec F S1024x512 .f32) :
    accM.view.readCov (Val := Elt F) [⟨Rect.unit (s := S1024x1024) ![0, 512] ![1024, 512] inb_S1024x1024_S1024x512_0_512, p⟩,
        ⟨Rect.unit (s := S1024x1024) ![0, 0] S1024x512.size inb_S1024x1024_S1024x512_0_0, q⟩]
      (Rect.unit (s := S1024x1024) ![0, 0] S1024x1024.size inb_S1024x1024_S1024x1024_0_0).toLoadRect
      = View.canon (Val := Elt F) (s := S1024x1024) (e := .f32) [⟨Rect.unit (s := S1024x1024) ![0, 512] S1024x512.size inb_S1024x1024_S1024x512_0_512, p⟩,
      ⟨Rect.unit (s := S1024x1024) ![0, 0] S1024x512.size inb_S1024x1024_S1024x512_0_0, q⟩] := by
  unfold View.readCov
  rw [View.readAt_eq_ld, View.ld_unit_zero (S := S1024x1024) zeros2]
  exact View.read_writes_eq_canon accM.view accM.view.junk _ (half_cover p q)

theorem read_xb (x : Vec F S1024x1024 .f32) :
    View.readAt (Elt F) xbM.view (Rect.unit (s := S1024x1024) ![0, 0] S1024x1024.size inb_S1024x1024_S1024x1024_0_0).toLoadRect x = x :=
  Memref.readAt_unit_zero (Elt F) cc0_scratch1 zeros2 inb_S1024x1024_S1024x1024_0_0 x

theorem read_gb (x : Vec F S1024x1024 .f32) :
    View.readAt (Elt F) gbM.view (Rect.unit (s := S1024x1024) ![0, 0] S1024x1024.size inb_S1024x1024_S1024x1024_0_0).toLoadRect x = x :=
  Memref.readAt_unit_zero (Elt F) cc0_scratch2 zeros2 inb_S1024x1024_S1024x1024_0_0 x

theorem read_row (a : Memref sig .tc .vmem S1x1024 .f32) (h : a.IsWhole) (x : Vec F S1x1024 .f32) :
    View.readAt (Elt F) a.view (Rect.unit (s := S1x1024) ![0, 0] S1x1024.size inb_S1x1024_S1x1024_0_0).toLoadRect (h.unread x) = x := by
  rw [View.readAt_eq_ld, h.read_unread]
  exact View.ld_unit_zero (S := S1x1024) zeros2 _ _

theorem run_C (c : Dev nD) (i : grid0.Coords) (arg2 : Memref sig .tc .vmem S1024x2560 .bf16) (harg2 : arg2.IsWhole) (arg3 : Memref sig .tc .vmem S2x512x1280 .bf16) (harg3 : arg3.IsWhole) (arg4 : Memref sig .tc .vmem S2x512x1280 .bf16) (harg4 : arg4.IsWhole)
    (arg6 : Memref sig .tc .vmem S1x1024 .f32) (harg6 : arg6.IsWhole) (arg8 : Memref sig .tc .vmem S1024x1024 .f32) (harg8 : arg8.IsWhole) (arg9 : Memref sig .tc .vmem S1x1024 .f32) (harg9 : arg9.IsWhole)
    (h1 : ¬ k0_cond1 i = 1#1) (h2 : ¬ k0_cond2 i = 1#1) (h3 : ¬ k0_cond3 i = 1#1)
    (x0 : Vec F S1024x2560 .bf16) (xu xl : Vec F S2x512x1280 .bf16) (xg : Vec F S1x1024 .f32) (a : Vec F S1024x1024 .f32)
    (K : PUnit → sProp 𝕄) :
    iprop(ins c arg2 arg3 arg4 arg6 x0 xu xl xg ∗ pt c accM a
      ∗ (iprop(ins c arg2 arg3 arg4 arg6 x0 xu xl xg ∗ pt c accM (accStep x0 xu xl a)) -∗ K ⟨⟩))
      ⊢ wp frame (wpE (defs₀ (F := F)) Variants.none c none) Set.univ
        (cc0_in_proj_bwd i arg2 harg2 arg3 harg3 arg4 harg4 xM (Memref.isWhole_whole _) arg6 harg6 gM (Memref.isWhole_whole _) arg8 harg8 arg9 harg9
          accM (Memref.isWhole_whole _) xbM (Memref.isWhole_whole _) gbM (Memref.isWhole_whole _) cc0_scratch3) K := by
  rw [cc0_in_proj_bwd_eq_skeleton]
  unfold cc0_in_proj_bwd_skel ins owns
  iintro ⟨⟨⟨%f0, %hf0, H0⟩, ⟨%f1, %hf1, H1⟩, ⟨%f2, %hf2, H2⟩, ⟨%f3, %hf3, H3⟩⟩, HA, Hk⟩
  obtain rfl := harg2.eq_unread hf0
  obtain rfl := harg3.eq_unread hf1
  obtain rfl := harg4.eq_unread hf2
  obtain rfl := harg6.eq_unread hf3
  simp only [k0_part2_eq_skeleton]
  unfold k0_part2_skel
  sl_exec (disch := first | sl_exact h1 | sl_exact h2 | sl_exact h3)
  sl_step
  iapply Hk
  sl_unfold_run_names
  unfold accStep
  simp -proj only [read_dLo, read_dHi, read_wLo, read_wHi, read_aLo, read_aHi, read_wLo', read_wHi', cov_lo, cov_hi, acc_written', acc_rewritten]
  isplitl [H0 H1 H2 H3]
  · isplitl [H0]; · iexists _; isplitr; · ipureintro; exact harg2.read_unread _
                    iexact H0
    isplitl [H1]; · iexists _; isplitr; · ipureintro; exact harg3.read_unread _
                    iexact H1
    isplitl [H2]; · iexists _; isplitr; · ipureintro; exact harg4.read_unread _
                    iexact H2
    iexists _; isplitr; · ipureintro; exact harg6.read_unread _
    iexact H3
  iexact HA
theorem run_B (c : Dev nD) (i : grid0.Coords) (arg2 : Memref sig .tc .vmem S1024x2560 .bf16) (harg2 : arg2.IsWhole) (arg3 : Memref sig .tc .vmem S2x512x1280 .bf16) (harg3 : arg3.IsWhole) (arg4 : Memref sig .tc .vmem S2x512x1280 .bf16) (harg4 : arg4.IsWhole)
    (arg6 : Memref sig .tc .vmem S1x1024 .f32) (harg6 : arg6.IsWhole) (arg8 : Memref sig .tc .vmem S1024x1024 .f32) (harg8 : arg8.IsWhole) (arg9 : Memref sig .tc .vmem S1x1024 .f32) (harg9 : arg9.IsWhole)
    (h1 : ¬ k0_cond1 i = 1#1) (h2 : k0_cond2 i = 1#1) (h3 : ¬ k0_cond3 i = 1#1)
    (x0 : Vec F S1024x2560 .bf16) (xu xl : Vec F S2x512x1280 .bf16) (xg : Vec F S1x1024 .f32) (a x11 x12 : Vec F S1024x1024 .f32) (fx fg : Vec F S8192x1024 .f32) (W : Waits sig Unit)
    (K : PUnit → sProp 𝕄) :
    iprop(ins c arg2 arg3 arg4 arg6 x0 xu xl xg ∗ pt c accM a ∗ atRest c fx fg x11 x12 ∗ owes (c : Thread nD τ) 0 W
      ∗ (iprop(ins c arg2 arg3 arg4 arg6 x0 xu xl xg ∗ pt c accM (accStep x0 xu xl (k0_pay11 (F := F)))
          ∗ owes (c : Thread nD τ) 0 W ∗ inFlight c fx fg (rowsOf i h2 fx) (rowsOf i h2 fg)) -∗ K ⟨⟩))
      ⊢ wp frame (wpE (defs₀ (F := F)) Variants.none c none) Set.univ
        (cc0_in_proj_bwd i arg2 harg2 arg3 harg3 arg4 harg4 xM (Memref.isWhole_whole _) arg6 harg6 gM (Memref.isWhole_whole _) arg8 harg8 arg9 harg9
          accM (Memref.isWhole_whole _) xbM (Memref.isWhole_whole _) gbM (Memref.isWhole_whole _) cc0_scratch3) K := by
  rw [cc0_in_proj_bwd_eq_skeleton]
  unfold cc0_in_proj_bwd_skel ins owns atRest inFlight
  iintro ⟨⟨⟨%f0, %hf0, H0⟩, ⟨%f1, %hf1, H1⟩, ⟨%f2, %hf2, H2⟩, ⟨%f3, %hf3, H3⟩⟩, HA, ⟨HX, HG, HXS, HGS, HC0, HC1⟩, HW, Hk⟩
  obtain rfl := harg2.eq_unread hf0
  obtain rfl := harg3.eq_unread hf1
  obtain rfl := harg4.eq_unread hf2
  obtain rfl := harg6.eq_unread hf3
  simp only [k0_part2_eq_skeleton]
  unfold k0_part2_skel
  sl_exec (disch := first | sl_exact h1 | sl_exact h2 | sl_exact h3)
  sl_step
  iapply Hk
  isplitl [H0 H1 H2 H3]
  · isplitl [H0]; · iexists _; isplitr; · ipureintro; exact harg2.read_unread _
                    iexact H0
    isplitl [H1]; · iexists _; isplitr; · ipureintro; exact harg3.read_unread _
                    iexact H1
    isplitl [H2]; · iexists _; isplitr; · ipureintro; exact harg4.read_unread _
                    iexact H2
    iexists _; isplitr; · ipureintro; exact harg6.read_unread _
    iexact H3
  isplitl [HA]
  · sl_unfold_run_names
    unfold accStep
    simp -proj only [read_dLo, read_dHi, read_wLo, read_wHi, read_aLo, read_aHi, read_wLo', read_wHi', cov_lo, cov_hi, acc_written', acc_rewritten]
    iexact HA
  isplitl [HW]; · iexact HW
  sl_unfold_run_names
  iexists (xM.slice (Rect.unit (s := S8192x1024) (k0_off1 i) S1024x1024.size (k0_off1_inb i h2)) (fun _ => rfl)).view.set
  iexists (gM.slice (Rect.unit (s := S8192x1024) (k0_off1 i) S1024x1024.size (k0_off1_inb i h2)) (fun _ => rfl)).view.set
  isplitl [HC0]
  · iapply Transfers.Flight_mono countersEmb (c : Thread nD τ) (sep_mono (xb_landed c _ _ _ rfl) .rfl)
    iexact HC0
  isplitl [HXS]; · iexact HXS
  isplitl [HC1]
  · iapply Transfers.Flight_mono countersEmb (c : Thread nD τ) (sep_mono (gb_landed c _ _ _ rfl) .rfl)
    iexact HC1
  iexact HGS

theorem run_A (c : Dev nD) (i : grid0.Coords) (arg2 : Memref sig .tc .vmem S1024x2560 .bf16) (harg2 : arg2.IsWhole) (arg3 : Memref sig .tc .vmem S2x512x1280 .bf16) (harg3 : arg3.IsWhole) (arg4 : Memref sig .tc .vmem S2x512x1280 .bf16) (harg4 : arg4.IsWhole)
    (arg6 : Memref sig .tc .vmem S1x1024 .f32) (harg6 : arg6.IsWhole) (arg8 : Memref sig .tc .vmem S1024x1024 .f32) (harg8 : arg8.IsWhole) (arg9 : Memref sig .tc .vmem S1x1024 .f32) (harg9 : arg9.IsWhole)
    (h1 : k0_cond1 i = 1#1) (h2 : k0_cond2 i = 1#1) (h3 : ¬ k0_cond3 i = 1#1)
    (x0 : Vec F S1024x2560 .bf16) (xu xl : Vec F S2x512x1280 .bf16) (xg : Vec F S1x1024 .f32) (a x11 x12 : Vec F S1024x1024 .f32) (fx fg : Vec F S8192x1024 .f32) (W : Waits sig Unit)
    (K : PUnit → sProp 𝕄) :
    iprop(ins c arg2 arg3 arg4 arg6 x0 xu xl xg ∗ pt c accM a ∗ atRest c fx fg x11 x12 ∗ owes (c : Thread nD τ) 0 W ∗ (∃ d, owns (c : Thread nD τ) arg9 fullShare d)
      ∗ (iprop(ins c arg2 arg3 arg4 arg6 x0 xu xl xg ∗ pt c accM (accStep x0 xu xl (k0_pay11 (F := F)))
          ∗ owes (c : Thread nD τ) 0 W ∗ owns (c : Thread nD τ) arg9 fullShare (k0_pay10 (F := F)) ∗ inFlight c fx fg (rowsOf i h2 fx) (rowsOf i h2 fg)) -∗ K ⟨⟩))
      ⊢ wp frame (wpE (defs₀ (F := F)) Variants.none c none) Set.univ
        (cc0_in_proj_bwd i arg2 harg2 arg3 harg3 arg4 harg4 xM (Memref.isWhole_whole _) arg6 harg6 gM (Memref.isWhole_whole _) arg8 harg8 arg9 harg9
          accM (Memref.isWhole_whole _) xbM (Memref.isWhole_whole _) gbM (Memref.isWhole_whole _) cc0_scratch3) K := by
  rw [cc0_in_proj_bwd_eq_skeleton]
  unfold cc0_in_proj_bwd_skel ins owns atRest inFlight
  iintro ⟨⟨⟨%f0, %hf0, H0⟩, ⟨%f1, %hf1, H1⟩, ⟨%f2, %hf2, H2⟩, ⟨%f3, %hf3, H3⟩⟩, HA, ⟨HX, HG, HXS, HGS, HC0, HC1⟩, HW, ⟨%d9, %f9, %hf9, H9⟩, Hk⟩
  obtain rfl := harg2.eq_unread hf0
  obtain rfl := harg3.eq_unread hf1
  obtain rfl := harg4.eq_unread hf2
  obtain rfl := harg6.eq_unread hf3
  simp only [k0_part2_eq_skeleton]
  unfold k0_part2_skel
  sl_exec (disch := first | sl_exact h1 | sl_exact h2 | sl_exact h3)
  sl_step
  iapply Hk
  isplitl [H0 H1 H2 H3]
  · isplitl [H0]; · iexists _; isplitr; · ipureintro; exact harg2.read_unread _
                    iexact H0
    isplitl [H1]; · iexists _; isplitr; · ipureintro; exact harg3.read_unread _
                    iexact H1
    isplitl [H2]; · iexists _; isplitr; · ipureintro; exact harg4.read_unread _
                    iexact H2
    iexists _; isplitr; · ipureintro; exact harg6.read_unread _
    iexact H3
  isplitl [HA]
  · sl_unfold_run_names
    unfold accStep
    simp -proj only [read_dLo, read_dHi, read_wLo, read_wHi, read_aLo, read_aHi, read_wLo', read_wHi', cov_lo, cov_hi, acc_written', acc_rewritten]
    iexact HA
  isplitl [HW]; · iexact HW
  isplitl [H9]
  · iexists _; isplitr
    swap; · iexact H9
    ipureintro
    sl_unfold_run_names
    exact read_stored (S := S1x1024) arg9.view f9 zeros2 _ _
  sl_unfold_run_names
  iexists (xM.slice (Rect.unit (s := S8192x1024) (k0_off1 i) S1024x1024.size (k0_off1_inb i h2)) (fun _ => rfl)).view.set
  iexists (gM.slice (Rect.unit (s := S8192x1024) (k0_off1 i) S1024x1024.size (k0_off1_inb i h2)) (fun _ => rfl)).view.set
  isplitl [HC0]
  · iapply Transfers.Flight_mono countersEmb (c : Thread nD τ) (sep_mono (xb_landed c _ _ _ rfl) .rfl)
    iexact HC0
  isplitl [HXS]; · iexact HXS
  isplitl [HC1]
  · iapply Transfers.Flight_mono countersEmb (c : Thread nD τ) (sep_mono (gb_landed c _ _ _ rfl) .rfl)
    iexact HC1
  iexact HGS

theorem run_D (c : Dev nD) (i : grid0.Coords) (arg2 : Memref sig .tc .vmem S1024x2560 .bf16) (harg2 : arg2.IsWhole) (arg3 : Memref sig .tc .vmem S2x512x1280 .bf16) (harg3 : arg3.IsWhole) (arg4 : Memref sig .tc .vmem S2x512x1280 .bf16) (harg4 : arg4.IsWhole)
    (arg6 : Memref sig .tc .vmem S1x1024 .f32) (harg6 : arg6.IsWhole) (arg8 : Memref sig .tc .vmem S1024x1024 .f32) (harg8 : arg8.IsWhole) (arg9 : Memref sig .tc .vmem S1x1024 .f32) (harg9 : arg9.IsWhole)
    (h1 : ¬ k0_cond1 i = 1#1) (h2 : ¬ k0_cond2 i = 1#1) (h3 : k0_cond3 i = 1#1)
    (x0 : Vec F S1024x2560 .bf16) (xu xl : Vec F S2x512x1280 .bf16) (xg : Vec F S1x1024 .f32) (dg : Vec F S1x1024 .f32) (a x11 x12 : Vec F S1024x1024 .f32) (fx fg : Vec F S8192x1024 .f32) (W : Waits sig Unit)
    (K : PUnit → sProp 𝕄) :
    iprop(ins c arg2 arg3 arg4 arg6 x0 xu xl xg ∗ pt c accM a ∗ inFlight c fx fg x11 x12 ∗ owes (c : Thread nD τ) 0 W
      ∗ (∃ d, owns (c : Thread nD τ) arg8 fullShare d) ∗ owns (c : Thread nD τ) arg9 fullShare dg
      ∗ (iprop(ins c arg2 arg3 arg4 arg6 x0 xu xl xg ∗ pt c accM (accStep x0 xu xl a) ∗ atRest c fx fg x11 x12 ∗ (∃ W, owes (c : Thread nD τ) 0 W)
          ∗ owns (c : Thread nD τ) arg8 fullShare (dxOf (accStep x0 xu xl a) x11 xg x12)
          ∗ owns (c : Thread nD τ) arg9 fullShare (k0_pay5 (accStep x0 xu xl a) x11 dg)) -∗ K ⟨⟩))
      ⊢ wp frame (wpE (defs₀ (F := F)) Variants.none c none) Set.univ
        (cc0_in_proj_bwd i arg2 harg2 arg3 harg3 arg4 harg4 xM (Memref.isWhole_whole _) arg6 harg6 gM (Memref.isWhole_whole _) arg8 harg8 arg9 harg9
          accM (Memref.isWhole_whole _) xbM (Memref.isWhole_whole _) gbM (Memref.isWhole_whole _) cc0_scratch3) K := by
  rw [cc0_in_proj_bwd_eq_skeleton]
  unfold cc0_in_proj_bwd_skel ins owns atRest inFlight
  iintro ⟨⟨⟨%f0, %hf0, H0⟩, ⟨%f1, %hf1, H1⟩, ⟨%f2, %hf2, H2⟩, ⟨%f3, %hf3, H3⟩⟩, HA, ⟨%S, %S', HC0, HXS, HC1, HGS⟩, HW, ⟨%d8, %f8, %hf8, H8⟩, ⟨%f9, %hf9, H9⟩, Hk⟩
  obtain rfl := harg2.eq_unread hf0
  obtain rfl := harg3.eq_unread hf1
  obtain rfl := harg4.eq_unread hf2
  obtain rfl := harg6.eq_unread hf3
  obtain rfl := harg9.eq_unread hf9
  simp only [k0_part2_eq_skeleton, k0_part1_eq_skeleton]
  unfold k0_part2_skel k0_part1_skel
  sl_exec (disch := first | sl_exact h1 | sl_exact h2 | sl_exact h3)
  sl_step
  iapply Hk
  isplitl [H0 H1 H2 H3]
  · isplitl [H0]; · iexists _; isplitr; · ipureintro; exact harg2.read_unread _
                    iexact H0
    isplitl [H1]; · iexists _; isplitr; · ipureintro; exact harg3.read_unread _
                    iexact H1
    isplitl [H2]; · iexists _; isplitr; · ipureintro; exact harg4.read_unread _
                    iexact H2
    iexists _; isplitr; · ipureintro; exact harg6.read_unread _
    iexact H3
  isplitl [HA]
  · sl_unfold_run_names
    unfold accStep
    simp -proj only [read_dLo, read_dHi, read_wLo, read_wHi, read_aLo, read_aHi, read_wLo', read_wHi', cov_lo, cov_hi, cov_all, read_xb, read_gb, read_row, acc_written', acc_rewritten]
    iexact HA
  isplitl [HC0_dst HC1_dst HXS HGS HC0 HC1]
  · isplitl [HC0_dst]; · iexact HC0_dst
    isplitl [HC1_dst]; · iexact HC1_dst
    isplitl [HXS]; · iexact HXS
    isplitl [HGS]; · iexact HGS
    isplitl [HC0]; · iexact HC0
    iexact HC1
  isplitl [HW]; · iexists _; iexact HW
  isplitl [H8]
  · iexists _; isplitr
    swap; · iexact H8
    ipureintro
    refine (read_stored (S := S1024x1024) arg8.view f8 zeros2 _ _).trans ?_
    sl_unfold_run_names
    unfold dxOf accStep
    simp -proj only [read_dLo, read_dHi, read_wLo, read_wHi, read_aLo, read_aHi, read_wLo', read_wHi', cov_lo, cov_hi, cov_all, read_xb, read_gb, read_row, acc_written', acc_rewritten]
    rfl
  iexists _; isplitr
  swap; · iexact H9
  ipureintro
  refine (read_stored (S := S1x1024) arg9.view _ zeros2 _ _).trans ?_
  sl_unfold_run_names
  unfold accStep
  simp -proj only [read_dLo, read_dHi, read_wLo, read_wHi, read_aLo, read_aHi, read_wLo', read_wHi', cov_lo, cov_hi, cov_all, read_xb, read_gb, read_row, acc_written', acc_rewritten]
  rfl

end Cert.Kernel3Ideal.InProj

end
-- ==== Proof.InProjFrame.lean ====
module

public import proofs.«01_k».proof.Proof.Gen.Kernel3Ideal.Frame
public import proofs.«01_k».proof.Proof.Gen.Kernel3Ideal.Skeleton
public import Idealize.ShloMosaic.Lib.Pipeline.FrameValue
public import Idealize.ShloMosaic.Lib.Pipeline.Value
public import Idealize.ShloMosaic.Lib.Pipeline.ValueKit.Tiles
public import proofs.«01_k».proof.Proof.InProjRun

@[expose] public section

set_option maxRecDepth 16384

noncomputable section

namespace Cert.Kernel3Ideal.InProj

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## What each point finds and leaves -/

/-- The blocks the body is given at a point. -/
abbrev b0 (c : Dev nD) (t : Fin cfg0.N) : Vec F S1024x2560 .bf16 := iblk m c 0 t
abbrev b1 (c : Dev nD) (t : Fin cfg0.N) : Vec F S2x512x1280 .bf16 := iblk m c 1 t
abbrev b2 (c : Dev nD) (t : Fin cfg0.N) : Vec F S2x512x1280 .bf16 := iblk m c 2 t
abbrev b3 (c : Dev nD) (t : Fin cfg0.N) : Vec F S1x1024 .f32 := iblk m c 3 t
/-- The two arrays the body copies from. -/
abbrev fx (c : Dev nD) : Vec F S8192x1024 .f32 := V m c main_arg2
abbrev fg (c : Dev nD) : Vec F S8192x1024 .f32 := V m c main_arg4

/-- The grid's points by number. -/
def pnt (n : ℕ) : Fin cfg0.N := ⟨n % 32, by show _ < grid0.N; rw [N_0]; omega⟩
theorem pnt_val (t : Fin cfg0.N) : pnt t.val = t := Fin.ext (Nat.mod_eq_of_lt (by have h : t.val < grid0.N := t.isLt; rw [N_0] at h; exact h))

/-- The block of rows of this number. -/
def rowsAt (k : ℕ) (f : Vec F S8192x1024 .f32) : Vec F S1024x1024 .f32 :=
  View.ld f (Rect.unit (s := S8192x1024) ![k % 8 * 1024, 0] S1024x1024.size (by
    intro a
    fin_cases a
    · show k % 8 * 1024 + 1024 ≤ 8192
      have := Nat.mod_lt k (show 8 > 0 by decide)
      omega
    · show 0 + 1024 ≤ 1024
      decide))

/-- The running gradient after `n` points: the first point of each block of rows starts it anew. -/
def accS (c : Dev nD) : ℕ → Vec F S1024x1024 .f32
  | 0 => k0_pay11 (F := F)
  | n + 1 => accStep (b0 m c (pnt n)) (b1 m c (pnt n)) (b2 m c (pnt n)) (if n % 4 = 0 then k0_pay11 (F := F) else accS c n)
/-- The gradient of the scales after `n` points: the last point of each block of rows adds to it. -/
def dgS (c : Dev nD) : ℕ → Vec F S1x1024 .f32
  | 0 => k0_pay10 (F := F)
  | n + 1 => if n % 4 = 3 then k0_pay5 (accS m c (n + 1)) (rowsAt (n / 4) (fx m c)) (dgS c n) else dgS c n

theorem accS_first (c : Dev nD) (t : Fin cfg0.N) (h : t.val % 4 = 0) :
    accS m c (t.val + 1) = accStep (b0 m c t) (b1 m c t) (b2 m c t) (k0_pay11 (F := F)) := by
  rw [accS, if_pos h, pnt_val]
theorem accS_next (c : Dev nD) (t : Fin cfg0.N) (h : ¬ t.val % 4 = 0) :
    accS m c (t.val + 1) = accStep (b0 m c t) (b1 m c t) (b2 m c t) (accS m c t.val) := by
  rw [accS, if_neg h, pnt_val]
theorem dgS_last (c : Dev nD) (t : Fin cfg0.N) (h : t.val % 4 = 3) :
    dgS m c (t.val + 1) = k0_pay5 (accS m c (t.val + 1)) (rowsAt (t.val / 4) (fx m c)) (dgS m c t.val) := by
  rw [dgS, if_pos h]
theorem dgS_keep (c : Dev nD) (t : ℕ) (h : ¬ t % 4 = 3) : dgS m c (t + 1) = dgS m c t := by
  rw [dgS, if_neg h]

/-- The points the body's three tests hold at. -/
theorem cond1_iff : ∀ t : Fin cfg0.N, k0_cond1 (grid0.coords t) = 1#1 ↔ t.val = 0 := by decide +kernel
theorem cond2_iff : ∀ t : Fin cfg0.N, k0_cond2 (grid0.coords t) = 1#1 ↔ t.val % 4 = 0 := by decide +kernel
theorem cond3_iff : ∀ t : Fin cfg0.N, k0_cond3 (grid0.coords t) = 1#1 ↔ t.val % 4 = 3 := by decide +kernel
theorem off_rows : ∀ t : Fin cfg0.N, k0_off1 (grid0.coords t) 0 = t.val / 4 % 8 * 1024 ∧ k0_off1 (grid0.coords t) 1 = 0 := by decide +kernel

theorem rowsOf_eq (t : Fin cfg0.N) (h : k0_cond2 (grid0.coords t) = 1#1) (f : Vec F S8192x1024 .f32) : rowsOf (grid0.coords t) h f = rowsAt (t.val / 4) f := by
  unfold rowsOf rowsAt
  have e : k0_off1 (grid0.coords t) = ![t.val / 4 % 8 * 1024, 0] := by
    funext a
    match a with
    | ⟨0, _⟩ => exact (off_rows t).1
    | ⟨1, _⟩ => exact (off_rows t).2
  congr 1
  simp only [e]

/-! ## The arrays the body copies from, the cells it uses -/

def R0 : Finset (Ref sig .tc) := ∅
def H0 : Finset (Ref sig .tc) := {main_arg2, main_arg4}
theorem H0_sub : H0 ⊆ Pipeline.restRefs sig spec0 := by decide
theorem R0_sub : R0 ⊆ Pipeline.restRefs sig spec0 \ H0 := by decide

abbrev osem0 : Fin 2 → SemLoc sig := fun j => (![SemLoc.dma 10, SemLoc.dma 11] : Fin 2 → SemLoc sig) j
theorem ownSemFacts0 : Pipeline.OwnSemFacts spec0 osem0 := by decide
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 10) 0 ∗ semVal ((c : Thread nD τ), SemLoc.dma 11) 0) := by
  rw [Pipeline.ownSems0_eq_of_list c osem0 [0, 1] (by decide) (by decide)]; rfl

theorem lent_eq (c : Dev nD) (W : (b : Ref sig .tc) → Buf (Elt F) ((c : Thread nD τ).loc b)) :
    (bigSep H0 fun b => ((c : Thread nD τ).loc b ↦{fullShare} W b : sProp 𝕄))
      = iprop(pt c xM (W main_arg2) ∗ pt c gM (W main_arg4)) := by
  rw [BI.bigSep_eq_bigSepL_of_eq [main_arg2, main_arg4] (by decide) (by decide)]; rfl

/-! ## The invariant -/

/-- After `n` points: between blocks of rows nothing is on its way; within one the running gradient is at its value and the
    two copies of the block's rows are on their way. -/
def Inv (c : Dev nD) (n : ℕ) : sProp 𝕄 :=
  if n % 4 = 0 then iprop(∃ a x y, pt c accM a ∗ atRest c (fx m c) (fg m c) x y ∗ (∃ r, prngReg c r))
  else iprop(pt c accM (accS m c n) ∗ inFlight c (fx m c) (fg m c) (rowsAt (n / 4) (fx m c)) (rowsAt (n / 4) (fg m c)) ∗ (∃ r, prngReg c r))

theorem Inv_rest (c : Dev nD) (n : ℕ) (h : n % 4 = 0) :
    Inv m c n = iprop(∃ a x y, pt c accM a ∗ atRest c (fx m c) (fg m c) x y ∗ (∃ r, prngReg c r)) := by
  unfold Inv; rw [if_pos h]
theorem Inv_flight (c : Dev nD) (n : ℕ) (h : ¬ n % 4 = 0) :
    Inv m c n = iprop(pt c accM (accS m c n) ∗ inFlight c (fx m c) (fg m c) (rowsAt (n / 4) (fx m c)) (rowsAt (n / 4) (fg m c)) ∗ (∃ r, prngReg c r)) := by
  unfold Inv; rw [if_neg h]

theorem Inv_in (c : Dev nD) : (Pipeline.ΦDRG osem0 spec0 H0 R0 (V m) (V m) c : sProp 𝕄) ⊢ Inv m c 0 := by
  rw [Pipeline.ΦDRG_eq, scopedRest0_eq, ownSems00_eq, lent_eq, Inv_rest m c 0 rfl]
  unfold atRest
  iintro ⟨⟨⟨%a, HA⟩, ⟨%x, HX⟩, ⟨%y, HY⟩⟩, Hg, ⟨HC0, HC1⟩, ⟨HXS, HGS⟩, -⟩
  iexists a, x, y
  isplitl [HA]; · iexact HA
  isplitl [HX HY HXS HGS HC0 HC1]
  · isplitl [HX]; · iexact HX
    isplitl [HY]; · iexact HY
    isplitl [HXS]; · iexact HXS
    isplitl [HGS]; · iexact HGS
    isplitl [HC0]; · iexact HC0
    iexact HC1
  iexact Hg

theorem Inv_out (c : Dev nD) : Inv m c 32 ⊢ (Pipeline.ΦDRG osem0 spec0 H0 R0 (V m) (V m) c : sProp 𝕄) := by
  rw [Pipeline.ΦDRG_eq, scopedRest0_eq, ownSems00_eq, lent_eq, Inv_rest m c 32 rfl]
  unfold atRest Pipeline.routed R0
  iintro ⟨%a, %x, %y, HA, ⟨HX, HY, HXS, HGS, HC0, HC1⟩, Hg⟩
  isplitl [HA HX HY]
  · isplitl [HA]; · iexists _; iexact HA
    isplitl [HX]; · iexists _; iexact HX
    iexists _; iexact HY
  isplitl [Hg]; · iexact Hg
  isplitl [HC0 HC1]
  · isplitl [HC0]; · iexact HC0
    iexact HC1
  isplitl [HXS HGS]
  · isplitl [HXS]; · iexact HXS
    iexact HGS
  rw [BI.bigSep_empty]; iempintro

/-! ## The pipeline's proof data -/

def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => dxOf (accS m c (t.val + 1)) (rowsAt (t.val / 4) (fx m c)) (b3 m c t) (rowsAt (t.val / 4) (fg m c))
    | ⟨5, _⟩ => dgS m c (t.val + 1)
  Φ n := Inv m c n.val
  q _ := fullShare
  owed _ := 0

theorem A_eq (c : Dev nD) (w : Fin cfg0.W) : (dats m 0 c).A w = V m c (Pipeline.arrRef spec0 w) := by
  dsimp only [dats]
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) :
    (dats m 0 c).after 4 t = dxOf (accS m c (t.val + 1)) (rowsAt (t.val / 4) (fx m c)) (b3 m c t) (rowsAt (t.val / 4) (fg m c)) := by dsimp only [dats]
theorem after_5 (c : Dev nD) (t : Fin cfg0.N) : (dats m 0 c).after 5 t = dgS m c (t.val + 1) := by dsimp only [dats]

theorem before_0 (c : Dev nD) (t : Fin cfg0.N) (d) : (dats m 0 c).before 0 t d = iblk m c 0 t :=
  ((dats m 0 c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (c : Dev nD) (t : Fin cfg0.N) (d) : (dats m 0 c).before 1 t d = iblk m c 1 t :=
  ((dats m 0 c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem before_2 (c : Dev nD) (t : Fin cfg0.N) (d) : (dats m 0 c).before 2 t d = iblk m c 2 t :=
  ((dats m 0 c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)
theorem before_3 (c : Dev nD) (t : Fin cfg0.N) (d) : (dats m 0 c).before 3 t d = iblk m c 3 t :=
  ((dats m 0 c).before_in_eq_fetched 3 rfl (fun _ => rfl) (fun _ _ _ => rfl) (fun t => by rw [after_3]; unfold Dat.blockOf iblk; rw [A_eq]; try rfl) t d).trans
    (by unfold Dat.fetched Dat.blockOf iblk; rw [A_eq]; try rfl)

theorem idle4 : ∀ t : Fin cfg0.N, ¬ t.val % 4 = 3 → cfg0.idle 4 (cfg0.grid.coords t) = true := fun t h => by
  show (!(decide (k0_cond3 (grid0.coords t) = 1#1))) = true
  rw [decide_eq_false (fun hc => h ((cond3_iff t).1 hc))]; rfl
theorem live4 : ∀ t : Fin cfg0.N, t.val % 4 = 3 → cfg0.idle 4 (cfg0.grid.coords t) = false := fun t h => by
  show (!(decide (k0_cond3 (grid0.coords t) = 1#1))) = false
  rw [decide_eq_true ((cond3_iff t).2 h)]; rfl
theorem idle5 : ∀ t : Fin cfg0.N, ¬ t.val % 4 = 3 → t.val ≠ 0 → cfg0.idle 5 (cfg0.grid.coords t) = true := fun t h h0 => by
  show (!(decide (k0_cond1 (grid0.coords t) = 1#1)) && !(decide (k0_cond3 (grid0.coords t) = 1#1))) = true
  rw [decide_eq_false (fun hc => h ((cond3_iff t).1 hc)), decide_eq_false (fun hc => h0 ((cond1_iff t).1 hc))]; rfl
theorem live5 : ∀ t : Fin cfg0.N, t.val % 4 = 3 ∨ t.val = 0 → cfg0.idle 5 (cfg0.grid.coords t) = false := fun t h => by
  show (!(decide (k0_cond1 (grid0.coords t) = 1#1)) && !(decide (k0_cond3 (grid0.coords t) = 1#1))) = false
  rcases h with h | h
  · rw [decide_eq_true ((cond3_iff t).2 h), Bool.not_true, Bool.and_false]
  · rw [decide_eq_true ((cond1_iff t).2 h), Bool.not_true, Bool.false_and]

theorem lt32 (t : Fin cfg0.N) : t.val < 32 := by have h : t.val < grid0.N := t.isLt; rw [N_0] at h; exact h

/-- After the first point the scales' gradient is found as the point before left it. -/
theorem before_5 (c : Dev nD) : ∀ (n : ℕ) (t : Fin cfg0.N), t.val = n → n ≠ 0 → ∀ d, (dats m 0 c).before 5 t d = dgS m c n := by
  intro n
  induction n with
  | zero => intro t _ h; exact absurd rfl h
  | succ n ih =>
    intro t ht _ d
    have hlt := lt32 t
    rw [(dats m 0 c).before_of_pos 5 t (by omega) ((cfg0.win 5).fetch_out rfl t) d]
    obtain ⟨t', ht'⟩ : ∃ t' : Fin cfg0.N, t' = ⟨t.val - 1, Nat.lt_of_le_of_lt (Nat.sub_le _ _) t.isLt⟩ := ⟨_, rfl⟩
    have hv : t'.val = n := by rw [ht']; show t.val - 1 = n; omega
    rw [← ht']
    rw [if_neg (fun h => by have := (flush0_5 t').1 h; omega)]
    unfold Dat.left
    by_cases h : t'.val % 4 = 3 ∨ t'.val = 0
    · rw [live5 t' h]
      show (dats m 0 c).kept 5 t' d = _
      rw [show (dats m 0 c).kept 5 t' d = (dats m 0 c).after 5 t' from rfl, after_5, hv]
    · rw [not_or] at h
      rw [idle5 t' h.1 h.2]
      show (dats m 0 c).before 5 t' d = _
      rw [ih t' hv (by omega) d, dgS_keep m c n (by omega)]

/-! ## One point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ (dats m 0 c).leavesExact 4 t ∗ (dats m 0 c).leavesExact 5 t)

theorem leaves4_idle (c : Dev nD) (t : Fin cfg0.N) (h : ¬ t.val % 4 = 3) (d) :
    owns (c : Thread nD τ) (st0_4 t) fullShare ((dats m 0 c).before 4 t d) ⊢ (dats m 0 c).leavesExact 4 t := by
  unfold Dat.leavesExact
  rw [idle4 t h, show (cfg0.win 4).flush t = false from Bool.eq_false_iff.mpr (fun hf => h ((flush0_4 t).1 hf))]
  iintro H
  iexists d; iexact H
theorem leaves4_live (c : Dev nD) (t : Fin cfg0.N) (h : t.val % 4 = 3) :
    owns (c : Thread nD τ) (st0_4 t) fullShare ((dats m 0 c).after 4 t) ⊢ (dats m 0 c).leavesExact 4 t := by
  unfold Dat.leavesExact
  rw [live4 t h]
theorem leaves5_idle (c : Dev nD) (t : Fin cfg0.N) (h : ¬ t.val % 4 = 3) (h0 : t.val ≠ 0) (d) :
    owns (c : Thread nD τ) (st0_5 t) fullShare ((dats m 0 c).before 5 t d) ⊢ (dats m 0 c).leavesExact 5 t := by
  unfold Dat.leavesExact
  rw [idle5 t h h0, show (cfg0.win 5).flush t = false from Bool.eq_false_iff.mpr (fun hf => by have := (flush0_5 t).1 hf; omega)]
  iintro H
  iexists d; iexact H
theorem leaves5_live (c : Dev nD) (t : Fin cfg0.N) (h : t.val % 4 = 3 ∨ t.val = 0) :
    owns (c : Thread nD τ) (st0_5 t) fullShare ((dats m 0 c).after 5 t) ⊢ (dats m 0 c).leavesExact 5 t := by
  unfold Dat.leavesExact
  rw [live5 t h]

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, after_0, after_1, after_2, after_3]
  rw [show (dats m 0 c).Φ t.castSucc = Inv m c t.val from rfl, show (dats m 0 c).Φ t.succ = Inv m c (t.val + 1) from rfl]
  unfold Dat.owesAt Pipeline.owesWithin
  rw [show (dats m 0 c).owed t.castSucc = 0 from rfl, show (dats m 0 c).owed t.succ = 0 from rfl]
  have ht := lt32 t
  by_cases h0 : t.val % 4 = 0
  · rw [Inv_rest m c _ h0, Inv_flight m c (t.val + 1) (by omega)]
    have e4 : (t.val + 1) / 4 = t.val / 4 := by omega
    rw [e4]
    iintro ⟨⟨%a, %x, %y, HA, HR, Hg⟩, ⟨%W, -, HW⟩, ⟨%d0, H0⟩, ⟨%d1, H1⟩, ⟨%d2, H2⟩, ⟨%d3, H3⟩, ⟨%d4, H4⟩, ⟨%d5, H5⟩⟩
    by_cases hz : t.val = 0
    · iapply run_A c (grid0.coords t) _ _ _ _ _ _ _ _ _ _ _ _ ((cond1_iff t).2 hz) ((cond2_iff t).2 h0) (fun h => by have := (cond3_iff t).1 h; omega) (b0 m c t) (b1 m c t) (b2 m c t) (b3 m c t) a x y (fx m c) (fg m c) W
      isplitl [H0 H1 H2 H3]
      · unfold ins
        isplitl [H0]; · iexact H0
        isplitl [H1]; · iexact H1
        isplitl [H2]; · iexact H2
        iexact H3
      isplitl [HA]; · iexact HA
      isplitl [HR]; · iexact HR
      isplitl [HW]; · iexact HW
      isplitl [H5]; · iexists _; iexact H5
      iintro ⟨HI, HA, HW, H5, HF⟩
      unfold ins
      icases HI with ⟨H0, H1, H2, H3⟩
      rw [rowsOf_eq, rowsOf_eq, ← accS_first m c t h0]
      isplitl [HA HF Hg]
      · isplitl [HA]; · iexact HA
        isplitl [HF]; · iexact HF
        iexact Hg
      isplitl [HW]
      · iexists W; isplitr; · ipureintro; exact fun _ _ => Or.inl trivial
        iexact HW
      isplitl [H0]; · iexact H0
      isplitl [H1]; · iexact H1
      isplitl [H2]; · iexact H2
      isplitl [H3]; · iexact H3
      isplitl [H4]; · iapply leaves4_idle m c t (by omega) d4; iexact H4
      iapply leaves5_live m c t (Or.inr hz)
      rw [after_5, hz, dgS_keep m c 0 (by decide)]
      iexact H5
    · iapply run_B c (grid0.coords t) _ _ _ _ _ _ _ _ _ _ _ _ (fun h => hz ((cond1_iff t).1 h)) ((cond2_iff t).2 h0) (fun h => by have := (cond3_iff t).1 h; omega) (b0 m c t) (b1 m c t) (b2 m c t) (b3 m c t) a x y (fx m c) (fg m c) W
      isplitl [H0 H1 H2 H3]
      · unfold ins
        isplitl [H0]; · iexact H0
        isplitl [H1]; · iexact H1
        isplitl [H2]; · iexact H2
        iexact H3
      isplitl [HA]; · iexact HA
      isplitl [HR]; · iexact HR
      isplitl [HW]; · iexact HW
      iintro ⟨HI, HA, HW, HF⟩
      unfold ins
      icases HI with ⟨H0, H1, H2, H3⟩
      rw [rowsOf_eq, rowsOf_eq, ← accS_first m c t h0]
      isplitl [HA HF Hg]
      · isplitl [HA]; · iexact HA
        isplitl [HF]; · iexact HF
        iexact Hg
      isplitl [HW]
      · iexists W; isplitr; · ipureintro; exact fun _ _ => Or.inl trivial
        iexact HW
      isplitl [H0]; · iexact H0
      isplitl [H1]; · iexact H1
      isplitl [H2]; · iexact H2
      isplitl [H3]; · iexact H3
      isplitl [H4]; · iapply leaves4_idle m c t (by omega) d4; iexact H4
      iapply leaves5_idle m c t (by omega) hz d5
      iexact H5
  · rw [Inv_flight m c _ h0]
    by_cases h3 : t.val % 4 = 3
    · rw [Inv_rest m c (t.val + 1) (by omega)]
      iintro ⟨⟨HA, HF, Hg⟩, ⟨%W, -, HW⟩, ⟨%d0, H0⟩, ⟨%d1, H1⟩, ⟨%d2, H2⟩, ⟨%d3, H3⟩, ⟨%d4, H4⟩, ⟨%d5, H5⟩⟩
      rw [before_5 m c t.val t rfl (by omega) d5]
      iapply run_D c (grid0.coords t) _ _ _ _ _ _ _ _ _ _ _ _ (fun h => by have := (cond1_iff t).1 h; omega) (fun h => h0 ((cond2_iff t).1 h)) ((cond3_iff t).2 h3) (b0 m c t) (b1 m c t) (b2 m c t) (b3 m c t) (dgS m c t.val) (accS m c t.val) (rowsAt (t.val / 4) (fx m c)) (rowsAt (t.val / 4) (fg m c)) (fx m c) (fg m c) W
      isplitl [H0 H1 H2 H3]
      · unfold ins
        isplitl [H0]; · iexact H0
        isplitl [H1]; · iexact H1
        isplitl [H2]; · iexact H2
        iexact H3
      isplitl [HA]; · iexact HA
      isplitl [HF]; · iexact HF
      isplitl [HW]; · iexact HW
      isplitl [H4]; · iexists _; iexact H4
      isplitl [H5]; · iexact H5
      iintro ⟨HI, HA, HR, ⟨%W', HW⟩, H4, H5⟩
      unfold ins
      icases HI with ⟨H0, H1, H2, H3⟩
      rw [← accS_next m c t h0, ← dgS_last m c t h3]
      isplitl [HA HR Hg]
      · iexists _, _, _
        isplitl [HA]; · iexact HA
        isplitl [HR]; · iexact HR
        iexact Hg
      isplitl [HW]
      · iexists W'; isplitr; · ipureintro; exact fun _ _ => Or.inl trivial
        iexact HW
      isplitl [H0]; · iexact H0
      isplitl [H1]; · iexact H1
      isplitl [H2]; · iexact H2
      isplitl [H3]; · iexact H3
      isplitl [H4]
      · iapply leaves4_live m c t h3
        rw [after_4]; iexact H4
      iapply leaves5_live m c t (Or.inl h3)
      rw [after_5]; iexact H5
    · rw [Inv_flight m c (t.val + 1) (by omega)]
      have e4 : (t.val + 1) / 4 = t.val / 4 := by omega
      rw [e4]
      iintro ⟨⟨HA, HF, Hg⟩, ⟨%W, -, HW⟩, ⟨%d0, H0⟩, ⟨%d1, H1⟩, ⟨%d2, H2⟩, ⟨%d3, H3⟩, ⟨%d4, H4⟩, ⟨%d5, H5⟩⟩
      iapply run_C c (grid0.coords t) _ _ _ _ _ _ _ _ _ _ _ _ (fun h => by have := (cond1_iff t).1 h; omega) (fun h => h0 ((cond2_iff t).1 h)) (fun h => h3 ((cond3_iff t).1 h)) (b0 m c t) (b1 m c t) (b2 m c t) (b3 m c t) (accS m c t.val)
      isplitl [H0 H1 H2 H3]
      · unfold ins
        isplitl [H0]; · iexact H0
        isplitl [H1]; · iexact H1
        isplitl [H2]; · iexact H2
        iexact H3
      isplitl [HA]; · iexact HA
      iintro ⟨HI, HA⟩
      unfold ins
      icases HI with ⟨H0, H1, H2, H3⟩
      rw [← accS_next m c t h0]
      isplitl [HA HF Hg]
      · isplitl [HA]; · iexact HA
        isplitl [HF]; · iexact HF
        iexact Hg
      isplitl [HW]
      · iexists W; isplitr; · ipureintro; exact fun _ _ => Or.inl trivial
        iexact HW
      isplitl [H0]; · iexact H0
      isplitl [H1]; · iexact H1
      isplitl [H2]; · iexact H2
      isplitl [H3]; · iexact H3
      isplitl [H4]; · iapply leaves4_idle m c t h3 d4; iexact H4
      iapply leaves5_idle m c t h3 (by omega) d5
      iexact H5

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run -/

set_option maxHeartbeats 800000 in
theorem main_upto (𝒱₀ : Variants) : Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

set_option backward.isDefEq.respectTransparency.types false in
theorem run_main : θ_run defs (onTc (τ := τ) (main (F := F))) (s₀ m ρ) (fun r => Pipeline.FramePostRG cfgs (dats m) 0 R0 (V m) (V m) r ∧ r.2.sem = fun _ => 0) :=
  Pipeline.θ_run_frame_dmaRG (Q' := _) cfgs (dats m) (0 : Fin 1) launch0 osem0 defs₀ Variants.none ownSemFacts0 H0 R0 H0_sub R0_sub m ρ main
    (hbody := fun c => (body_obligation m c).loose) (hshare := fun c => (dats m 0 c).share_full fun _ => rfl)
    (howed := fun _ _ => rfl) (V := V m) (hmain := main_upto m Variants.none) (hA := A_eq m) (G := V m)
    (hin := fun c => Inv_in m c) (hout := fun c => by
      rw [show (dats m 0 c).Φ (Fin.last cfg0.N) = Inv m c 32 from congrArg (Inv m c) (show grid0.N = 32 from N_0)]
      exact Inv_out m c)

/-- The argument arrays at the end of a run. -/
theorem args_kept {r : PUnit × MemSt nD τ sig (Elt F)} (h : Pipeline.FramePostR cfgs (dats m) 0 R0 (V m) r) (c : Dev nD) :
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4) :=
  ⟨((h c).2 main_arg0 (Finset.mem_sdiff.mpr ⟨Pipeline.mem_restRefs_of main_arg0 (by decide) (by decide), by decide⟩)).trans (V_main_arg0 m c),
    ((h c).2 main_arg1 (Finset.mem_sdiff.mpr ⟨Pipeline.mem_restRefs_of main_arg1 (by decide) (by decide), by decide⟩)).trans (V_main_arg1 m c),
    ((h c).2 main_arg2 (Finset.mem_sdiff.mpr ⟨Pipeline.mem_restRefs_of main_arg2 (by decide) (by decide), by decide⟩)).trans (V_main_arg2 m c),
    ((h c).2 main_arg3 (Finset.mem_sdiff.mpr ⟨Pipeline.mem_restRefs_of main_arg3 (by decide) (by decide), by decide⟩)).trans (V_main_arg3 m c),
    ((h c).2 main_arg4 (Finset.mem_sdiff.mpr ⟨Pipeline.mem_restRefs_of main_arg4 (by decide) (by decide), by decide⟩)).trans (V_main_arg4 m c)⟩

end Cert.Kernel3Ideal.InProj

end
-- ==== Proof.InProjPay.lean ====
/-
  What one point of the input projection's backward launch computes, entry by entry, over the extended reals.
-/
module

public import proofs.«01_k».proof.Proof.GradWIn
public import proofs.«01_k».proof.Proof.InProjFrame
public import Idealize.ShloMosaic.Lib.Pointwise

@[expose] public section

noncomputable section

namespace Cert.Kernel3Ideal.InProj

open Cert.Kernel3Ideal Cert.Kernel3Ideal.Gen Cert.Tables
open Idealize.ShloMosaic Idealize.ShloMosaic.TcCoe Idealize.SL.Sem

/-- The width of a row, and what is added to the mean of its squares. -/
def width : EReal := Ideal.ofBits .f32 0x44800000#32
def small : EReal := Ideal.ofBits .f32 0x358637BD#32
/-- The mean of the squares of a table's row, a little more than it, and the scale that makes the row's mean square one. -/
def meanS {A : ℕ} (x : (⟨2, ![A, 1024]⟩ : Shape).Idx → EReal) (r : ℕ) : EReal :=
  Ideal.div (∑ k : Fin 1024, at2 x r k.val * at2 x r k.val) width + small
def scaleS {A : ℕ} (x : (⟨2, ![A, 1024]⟩ : Shape).Idx → EReal) (r : ℕ) : EReal := Ideal.rsqrt (meanS x r)

/-- A half of the columns of the gradient after a point. -/
theorem step_lo (x z : Vec Ideal S1024x1280 .bf16) (a : Vec Ideal S1024x512 .f32) (w v : Vec Ideal S1x512x1280 .bf16) (y : S1024x512.Idx) :
    (k0_pay14 x z a w v : S1024x512.Idx → EReal) y
      = a y + ((∑ k : Fin 1280, at2 x (y 0).val k.val * at3 w 0 (y 1).val k.val) + ∑ k : Fin 1280, at2 z (y 0).val k.val * at3 v 0 (y 1).val k.val) := by
  obtain ⟨r, q, rfl⟩ : ∃ (r : Fin 1024) (q : Fin 512), y = ix2 r q := ⟨y 0, y 1, eq_ix2 y⟩
  have e : ∀ (x : Vec Ideal S1024x1280 .bf16) (w : Vec Ideal S1x512x1280 .bf16) (k : Fin 1280),
      at2 x r.val k.val * at3 w 0 q.val k.val = x (ix2 r k) * w (ix3 0 q k) := fun x w k => by
    exact congrArg₂ (· * ·) (at2_of x (ix2 r k) _ _ rfl rfl).symm (at3_of w (ix3 0 q k) _ _ _ rfl rfl rfl).symm
  simp only [ix2_0, ix2_1, e]
  unfold k0_pay14 k0_pay12 k0_pay13
  pointwise [dot_S1024x1280_S512x1280_S1024x512_1_1_0_0_n_n]
theorem step_hi (x z : Vec Ideal S1024x1280 .bf16) (a : Vec Ideal S1024x512 .f32) (w v : Vec Ideal S1x512x1280 .bf16) (y : S1024x512.Idx) :
    (k0_pay1 (k0_pay12 x) (k0_pay13 z) a w v : S1024x512.Idx → EReal) y
      = a y + ((∑ k : Fin 1280, at2 x (y 0).val k.val * at3 w 0 (y 1).val k.val) + ∑ k : Fin 1280, at2 z (y 0).val k.val * at3 v 0 (y 1).val k.val) :=
  step_lo x z a w v y

theorem acc_clear (y : S1024x1024.Idx) : (k0_pay11 (F := Ideal) : S1024x1024.Idx → EReal) y = 0 := by
  unfold k0_pay11
  pointwise
theorem dg_clear (y : S1x1024.Idx) : (k0_pay10 (F := Ideal) : S1x1024.Idx → EReal) y = 0 := by
  unfold k0_pay10
  pointwise

/-- The scale of a row. -/
theorem scale_at (x : Vec Ideal S1024x1024 .f32) (r : Fin 1024) : (k0_pay3 x : S1024x1.Idx → EReal) (ix2 r 0) = scaleS (A := 1024) x r.val := by
  have e : ∀ k : Fin 1024, at2 (x : S1024x1024.Idx → EReal) r.val k.val * at2 (x : S1024x1024.Idx → EReal) r.val k.val = x (ix2 r k) * x (ix2 r k) := fun k =>
    congrArg₂ (· * ·) (at2_of x (ix2 r k) _ _ rfl rfl).symm (at2_of x (ix2 r k) _ _ rfl rfl).symm
  unfold scaleS meanS width small
  simp only [e]
  unfold k0_pay3
  pointwise

/-- A normalised row. -/
theorem norm_at (x : Vec Ideal S1024x1024 .f32) (r q : Fin 1024) :
    (k0_pay4 x : S1024x1024.Idx → EReal) (ix2 r q) = x (ix2 r q) * scaleS (A := 1024) x r.val := by
  rw [← scale_at]
  unfold k0_pay4
  generalize k0_pay3 x = s
  pointwise

/-- The scales' gradient with a block of rows added. -/
theorem dg_step (a x : Vec Ideal S1024x1024 .f32) (o : Vec Ideal S1x1024 .f32) (q : Fin 1024) :
    (k0_pay5 a x o : S1x1024.Idx → EReal) (ix2 0 q) = o (ix2 0 q) + ∑ r : Fin 1024, a (ix2 r q) * (x (ix2 r q) * scaleS (A := 1024) x r.val) := by
  have e : ∀ r q : Fin 1024, x (ix2 r q) * scaleS (A := 1024) x r.val = (k0_pay4 x : S1024x1024.Idx → EReal) (ix2 r q) := fun r q => (norm_at x r q).symm
  simp only [e]
  unfold k0_pay5
  generalize k0_pay4 x = s
  pointwise

/-- A row of the residual stream's gradient. -/
theorem dx_at (a x : Vec Ideal S1024x1024 .f32) (g : Vec Ideal S1x1024 .f32) (o : Vec Ideal S1024x1024 .f32) (r q : Fin 1024) :
    (dxOf a x g o : S1024x1024.Idx → EReal) (ix2 r q)
      = o (ix2 r q) + scaleS (A := 1024) x r.val * (a (ix2 r q) * g (ix2 0 q))
        - x (ix2 r q) * scaleS (A := 1024) x r.val
          * (scaleS (A := 1024) x r.val * Ideal.div (∑ k : Fin 1024, a (ix2 r k) * g (ix2 0 k) * (x (ix2 r k) * scaleS (A := 1024) x r.val)) width) := by
  have e : ∀ r q : Fin 1024, x (ix2 r q) * scaleS (A := 1024) x r.val = (k0_pay4 x : S1024x1024.Idx → EReal) (ix2 r q) := fun r q => (norm_at x r q).symm
  simp only [e]
  rw [← scale_at]
  unfold dxOf k0_pay2 k0_pay7 k0_pay8 k0_pay9 k0_pay6 width
  generalize k0_pay4 x = n
  generalize k0_pay3 x = s
  pointwise

end Cert.Kernel3Ideal.InProj

end
-- ==== Proof.InProjBlocks.lean ====
/-
  The operands of the input projection's backward launch and the blocks its points are given, from the arguments: casts are
  the identity over the extended reals, and the weight table is handed over cut into the eight shards of its columns.
-/
module

public import proofs.«01_k».proof.Proof.InProjPay

@[expose] public section

noncomputable section

namespace Cert.Kernel3Ideal.InProj

open Cert.Kernel3Ideal Cert.Kernel3Ideal.Gen Cert.Tables
open Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- The five arguments, as tables. -/
abbrev dT (c : Dev nD) : S8192x10240.Idx → EReal := m ((c : Thread nD τ).loc main_arg0)
abbrev wT (c : Dev nD) : S1024x10240.Idx → EReal := m ((c : Thread nD τ).loc main_arg1)
abbrev xT (c : Dev nD) : S8192x1024.Idx → EReal := m ((c : Thread nD τ).loc main_arg2)
abbrev nT (c : Dev nD) : S1024.Idx → EReal := m ((c : Thread nD τ).loc main_arg3)
abbrev oT (c : Dev nD) : S8192x1024.Idx → EReal := m ((c : Thread nD τ).loc main_arg4)

/-- The operands the launch is given. -/
abbrev dA (c : Dev nD) : S8192x10240.Idx → EReal := V m c main_v8
abbrev uA (c : Dev nD) : S8x512x1280.Idx → EReal := V m c main_v4
abbrev lA (c : Dev nD) : S8x512x1280.Idx → EReal := V m c main_v7
abbrev nA (c : Dev nD) : S1x1024.Idx → EReal := V m c main_v9

/-! ## The host's values -/

section Host
variable {F : FTy → Type} [FloatOps F]

/-- The weight table cut by rows into halves and by columns into shards. -/
def cutH (w : FVec F S1024x10240 .f32) : FVec F S2x512x8x1280 .bf16 :=
  shapeCast S2x512x8x1280 (truncf .bf16 w bitsLt_bf16_f32) shapeCasts_S1024x10240_S2x512x8x1280
/-- The upper and the lower half of its rows, shard by shard. -/
def upperH (w : FVec F S1024x10240 .f32) : FVec F S8x512x1280 .bf16 :=
  transpose S8x512x1280 [1, 0, 2] (shapeCast S512x8x1280 (extractStridedSlice S1x512x8x1280 ![0, 0, 0, 0] (cutH w) slices_S2x512x8x1280_S1x512x8x1280_0_0_0_0)
    shapeCasts_S1x512x8x1280_S512x8x1280) transposes_S512x8x1280_S8x512x1280_1_0_2
def lowerH (w : FVec F S1024x10240 .f32) : FVec F S8x512x1280 .bf16 :=
  transpose S8x512x1280 [1, 0, 2] (shapeCast S512x8x1280 (extractStridedSlice S1x512x8x1280 ![1, 0, 0, 0] (cutH w) slices_S2x512x8x1280_S1x512x8x1280_1_0_0_0)
    shapeCasts_S1x512x8x1280_S512x8x1280) transposes_S512x8x1280_S8x512x1280_1_0_2
end Host

theorem operand0 (c : Dev nD) : @Eq (FVec Ideal S8192x10240 .bf16) (V m c main_v8)
    (truncf .bf16 (m ((c : Thread nD τ).loc main_arg0) : FVec Ideal S8192x10240 .f32) bitsLt_bf16_f32) := by
  unfold V
  simp only [hostOps0]
  after_results
theorem operand1 (c : Dev nD) : @Eq (FVec Ideal S8x512x1280 .bf16) (V m c main_v4)
    (upperH (m ((c : Thread nD τ).loc main_arg1) : FVec Ideal S1024x10240 .f32)) := by
  unfold V
  simp only [hostOps0]
  after_results
  rfl
theorem operand2 (c : Dev nD) : @Eq (FVec Ideal S8x512x1280 .bf16) (V m c main_v7)
    (lowerH (m ((c : Thread nD τ).loc main_arg1) : FVec Ideal S1024x10240 .f32)) := by
  unfold V
  simp only [hostOps0]
  after_results
  rfl
theorem operand3 (c : Dev nD) : @Eq (FVec Ideal S1x1024 .f32) (V m c main_v9)
    (shapeCast S1x1024 (m ((c : Thread nD τ).loc main_arg3) : FVec Ideal S1024 .f32) shapeCasts_S1024_S1x1024) := by
  unfold V
  simp only [hostOps0]
  after_results
  rfl
theorem operand4 (c : Dev nD) : (fx m c : S8192x1024.Idx → EReal) = xT m c := V_main_arg2 m c
theorem operand5 (c : Dev nD) : (fg m c : S8192x1024.Idx → EReal) = oT m c := V_main_arg4 m c

theorem dA_eq (c : Dev nD) : dA m c = dT m c := (operand0 m c).trans (funext fun _ => rfl)
theorem nA_at (c : Dev nD) (q : Fin 1024) : nA m c (ix2 0 q) = nT m c (ix1 q) := by
  refine (congrFun (operand3 m c) _).trans ?_
  refine shapeCast_apply _ shapeCasts_S1024_S1x1024 _ (ix1 q) ?_
  rewrite [Shape.rowMajor_val_one, Shape.rowMajor_val_two]
  show q.val = 0 * 1024 + q.val
  omega

/-- An entry of the cut table. -/
theorem cutH_at (w : FVec Ideal S1024x10240 .f32) (h : Fin 2) (n : Fin 512) (s : Fin 8) (k : Fin 1280) :
    (cutH w : S2x512x8x1280.Idx → EReal) (ix4 h n s k) = at2 (w : S1024x10240.Idx → EReal) (h.val * 512 + n.val) (s.val * 1280 + k.val) := by
  have hh := h.isLt
  have hn := n.isLt
  have hs := s.isLt
  have hk := k.isLt
  rw [← at2_of (w : S1024x10240.Idx → EReal) (ix2 ⟨h.val * 512 + n.val, by omega⟩ ⟨s.val * 1280 + k.val, by omega⟩) (h.val * 512 + n.val) (s.val * 1280 + k.val) rfl rfl]
  unfold cutH
  refine shapeCast_apply _ shapeCasts_S1024x10240_S2x512x8x1280 _ (ix2 ⟨h.val * 512 + n.val, by omega⟩ ⟨s.val * 1280 + k.val, by omega⟩) ?_
  rewrite [Shape.rowMajor_val_two, Shape.rowMajor_val_four]
  show (h.val * 512 + n.val) * 10240 + (s.val * 1280 + k.val) = ((h.val * 512 + n.val) * 8 + s.val) * 1280 + k.val
  omega

theorem upperH_at (w : FVec Ideal S1024x10240 .f32) (s : Fin 8) (n : Fin 512) (k : Fin 1280) :
    (upperH w : S8x512x1280.Idx → EReal) (ix3 s n k) = (cutH w : S2x512x8x1280.Idx → EReal) (ix4 0 n s k) := by
  unfold upperH
  generalize cutH w = g
  pointwise
theorem lowerH_at (w : FVec Ideal S1024x10240 .f32) (s : Fin 8) (n : Fin 512) (k : Fin 1280) :
    (lowerH w : S8x512x1280.Idx → EReal) (ix3 s n k) = (cutH w : S2x512x8x1280.Idx → EReal) (ix4 1 n s k) := by
  unfold lowerH
  generalize cutH w = g
  pointwise

theorem uA_at (c : Dev nD) (s n k : ℕ) (hs : s < 8) (hn : n < 512) (hk : k < 1280) : at3 (uA m c) s n k = at2 (wT m c) n (s * 1280 + k) := by
  rw [← at3_of (uA m c) (ix3 ⟨s, hs⟩ ⟨n, hn⟩ ⟨k, hk⟩) s n k rfl rfl rfl]
  refine ((congrFun (operand1 m c) _).trans ((upperH_at _ _ _ _).trans (cutH_at _ _ _ _ _))).trans ?_
  show at2 (wT m c) (0 * 512 + n) _ = _
  rw [Nat.zero_mul, Nat.zero_add]
theorem lA_at (c : Dev nD) (s n k : ℕ) (hs : s < 8) (hn : n < 512) (hk : k < 1280) : at3 (lA m c) s n k = at2 (wT m c) (512 + n) (s * 1280 + k) := by
  rw [← at3_of (lA m c) (ix3 ⟨s, hs⟩ ⟨n, hn⟩ ⟨k, hk⟩) s n k rfl rfl rfl]
  refine ((congrFun (operand2 m c) _).trans ((lowerH_at _ _ _ _).trans (cutH_at _ _ _ _ _))).trans ?_
  show at2 (wT m c) (1 * 512 + n) _ = _
  rw [Nat.one_mul]

/-! ## The blocks -/

theorem map0 : ∀ t : Fin 32, win0_0.index t 0 = t.val / 4 ∧ win0_0.index t 1 = t.val % 4 := by decide +kernel
theorem map1 : ∀ t : Fin 32, win0_1.index t 0 = t.val % 4 ∧ win0_1.index t 1 = 0 ∧ win0_1.index t 2 = 0 := by decide +kernel
theorem map2 : ∀ t : Fin 32, win0_2.index t 0 = t.val % 4 ∧ win0_2.index t 1 = 0 ∧ win0_2.index t 2 = 0 := by decide +kernel
theorem map3 : ∀ t : Fin 32, win0_3.index t 0 = 0 ∧ win0_3.index t 1 = 0 := by decide +kernel
theorem map4 : ∀ t : Fin 32, win0_4.index t 0 = t.val / 4 ∧ win0_4.index t 1 = 0 := by decide +kernel
theorem map5 : ∀ t : Fin 32, win0_5.index t 0 = 0 ∧ win0_5.index t 1 = 0 := by decide +kernel

theorem block0 (c : Dev nD) (t : Fin cfg0.N) (a b : ℕ) (ha : a < 1024) (hb : b < 2560) :
    at2 (b0 m c t : S1024x2560.Idx → EReal) a b = at2 (dT m c) (t.val / 4 * 1024 + a) (t.val % 4 * 2560 + b) := by
  rw [← at2_of (b0 m c t : S1024x2560.Idx → EReal) (ix2 ⟨a, ha⟩ ⟨b, hb⟩) a b rfl rfl, ← dA_eq]
  unfold b0 iblk
  rw [View.read_apply]
  refine at2_of (dA m c) _ _ _ ?_ ?_
  · refine (win0_0.rect_emb_val t (ix2 ⟨a, ha⟩ ⟨b, hb⟩) 0).trans ?_
    rw [(map0 t).1]; rfl
  · refine (win0_0.rect_emb_val t (ix2 ⟨a, ha⟩ ⟨b, hb⟩) 1).trans ?_
    rw [(map0 t).2]; rfl

theorem block1 (c : Dev nD) (t : Fin cfg0.N) (h n k : ℕ) (hh : h < 2) (hn : n < 512) (hk : k < 1280) :
    at3 (b1 m c t : S2x512x1280.Idx → EReal) h n k = at2 (wT m c) n ((t.val % 4 * 2 + h) * 1280 + k) := by
  rw [← at3_of (b1 m c t : S2x512x1280.Idx → EReal) (ix3 ⟨h, hh⟩ ⟨n, hn⟩ ⟨k, hk⟩) h n k rfl rfl rfl, ← uA_at m c _ _ _ (by omega) hn hk]
  unfold b1 iblk
  rw [View.read_apply]
  refine at3_of (uA m c) _ _ _ _ ?_ ?_ ?_
  · refine (win0_1.rect_emb_val t (ix3 ⟨h, hh⟩ ⟨n, hn⟩ ⟨k, hk⟩) 0).trans ?_
    rw [(map1 t).1]; rfl
  · refine (win0_1.rect_emb_val t (ix3 ⟨h, hh⟩ ⟨n, hn⟩ ⟨k, hk⟩) 1).trans ?_
    rw [(map1 t).2.1]; exact (Nat.zero_mul _).symm ▸ Nat.zero_add _
  · refine (win0_1.rect_emb_val t (ix3 ⟨h, hh⟩ ⟨n, hn⟩ ⟨k, hk⟩) 2).trans ?_
    rw [(map1 t).2.2]; exact (Nat.zero_mul _).symm ▸ Nat.zero_add _

theorem block2 (c : Dev nD) (t : Fin cfg0.N) (h n k : ℕ) (hh : h < 2) (hn : n < 512) (hk : k < 1280) :
    at3 (b2 m c t : S2x512x1280.Idx → EReal) h n k = at2 (wT m c) (512 + n) ((t.val % 4 * 2 + h) * 1280 + k) := by
  rw [← at3_of (b2 m c t : S2x512x1280.Idx → EReal) (ix3 ⟨h, hh⟩ ⟨n, hn⟩ ⟨k, hk⟩) h n k rfl rfl rfl, ← lA_at m c _ _ _ (by omega) hn hk]
  unfold b2 iblk
  rw [View.read_apply]
  refine at3_of (lA m c) _ _ _ _ ?_ ?_ ?_
  · refine (win0_2.rect_emb_val t (ix3 ⟨h, hh⟩ ⟨n, hn⟩ ⟨k, hk⟩) 0).trans ?_
    rw [(map2 t).1]; rfl
  · refine (win0_2.rect_emb_val t (ix3 ⟨h, hh⟩ ⟨n, hn⟩ ⟨k, hk⟩) 1).trans ?_
    rw [(map2 t).2.1]; exact (Nat.zero_mul _).symm ▸ Nat.zero_add _
  · refine (win0_2.rect_emb_val t (ix3 ⟨h, hh⟩ ⟨n, hn⟩ ⟨k, hk⟩) 2).trans ?_
    rw [(map2 t).2.2]; exact (Nat.zero_mul _).symm ▸ Nat.zero_add _

theorem block3 (c : Dev nD) (t : Fin cfg0.N) (q : Fin 1024) : (b3 m c t : S1x1024.Idx → EReal) (ix2 0 q) = nT m c (ix1 q) := by
  rw [← nA_at]
  unfold b3 iblk
  rw [View.read_apply]
  refine congrArg (nA m c) ((eq_ix2 _).trans (congrArg₂ ix2 (Subsingleton.elim (α := Fin 1) _ _) (Fin.ext ?_)))
  refine (win0_3.rect_emb_val t (ix2 0 q) 1).trans ?_
  rw [(map3 t).2]; exact (Nat.zero_mul _).symm ▸ Nat.zero_add _

/-- A block of rows of one of the two arrays the body copies from. -/
theorem rowsAt_at (k : ℕ) (hk : k < 8) (f : Vec Ideal S8192x1024 .f32) (r q : ℕ) (hr : r < 1024) (hq : q < 1024) :
    at2 (rowsAt k f : S1024x1024.Idx → EReal) r q = at2 (f : S8192x1024.Idx → EReal) (k * 1024 + r) q := by
  rw [← at2_of (rowsAt k f : S1024x1024.Idx → EReal) (ix2 ⟨r, hr⟩ ⟨q, hq⟩) r q rfl rfl,
    ← at2_of (f : S8192x1024.Idx → EReal) (ix2 ⟨k * 1024 + r, by omega⟩ ⟨q, hq⟩) (k * 1024 + r) q rfl rfl]
  unfold rowsAt
  refine View.ld_unit_apply_of f _ _ _ _ _ (fun d => match d with | ⟨0, _⟩ => ?_ | ⟨1, _⟩ => (Nat.zero_add q).symm)
  show k * 1024 + r = k % 8 * 1024 + r
  rw [Nat.mod_eq_of_lt hk]

/-! ## Halves of a block -/

theorem dLo_at (x : Vec Ideal S1024x2560 .bf16) (a b : ℕ) (ha : a < 1024) (hb : b < 1280) :
    at2 (dLo x : S1024x1280.Idx → EReal) a b = at2 (x : S1024x2560.Idx → EReal) a b := by
  rw [← at2_of (dLo x : S1024x1280.Idx → EReal) (ix2 ⟨a, ha⟩ ⟨b, hb⟩) a b rfl rfl,
    ← at2_of (x : S1024x2560.Idx → EReal) (ix2 ⟨a, ha⟩ ⟨b, by omega⟩) a b rfl rfl]
  exact View.ld_unit_apply_of x _ _ _ _ _ (fun d => match d with | ⟨0, _⟩ => (Nat.zero_add a).symm | ⟨1, _⟩ => (Nat.zero_add b).symm)
theorem dHi_at (x : Vec Ideal S1024x2560 .bf16) (a b : ℕ) (ha : a < 1024) (hb : b < 1280) :
    at2 (dHi x : S1024x1280.Idx → EReal) a b = at2 (x : S1024x2560.Idx → EReal) a (1280 + b) := by
  rw [← at2_of (dHi x : S1024x1280.Idx → EReal) (ix2 ⟨a, ha⟩ ⟨b, hb⟩) a b rfl rfl,
    ← at2_of (x : S1024x2560.Idx → EReal) (ix2 ⟨a, ha⟩ ⟨1280 + b, by omega⟩) a (1280 + b) rfl rfl]
  exact View.ld_unit_apply_of x _ _ _ _ _ (fun d => match d with | ⟨0, _⟩ => (Nat.zero_add a).symm | ⟨1, _⟩ => rfl)
theorem wLo_at (x : Vec Ideal S2x512x1280 .bf16) (a b : ℕ) (ha : a < 512) (hb : b < 1280) :
    at3 (wLo x : S1x512x1280.Idx → EReal) 0 a b = at3 (x : S2x512x1280.Idx → EReal) 0 a b := by
  rw [← at3_of (wLo x : S1x512x1280.Idx → EReal) (ix3 0 ⟨a, ha⟩ ⟨b, hb⟩) 0 a b rfl rfl rfl,
    ← at3_of (x : S2x512x1280.Idx → EReal) (ix3 0 ⟨a, ha⟩ ⟨b, hb⟩) 0 a b rfl rfl rfl]
  exact View.ld_unit_apply_of x _ _ _ _ _ (fun d => match d with | ⟨0, _⟩ => rfl | ⟨1, _⟩ => (Nat.zero_add a).symm | ⟨2, _⟩ => (Nat.zero_add b).symm)
theorem wHi_at (x : Vec Ideal S2x512x1280 .bf16) (a b : ℕ) (ha : a < 512) (hb : b < 1280) :
    at3 (wHi x : S1x512x1280.Idx → EReal) 0 a b = at3 (x : S2x512x1280.Idx → EReal) 1 a b := by
  rw [← at3_of (wHi x : S1x512x1280.Idx → EReal) (ix3 0 ⟨a, ha⟩ ⟨b, hb⟩) 0 a b rfl rfl rfl,
    ← at3_of (x : S2x512x1280.Idx → EReal) (ix3 1 ⟨a, ha⟩ ⟨b, hb⟩) 1 a b rfl rfl rfl]
  exact View.ld_unit_apply_of x _ _ _ _ _ (fun d => match d with | ⟨0, _⟩ => rfl | ⟨1, _⟩ => (Nat.zero_add a).symm | ⟨2, _⟩ => (Nat.zero_add b).symm)
theorem aLo_at (x : Vec Ideal S1024x1024 .f32) (y : S1024x512.Idx) :
    (aLo x : S1024x512.Idx → EReal) y = at2 (x : S1024x1024.Idx → EReal) (y 0).val (y 1).val := by
  have h0 : (y 0).val < 1024 := (y 0).isLt
  have h1 : (y 1).val < 512 := (y 1).isLt
  rw [← at2_of (x : S1024x1024.Idx → EReal) (ix2 ⟨(y 0).val, h0⟩ ⟨(y 1).val, by omega⟩) (y 0).val (y 1).val rfl rfl]
  exact View.ld_unit_apply_of x _ _ _ _ _ (fun d => match d with | ⟨0, _⟩ => (Nat.zero_add _).symm | ⟨1, _⟩ => (Nat.zero_add _).symm)
theorem aHi_at (x : Vec Ideal S1024x1024 .f32) (y : S1024x512.Idx) :
    (aHi x : S1024x512.Idx → EReal) y = at2 (x : S1024x1024.Idx → EReal) (y 0).val (512 + (y 1).val) := by
  have h0 : (y 0).val < 1024 := (y 0).isLt
  have h1 : (y 1).val < 512 := (y 1).isLt
  rw [← at2_of (x : S1024x1024.Idx → EReal) (ix2 ⟨(y 0).val, h0⟩ ⟨512 + (y 1).val, by omega⟩) (y 0).val (512 + (y 1).val) rfl rfl]
  exact View.ld_unit_apply_of x _ _ _ _ _ (fun d => match d with | ⟨0, _⟩ => (Nat.zero_add _).symm | ⟨1, _⟩ => rfl)

end Cert.Kernel3Ideal.InProj

end
-- ==== Proof.InProjValue.lean ====
/-
  What the input projection's backward launch leaves in its two results, over the extended reals.
-/
module

public import proofs.«01_k».proof.Proof.InProjBlocks

@[expose] public section

noncomputable section

namespace Cert.Kernel3Ideal.InProj

open Cert.Kernel3Ideal Cert.Kernel3Ideal.Gen Cert.Tables
open Idealize.ShloMosaic Idealize.ShloMosaic.TcCoe Idealize.SL.Sem
open Idealize.ShloMosaic.Pipeline (Dat)

/-! ## The two results -/

/-- The gradient of a normalised entry before its column's scale: the projection's gradient against the weights. -/
def gn (d : S8192x10240.Idx → EReal) (w : S1024x10240.Idx → EReal) (r q : ℕ) : EReal := ∑ k : Fin 10240, at2 d r k.val * at2 w q k.val

/-- An entry of the residual stream's gradient: what comes from the layer after, and the normalisation's two terms. -/
def dxE (d : S8192x10240.Idx → EReal) (w : S1024x10240.Idx → EReal) (x : S8192x1024.Idx → EReal) (n : S1024.Idx → EReal) (o : S8192x1024.Idx → EReal)
    (r : ℕ) (q : Fin 1024) : EReal :=
  at2 o r q.val + scaleS x r * (gn d w r q.val * n (ix1 q))
    - at2 x r q.val * scaleS x r * (scaleS x r * Ideal.div (∑ k : Fin 1024, gn d w r k.val * n (ix1 k) * (at2 x r k.val * scaleS x r)) width)
/-- An entry of the scales' gradient: the sum over the rows. -/
def dnE (d : S8192x10240.Idx → EReal) (w : S1024x10240.Idx → EReal) (x : S8192x1024.Idx → EReal) (q : ℕ) : EReal :=
  ∑ r : Fin 8192, gn d w r.val q * (at2 x r.val q * scaleS x r.val)

def dxT (d : S8192x10240.Idx → EReal) (w : S1024x10240.Idx → EReal) (x : S8192x1024.Idx → EReal) (n : S1024.Idx → EReal) (o : S8192x1024.Idx → EReal) :
    S8192x1024.Idx → EReal := fun i => dxE d w x n o (i 0).val (i 1)
def dnT (d : S8192x10240.Idx → EReal) (w : S1024x10240.Idx → EReal) (x : S8192x1024.Idx → EReal) : S1x1024.Idx → EReal := fun i => dnE d w x (i 1).val

variable (m : (ℓ : Loc nD τ sig) → Buf (Elt Ideal) ℓ) (ρ : Dev nD → PrngReg)

/-! ## The running gradient -/

/-- One product of the projection's gradient against the weights. -/
def term (c : Dev nD) (r q k : ℕ) : EReal := at2 (dT m c) r k * at2 (wT m c) q k

theorem step_at (c : Dev nD) (t : Fin cfg0.N) (a : Vec Ideal S1024x1024 .f32) (y : S1024x1024.Idx) :
    (accStep (b0 m c t) (b1 m c t) (b2 m c t) a : S1024x1024.Idx → EReal) y
      = at2 (a : S1024x1024.Idx → EReal) (y 0).val (y 1).val
        + ((∑ k ∈ Finset.range 1280, term m c (t.val / 4 * 1024 + (y 0).val) (y 1).val (t.val % 4 * 2560 + k))
          + ∑ k ∈ Finset.range 1280, term m c (t.val / 4 * 1024 + (y 0).val) (y 1).val (t.val % 4 * 2560 + 1280 + k)) := by
  have y0 : (y 0).val < 1024 := (y 0).isLt
  have y1 : (y 1).val < 1024 := (y 1).isLt
  rw [Finset.sum_range, Finset.sum_range]
  unfold accStep
  refine View.canon_eq_of_allAt _ y _ (half_cover _ _ y) ?_
  refine View.allAt_cons_unit _ _ _ _ _ (fun x hx => ?_) (View.allAt_cons_unit _ _ _ _ _ (fun x hx => ?_) (View.allAt_nil _ _))
  · have e0 : (y 0).val = 0 + (x 0).val := hx 0
    have e1 : (y 1).val = 512 + (x 1).val := hx 1
    have l0 : (x 0).val < 1024 := (x 0).isLt
    have l1 : (x 1).val < 512 := (x 1).isLt
    refine (step_hi _ _ _ _ _ x).trans ?_
    rw [e0, e1, Nat.zero_add, aHi_at]
    refine congrArg (_ + ·) (congrArg₂ (· + ·) (Finset.sum_congr rfl fun k _ => ?_) (Finset.sum_congr rfl fun k _ => ?_))
    · have lk : k.val < 1280 := k.isLt
      rw [dLo_at _ _ _ l0 lk, wLo_at _ _ _ l1 lk, block0 m c t _ _ l0 (by omega), block2 m c t _ _ _ (by omega) l1 lk]
      unfold term
      rw [show (t.val % 4 * 2 + 0) * 1280 + k.val = t.val % 4 * 2560 + k.val by omega]
    · have lk : k.val < 1280 := k.isLt
      rw [dHi_at _ _ _ l0 lk, wHi_at _ _ _ l1 lk, block0 m c t _ _ l0 (by omega), block2 m c t _ _ _ (by omega) l1 lk]
      unfold term
      rw [show (t.val % 4 * 2 + 1) * 1280 + k.val = t.val % 4 * 2560 + 1280 + k.val by omega, Nat.add_assoc]
  · have e0 : (y 0).val = 0 + (x 0).val := hx 0
    have e1 : (y 1).val = 0 + (x 1).val := hx 1
    have l0 : (x 0).val < 1024 := (x 0).isLt
    have l1 : (x 1).val < 512 := (x 1).isLt
    refine (step_lo _ _ _ _ _ x).trans ?_
    rw [e0, e1, Nat.zero_add, Nat.zero_add, aLo_at]
    refine congrArg (_ + ·) (congrArg₂ (· + ·) (Finset.sum_congr rfl fun k _ => ?_) (Finset.sum_congr rfl fun k _ => ?_))
    · have lk : k.val < 1280 := k.isLt
      rw [dLo_at _ _ _ l0 lk, wLo_at _ _ _ l1 lk, block0 m c t _ _ l0 (by omega), block1 m c t _ _ _ (by omega) l1 lk]
      unfold term
      rw [show (t.val % 4 * 2 + 0) * 1280 + k.val = t.val % 4 * 2560 + k.val by omega]
    · have lk : k.val < 1280 := k.isLt
      rw [dHi_at _ _ _ l0 lk, wHi_at _ _ _ l1 lk, block0 m c t _ _ l0 (by omega), block1 m c t _ _ _ (by omega) l1 lk]
      unfold term
      rw [show (t.val % 4 * 2 + 1) * 1280 + k.val = t.val % 4 * 2560 + 1280 + k.val by omega, Nat.add_assoc]

theorem two_more (f : ℕ → EReal) (a : ℕ) :
    (∑ k ∈ Finset.range a, f k) + ((∑ k ∈ Finset.range 1280, f (a + k)) + ∑ k ∈ Finset.range 1280, f (a + 1280 + k)) = ∑ k ∈ Finset.range (a + 2560), f k := by
  rw [show a + 2560 = a + 1280 + 1280 from rfl, Finset.sum_range_add, Finset.sum_range_add, add_assoc]

/-- After a point of a block of rows: the products of the columns so far. -/
theorem acc_part (c : Dev nD) (i : ℕ) (hi : i < 8) (y : S1024x1024.Idx) : ∀ j : ℕ, j < 4 →
    (accS m c (4 * i + j + 1) : S1024x1024.Idx → EReal) y = ∑ k ∈ Finset.range (j * 2560 + 2560), term m c (i * 1024 + (y 0).val) (y 1).val k
  | 0, _ => by
    obtain ⟨t, ht⟩ : ∃ t : Fin cfg0.N, t.val = 4 * i + 0 := ⟨⟨4 * i + 0, by show _ < grid0.N; rw [N_0]; omega⟩, rfl⟩
    rw [← ht]
    refine (congrFun (accS_first m c t (by omega)) y).trans ((step_at m c t _ y).trans ?_)
    rw [← at2_of (k0_pay11 (F := Ideal) : S1024x1024.Idx → EReal) y _ _ rfl rfl, acc_clear, ← two_more,
      show t.val / 4 = i by omega, show t.val % 4 * 2560 = 0 * 2560 by omega, Nat.zero_mul, Finset.sum_range_zero]
  | j + 1, hj => by
    obtain ⟨t, ht⟩ : ∃ t : Fin cfg0.N, t.val = 4 * i + (j + 1) := ⟨⟨4 * i + (j + 1), by show _ < grid0.N; rw [N_0]; omega⟩, rfl⟩
    rw [← ht]
    refine (congrFun (accS_next m c t (by omega)) y).trans ((step_at m c t _ y).trans ?_)
    rw [← at2_of (accS m c t.val : S1024x1024.Idx → EReal) y _ _ rfl rfl, ht, ← Nat.add_assoc, acc_part c i hi y j (by omega),
      show (4 * i + j + 1) / 4 = i by omega, show (4 * i + j + 1) % 4 * 2560 = j * 2560 + 2560 by omega,
      show (j + 1) * 2560 = j * 2560 + 2560 by omega]
    exact two_more _ _

/-- After a block of rows: the whole product. -/
theorem acc_whole (c : Dev nD) (t : Fin cfg0.N) (h : t.val % 4 = 3) (r q : Fin 1024) :
    (accS m c (t.val + 1) : S1024x1024.Idx → EReal) (ix2 r q) = gn (dT m c) (wT m c) (t.val / 4 * 1024 + r.val) q.val := by
  have ht := lt32 t
  rw [show t.val + 1 = 4 * (t.val / 4) + 3 + 1 by omega, acc_part m c (t.val / 4) (by omega) (ix2 r q) 3 (by omega)]
  unfold gn
  exact Finset.sum_range fun k => term m c (t.val / 4 * 1024 + r.val) q.val k

/-! ## The residual stream's gradient -/

theorem scale_rows (k : ℕ) (hk : k < 8) (f : Vec Ideal S8192x1024 .f32) (r : ℕ) (hr : r < 1024) :
    scaleS (A := 1024) (rowsAt k f : S1024x1024.Idx → EReal) r = scaleS (A := 8192) (f : S8192x1024.Idx → EReal) (k * 1024 + r) := by
  unfold scaleS meanS
  refine congrArg (fun s => Ideal.rsqrt (Ideal.div s width + small)) (Finset.sum_congr rfl fun j _ => ?_)
  rw [rowsAt_at k hk f r j.val hr j.isLt]

theorem dx_entry (c : Dev nD) (t : Fin cfg0.N) (h : t.val % 4 = 3) (y : S1024x1024.Idx) :
    (dxOf (accS m c (t.val + 1)) (rowsAt (t.val / 4) (fx m c)) (b3 m c t) (rowsAt (t.val / 4) (fg m c)) : S1024x1024.Idx → EReal) y
      = dxE (dT m c) (wT m c) (xT m c) (nT m c) (oT m c) (t.val / 4 * 1024 + (y 0).val) (y 1) := by
  obtain ⟨r, q, rfl⟩ : ∃ (r : Fin 1024) (q : Fin 1024), y = ix2 r q := ⟨y 0, y 1, eq_ix2 y⟩
  have ht := lt32 t
  have k8 : t.val / 4 < 8 := by omega
  have ex : ∀ k : Fin 1024, (rowsAt (t.val / 4) (fx m c) : S1024x1024.Idx → EReal) (ix2 r k) = at2 (xT m c) (t.val / 4 * 1024 + r.val) k.val := fun k => by
    rw [at2_of (rowsAt (t.val / 4) (fx m c) : S1024x1024.Idx → EReal) (ix2 r k) r.val k.val rfl rfl, rowsAt_at _ k8 _ _ _ r.isLt k.isLt, operand4]
  have eo : (rowsAt (t.val / 4) (fg m c) : S1024x1024.Idx → EReal) (ix2 r q) = at2 (oT m c) (t.val / 4 * 1024 + r.val) q.val := by
    rw [at2_of (rowsAt (t.val / 4) (fg m c) : S1024x1024.Idx → EReal) (ix2 r q) r.val q.val rfl rfl, rowsAt_at _ k8 _ _ _ r.isLt q.isLt, operand5]
  have es : scaleS (A := 1024) (rowsAt (t.val / 4) (fx m c) : S1024x1024.Idx → EReal) r.val = scaleS (xT m c) (t.val / 4 * 1024 + r.val) := by
    rw [scale_rows _ k8 _ _ r.isLt, operand4]
  have ea : ∀ k : Fin 1024, (accS m c (t.val + 1) : S1024x1024.Idx → EReal) (ix2 r k) = gn (dT m c) (wT m c) (t.val / 4 * 1024 + r.val) k.val :=
    acc_whole m c t h r
  have eg : ∀ k : Fin 1024, (b3 m c t : S1x1024.Idx → EReal) (ix2 0 k) = nT m c (ix1 k) := block3 m c t
  generalize accS m c (t.val + 1) = a at ea ⊢
  generalize rowsAt (t.val / 4) (fx m c) = x at ex es ⊢
  generalize rowsAt (t.val / 4) (fg m c) = o at eo ⊢
  generalize b3 m c t = g at eg ⊢
  refine (dx_at a x g o r q).trans ?_
  unfold dxE
  simp only [es, eo, ex, ea, eg]
  simp only [ix2_0, ix2_1]

theorem dx_of (c : Dev nD) (i : S8192x1024.Idx) (r : ℕ) (q : Fin 1024) (hr : (i 0).val = r) (hq : (i 1).val = q.val) :
    dxE (dT m c) (wT m c) (xT m c) (nT m c) (oT m c) r q = dxT (dT m c) (wT m c) (xT m c) (nT m c) (oT m c) i := by
  subst hr
  obtain rfl : i 1 = q := Fin.ext hq
  rfl

set_option maxRecDepth 16384 in
theorem flushed_dx (c : Dev nD) (t : Fin cfg0.N) (hf : (cfg0.win 4).flush t = true) :
    (dats m 0 c).flushed 4 t = ((cfg0.win 4).blk t).view.read (Elt Ideal) (dxT (dT m c) (wT m c) (xT m c) (nT m c) (oT m c)) := by
  show (cfg0.win 4).cut (grid0.coords t) ((dats m 0 c).after 4 t) = _
  rw [after_4]
  funext y
  rw [View.read_apply]
  refine (dx_entry m c t ((flush0_4 t).mp hf) y).trans ?_
  have e0 := win0_4.rect_emb_val t y 0
  have e1 := win0_4.rect_emb_val t y 1
  rw [(map4 t).1] at e0
  rw [(map4 t).2] at e1
  exact dx_of m c _ _ _ e0 (e1.trans ((Nat.zero_mul _).symm ▸ Nat.zero_add _))

theorem covered_dx (i : S8192x1024.Idx) : ∃ t : Fin cfg0.N, (cfg0.win 4).flush t = true ∧ i ∈ ((cfg0.win 4).blk t).view.set := by
  have h0 : (i 0).val < 8192 := (i 0).isLt
  have h1 : (i 1).val < 1024 := (i 1).isLt
  obtain ⟨t, ht⟩ : ∃ t : Fin cfg0.N, t.val = 4 * ((i 0).val / 1024) + 3 := ⟨⟨_, by show _ < grid0.N; rw [N_0]; omega⟩, rfl⟩
  refine ⟨t, (flush0_4 t).mpr (by omega), ?_⟩
  obtain ⟨m0, m1⟩ := map4 t
  show i ∈ ((View.whole main_v10_0).slice (win0_4.rect t)).set
  rw [View.set_slice_whole, Rect.mem_set_unit]
  intro a
  match a with
  | ⟨0, _⟩ =>
    show win0_4.index t 0 * 1024 ≤ (i 0).val ∧ (i 0).val < win0_4.index t 0 * 1024 + 1024
    rw [m0]; omega
  | ⟨1, _⟩ =>
    show win0_4.index t 1 * 1024 ≤ (i 1).val ∧ (i 1).val < win0_4.index t 1 * 1024 + 1024
    rw [m1]; omega

/-! ## The scales' gradient -/

/-- What a row adds to a column's scale gradient. -/
def rowTerm (c : Dev nD) (q r : ℕ) : EReal := gn (dT m c) (wT m c) r q * (at2 (xT m c) r q * scaleS (xT m c) r)

theorem dg_block (c : Dev nD) (i : ℕ) (hi : i < 8) (q : Fin 1024) :
    (dgS m c (4 * i + 4) : S1x1024.Idx → EReal) (ix2 0 q)
      = (dgS m c (4 * i) : S1x1024.Idx → EReal) (ix2 0 q) + ∑ r ∈ Finset.range 1024, rowTerm m c q.val (i * 1024 + r) := by
  obtain ⟨t, ht⟩ : ∃ t : Fin cfg0.N, t.val = 4 * i + 3 := ⟨⟨4 * i + 3, by show _ < grid0.N; rw [N_0]; omega⟩, rfl⟩
  have h3 : t.val % 4 = 3 := by omega
  have hd : t.val / 4 = i := by omega
  rw [show 4 * i + 4 = t.val + 1 by omega, dgS_last m c t h3, dg_step, ht, dgS_keep m c (4 * i + 2) (by omega), dgS_keep m c (4 * i + 1) (by omega),
    dgS_keep m c (4 * i) (by omega), Finset.sum_range]
  refine congrArg (_ + ·) (Finset.sum_congr rfl fun r _ => ?_)
  rw [← ht, acc_whole m c t h3, hd, scale_rows _ hi _ _ r.isLt,
    at2_of (rowsAt i (fx m c) : S1024x1024.Idx → EReal) (ix2 r q) r.val q.val rfl rfl, rowsAt_at _ hi _ _ _ r.isLt q.isLt, operand4]
  rfl

theorem dg_part (c : Dev nD) (q : Fin 1024) : ∀ i : ℕ, i ≤ 8 →
    (dgS m c (4 * i) : S1x1024.Idx → EReal) (ix2 0 q) = ∑ r ∈ Finset.range (i * 1024), rowTerm m c q.val r
  | 0, _ => by
    rw [Nat.zero_mul, Finset.sum_range_zero]
    exact dg_clear _
  | i + 1, hi => by
    rw [show 4 * (i + 1) = 4 * i + 4 by omega, dg_block m c i (by omega), dg_part c q i (by omega), show (i + 1) * 1024 = i * 1024 + 1024 by omega,
      Finset.sum_range_add]

theorem dg_whole (c : Dev nD) (y : S1x1024.Idx) : (dgS m c 32 : S1x1024.Idx → EReal) y = dnT (dT m c) (wT m c) (xT m c) y := by
  obtain ⟨a, q, rfl⟩ : ∃ (a : Fin 1) (q : Fin 1024), y = ix2 a q := ⟨y 0, y 1, eq_ix2 y⟩
  obtain rfl : a = 0 := Subsingleton.elim _ _
  refine (dg_part m c q 8 (by omega)).trans ?_
  unfold dnT dnE
  exact Finset.sum_range fun r => rowTerm m c q.val r

theorem dn_of (c : Dev nD) (i j : S1x1024.Idx) (h : (j 1).val = (i 1).val) : dnT (dT m c) (wT m c) (xT m c) i = dnT (dT m c) (wT m c) (xT m c) j := by
  unfold dnT
  rw [h]

set_option maxRecDepth 16384 in
theorem flushed_dn (c : Dev nD) (t : Fin cfg0.N) (hf : (cfg0.win 5).flush t = true) :
    (dats m 0 c).flushed 5 t = ((cfg0.win 5).blk t).view.read (Elt Ideal) (dnT (dT m c) (wT m c) (xT m c)) := by
  have ht := lt32 t
  have h31 : t.val % 32 = 31 := (flush0_5 t).mp hf
  show (cfg0.win 5).cut (grid0.coords t) ((dats m 0 c).after 5 t) = _
  rw [after_5, show t.val + 1 = 32 by omega]
  funext y
  rw [View.read_apply]
  refine (dg_whole m c y).trans (dn_of m c _ _ ?_)
  refine (win0_5.rect_emb_val t y 1).trans ?_
  rw [(map5 t).2]; exact (Nat.zero_mul _).symm ▸ Nat.zero_add _

theorem covered_dn (i : S1x1024.Idx) : ∃ t : Fin cfg0.N, (cfg0.win 5).flush t = true ∧ i ∈ ((cfg0.win 5).blk t).view.set := by
  have h0 : (i 0).val < 1 := (i 0).isLt
  have h1 : (i 1).val < 1024 := (i 1).isLt
  obtain ⟨t, ht⟩ : ∃ t : Fin cfg0.N, t.val = 31 := ⟨⟨31, by show _ < grid0.N; rw [N_0]; omega⟩, rfl⟩
  refine ⟨t, (flush0_5 t).mpr (by omega), ?_⟩
  obtain ⟨m0, m1⟩ := map5 t
  show i ∈ ((View.whole main_v10_1).slice (win0_5.rect t)).set
  rw [View.set_slice_whole, Rect.mem_set_unit]
  intro a
  match a with
  | ⟨0, _⟩ =>
    show win0_5.index t 0 * 1 ≤ (i 0).val ∧ (i 0).val < win0_5.index t 0 * 1 + 1
    rw [m0]; omega
  | ⟨1, _⟩ =>
    show win0_5.index t 1 * 1024 ≤ (i 1).val ∧ (i 1).val < win0_5.index t 1 * 1024 + 1024
    rw [m1]; omega

/-- The run: the two results, and the arguments unchanged. -/
theorem run_value : θ_run defs (onTc (τ := τ) (main (F := Ideal))) ⟨m, fun _ => 0, ρ⟩ fun r => ∀ c : Dev nD,
      r.2.mem ((c : Thread nD τ).loc main_v10_0) = dxT (dT m c) (wT m c) (xT m c) (nT m c) (oT m c)
      ∧ r.2.mem ((c : Thread nD τ).loc main_v10_1) = dnT (dT m c) (wT m c) (xT m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => by
      refine ⟨?_, ?_, args_kept m h.1.toR c⟩
      · exact ((h.1.1 c).1 4).trans ((dats m 0 c).arrAt_eq_of_cover 4 _ (flushed_dx m c) covered_dx)
      · exact ((h.1.1 c).1 5).trans ((dats m 0 c).arrAt_eq_of_cover 5 _ (flushed_dn m c) covered_dn))
    (run_main m ρ)

end Cert.Kernel3Ideal.InProj

end
-- ==== Proof.InProjScale.lean ====
/-
  The gradient of a row's normalisation over the extended reals: the two ways of writing its second term agree, at the
  infinities too, with nothing assumed of the row.
-/
module

public import proofs.«01_k».proof.Proof.InProjPay

@[expose] public section

noncomputable section

namespace Cert.Kernel3Ideal.InProj

open Cert.Kernel3Ideal Cert.Kernel3Ideal.Gen Cert.Tables
open Idealize.ShloMosaic

/-- Minus one half. -/
def minusHalf : EReal := Ideal.ofBits .f32 0xBF000000#32

theorem width_eq : width = ((1024 : ℝ) : EReal) := by
  unfold width
  simp [Ideal.ofBits, Ideal.ieee, -EReal.coe_mul]
  norm_num
theorem minusHalf_eq : minusHalf = ((-(1 / 2) : ℝ) : EReal) := by
  unfold minusHalf
  simp [Ideal.ofBits, Ideal.ieee, -EReal.coe_mul, -EReal.coe_neg]
  norm_num
theorem small_pos : ∃ e : ℝ, 0 < e ∧ small = (e : EReal) := by
  refine ⟨8796093 * (2 : ℝ) ^ (-43 : ℤ), by positivity, ?_⟩
  unfold small
  simp [Ideal.ofBits, Ideal.ieee, -EReal.coe_mul]

/-- A square is not negative. -/
theorem square_nonneg (x : EReal) : 0 ≤ x * x := by
  induction x with
  | bot => simp
  | top => simp
  | coe r => rw [← EReal.coe_mul]; exact EReal.coe_nonneg.mpr (mul_self_nonneg r)

/-- A row's mean square and a little more: a positive number, or infinite. -/
theorem meanS_pos {A : ℕ} (x : (⟨2, ![A, 1024]⟩ : Shape).Idx → EReal) (r : ℕ) : meanS x r = ⊤ ∨ ∃ v : ℝ, 0 < v ∧ meanS x r = (v : EReal) := by
  obtain ⟨e, he, hs⟩ := small_pos
  have h : 0 ≤ ∑ k : Fin 1024, at2 x r k.val * at2 x r k.val := Finset.sum_nonneg fun k _ => square_nonneg _
  unfold meanS
  rw [width_eq, hs, Ideal.div_coe (by norm_num)]
  generalize (∑ k : Fin 1024, at2 x r k.val * at2 x r k.val) = s at h
  induction s with
  | bot => exact absurd h (by simp)
  | top =>
    left
    rw [EReal.top_mul_coe_of_pos (by norm_num), EReal.top_add_coe]
  | coe s =>
    right
    have hs' : 0 ≤ s := EReal.coe_nonneg.mp h
    exact ⟨s * (1 / 1024) + e, by positivity, by push_cast; rfl⟩

/-- A real factor that is not negative comes out of a sum. -/
theorem sum_scaled {n : ℕ} (c : ℝ) (hc : 0 ≤ c) (x y : Fin n → EReal) : ∑ k, y k * (x k * (c : EReal)) = (∑ k, x k * y k) * (c : EReal) := by
  have h : ∀ s : Finset (Fin n), ∑ k ∈ s, y k * (x k * (c : EReal)) = (∑ k ∈ s, x k * y k) * (c : EReal) := fun s => by
    induction s using Finset.cons_induction with
    | empty => simp
    | cons a s ha ih =>
      rw [Finset.sum_cons, Finset.sum_cons, ih, EReal.right_distrib_of_nonneg_of_ne_top (EReal.coe_nonneg.mpr hc) (EReal.coe_ne_top c)]
      congr 1
      rw [← mul_assoc, mul_comm (y a)]
  exact h Finset.univ

/-- Twice a product with a number that is not positive. -/
theorem twice (z : EReal) (d : ℝ) (hd : 0 ≤ d) : z * ((-d : ℝ) : EReal) + z * ((-d : ℝ) : EReal) = -(z * ((d + d : ℝ) : EReal)) := by
  have e : ∀ c : ℝ, z * ((-c : ℝ) : EReal) = -z * (c : EReal) := fun c => by rw [EReal.coe_neg, mul_neg, neg_mul]
  rw [e, ← neg_mul, EReal.coe_add, EReal.left_distrib_of_nonneg (EReal.coe_nonneg.mpr hd) (EReal.coe_nonneg.mpr hd)]

/-- The two ways of writing the normalisation's second term. -/
theorem second_term {A n : ℕ} (t : (⟨2, ![A, 1024]⟩ : Shape).Idx → EReal) (r : ℕ) (x y : Fin n → EReal) (a z : EReal) :
    a + z * Ideal.div ((∑ k, x k * y k) * (minusHalf * Ideal.div (scaleS t r) (meanS t r))) width
        + Ideal.div ((∑ k, x k * y k) * (minusHalf * Ideal.div (scaleS t r) (meanS t r))) width * z
      = a - z * scaleS t r * (scaleS t r * Ideal.div (∑ k, y k * (x k * scaleS t r)) width) := by
  unfold scaleS
  rcases meanS_pos t r with h | ⟨v, hv, h⟩
  · rw [h, Ideal.rsqrt_top]
    have e : Ideal.div 0 ⊤ = 0 := by simp [Ideal.div]
    have e' : Ideal.div 0 width = 0 := by rw [width_eq, Ideal.div_coe (by norm_num), zero_mul]
    rw [e, mul_zero, mul_zero, e']
    simp
  · have hq : 0 < Real.sqrt v := Real.sqrt_pos.mpr hv
    rw [h, Ideal.rsqrt_coe, if_neg (not_lt.mpr hv.le), if_neg hv.ne', width_eq, minusHalf_eq, Ideal.div_coe hv.ne',
      Ideal.div_coe (by norm_num), Ideal.div_coe (by norm_num)]
    have hρ : (Real.sqrt v)⁻¹ * (1 / v) = (Real.sqrt v)⁻¹ * ((Real.sqrt v)⁻¹ * (Real.sqrt v)⁻¹) := by
      rw [← mul_inv, Real.mul_self_sqrt hv.le, one_div]
    have hp : 0 < (Real.sqrt v)⁻¹ := inv_pos.mpr hq
    generalize (Real.sqrt v)⁻¹ = ρ at hρ hp ⊢
    rw [sum_scaled ρ hp.le x y]
    generalize (∑ k, x k * y k) = S
    have e1 : z * (S * (((-(1 / 2) : ℝ) : EReal) * ((ρ : EReal) * ((1 / v : ℝ) : EReal))) * ((1 / 1024 : ℝ) : EReal))
        = z * S * ((-(ρ * (ρ * ρ) / 2048) : ℝ) : EReal) := by
      rw [mul_assoc z S, mul_assoc S, ← EReal.coe_mul, ← EReal.coe_mul, ← EReal.coe_mul, hρ]
      congr 3
      ring
    have e2 : z * (ρ : EReal) * ((ρ : EReal) * (S * (ρ : EReal) * ((1 / 1024 : ℝ) : EReal))) = z * S * ((ρ * (ρ * ρ) / 2048 + ρ * (ρ * ρ) / 2048 : ℝ) : EReal) := by
      rw [show (ρ * (ρ * ρ) / 2048 + ρ * (ρ * ρ) / 2048 : ℝ) = ρ * (ρ * (ρ * (1 / 1024))) by ring, EReal.coe_mul, EReal.coe_mul, EReal.coe_mul]
      ac_rfl
    rw [mul_comm _ z, e1, e2, add_assoc, twice _ _ (by positivity), sub_eq_add_neg]

end Cert.Kernel3Ideal.InProj

end
-- ==== Proof.InProjReference.lean ====
/-
  The reference of the input projection's backward launch, entry by entry: the same two tables.
-/
module

public import proofs.«01_k».proof.Proof.InProjValue
public import proofs.«01_k».proof.Proof.InProjScale
public import proofs.«01_k».proof.Proof.Gen.Reference3Ideal.Run
public import proofs.«01_k».proof.Proof.Gen.Reference3Ideal.Read

@[expose] public section

noncomputable section

namespace Cert.Reference3Ideal.InProj

open Cert.Reference3Ideal Cert.Reference3Ideal.Gen Cert.Reference3Ideal.Read Cert.Tables
open Cert.Kernel3Ideal.InProj (width small meanS scaleS gn dxE dnE dxT dnT minusHalf second_term)
open Idealize.ShloMosaic Idealize.ShloMosaic.TcCoe Idealize.SL.Sem

variable (d : S8192x10240.Idx → EReal) (w : S1024x10240.Idx → EReal) (x : S8192x1024.Idx → EReal) (n : S1024.Idx → EReal) (o : S8192x1024.Idx → EReal)

/-- The constants. -/
theorem zero_of (i : S_.Idx) : (constant (F := Ideal) S_ .f32 0x00000000#32 : S_.Idx → EReal) i = 0 := by
  pointwise
theorem width_of (i : S_.Idx) : (constant (F := Ideal) S_ .f32 0x44800000#32 : S_.Idx → EReal) i = width := rfl
theorem small_of (i : S_.Idx) : (constant (F := Ideal) S_ .f32 0x358637BD#32 : S_.Idx → EReal) i = small := rfl
theorem half_of (i : S_.Idx) : (constant (F := Ideal) S_ .f32 0xBF000000#32 : S_.Idx → EReal) i = minusHalf := rfl

/-- A row's mean square and a little more. -/
theorem mean_at (i : S8192x1.Idx) : (val_main_v6 (F := Ideal) x : S8192x1.Idx → EReal) i = meanS x (i 0).val := by
  rw [val_main_v6_apply, val_main_v4_apply, val_main_v2_apply, val_main_v1_apply, val_main_v3_apply, val_main_v5_apply]
  unfold val_main_cst val_main_cst_0 val_main_cst_1
  rw [zero_of, width_of, small_of, zero_add]
  unfold meanS
  refine congrArg (fun s => Ideal.div s width + small) (Finset.sum_congr rfl fun k _ => ?_)
  rw [val_main_v0_apply]
  exact congrArg₂ (· * ·) (at2_of x _ _ _ rfl rfl) (at2_of x _ _ _ rfl rfl)

/-- A row's scale. -/
theorem scale_at (i : S8192x1.Idx) : (val_main_v7 (F := Ideal) x : S8192x1.Idx → EReal) i = scaleS x (i 0).val := by
  rw [val_main_v7_apply, mean_at]
  rfl

/-- The projection's gradient against the weights. -/
theorem gn_at (i : S8192x1024.Idx) : (val_main_v17 (F := Ideal) d w : S8192x1024.Idx → EReal) i = gn d w (i 0).val (i 1).val := by
  rw [val_main_v17_apply]
  unfold gn
  exact Finset.sum_congr rfl fun k _ => congrArg₂ (· * ·) (at2_of d _ _ _ rfl rfl) (at2_of w _ _ _ rfl rfl)

/-- The same, with the column's scale. -/
theorem gy_at (i : S8192x1024.Idx) : (val_main_v22 (F := Ideal) d w n : S8192x1024.Idx → EReal) i = gn d w (i 0).val (i 1).val * n (ix1 (i 1)) := by
  rw [val_main_v22_apply, gn_at, val_main_v21_apply, val_main_v13_apply]
  exact congrArg (gn d w (i 0).val (i 1).val * n ·) (eq_ix1 _)

/-- The row's sum, times what the row's mean square passes on. -/
theorem pass_at (i : S8192x1024.Idx) :
    (val_main_v34 (F := Ideal) d w x n : S8192x1024.Idx → EReal) i
      = Ideal.div ((∑ k : Fin 1024, at2 x (i 0).val k.val * (gn d w (i 0).val k.val * n (ix1 k)))
          * (minusHalf * Ideal.div (scaleS x (i 0).val) (meanS x (i 0).val))) width := by
  have e : idx_main_v26 (idx_main_v33 (idx_main_v34 i) 0) = idx_main_v34 i := funext fun a => match a with
    | ⟨0, _⟩ => Fin.ext (show (i 0).val * 1 + 0 = (i 0).val by omega)
  rw [val_main_v34_apply, val_main_v33_apply]
  unfold val_main_cst_7
  rw [zero_of, zero_add, Fin.sum_univ_one, val_main_v32_apply, val_main_v30_apply, val_main_v26_apply, e, val_main_v25_apply, val_main_v31_apply,
    val_main_v10_apply, val_main_v9_apply, val_main_v8_apply, scale_at, mean_at]
  unfold val_main_cst_5 val_main_cst_6 val_main_cst_2
  rw [zero_of, zero_add, width_of, half_of]
  refine congrArg (fun s => Ideal.div (s * (minusHalf * Ideal.div (scaleS x (i 0).val) (meanS x (i 0).val))) width) (Finset.sum_congr rfl fun k _ => ?_)
  rw [val_main_v24_apply, gy_at, Ideal.mulf_def, at2_of x (idx_main_v25 (idx_main_v34 i) k) (i 0).val k.val rfl rfl]
  rfl

theorem result0 : (val_main_v38 (F := Ideal) d w x n o : S8192x1024.Idx → EReal) = dxT d w x n o := funext fun i => by
  rw [val_main_v38_apply, val_main_v36_apply, val_main_v29_apply, val_main_v35_apply, val_main_v37_apply, val_main_v28_apply, gy_at, pass_at,
    val_main_v27_apply, scale_at]
  unfold dxT dxE
  rw [at2_of x i _ _ rfl rfl, at2_of o i _ _ rfl rfl]
  refine (second_term x (i 0).val (fun k : Fin 1024 => at2 x (i 0).val k.val) (fun k => gn d w (i 0).val k.val * n (ix1 k)) _ _).trans ?_
  rw [mul_comm (scaleS x (i 0).val) (gn d w (i 0).val (i 1).val * n (ix1 (i 1)))]
  rfl

theorem result1 : (val_main_v39 (F := Ideal) d w x : S1x1024.Idx → EReal) = dnT d w x := funext fun i => by
  have h0 : (i 0).val < 1 := (i 0).isLt
  rw [val_main_v39_apply, val_main_v23_apply]
  unfold val_main_cst_4
  rw [zero_of, zero_add, Fin.sum_univ_one, val_main_v20_apply, val_main_v19_apply]
  unfold val_main_cst_3
  rw [zero_of, zero_add]
  unfold dnT dnE
  refine Finset.sum_congr rfl fun r _ => ?_
  rw [val_main_v18_apply, gn_at, val_main_v12_apply, val_main_v11_apply, scale_at]
  refine (mul_comm _ _).trans ?_
  have e : 0 * 1024 + ((i 0).val * 1024 + (i 1).val) = (i 1).val := by omega
  exact congrArg₂ (· * ·) (congrArg (gn d w r.val) e) (congrArg (· * scaleS x r.val) (at2_of x _ _ _ rfl e))

end Cert.Reference3Ideal.InProj

end
-- ==== Proof.SameText4.lean ====
/- The kernel and its reading at the reals have the same text: a frame proved of the one over any float values is
   a frame of the other. -/
module

public import proofs.«01_k».proof.Defs
public import proofs.«01_k».proof.Proof.Gen.Kernel4
public import proofs.«01_k».proof.Proof.Gen.Kernel4Ideal

@[expose] public section

set_option backward.isDefEq.respectTransparency.types false
set_option backward.isDefEq.respectTransparency false
set_option maxHeartbeats 4000000

noncomputable section

namespace Cert.Kernel4.Same

open Idealize.ShloMosaic Idealize.SL.Sem

/-- The two bodies are the same. -/
theorem bodies : Cert.Kernel4.defs₀ (F := Bits) = Cert.Kernel4Ideal.defs₀ (F := Bits) := by
  refine congrArg Defs.onTc (funext fun l => ?_)
  match l with
  | 0 => exact funext fun a => rfl
  | ⟨n + 1, h⟩ => exact absurd h (by omega)
/-- So are the tables of what the programs call, -/
theorem defs : Cert.Kernel4.defs (F := Bits) = Cert.Kernel4Ideal.defs (F := Bits) :=
  congrArg (Pipeline.defs (Cert.Kernel4Ideal.pcfgs (F := Bits))) bodies
/-- and the host programs. -/
theorem main : Cert.Kernel4.main (F := Bits) = Cert.Kernel4Ideal.main (F := Bits) := rfl

/-- A run of the kernel is a run of its reading. -/
theorem run (m : (ℓ : Loc Cert.Kernel4Ideal.nD Cert.Kernel4Ideal.τ Cert.Kernel4Ideal.sig) → Buf (Elt Bits) ℓ) (ρ : Dev Cert.Kernel4Ideal.nD → PrngReg) :
    θ_run (Cert.Kernel4.defs (F := Bits)) (onTc (τ := Cert.Kernel4.τ) (Cert.Kernel4.main (F := Bits))) ⟨m, fun _ => 0, ρ⟩
      = θ_run (Cert.Kernel4Ideal.defs (F := Bits)) (onTc (τ := Cert.Kernel4Ideal.τ) (Cert.Kernel4Ideal.main (F := Bits))) ⟨m, fun _ => 0, ρ⟩ := by
  rw [defs, main]; exact rfl

end Cert.Kernel4.Same

end
-- ==== Proof.ForwardFrame.lean ====
/-
  The input projection's forward launch: one point of it, in the two cases the body's test tells apart, and the run of the
  launch: the first point of each block of rows normalises the rows, every point multiplies them with its shard of the weights.
-/
module

public import proofs.«01_k».proof.Proof.Gen.Kernel4Ideal.Frame
public import proofs.«01_k».proof.Proof.Gen.Kernel4Ideal.Skeleton
public import proofs.«01_k».proof.Proof.Gen.Kernel4Ideal.Points
public import Idealize.ShloMosaic.Lib.Pipeline.FrameValue
public import Idealize.ShloMosaic.Lib.Pipeline.Value
public import Idealize.ShloMosaic.Lib.Pipeline.ValueKit.Tiles

@[expose] public section

set_option maxRecDepth 16384

noncomputable section

namespace Cert.Kernel4Ideal.InProj

open Cert.Kernel4Ideal Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What a point reads and stores -/

/-- The two halves of the columns of the normalised rows. -/
abbrev hLo (x : Vec F S2048x1024 .bf16) : Vec F S2048x512 .bf16 := View.ld x (Rect.unit (s := S2048x1024) ![0, 0] S2048x512.size inb_S2048x1024_S2048x512_0_0)
abbrev hHi (x : Vec F S2048x1024 .bf16) : Vec F S2048x512 .bf16 := View.ld x (Rect.unit (s := S2048x1024) ![0, 512] S2048x512.size inb_S2048x1024_S2048x512_0_512)

/-- The normalised rows times a shard of the weights. -/
def projOf (h : Vec F S2048x1024 .bf16) (wu wl : Vec F S1x512x1280 .bf16) : Vec F S2048x1280 .bf16 := k0_pay2 (hLo h) wu (hHi h) wl

theorem zeros2 : (![0, 0] : Fin 2 → ℕ) = fun _ => 0 := by decide
theorem zeros3 : (![0, 0, 0] : Fin 3 → ℕ) = fun _ => 0 := by decide

/-- A store of a whole block, read back. -/
theorem stored {sp : Space} {S : Shape} {e : EltTy} (v : View sig .tc sp S e) (f : v.ty.Contents (Elt F)) {off : Fin S.rank → ℕ}
    (h : off = fun _ => 0) (inb : ∀ a, off a + S.size a ≤ S.size a) (w : S.Idx → Elt F e) :
    View.read (Elt F) v (v.writes (Elt F) f [⟨Rect.unit off S.size inb, w⟩]) = w := by
  rw [View.writes_singleton]
  funext y
  have hy : (Rect.unit off S.size inb).emb y = y := funext fun a => Fin.ext (by
    subst h
    exact (Nat.zero_add _).trans (Nat.one_mul _))
  have := View.read_writes_cons_emb (v := v) (f := f) (Rect.unit off S.size inb) w [] y
  rw [hy, View.writes_singleton] at this
  exact this

theorem read_x (a : Memref sig .tc .vmem S2048x1024 .f32) (h : a.IsWhole) (x : Vec F S2048x1024 .f32) :
    View.readAt (Elt F) a.view (Rect.unit (s := S2048x1024) ![0, 0] S2048x1024.size inb_S2048x1024_S2048x1024_0_0).toLoadRect (h.unread x) = x := by
  rw [View.readAt_eq_ld, h.read_unread]
  exact View.ld_unit_zero (S := S2048x1024) zeros2 _ _
theorem read_g (a : Memref sig .tc .vmem S1x1024 .f32) (h : a.IsWhole) (x : Vec F S1x1024 .f32) :
    View.readAt (Elt F) a.view (Rect.unit (s := S1x1024) ![0, 0] S1x1024.size inb_S1x1024_S1x1024_0_0).toLoadRect (h.unread x) = x := by
  rw [View.readAt_eq_ld, h.read_unread]
  exact View.ld_unit_zero (S := S1x1024) zeros2 _ _
theorem read_w (a : Memref sig .tc .vmem S1x512x1280 .bf16) (h : a.IsWhole) (x : Vec F S1x512x1280 .bf16) :
    View.readAt (Elt F) a.view (Rect.unit (s := S1x512x1280) ![0, 0, 0] S1x512x1280.size inb_S1x512x1280_S1x512x1280_0_0_0).toLoadRect (h.unread x) = x := by
  rw [View.readAt_eq_ld, h.read_unread]
  exact View.ld_unit_zero (S := S1x512x1280) zeros3 _ _
theorem read_lo (a : Memref sig .tc .vmem S2048x1024 .bf16) (h : a.IsWhole) (x : Vec F S2048x1024 .bf16) :
    View.readAt (Elt F) a.view (Rect.unit (s := S2048x1024) ![0, 0] S2048x512.size inb_S2048x1024_S2048x512_0_0).toLoadRect (h.unread x) = hLo x := by
  rw [View.readAt_eq_ld, h.read_unread]
theorem read_hi (a : Memref sig .tc .vmem S2048x1024 .bf16) (h : a.IsWhole) (x : Vec F S2048x1024 .bf16) :
    View.readAt (Elt F) a.view (Rect.unit (s := S2048x1024) ![0, 512] S2048x512.size inb_S2048x1024_S2048x512_0_512).toLoadRect (h.unread x) = hHi x := by
  rw [View.readAt_eq_ld, h.read_unread]
theorem cov_lo (a : Memref sig .tc .vmem S2048x1024 .bf16) (z : Vec F S2048x1024 .bf16) :
    a.view.readCov (Val := Elt F) [⟨Rect.unit (s := S2048x1024) ![0, 0] S2048x1024.size inb_S2048x1024_S2048x1024_0_0, z⟩]
      (Rect.unit (s := S2048x1024) ![0, 0] S2048x512.size inb_S2048x1024_S2048x512_0_0).toLoadRect = hLo z := by
  unfold View.readCov
  rw [View.readAt_eq_ld, stored (S := S2048x1024) a.view _ zeros2]
theorem cov_hi (a : Memref sig .tc .vmem S2048x1024 .bf16) (z : Vec F S2048x1024 .bf16) :
    a.view.readCov (Val := Elt F) [⟨Rect.unit (s := S2048x1024) ![0, 0] S2048x1024.size inb_S2048x1024_S2048x1024_0_0, z⟩]
      (Rect.unit (s := S2048x1024) ![0, 512] S2048x512.size inb_S2048x1024_S2048x512_0_512).toLoadRect = hHi z := by
  unfold View.readCov
  rw [View.readAt_eq_ld, stored (S := S2048x1024) a.view _ zeros2]

/-! ## The body at a point -/

/-- The four input blocks of a point, at these contents. -/
def ins (c : Dev nD) (arg2 : Memref sig .tc .vmem S2048x1024 .f32) (arg3 : Memref sig .tc .vmem S1x1024 .f32) (arg4 arg5 : Memref sig .tc .vmem S1x512x1280 .bf16)
    (x : Vec F S2048x1024 .f32) (g : Vec F S1x1024 .f32) (wu wl : Vec F S1x512x1280 .bf16) : sProp 𝕄 :=
  iprop(owns (c : Thread nD τ) arg2 fullShare x ∗ owns (c : Thread nD τ) arg3 fullShare g ∗ owns (c : Thread nD τ) arg4 fullShare wu
      ∗ owns (c : Thread nD τ) arg5 fullShare wl)

/-- The first point of a block of rows. -/
theorem run_first (c : Dev nD) (i : grid0.Coords) (arg2 : Memref sig .tc .vmem S2048x1024 .f32) (harg2 : arg2.IsWhole) (arg3 : Memref sig .tc .vmem S1x1024 .f32) (harg3 : arg3.IsWhole)
    (arg4 : Memref sig .tc .vmem S1x512x1280 .bf16) (harg4 : arg4.IsWhole) (arg5 : Memref sig .tc .vmem S1x512x1280 .bf16) (harg5 : arg5.IsWhole)
    (arg6 : Memref sig .tc .vmem S2048x1280 .bf16) (harg6 : arg6.IsWhole) (arg7 : Memref sig .tc .vmem S2048x1024 .bf16) (harg7 : arg7.IsWhole)
    (h1 : k0_cond1 i = 1#1) (x : Vec F S2048x1024 .f32) (g : Vec F S1x1024 .f32) (wu wl : Vec F S1x512x1280 .bf16) (K : PUnit → sProp 𝕄) :
    iprop(ins c arg2 arg3 arg4 arg5 x g wu wl ∗ (∃ d, owns (c : Thread nD τ) arg6 fullShare d) ∗ (∃ d, owns (c : Thread nD τ) arg7 fullShare d)
      ∗ (iprop(ins c arg2 arg3 arg4 arg5 x g wu wl ∗ owns (c : Thread nD τ) arg6 fullShare (projOf (k0_pay1 x g) wu wl)
          ∗ owns (c : Thread nD τ) arg7 fullShare (k0_pay1 x g)) -∗ K ⟨⟩))
      ⊢ wp frame (wpE (defs₀ (F := F)) Variants.none c none) Set.univ
        (cc0_in_proj i arg2 harg2 arg3 harg3 arg4 harg4 arg5 harg5 arg6 harg6 arg7 harg7) K := by
  rw [cc0_in_proj_eq_skeleton]
  unfold cc0_in_proj_skel ins owns
  iintro ⟨⟨⟨%f0, %hf0, H0⟩, ⟨%f1, %hf1, H1⟩, ⟨%f2, %hf2, H2⟩, ⟨%f3, %hf3, H3⟩⟩, ⟨%d6, %f6, %hf6, H6⟩, ⟨%d7, %f7, %hf7, H7⟩, Hk⟩
  obtain rfl := harg2.eq_unread hf0
  obtain rfl := harg3.eq_unread hf1
  obtain rfl := harg4.eq_unread hf2
  obtain rfl := harg5.eq_unread hf3
  sl_exec (disch := first | sl_exact h1)
  sl_step
  iapply Hk
  isplitl [H0 H1 H2 H3]
  · isplitl [H0]; · iexists _; isplitr; · ipureintro; exact harg2.read_unread _
                    iexact H0
    isplitl [H1]; · iexists _; isplitr; · ipureintro; exact harg3.read_unread _
                    iexact H1
    isplitl [H2]; · iexists _; isplitr; · ipureintro; exact harg4.read_unread _
                    iexact H2
    iexists _; isplitr; · ipureintro; exact harg5.read_unread _
    iexact H3
  isplitl [H6]
  · iexists _; isplitr
    swap; · iexact H6
    ipureintro
    refine (stored (S := S2048x1280) arg6.view f6 zeros2 _ _).trans ?_
    sl_unfold_run_names
    unfold projOf
    simp -proj only [read_x, read_g, read_w, cov_lo, cov_hi]
  iexists _; isplitr
  swap; · iexact H7
  ipureintro
  refine (stored (S := S2048x1024) arg7.view f7 zeros2 _ _).trans ?_
  sl_unfold_run_names
  simp -proj only [read_x, read_g]

/-- The other points of a block of rows. -/
theorem run_next (c : Dev nD) (i : grid0.Coords) (arg2 : Memref sig .tc .vmem S2048x1024 .f32) (harg2 : arg2.IsWhole) (arg3 : Memref sig .tc .vmem S1x1024 .f32) (harg3 : arg3.IsWhole)
    (arg4 : Memref sig .tc .vmem S1x512x1280 .bf16) (harg4 : arg4.IsWhole) (arg5 : Memref sig .tc .vmem S1x512x1280 .bf16) (harg5 : arg5.IsWhole)
    (arg6 : Memref sig .tc .vmem S2048x1280 .bf16) (harg6 : arg6.IsWhole) (arg7 : Memref sig .tc .vmem S2048x1024 .bf16) (harg7 : arg7.IsWhole)
    (h1 : ¬ k0_cond1 i = 1#1) (x : Vec F S2048x1024 .f32) (g : Vec F S1x1024 .f32) (wu wl : Vec F S1x512x1280 .bf16) (h : Vec F S2048x1024 .bf16) (K : PUnit → sProp 𝕄) :
    iprop(ins c arg2 arg3 arg4 arg5 x g wu wl ∗ (∃ d, owns (c : Thread nD τ) arg6 fullShare d) ∗ owns (c : Thread nD τ) arg7 fullShare h
      ∗ (iprop(ins c arg2 arg3 arg4 arg5 x g wu wl ∗ owns (c : Thread nD τ) arg6 fullShare (projOf h wu wl)
          ∗ owns (c : Thread nD τ) arg7 fullShare h) -∗ K ⟨⟩))
      ⊢ wp frame (wpE (defs₀ (F := F)) Variants.none c none) Set.univ
        (cc0_in_proj i arg2 harg2 arg3 harg3 arg4 harg4 arg5 harg5 arg6 harg6 arg7 harg7) K := by
  rw [cc0_in_proj_eq_skeleton]
  unfold cc0_in_proj_skel ins owns
  iintro ⟨⟨⟨%f0, %hf0, H0⟩, ⟨%f1, %hf1, H1⟩, ⟨%f2, %hf2, H2⟩, ⟨%f3, %hf3, H3⟩⟩, ⟨%d6, %f6, %hf6, H6⟩, ⟨%f7, %hf7, H7⟩, Hk⟩
  obtain rfl := harg2.eq_unread hf0
  obtain rfl := harg3.eq_unread hf1
  obtain rfl := harg4.eq_unread hf2
  obtain rfl := harg5.eq_unread hf3
  obtain rfl := harg7.eq_unread hf7
  sl_exec (disch := first | sl_exact h1)
  sl_step
  iapply Hk
  isplitl [H0 H1 H2 H3]
  · isplitl [H0]; · iexists _; isplitr; · ipureintro; exact harg2.read_unread _
                    iexact H0
    isplitl [H1]; · iexists _; isplitr; · ipureintro; exact harg3.read_unread _
                    iexact H1
    isplitl [H2]; · iexists _; isplitr; · ipureintro; exact harg4.read_unread _
                    iexact H2
    iexists _; isplitr; · ipureintro; exact harg5.read_unread _
    iexact H3
  isplitl [H6]
  · iexists _; isplitr
    swap; · iexact H6
    ipureintro
    refine (stored (S := S2048x1280) arg6.view f6 zeros2 _ _).trans ?_
    sl_unfold_run_names
    unfold projOf
    simp -proj only [read_w, read_lo, read_hi]
  iexists _; isplitr; · ipureintro; exact harg7.read_unread _
  iexact H7

variable (m : (ℓ : Loc nD τ sig) → Buf (Elt F) ℓ) (ρ : Dev nD → PrngReg)

/-! ## What each point finds and leaves -/

/-- The blocks the body is given at a point. -/
abbrev b0 (c : Dev nD) (t : Fin cfg0.N) : Vec F S2048x1024 .f32 := iblk m c 0 t
abbrev b1 (c : Dev nD) (t : Fin cfg0.N) : Vec F S1x1024 .f32 := iblk m c 1 t
abbrev b2 (c : Dev nD) (t : Fin cfg0.N) : Vec F S1x512x1280 .bf16 := iblk m c 2 t
abbrev b3 (c : Dev nD) (t : Fin cfg0.N) : Vec F S1x512x1280 .bf16 := iblk m c 3 t

/-- The grid's points by number. -/
def pnt (n : ℕ) : Fin cfg0.N := ⟨n % 32, by show _ < grid0.N; rw [N_0]; omega⟩
theorem pnt_val (t : Fin cfg0.N) : pnt t.val = t := Fin.ext (Nat.mod_eq_of_lt (by have h : t.val < grid0.N := t.isLt; rw [N_0] at h; exact h))
theorem lt32 (t : Fin cfg0.N) : t.val < 32 := by have h : t.val < grid0.N := t.isLt; rw [N_0] at h; exact h

/-- The normalised rows after `n` points: the first point of each block of rows makes them. -/
def rowsS (c : Dev nD) : ℕ → Vec F S2048x1024 .bf16
  | 0 => k0_pay1 (b0 m c (pnt 0)) (b1 m c (pnt 0))
  | n + 1 => if n % 8 = 0 then k0_pay1 (b0 m c (pnt n)) (b1 m c (pnt n)) else rowsS c n

theorem rowsS_first (c : Dev nD) (t : Fin cfg0.N) (h : t.val % 8 = 0) : rowsS m c (t.val + 1) = k0_pay1 (b0 m c t) (b1 m c t) := by
  rw [rowsS, if_pos h, pnt_val]
theorem rowsS_keep (c : Dev nD) (n : ℕ) (h : ¬ n % 8 = 0) : rowsS m c (n + 1) = rowsS m c n := by
  rw [rowsS, if_neg h]

/-- The points the body's test holds at. -/
theorem cond_iff : ∀ t : Fin cfg0.N, k0_cond1 (grid0.coords t) = 1#1 ↔ t.val % 8 = 0 := by decide +kernel

/-! ## The pipeline's proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => projOf (rowsS m c (t.val + 1)) (b2 m c t) (b3 m c t)
    | ⟨5, _⟩ => rowsS m c (t.val + 1)
  Φ _ := Pipeline.ΦA spec0 c
  q _ := fullShare
  owed _ := 0

theorem A_eq (c : Dev nD) (w : Fin cfg0.W) : (dats m 0 c).A w = V m c (Pipeline.arrRef spec0 w) := by
  dsimp only [dats]
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = projOf (rowsS m c (t.val + 1)) (b2 m c t) (b3 m c t) := by dsimp only [dats]
theorem after_5 (c : Dev nD) (t : Fin cfg0.N) : (dats m 0 c).after 5 t = rowsS m c (t.val + 1) := by dsimp only [dats]

theorem before_0 (c : Dev nD) (t : Fin cfg0.N) (d) : (dats m 0 c).before 0 t d = iblk m c 0 t := before0_0_of m (dats m 0 c) (A_eq m c 0) (after_0 m c) t d
theorem before_1 (c : Dev nD) (t : Fin cfg0.N) (d) : (dats m 0 c).before 1 t d = iblk m c 1 t := before0_1_of m (dats m 0 c) (A_eq m c 1) (after_1 m c) t d
theorem before_2 (c : Dev nD) (t : Fin cfg0.N) (d) : (dats m 0 c).before 2 t d = iblk m c 2 t := before0_2_of m (dats m 0 c) (A_eq m c 2) (after_2 m c) t d
theorem before_3 (c : Dev nD) (t : Fin cfg0.N) (d) : (dats m 0 c).before 3 t d = iblk m c 3 t := before0_3_of m (dats m 0 c) (A_eq m c 3) (after_3 m c) t d

theorem idle5 : ∀ t : Fin cfg0.N, ¬ t.val % 8 = 0 → cfg0.idle 5 (cfg0.grid.coords t) = true := fun t h => by
  show (!(decide (k0_cond1 (grid0.coords t) = 1#1))) = true
  rw [decide_eq_false (fun hc => h ((cond_iff t).1 hc))]; rfl
theorem live5 : ∀ t : Fin cfg0.N, t.val % 8 = 0 → cfg0.idle 5 (cfg0.grid.coords t) = false := fun t h => by
  show (!(decide (k0_cond1 (grid0.coords t) = 1#1))) = false
  rw [decide_eq_true ((cond_iff t).2 h)]; rfl

/-- Within a block of rows the normalised rows are found as the point before left them. -/
theorem before_5 (c : Dev nD) : ∀ (n : ℕ) (t : Fin cfg0.N), t.val = n → ¬ n % 8 = 0 → ∀ d, (dats m 0 c).before 5 t d = rowsS m c n := by
  intro n
  induction n with
  | zero => intro t _ h; exact absurd rfl h
  | succ n ih =>
    intro t ht hn d
    have hlt := lt32 t
    rw [(dats m 0 c).before_of_pos 5 t (by omega) ((cfg0.win 5).fetch_out rfl t) d]
    obtain ⟨t', ht'⟩ : ∃ t' : Fin cfg0.N, t' = ⟨t.val - 1, Nat.lt_of_le_of_lt (Nat.sub_le _ _) t.isLt⟩ := ⟨_, rfl⟩
    have hv : t'.val = n := by rw [ht']; show t.val - 1 = n; omega
    rw [← ht']
    rw [if_neg (fun h => by have := (flush0_5 t').1 h; omega)]
    unfold Dat.left
    by_cases h : t'.val % 8 = 0
    · rw [live5 t' h]
      show (dats m 0 c).kept 5 t' d = _
      rw [show (dats m 0 c).kept 5 t' d = (dats m 0 c).after 5 t' from rfl, after_5, hv]
    · rw [idle5 t' h]
      show (dats m 0 c).before 5 t' d = _
      rw [ih t' hv (by omega) d, rowsS_keep m c n (by omega)]

/-! ## One point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t) ∗ (dats m 0 c).leavesExact 5 t)

theorem leaves_first (c : Dev nD) (t : Fin cfg0.N) (h : t.val % 8 = 0) :
    owns (c : Thread nD τ) (st0_5 t) fullShare (k0_pay1 (b0 m c t) (b1 m c t)) ⊢ (dats m 0 c).leavesExact 5 t := by
  unfold Dat.leavesExact
  rw [live5 t h, after_5, rowsS_first m c t h]
theorem leaves_next (c : Dev nD) (t : Fin cfg0.N) (h : ¬ t.val % 8 = 0) (d) :
    owns (c : Thread nD τ) (st0_5 t) fullShare ((dats m 0 c).before 5 t d) ⊢ (dats m 0 c).leavesExact 5 t := by
  unfold Dat.leavesExact
  rw [idle5 t h]
  by_cases hf : (cfg0.win 5).flush t = true
  · rw [hf, after_5, rowsS_keep m c _ h, before_5 m c t.val t rfl h d]
  · rw [Bool.eq_false_iff.mpr hf]
    iintro H
    iexists d
    iexact H

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, after_0, after_1, after_2, after_3, after_4]
  rw [show (dats m 0 c).Φ t.succ = (dats m 0 c).Φ t.castSucc from rfl, show (dats m 0 c).owesAt () t.succ = (dats m 0 c).owesAt () t.castSucc from rfl]
  by_cases h0 : t.val % 8 = 0
  · rw [rowsS_first m c t h0]
    iintro ⟨HΦ, Ho, ⟨%d0, H0⟩, ⟨%d1, H1⟩, ⟨%d2, H2⟩, ⟨%d3, H3⟩, ⟨%d4, H4⟩, ⟨%d5, H5⟩⟩
    iapply run_first c (grid0.coords t) _ _ _ _ _ _ _ _ _ _ _ _ ((cond_iff t).2 h0) (b0 m c t) (b1 m c t) (b2 m c t) (b3 m c t)
    isplitl [H0 H1 H2 H3]
    · unfold ins
      isplitl [H0]; · iexact H0
      isplitl [H1]; · iexact H1
      isplitl [H2]; · iexact H2
      iexact H3
    isplitl [H4]; · iexists _; iexact H4
    isplitl [H5]; · iexists _; iexact H5
    iintro ⟨HI, H4, H5⟩
    unfold ins
    icases HI with ⟨H0, H1, H2, H3⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    iapply leaves_first m c t h0
    iexact H5
  · rw [rowsS_keep m c _ h0]
    iintro ⟨HΦ, Ho, ⟨%d0, H0⟩, ⟨%d1, H1⟩, ⟨%d2, H2⟩, ⟨%d3, H3⟩, ⟨%d4, H4⟩, ⟨%d5, H5⟩⟩
    rw [before_5 m c t.val t rfl h0 d5]
    iapply run_next c (grid0.coords t) _ _ _ _ _ _ _ _ _ _ _ _ (fun h => h0 ((cond_iff t).1 h)) (b0 m c t) (b1 m c t) (b2 m c t) (b3 m c t) (rowsS m c t.val)
    isplitl [H0 H1 H2 H3]
    · unfold ins
      isplitl [H0]; · iexact H0
      isplitl [H1]; · iexact H1
      isplitl [H2]; · iexact H2
      iexact H3
    isplitl [H4]; · iexists _; iexact H4
    isplitl [H5]; · iexact H5
    iintro ⟨HI, H4, H5⟩
    unfold ins
    icases HI with ⟨H0, H1, H2, H3⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    iapply leaves_next m c t h0 d5
    rw [before_5 m c t.val t rfl h0 d5]
    iexact H5

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run -/

set_option backward.isDefEq.respectTransparency.types false in
theorem run_main : θ_run defs (onTc (τ := τ) (main (F := F))) (s₀ m ρ) (fun r => Pipeline.FramePost cfgs (dats m) 0 (V m) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The argument arrays at the end of a run. -/
theorem args_kept {r : PUnit × MemSt nD τ sig (Elt F)} (h : Pipeline.FramePost cfgs (dats m) 0 (V m) r) (c : Dev nD) :
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2) :=
  ⟨((h c).1 0).trans (((dats m 0 c).arrAt_in 0 rfl _).trans ((A_eq m c 0).trans (V_main_arg0 m c))),
    ((h c).2 main_arg1 (Pipeline.mem_restRefs_of main_arg1 (by decide) (by decide))).trans (V_main_arg1 m c),
    ((h c).2 main_arg2 (Pipeline.mem_restRefs_of main_arg2 (by decide) (by decide))).trans (V_main_arg2 m c)⟩

end Cert.Kernel4Ideal.InProj

end
-- ==== Proof.ForwardValue.lean ====
/-
  The input projection's forward launch, entry by entry, over the extended reals: the rows made to have mean square one and
  scaled by columns, and those rows times the weights. The weights are handed over cut into the eight shards of their columns
  and each shard into two halves of its rows, so every entry's sum is made of two.
-/
module

public import proofs.«01_k».proof.Proof.InProjPay
public import proofs.«01_k».proof.Proof.ForwardFrame

@[expose] public section

noncomputable section

namespace Cert.Kernel4Ideal.InProj

open Cert.Kernel4Ideal Cert.Kernel4Ideal.Gen Cert.Tables
open Cert.Kernel3Ideal.InProj (width small meanS scaleS)
open Idealize.ShloMosaic Idealize.ShloMosaic.TcCoe Idealize.SL.Sem
open Idealize.ShloMosaic.Pipeline (Dat)

/-! ## One point -/

/-- The rows a block's first point makes. -/
theorem norm_entry (x : Vec Ideal S2048x1024 .f32) (g : Vec Ideal S1x1024 .f32) (r : Fin 2048) (q : Fin 1024) :
    (k0_pay1 x g : S2048x1024.Idx → EReal) (ix2 r q) = x (ix2 r q) * scaleS (A := 2048) x r.val * g (ix2 0 q) := by
  have e : ∀ k : Fin 1024, at2 (x : S2048x1024.Idx → EReal) r.val k.val * at2 (x : S2048x1024.Idx → EReal) r.val k.val = x (ix2 r k) * x (ix2 r k) := fun k =>
    congrArg₂ (· * ·) (at2_of x (ix2 r k) _ _ rfl rfl).symm (at2_of x (ix2 r k) _ _ rfl rfl).symm
  unfold scaleS meanS width small
  simp only [e]
  unfold k0_pay1
  pointwise

/-- Two half products. -/
theorem halves_entry (x z : Vec Ideal S2048x512 .bf16) (w v : Vec Ideal S1x512x1280 .bf16) (r : Fin 2048) (q : Fin 1280) :
    (k0_pay2 x w z v : S2048x1280.Idx → EReal) (ix2 r q)
      = (∑ k : Fin 512, x (ix2 r k) * w (ix3 0 k q)) + ∑ k : Fin 512, z (ix2 r k) * v (ix3 0 k q) := by
  unfold k0_pay2
  pointwise [dot_S2048x512_S512x1280_S2048x1280_1_0_0_1_n_n]

theorem hLo_at (x : Vec Ideal S2048x1024 .bf16) (r : Fin 2048) (k : Fin 512) :
    (hLo x : S2048x512.Idx → EReal) (ix2 r k) = x (ix2 r ⟨k.val, by omega⟩) :=
  View.ld_unit_apply_of x _ _ _ _ _ (fun d => match d with | ⟨0, _⟩ => (Nat.zero_add r.val).symm | ⟨1, _⟩ => (Nat.zero_add k.val).symm)
theorem hHi_at (x : Vec Ideal S2048x1024 .bf16) (r : Fin 2048) (k : Fin 512) :
    (hHi x : S2048x512.Idx → EReal) (ix2 r k) = x (ix2 r ⟨512 + k.val, by omega⟩) :=
  View.ld_unit_apply_of x _ _ _ _ _ (fun d => match d with | ⟨0, _⟩ => (Nat.zero_add r.val).symm | ⟨1, _⟩ => rfl)

variable (m : (ℓ : Loc nD τ sig) → Buf (Elt Ideal) ℓ) (ρ : Dev nD → PrngReg)

/-- The three arguments, as tables. -/
abbrev xT (c : Dev nD) : S8192x1024.Idx → EReal := m ((c : Thread nD τ).loc main_arg0)
abbrev nT (c : Dev nD) : S1024.Idx → EReal := m ((c : Thread nD τ).loc main_arg1)
abbrev wT (c : Dev nD) : S1024x10240.Idx → EReal := m ((c : Thread nD τ).loc main_arg2)

/-- The operands the launch is given. -/
abbrev xA (c : Dev nD) : S8192x1024.Idx → EReal := V m c main_arg0
abbrev uA (c : Dev nD) : S8x512x1280.Idx → EReal := V m c main_v4
abbrev lA (c : Dev nD) : S8x512x1280.Idx → EReal := V m c main_v7
abbrev nA (c : Dev nD) : S1x1024.Idx → EReal := V m c main_v8

/-- The two results: a row's entry, normalised and scaled; and those entries against a column of the weights. -/
def hE (x : S8192x1024.Idx → EReal) (n : S1024.Idx → EReal) (r : ℕ) (q : Fin 1024) : EReal := at2 x r q.val * scaleS x r * n (ix1 q)
def pE (x : S8192x1024.Idx → EReal) (n : S1024.Idx → EReal) (w : S1024x10240.Idx → EReal) (r b : ℕ) : EReal := ∑ k : Fin 1024, hE x n r k * at2 w k.val b
def hT (x : S8192x1024.Idx → EReal) (n : S1024.Idx → EReal) : S8192x1024.Idx → EReal := fun i => hE x n (i 0).val (i 1)
def pT (x : S8192x1024.Idx → EReal) (n : S1024.Idx → EReal) (w : S1024x10240.Idx → EReal) : S8192x10240.Idx → EReal := fun i => pE x n w (i 0).val (i 1).val

/-! ## The host's values -/

section Host
variable {F : FTy → Type} [FloatOps F]

/-- The weight table cut by rows into halves and by columns into shards. -/
def cutH (w : FVec F S1024x10240 .f32) : FVec F S2x512x8x1280 .bf16 :=
  shapeCast S2x512x8x1280 (truncf .bf16 w bitsLt_bf16_f32) shapeCasts_S1024x10240_S2x512x8x1280
/-- The upper and the lower half of its rows, shard by shard. -/
def upperH (w : FVec F S1024x10240 .f32) : FVec F S8x512x1280 .bf16 :=
  transpose S8x512x1280 [1, 0, 2] (shapeCast S512x8x1280 (extractStridedSlice S1x512x8x1280 ![0, 0, 0, 0] (cutH w) slices_S2x512x8x1280_S1x512x8x1280_0_0_0_0)
    shapeCasts_S1x512x8x1280_S512x8x1280) transposes_S512x8x1280_S8x512x1280_1_0_2
def lowerH (w : FVec F S1024x10240 .f32) : FVec F S8x512x1280 .bf16 :=
  transpose S8x512x1280 [1, 0, 2] (shapeCast S512x8x1280 (extractStridedSlice S1x512x8x1280 ![1, 0, 0, 0] (cutH w) slices_S2x512x8x1280_S1x512x8x1280_1_0_0_0)
    shapeCasts_S1x512x8x1280_S512x8x1280) transposes_S512x8x1280_S8x512x1280_1_0_2
end Host

theorem operand0 (c : Dev nD) : (xA m c : S8192x1024.Idx → EReal) = xT m c := V_main_arg0 m c
theorem operand1 (c : Dev nD) : @Eq (FVec Ideal S1x1024 .f32) (V m c main_v8)
    (shapeCast S1x1024 (m ((c : Thread nD τ).loc main_arg1) : FVec Ideal S1024 .f32) shapeCasts_S1024_S1x1024) := by
  unfold V
  simp only [hostOps0]
  after_results
  rfl
theorem operand2 (c : Dev nD) : @Eq (FVec Ideal S8x512x1280 .bf16) (V m c main_v4)
    (upperH (m ((c : Thread nD τ).loc main_arg2) : FVec Ideal S1024x10240 .f32)) := by
  unfold V
  simp only [hostOps0]
  after_results
  rfl
theorem operand3 (c : Dev nD) : @Eq (FVec Ideal S8x512x1280 .bf16) (V m c main_v7)
    (lowerH (m ((c : Thread nD τ).loc main_arg2) : FVec Ideal S1024x10240 .f32)) := by
  unfold V
  simp only [hostOps0]
  after_results
  rfl

theorem nA_at (c : Dev nD) (q : Fin 1024) : nA m c (ix2 0 q) = nT m c (ix1 q) := by
  refine (congrFun (operand1 m c) _).trans ?_
  refine shapeCast_apply _ shapeCasts_S1024_S1x1024 _ (ix1 q) ?_
  rewrite [Shape.rowMajor_val_one, Shape.rowMajor_val_two]
  show q.val = 0 * 1024 + q.val
  omega

/-- An entry of the cut table. -/
theorem cutH_at (w : FVec Ideal S1024x10240 .f32) (h : Fin 2) (n : Fin 512) (s : Fin 8) (k : Fin 1280) :
    (cutH w : S2x512x8x1280.Idx → EReal) (ix4 h n s k) = at2 (w : S1024x10240.Idx → EReal) (h.val * 512 + n.val) (s.val * 1280 + k.val) := by
  have hh := h.isLt
  have hn := n.isLt
  have hs := s.isLt
  have hk := k.isLt
  rw [← at2_of (w : S1024x10240.Idx → EReal) (ix2 ⟨h.val * 512 + n.val, by omega⟩ ⟨s.val * 1280 + k.val, by omega⟩) (h.val * 512 + n.val) (s.val * 1280 + k.val) rfl rfl]
  unfold cutH
  refine shapeCast_apply _ shapeCasts_S1024x10240_S2x512x8x1280 _ (ix2 ⟨h.val * 512 + n.val, by omega⟩ ⟨s.val * 1280 + k.val, by omega⟩) ?_
  rewrite [Shape.rowMajor_val_two, Shape.rowMajor_val_four]
  show (h.val * 512 + n.val) * 10240 + (s.val * 1280 + k.val) = ((h.val * 512 + n.val) * 8 + s.val) * 1280 + k.val
  omega

theorem upperH_at (w : FVec Ideal S1024x10240 .f32) (s : Fin 8) (n : Fin 512) (k : Fin 1280) :
    (upperH w : S8x512x1280.Idx → EReal) (ix3 s n k) = (cutH w : S2x512x8x1280.Idx → EReal) (ix4 0 n s k) := by
  unfold upperH
  generalize cutH w = g
  pointwise
theorem lowerH_at (w : FVec Ideal S1024x10240 .f32) (s : Fin 8) (n : Fin 512) (k : Fin 1280) :
    (lowerH w : S8x512x1280.Idx → EReal) (ix3 s n k) = (cutH w : S2x512x8x1280.Idx → EReal) (ix4 1 n s k) := by
  unfold lowerH
  generalize cutH w = g
  pointwise

theorem uA_at (c : Dev nD) (s : Fin 8) (n : Fin 512) (k : Fin 1280) : uA m c (ix3 s n k) = at2 (wT m c) n.val (s.val * 1280 + k.val) := by
  refine ((congrFun (operand2 m c) _).trans ((upperH_at _ _ _ _).trans (cutH_at _ _ _ _ _))).trans ?_
  show at2 (wT m c) (0 * 512 + n.val) _ = _
  rw [Nat.zero_mul, Nat.zero_add]
theorem lA_at (c : Dev nD) (s : Fin 8) (n : Fin 512) (k : Fin 1280) : lA m c (ix3 s n k) = at2 (wT m c) (512 + n.val) (s.val * 1280 + k.val) := by
  refine ((congrFun (operand3 m c) _).trans ((lowerH_at _ _ _ _).trans (cutH_at _ _ _ _ _))).trans ?_
  show at2 (wT m c) (1 * 512 + n.val) _ = _
  rw [Nat.one_mul]

/-! ## The blocks -/

theorem map0 : ∀ t : Fin 32, win0_0.index t 0 = t.val / 8 ∧ win0_0.index t 1 = 0 := by decide +kernel
theorem map1 : ∀ t : Fin 32, win0_1.index t 0 = 0 ∧ win0_1.index t 1 = 0 := by decide +kernel
theorem map2 : ∀ t : Fin 32, win0_2.index t 0 = t.val % 8 ∧ win0_2.index t 1 = 0 ∧ win0_2.index t 2 = 0 := by decide +kernel
theorem map3 : ∀ t : Fin 32, win0_3.index t 0 = t.val % 8 ∧ win0_3.index t 1 = 0 ∧ win0_3.index t 2 = 0 := by decide +kernel
theorem map4 : ∀ t : Fin 32, win0_4.index t 0 = t.val / 8 ∧ win0_4.index t 1 = t.val % 8 := by decide +kernel
theorem map5 : ∀ t : Fin 32, win0_5.index t 0 = t.val / 8 ∧ win0_5.index t 1 = 0 := by decide +kernel

theorem block0 (c : Dev nD) (t : Fin cfg0.N) (r : Fin 2048) (q : Fin 1024) :
    (b0 m c t : S2048x1024.Idx → EReal) (ix2 r q) = at2 (xT m c) (t.val / 8 * 2048 + r.val) q.val := by
  rw [← operand0]
  unfold b0 iblk
  rw [View.read_apply]
  refine at2_of (xA m c) _ _ _ ?_ ?_
  · refine (win0_0.rect_emb_val t (ix2 r q) 0).trans ?_
    rw [(map0 t).1]; rfl
  · refine (win0_0.rect_emb_val t (ix2 r q) 1).trans ?_
    rw [(map0 t).2]; exact (Nat.zero_mul _).symm ▸ Nat.zero_add _

theorem block1 (c : Dev nD) (t : Fin cfg0.N) (q : Fin 1024) : (b1 m c t : S1x1024.Idx → EReal) (ix2 0 q) = nT m c (ix1 q) := by
  rw [← nA_at]
  unfold b1 iblk
  rw [View.read_apply]
  refine congrArg (nA m c) ((eq_ix2 _).trans (congrArg₂ ix2 (Subsingleton.elim (α := Fin 1) _ _) (Fin.ext ?_)))
  refine (win0_1.rect_emb_val t (ix2 0 q) 1).trans ?_
  rw [(map1 t).2]; exact (Nat.zero_mul _).symm ▸ Nat.zero_add _

theorem block2 (c : Dev nD) (t : Fin cfg0.N) (n : Fin 512) (k : Fin 1280) :
    (b2 m c t : S1x512x1280.Idx → EReal) (ix3 0 n k) = at2 (wT m c) n.val (t.val % 8 * 1280 + k.val) := by
  refine Eq.trans ?_ (uA_at m c ⟨t.val % 8, Nat.mod_lt _ (by decide)⟩ n k)
  unfold b2 iblk
  rw [View.read_apply]
  refine congrArg (uA m c) (funext fun a => Fin.ext ?_)
  match a with
  | ⟨0, _⟩ =>
    refine (win0_2.rect_emb_val t (ix3 0 n k) 0).trans ?_
    rw [(map2 t).1]; exact Nat.mul_one _
  | ⟨1, _⟩ =>
    refine (win0_2.rect_emb_val t (ix3 0 n k) 1).trans ?_
    rw [(map2 t).2.1]; exact (Nat.zero_mul _).symm ▸ Nat.zero_add _
  | ⟨2, _⟩ =>
    refine (win0_2.rect_emb_val t (ix3 0 n k) 2).trans ?_
    rw [(map2 t).2.2]; exact (Nat.zero_mul _).symm ▸ Nat.zero_add _

theorem block3 (c : Dev nD) (t : Fin cfg0.N) (n : Fin 512) (k : Fin 1280) :
    (b3 m c t : S1x512x1280.Idx → EReal) (ix3 0 n k) = at2 (wT m c) (512 + n.val) (t.val % 8 * 1280 + k.val) := by
  refine Eq.trans ?_ (lA_at m c ⟨t.val % 8, Nat.mod_lt _ (by decide)⟩ n k)
  unfold b3 iblk
  rw [View.read_apply]
  refine congrArg (lA m c) (funext fun a => Fin.ext ?_)
  match a with
  | ⟨0, _⟩ =>
    refine (win0_3.rect_emb_val t (ix3 0 n k) 0).trans ?_
    rw [(map3 t).1]; exact Nat.mul_one _
  | ⟨1, _⟩ =>
    refine (win0_3.rect_emb_val t (ix3 0 n k) 1).trans ?_
    rw [(map3 t).2.1]; exact (Nat.zero_mul _).symm ▸ Nat.zero_add _
  | ⟨2, _⟩ =>
    refine (win0_3.rect_emb_val t (ix3 0 n k) 2).trans ?_
    rw [(map3 t).2.2]; exact (Nat.zero_mul _).symm ▸ Nat.zero_add _

/-! ## The normalised rows -/

theorem rows_first (c : Dev nD) (t : Fin cfg0.N) (h : t.val % 8 = 0) (r : Fin 2048) (q : Fin 1024) :
    (rowsS m c (t.val + 1) : S2048x1024.Idx → EReal) (ix2 r q) = hE (xT m c) (nT m c) (t.val / 8 * 2048 + r.val) q := by
  have ex : ∀ k : Fin 1024, (b0 m c t : S2048x1024.Idx → EReal) (ix2 r k) = at2 (xT m c) (t.val / 8 * 2048 + r.val) k.val := fun k => block0 m c t r k
  have es : scaleS (A := 2048) (b0 m c t : S2048x1024.Idx → EReal) r.val = scaleS (xT m c) (t.val / 8 * 2048 + r.val) := by
    unfold scaleS meanS
    refine congrArg (fun s => Ideal.rsqrt (Ideal.div s width + small)) (Finset.sum_congr rfl fun k _ => ?_)
    rw [← at2_of (b0 m c t : S2048x1024.Idx → EReal) (ix2 r k) r.val k.val rfl rfl, ex]
  have eg := block1 m c t q
  rw [rowsS_first m c t h]
  generalize b0 m c t = x at ex es ⊢
  generalize b1 m c t = g at eg ⊢
  refine (norm_entry x g r q).trans ?_
  rw [ex, es, eg]
  rfl

theorem rows_entry (c : Dev nD) (r : Fin 2048) (q : Fin 1024) : ∀ (n : ℕ), n < 32 →
    (rowsS m c (n + 1) : S2048x1024.Idx → EReal) (ix2 r q) = hE (xT m c) (nT m c) (n / 8 * 2048 + r.val) q
  | 0, _ => rows_first m c ⟨0, by show _ < grid0.N; rw [N_0]; omega⟩ rfl r q
  | n + 1, hn => by
    by_cases h : (n + 1) % 8 = 0
    · exact rows_first m c ⟨n + 1, by show _ < grid0.N; rw [N_0]; omega⟩ h r q
    · rw [rowsS_keep m c (n + 1) h, rows_entry c r q n (by omega), show (n + 1) / 8 = n / 8 by omega]

/-! ## The product -/

theorem proj_entry (c : Dev nD) (t : Fin cfg0.N) (r : Fin 2048) (q : Fin 1280) :
    (projOf (rowsS m c (t.val + 1)) (b2 m c t) (b3 m c t) : S2048x1280.Idx → EReal) (ix2 r q)
      = pE (xT m c) (nT m c) (wT m c) (t.val / 8 * 2048 + r.val) (t.val % 8 * 1280 + q.val) := by
  have eh : ∀ k : Fin 1024, (rowsS m c (t.val + 1) : S2048x1024.Idx → EReal) (ix2 r k) = hE (xT m c) (nT m c) (t.val / 8 * 2048 + r.val) k :=
    fun k => rows_entry m c r k t.val (lt32 t)
  have eu : ∀ k : Fin 512, (b2 m c t : S1x512x1280.Idx → EReal) (ix3 0 k q) = at2 (wT m c) k.val (t.val % 8 * 1280 + q.val) := fun k => block2 m c t k q
  have el : ∀ k : Fin 512, (b3 m c t : S1x512x1280.Idx → EReal) (ix3 0 k q) = at2 (wT m c) (512 + k.val) (t.val % 8 * 1280 + q.val) := fun k => block3 m c t k q
  unfold projOf
  generalize rowsS m c (t.val + 1) = h at eh ⊢
  generalize b2 m c t = u at eu ⊢
  generalize b3 m c t = l at el ⊢
  refine (halves_entry (hLo h) (hHi h) u l r q).trans ?_
  unfold pE
  rw [Fin.sum_univ_add (a := 512) (b := 512) fun k : Fin (512 + 512) => hE (xT m c) (nT m c) (t.val / 8 * 2048 + r.val) k * at2 (wT m c) k.val (t.val % 8 * 1280 + q.val)]
  refine congrArg₂ (· + ·) (Finset.sum_congr rfl fun k _ => ?_) (Finset.sum_congr rfl fun k _ => ?_)
  · rw [hLo_at, eh, eu]; rfl
  · rw [hHi_at, eh, el]; rfl

/-! ## The results -/

theorem h_of (x : S8192x1024.Idx → EReal) (n : S1024.Idx → EReal) (i : S8192x1024.Idx) (r : ℕ) (q : Fin 1024) (hr : (i 0).val = r) (hq : (i 1).val = q.val) :
    hE x n r q = hT x n i := by
  subst hr
  obtain rfl : i 1 = q := Fin.ext hq
  rfl
theorem p_of (x : S8192x1024.Idx → EReal) (n : S1024.Idx → EReal) (w : S1024x10240.Idx → EReal) (i : S8192x10240.Idx) (r b : ℕ) (hr : (i 0).val = r) (hb : (i 1).val = b) :
    pE x n w r b = pT x n w i := by
  subst hr hb
  rfl

set_option maxRecDepth 16384 in
theorem flushed_p (c : Dev nD) (t : Fin cfg0.N) (hf : (cfg0.win 4).flush t = true) :
    (dats m 0 c).flushed 4 t = ((cfg0.win 4).blk t).view.read (Elt Ideal) (pT (xT m c) (nT m c) (wT m c)) := by
  show (cfg0.win 4).cut (grid0.coords t) ((dats m 0 c).after 4 t) = _
  rw [after_4]
  funext y
  obtain ⟨r, q, rfl⟩ : ∃ (r : Fin 2048) (q : Fin 1280), y = ix2 r q := ⟨y 0, y 1, eq_ix2 y⟩
  rw [View.read_apply]
  refine (proj_entry m c t r q).trans ?_
  have e0 := win0_4.rect_emb_val t (ix2 r q) 0
  have e1 := win0_4.rect_emb_val t (ix2 r q) 1
  rw [(map4 t).1] at e0
  rw [(map4 t).2] at e1
  exact p_of _ _ _ _ _ _ e0 e1

set_option maxRecDepth 16384 in
theorem flushed_h (c : Dev nD) (t : Fin cfg0.N) (hf : (cfg0.win 5).flush t = true) :
    (dats m 0 c).flushed 5 t = ((cfg0.win 5).blk t).view.read (Elt Ideal) (hT (xT m c) (nT m c)) := by
  show (cfg0.win 5).cut (grid0.coords t) ((dats m 0 c).after 5 t) = _
  rw [after_5]
  funext y
  obtain ⟨r, q, rfl⟩ : ∃ (r : Fin 2048) (q : Fin 1024), y = ix2 r q := ⟨y 0, y 1, eq_ix2 y⟩
  rw [View.read_apply]
  refine (rows_entry m c r q t.val (lt32 t)).trans ?_
  have e0 := win0_5.rect_emb_val t (ix2 r q) 0
  have e1 := win0_5.rect_emb_val t (ix2 r q) 1
  rw [(map5 t).1] at e0
  rw [(map5 t).2] at e1
  exact h_of _ _ _ _ _ e0 (e1.trans ((Nat.zero_mul _).symm ▸ Nat.zero_add _))

theorem covered_p (i : S8192x10240.Idx) : ∃ t : Fin cfg0.N, (cfg0.win 4).flush t = true ∧ i ∈ ((cfg0.win 4).blk t).view.set := by
  have h0 : (i 0).val < 8192 := (i 0).isLt
  have h1 : (i 1).val < 10240 := (i 1).isLt
  obtain ⟨t, ht⟩ : ∃ t : Fin cfg0.N, t.val = 8 * ((i 0).val / 2048) + (i 1).val / 1280 := ⟨⟨_, by show _ < grid0.N; rw [N_0]; omega⟩, rfl⟩
  refine ⟨t, flush0_4 t, ?_⟩
  obtain ⟨m0, m1⟩ := map4 t
  show i ∈ ((View.whole main_v9_0).slice (win0_4.rect t)).set
  rw [View.set_slice_whole, Rect.mem_set_unit]
  intro a
  match a with
  | ⟨0, _⟩ =>
    show win0_4.index t 0 * 2048 ≤ (i 0).val ∧ (i 0).val < win0_4.index t 0 * 2048 + 2048
    rw [m0]; omega
  | ⟨1, _⟩ =>
    show win0_4.index t 1 * 1280 ≤ (i 1).val ∧ (i 1).val < win0_4.index t 1 * 1280 + 1280
    rw [m1]; omega

theorem covered_h (i : S8192x1024.Idx) : ∃ t : Fin cfg0.N, (cfg0.win 5).flush t = true ∧ i ∈ ((cfg0.win 5).blk t).view.set := by
  have h0 : (i 0).val < 8192 := (i 0).isLt
  have h1 : (i 1).val < 1024 := (i 1).isLt
  obtain ⟨t, ht⟩ : ∃ t : Fin cfg0.N, t.val = 8 * ((i 0).val / 2048) + 7 := ⟨⟨_, by show _ < grid0.N; rw [N_0]; omega⟩, rfl⟩
  refine ⟨t, (flush0_5 t).mpr (by omega), ?_⟩
  obtain ⟨m0, m1⟩ := map5 t
  show i ∈ ((View.whole main_v9_1).slice (win0_5.rect t)).set
  rw [View.set_slice_whole, Rect.mem_set_unit]
  intro a
  match a with
  | ⟨0, _⟩ =>
    show win0_5.index t 0 * 2048 ≤ (i 0).val ∧ (i 0).val < win0_5.index t 0 * 2048 + 2048
    rw [m0]; omega
  | ⟨1, _⟩ =>
    show win0_5.index t 1 * 1024 ≤ (i 1).val ∧ (i 1).val < win0_5.index t 1 * 1024 + 1024
    rw [m1]; omega

/-- The run: the two results, and the arguments unchanged. -/
theorem run_value : θ_run defs (onTc (τ := τ) (main (F := Ideal))) ⟨m, fun _ => 0, ρ⟩ fun r => ∀ c : Dev nD,
      r.2.mem ((c : Thread nD τ).loc main_v9_0) = pT (xT m c) (nT m c) (wT m c)
      ∧ r.2.mem ((c : Thread nD τ).loc main_v9_1) = hT (xT m c) (nT m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => by
      refine ⟨?_, ?_, args_kept m h.1 c⟩
      · exact ((h.1 c).1 4).trans ((dats m 0 c).arrAt_eq_of_cover 4 _ (flushed_p m c) covered_p)
      · exact ((h.1 c).1 5).trans ((dats m 0 c).arrAt_eq_of_cover 5 _ (flushed_h m c) covered_h))
    (run_main m ρ)

end Cert.Kernel4Ideal.InProj

end
-- ==== Proof.ForwardReference.lean ====
/-
  The reference of the input projection's forward launch, entry by entry: the same two tables.
-/
module

public import proofs.«01_k».proof.Proof.ForwardValue
public import proofs.«01_k».proof.Proof.Gen.Reference4Ideal.Run
public import proofs.«01_k».proof.Proof.Gen.Reference4Ideal.Read

@[expose] public section

noncomputable section

namespace Cert.Reference4Ideal.InProj

open Cert.Reference4Ideal Cert.Reference4Ideal.Gen Cert.Reference4Ideal.Read Cert.Tables
open Cert.Kernel3Ideal.InProj (width small meanS scaleS)
open Cert.Kernel4Ideal.InProj (hE pE hT pT)
open Idealize.ShloMosaic Idealize.ShloMosaic.TcCoe Idealize.SL.Sem

variable (x : S8192x1024.Idx → EReal) (n : S1024.Idx → EReal) (w : S1024x10240.Idx → EReal)

/-- The constants. -/
theorem zero_of (i : S_.Idx) : (constant (F := Ideal) S_ .f32 0x00000000#32 : S_.Idx → EReal) i = 0 := by
  pointwise
theorem width_of (i : S_.Idx) : (constant (F := Ideal) S_ .f32 0x44800000#32 : S_.Idx → EReal) i = width := rfl
theorem small_of (i : S_.Idx) : (constant (F := Ideal) S_ .f32 0x358637BD#32 : S_.Idx → EReal) i = small := rfl

/-- A row's scale. -/
theorem scale_at (i : S8192x1.Idx) : (val_main_v7 (F := Ideal) x : S8192x1.Idx → EReal) i = scaleS x (i 0).val := by
  rw [val_main_v7_apply, val_main_v6_apply, val_main_v4_apply, val_main_v2_apply, val_main_v1_apply, val_main_v3_apply, val_main_v5_apply]
  unfold val_main_cst val_main_cst_0 val_main_cst_1
  rw [zero_of, width_of, small_of, zero_add]
  unfold scaleS meanS
  refine congrArg (fun s => Ideal.rsqrt (Ideal.div s width + small)) (Finset.sum_congr rfl fun k _ => ?_)
  rw [val_main_v0_apply]
  exact congrArg₂ (· * ·) (at2_of x _ _ _ rfl rfl) (at2_of x _ _ _ rfl rfl)

/-- The normalised and scaled rows. -/
theorem rows_at (i : S8192x1024.Idx) : (val_main_v12 (F := Ideal) x n : S8192x1024.Idx → EReal) i = hE x n (i 0).val (i 1) := by
  rw [val_main_v12_apply, val_main_v9_apply, val_main_v8_apply, scale_at, val_main_v11_apply, val_main_v10_apply]
  unfold hE
  rw [← at2_of x i (i 0).val (i 1).val rfl rfl]
  exact congrArg (x i * scaleS x (i 0).val * n ·) (eq_ix1 _)

theorem result0 : (val_main_v14 (F := Ideal) x n w : S8192x10240.Idx → EReal) = pT x n w := funext fun i => by
  rw [val_main_v14_apply]
  refine (val_main_v13_apply x n w i).trans ?_
  unfold pT pE
  exact Finset.sum_congr rfl fun k _ => congrArg₂ (· * ·) (rows_at x n _) (at2_of w _ _ _ rfl rfl)

theorem result1 : (val_main_v15 (F := Ideal) x n : S8192x1024.Idx → EReal) = hT x n := funext fun i => by
  rw [val_main_v15_apply]
  exact rows_at x n i

end Cert.Reference4Ideal.InProj

end
-- ==== Proof.AdamW.lean ====
/-
  The optimiser's step on one entry of a weight, over the extended reals.

  `mean` and `square` move the two running averages towards the gradient and its square; `step` is what is added to
  the weight. The constants are the ones both programs print: 0.9 and 0.1, 0.999 and 0.001 as f32 holds them, the two
  bias corrections of the step's number, 1e-8, the weight decay 0.01 and the learning rate -0.001.
-/
module

public import Idealize.ShloMosaic.Lib.Pointwise
public import Idealize.ShloMosaic.PureOps.Ideal.Laws

@[expose] public section

noncomputable section

namespace Cert.AdamW

open Idealize.ShloMosaic

/-- An f32 constant as an extended real. -/
abbrev lit (b : BitVec 32) : EReal := Scalar.ofBits (F := Ideal) .f32 b

/-- The running average of the gradient. -/
def mean (g m : EReal) : EReal := lit 0x3F666666#32 * m + lit 0x3DCCCCCD#32 * g

/-- The running average of the gradient's square. -/
def square (g v : EReal) : EReal := lit 0x3F7FBE77#32 * v + lit 0x3A83126F#32 * (g * g)

/-- What is added to the weight. -/
def step (g w m v : EReal) : EReal :=
  lit 0xBA83126F#32 * (Ideal.div (Ideal.div (mean g m) (lit 0x3F26BD02#32))
    (Ideal.sqrt (Ideal.div (square g v) (lit 0x3C231ACC#32)) + lit 0x322BCC77#32) + lit 0x3C23D70A#32 * w)

end Cert.AdamW

end
-- ==== Proof.PlainStep.lean ====
/-
  The optimiser's call on the convolutions' shards: its three results are the step, entry by entry, and so are the
  reference's.
-/
module

public import proofs.«01_k».proof.Proof.AdamW
public import proofs.«01_k».proof.Proof.Gen.Kernel7Ideal.Value
public import proofs.«01_k».proof.Proof.Gen.Reference7Ideal.Read

@[expose] public section

noncomputable section

namespace Cert.Reference7Ideal.Step

open Cert.Reference7Ideal Cert.Reference7Ideal.Gen Cert.Reference7Ideal.Read Cert.AdamW
open Idealize.ShloMosaic Idealize.ShloMosaic.TcCoe

/-- A table of the shards' shape. -/
abbrev Tab := Vec Ideal S40x128 .f32

theorem mean_at (g m : Tab) (i : S40x128.Idx) : (val_main_v4 (F := Ideal) g m : S40x128.Idx → EReal) i = mean (g i) (m i) := rfl
theorem square_at (g v : Tab) (i : S40x128.Idx) : (val_main_v10 (F := Ideal) g v : S40x128.Idx → EReal) i = square (g i) (v i) := rfl
theorem step_at (g w m v : Tab) (i : S40x128.Idx) :
    (val_main_v23 (F := Ideal) g w m v : S40x128.Idx → EReal) i = step (g i) (w i) (m i) (v i) := rfl

/-! ## The call's results are the reference's -/

theorem result0 (g w m v : Tab) : val_main_v23 (F := Ideal) g w m v = Cert.Kernel7Ideal.Value.G4 (F := Ideal) g w m v :=
  funext fun i => (step_at g w m v i).trans rfl
theorem result1 (g m : Tab) : val_main_v4 (F := Ideal) g m = Cert.Kernel7Ideal.Value.G5 (F := Ideal) g m :=
  funext fun i => (mean_at g m i).trans rfl
theorem result2 (g v : Tab) : val_main_v10 (F := Ideal) g v = Cert.Kernel7Ideal.Value.G6 (F := Ideal) g v :=
  funext fun i => (square_at g v i).trans rfl

end Cert.Reference7Ideal.Step

end
-- ==== Proof.Blocks.lean ====
/-
  Blocks of rows, for the launches of the optimiser.

  Point `t` of such a launch holds the rows of its tables that start at `t` times the block's height. The lemmas say once,
  for tables of any size, which entry of a table a block's entry is, and which block holds an entry. Then come the sums
  that a launch adds up, and what a launch that writes the first of two layers leaves of a table.
-/
module

public import proofs.«01_k».proof.Proof.AdamW
public import proofs.«01_k».proof.Proof.Tables
public import Idealize.ShloMosaic.Lib.Pointwise
public import Idealize.ShloMosaic.Lib.Pipeline.ValueKit.Tiles

@[expose] public section

noncomputable section

namespace Cert.Blocks

open Cert.Tables Cert.AdamW
open Idealize.ShloMosaic

theorem zero2 : (![0, 0] : Fin 2 → Nat) = fun _ => 0 := funext fun a => by fin_cases a <;> rfl
theorem zero3 : (![0, 0, 0] : Fin 3 → Nat) = fun _ => 0 := funext fun a => by fin_cases a <;> rfl

/-! ## Tables of two axes -/

section Two
variable {R C : ℕ} {T D : ℕ} {idx : Fin 2 → ℕ} {t y0 y1 : ℕ}

/-- The coordinates in the table of a block's entry. -/
theorem rows2 {j : (⟨2, ![R, C]⟩ : Shape).Idx} (h : idx 0 = t ∧ idx 1 = 0)
    (e0 : (j 0).val = idx 0 * T + y0) (e1 : (j 1).val = idx 1 * D + y1) : (j 0).val = t * T + y0 ∧ (j 1).val = y1 := by
  rw [h.1] at e0
  rw [h.2, Nat.zero_mul, Nat.zero_add] at e1
  exact ⟨e0, e1⟩

/-- A block's entry, in the table. -/
theorem at2_block (x : (⟨2, ![R, C]⟩ : Shape).Idx → EReal) (j : (⟨2, ![R, C]⟩ : Shape).Idx) (h : idx 0 = t ∧ idx 1 = 0)
    (e0 : (j 0).val = idx 0 * T + y0) (e1 : (j 1).val = idx 1 * D + y1) : x j = at2 x (t * T + y0) y1 :=
  at2_of x j _ _ (rows2 h e0 e1).1 (rows2 h e0 e1).2

/-- The block that holds a row. -/
theorem in_rows2 (hT : 0 < T) (h : idx 0 = t ∧ idx 1 = 0) (i : (⟨2, ![R, C]⟩ : Shape).Idx) (ht : t = (i 0).val / T) :
    ∀ a : Fin 2, idx a * (⟨2, ![T, C]⟩ : Shape).size a ≤ (i a).val
      ∧ (i a).val < idx a * (⟨2, ![T, C]⟩ : Shape).size a + (⟨2, ![T, C]⟩ : Shape).size a := fun a =>
  match a with
  | ⟨0, _⟩ => by
    have hm := Nat.div_add_mod (i 0).val T
    have hl := Nat.mod_lt (i 0).val hT
    show idx 0 * T ≤ (i 0).val ∧ (i 0).val < idx 0 * T + T
    rw [h.1, ht, Nat.mul_comm]
    omega
  | ⟨1, _⟩ => by
    have hi : (i 1).val < C := (i 1).isLt
    show idx 1 * C ≤ (i 1).val ∧ (i 1).val < idx 1 * C + C
    rw [h.2, Nat.zero_mul]
    omega

end Two

/-! ## Tables of three axes, cut on the middle one -/

section Three
variable {A R C : ℕ} {B T D : ℕ} {idx : Fin 3 → ℕ} {t y0 y1 y2 n : ℕ}

theorem rows3 {j : (⟨3, ![A, R, C]⟩ : Shape).Idx} (h : idx 0 = 0 ∧ idx 1 = t ∧ idx 2 = 0)
    (e0 : (j 0).val = idx 0 * B + y0) (e1 : (j 1).val = idx 1 * T + y1) (e2 : (j 2).val = idx 2 * D + y2) :
    (j 0).val = y0 ∧ (j 1).val = t * T + y1 ∧ (j 2).val = y2 := by
  rw [h.1, Nat.zero_mul, Nat.zero_add] at e0
  rw [h.2.1] at e1
  rw [h.2.2, Nat.zero_mul, Nat.zero_add] at e2
  exact ⟨e0, e1, e2⟩

/-- A block's entry, in the table. -/
theorem at3_block (x : (⟨3, ![A, R, C]⟩ : Shape).Idx → EReal) (j : (⟨3, ![A, R, C]⟩ : Shape).Idx)
    (h : idx 0 = 0 ∧ idx 1 = t ∧ idx 2 = 0) (hn : y0 = n)
    (e0 : (j 0).val = idx 0 * B + y0) (e1 : (j 1).val = idx 1 * T + y1) (e2 : (j 2).val = idx 2 * D + y2) :
    x j = at3 x n (t * T + y1) y2 :=
  at3_of x j _ _ _ ((rows3 h e0 e1 e2).1.trans hn) (rows3 h e0 e1 e2).2.1 (rows3 h e0 e1 e2).2.2

/-- The block that holds a row of the first part. -/
theorem in_rows3 (hT : 0 < T) (h : idx 0 = 0 ∧ idx 1 = t ∧ idx 2 = 0) (i : (⟨3, ![A, R, C]⟩ : Shape).Idx)
    (h0 : (i 0).val = 0) (ht : t = (i 1).val / T) :
    ∀ a : Fin 3, idx a * (⟨3, ![1, T, C]⟩ : Shape).size a ≤ (i a).val
      ∧ (i a).val < idx a * (⟨3, ![1, T, C]⟩ : Shape).size a + (⟨3, ![1, T, C]⟩ : Shape).size a := fun a =>
  match a with
  | ⟨0, _⟩ => by
    show idx 0 * 1 ≤ (i 0).val ∧ (i 0).val < idx 0 * 1 + 1
    rw [h.1]
    omega
  | ⟨1, _⟩ => by
    have hm := Nat.div_add_mod (i 1).val T
    have hl := Nat.mod_lt (i 1).val hT
    show idx 1 * T ≤ (i 1).val ∧ (i 1).val < idx 1 * T + T
    rw [h.2.1, ht, Nat.mul_comm]
    omega
  | ⟨2, _⟩ => by
    have hi : (i 2).val < C := (i 2).isLt
    show idx 2 * C ≤ (i 2).val ∧ (i 2).val < idx 2 * C + C
    rw [h.2.2, Nat.zero_mul]
    omega

/-- One part of a table, read on its own. -/
theorem part_at (x : (⟨3, ![A, R, C]⟩ : Shape).Idx → EReal) (n : ℕ)
    (inb : ∀ a, (![n, 0, 0] : Fin 3 → Nat) a + (⟨3, ![1, R, C]⟩ : Shape).size a ≤ (⟨3, ![A, R, C]⟩ : Shape).size a)
    (a b : ℕ) (hn : n < A) (ha : a < R) (hb : b < C) :
    View.ld (Val := fun _ => EReal) (e' := .f32) x
      (Rect.unit (s := ⟨3, ![A, R, C]⟩) ![n, 0, 0] (⟨3, ![1, R, C]⟩ : Shape).size inb) (ix3 0 ⟨a, ha⟩ ⟨b, hb⟩) = at3 x n a b := by
  rw [← at3_of x (ix3 ⟨n, hn⟩ ⟨a, ha⟩ ⟨b, hb⟩) n a b rfl rfl rfl]
  exact View.ld_unit_apply_of (Val := fun _ => EReal) (e := .f32) x _ _ _ _ (ix3 ⟨n, hn⟩ ⟨a, ha⟩ ⟨b, hb⟩)
    (fun d => match d with | ⟨0, _⟩ => rfl | ⟨1, _⟩ => (Nat.zero_add a).symm | ⟨2, _⟩ => (Nat.zero_add b).symm)

end Three

/-! ## The sums -/

section Sums
variable {R C : ℕ}

/-- The eight devices' gradients of an entry, added. -/
def sum8 (p : (⟨3, ![8, R, C]⟩ : Shape).Idx → EReal) (r q : ℕ) : EReal := ∑ k : Fin 8, at3 p k.val r q

/-- The device's own part of an entry's gradient and the seven that landed, added. -/
def total (own : (⟨2, ![R, C]⟩ : Shape).Idx → EReal) (landed : (⟨3, ![7, R, C]⟩ : Shape).Idx → EReal) (r q : ℕ) : EReal :=
  at2 own r q + ∑ k : Fin 7, at3 landed k.val r q

end Sums

/-! ## The step on a whole table of two axes, and on the first layer of one of three -/

section Tables
variable {R C : ℕ} (g : ℕ → ℕ → EReal)

/-- A table of the entries that a function of the row and the column gives. -/
def table (f : ℕ → ℕ → EReal) : (⟨2, ![R, C]⟩ : Shape).Idx → EReal := fun i => f (i 0).val (i 1).val

theorem table_of (f : ℕ → ℕ → EReal) (i : (⟨2, ![R, C]⟩ : Shape).Idx) (r q : ℕ) (h : (i 0).val = r ∧ (i 1).val = q) :
    f r q = table f i := by
  obtain ⟨hr, hq⟩ := h
  subst hr hq
  rfl

section Whole
variable (w mm vv : (⟨2, ![R, C]⟩ : Shape).Idx → EReal)
def delta2 (r q : ℕ) : EReal := step (g r q) (at2 w r q) (at2 mm r q) (at2 vv r q)
def mean2 (r q : ℕ) : EReal := mean (g r q) (at2 mm r q)
def square2 (r q : ℕ) : EReal := square (g r q) (at2 vv r q)
end Whole

section Layer
variable (w mm vv : (⟨3, ![2, R, C]⟩ : Shape).Idx → EReal)
def delta3 (r q : ℕ) : EReal := step (g r q) (at3 w 0 r q) (at3 mm 0 r q) (at3 vv 0 r q)
def mean3 (r q : ℕ) : EReal := mean (g r q) (at3 mm 0 r q)
def square3 (r q : ℕ) : EReal := square (g r q) (at3 vv 0 r q)
end Layer

/-- A table of two layers whose first is new and whose second is as it was. -/
def over (f : ℕ → ℕ → EReal) (prior : (⟨3, ![2, R, C]⟩ : Shape).Idx → EReal) : (⟨3, ![2, R, C]⟩ : Shape).Idx → EReal := fun i =>
  if (i 0).val = 0 then f (i 1).val (i 2).val else prior i

theorem over_of (f : ℕ → ℕ → EReal) (prior : (⟨3, ![2, R, C]⟩ : Shape).Idx → EReal) (i : (⟨3, ![2, R, C]⟩ : Shape).Idx)
    (r q : ℕ) (h : (i 0).val = 0 ∧ (i 1).val = r ∧ (i 2).val = q) : f r q = over f prior i := by
  obtain ⟨h0, hr, hq⟩ := h
  subst hr hq
  exact (if_pos h0).symm

/-- Two layers put together are such a table. -/
theorem stack (f : ℕ → ℕ → EReal) (prior : (⟨3, ![2, R, C]⟩ : Shape).Idx → EReal)
    (x y : (⟨3, ![1, R, C]⟩ : Shape).Idx → EReal)
    (h : Shape.Concatenates [⟨3, ![1, R, C]⟩, ⟨3, ![1, R, C]⟩] ⟨3, ![2, R, C]⟩ (0 : Fin 3))
    (hx : ∀ (a : Fin R) (b : Fin C), x (ix3 0 a b) = f a.val b.val)
    (hy : ∀ (a : Fin R) (b : Fin C), y (ix3 0 a b) = prior (ix3 1 a b)) :
    concatenate ⟨3, ![2, R, C]⟩ (0 : Fin 3) [⟨⟨3, ![1, R, C]⟩, x⟩, ⟨⟨3, ![1, R, C]⟩, y⟩] h = over f prior := by
  funext i
  obtain ⟨l, a, b, rfl⟩ : ∃ (l : Fin 2) (a : Fin R) (b : Fin C), i = ix3 l a b := ⟨i 0, i 1, i 2, eq_ix3 i⟩
  match l with
  | ⟨0, _⟩ =>
    refine (concatenate_pair_apply_left (t := ⟨3, ![2, R, C]⟩) (s₁ := ⟨3, ![1, R, C]⟩) (s₂ := ⟨3, ![1, R, C]⟩) 0 x y h _ rfl (ix3 0 a b)
      (fun d => match d with | ⟨0, _⟩ => rfl | ⟨1, _⟩ => rfl | ⟨2, _⟩ => rfl)).trans ?_
    exact (hx a b).trans (if_pos rfl).symm
  | ⟨1, _⟩ =>
    refine (concatenate_pair_apply_right (t := ⟨3, ![2, R, C]⟩) (s₁ := ⟨3, ![1, R, C]⟩) (s₂ := ⟨3, ![1, R, C]⟩) 0 x y h _ rfl rfl (ix3 0 a b)
      (fun d => match d with | ⟨0, _⟩ => fun e => absurd rfl e | ⟨1, _⟩ => fun _ => rfl | ⟨2, _⟩ => fun _ => rfl) rfl).trans ?_
    exact (hy a b).trans (if_neg Nat.one_ne_zero).symm

end Tables

end Cert.Blocks

end
-- ==== Proof.PackedStep.lean ====
/-
  The optimiser's call on the small weights' pack: the eight devices' gradients of the pack are added, and the sum takes
  the step.

  Point `t` of the launch holds the 344 rows of the pack that start at `344 t`, of all eight parts and of the weight and
  its two averages; every row is in one block. So each of the four results is a table of the arguments, and the table is
  the reference's entry by entry.
-/
module

public import proofs.«01_k».proof.Proof.Blocks
public import proofs.«01_k».proof.Proof.Gen.Kernel5Ideal.Value
public import proofs.«01_k».proof.Proof.Gen.Reference5Ideal.Read

@[expose] public section

noncomputable section

namespace Cert.Kernel5Ideal.Step

open Cert.Kernel5Ideal Cert.Kernel5Ideal.Gen Cert.Tables Cert.AdamW Cert.Blocks
open Idealize.ShloMosaic Idealize.ShloMosaic.TcCoe Idealize.SL.Sem
open Idealize.ShloMosaic.Pipeline (Dat)

/-! ## What the body leaves of a block -/

/-- The eight parts of a block, added. -/
theorem total_apply (x : Vec Ideal S8x344x128 .f32) (x1 x2 x3 : Vec Ideal S344x128 .f32) (y : S344x128.Idx) :
    (k0_pay5 x x1 x2 x3 : S344x128.Idx → EReal) y = sum8 (x : S8x344x128.Idx → EReal) (y 0).val (y 1).val := by
  obtain ⟨⟨a, ha⟩, ⟨b, hb⟩, rfl⟩ : ∃ (a : Fin 344) (b : Fin 128), y = ix2 a b := ⟨y 0, y 1, eq_ix2 y⟩
  unfold sum8
  rw [Fin.sum_univ_eight]
  refine Eq.trans ?_ (congrArg₂ (· + ·) (congrArg₂ (· + ·) (congrArg₂ (· + ·) (congrArg₂ (· + ·) (congrArg₂ (· + ·) (congrArg₂ (· + ·) (congrArg₂ (· + ·) (part_at x 0 (by decide) a b (by decide) ha hb) (part_at x 1 (by decide) a b (by decide) ha hb))
    (part_at x 2 (by decide) a b (by decide) ha hb))
    (part_at x 3 (by decide) a b (by decide) ha hb))
    (part_at x 4 (by decide) a b (by decide) ha hb))
    (part_at x 5 (by decide) a b (by decide) ha hb))
    (part_at x 6 (by decide) a b (by decide) ha hb))
    (part_at x 7 (by decide) a b (by decide) ha hb))
  unfold k0_pay5 k0_pay4
  generalize View.ld x r0_0 = p0, View.ld x r0_1 = p1, View.ld x r0_2 = p2, View.ld x r0_3 = p3, View.ld x r0_4 = p4,
    View.ld x r0_5 = p5, View.ld x r0_6 = p6, View.ld x r0_7 = p7
  pointwise

section Body
variable (x : Vec Ideal S8x344x128 .f32) (x1 x2 x3 : Vec Ideal S344x128 .f32) (y : S344x128.Idx)
theorem out4 : (out0_4 x x1 x2 x3 : S344x128.Idx → EReal) y = k0_pay5 x x1 x2 x3 y := by
  unfold out0_4
  rw [View.canon_unit_zero (S := S344x128) zero2]
  rfl
theorem out5 : (out0_5 x x1 x2 x3 : S344x128.Idx → EReal) y = step (k0_pay5 x x1 x2 x3 y) (x1 y) (x2 y) (x3 y) := by
  unfold out0_5
  rw [View.canon_unit_zero (S := S344x128) zero2]
  simp only [View.ld_unit_zero (S := S344x128) zero2]
  generalize k0_pay5 x x1 x2 x3 = g
  rfl
theorem out6 : (out0_6 x x1 x2 x3 : S344x128.Idx → EReal) y = mean (k0_pay5 x x1 x2 x3 y) (x2 y) := by
  unfold out0_6
  rw [View.canon_unit_zero (S := S344x128) zero2]
  simp only [View.ld_unit_zero (S := S344x128) zero2]
  generalize k0_pay5 x x1 x2 x3 = g
  rfl
theorem out7 : (out0_7 x x1 x2 x3 : S344x128.Idx → EReal) y = square (k0_pay5 x x1 x2 x3 y) (x3 y) := by
  unfold out0_7
  rw [View.canon_unit_zero (S := S344x128) zero2]
  simp only [View.ld_unit_zero (S := S344x128) zero2]
  generalize k0_pay5 x x1 x2 x3 = g
  rfl
end Body

/-! ## The blocks of the launch -/

variable (m : (ℓ : Loc nD τ sig) → Buf (Elt Ideal) ℓ) (ρ : Dev nD → PrngReg)

theorem N_cfg0 : cfg0.N = 7 := by decide +kernel
theorem map0 : ∀ t : Fin 7, win0_0.index t 0 = 0 ∧ win0_0.index t 1 = t.val ∧ win0_0.index t 2 = 0 := by decide +kernel
theorem map1 : ∀ t : Fin 7, win0_1.index t 0 = t.val ∧ win0_1.index t 1 = 0 := by decide +kernel
theorem map2 : ∀ t : Fin 7, win0_2.index t 0 = t.val ∧ win0_2.index t 1 = 0 := by decide +kernel
theorem map3 : ∀ t : Fin 7, win0_3.index t 0 = t.val ∧ win0_3.index t 1 = 0 := by decide +kernel
theorem map4 : ∀ t : Fin 7, win0_4.index t 0 = t.val ∧ win0_4.index t 1 = 0 := by decide +kernel
theorem map5 : ∀ t : Fin 7, win0_5.index t 0 = t.val ∧ win0_5.index t 1 = 0 := by decide +kernel
theorem map6 : ∀ t : Fin 7, win0_6.index t 0 = t.val ∧ win0_6.index t 1 = 0 := by decide +kernel
theorem map7 : ∀ t : Fin 7, win0_7.index t 0 = t.val ∧ win0_7.index t 1 = 0 := by decide +kernel

theorem block0 (c : Dev nD) (t : Fin cfg0.N) (n : Fin 8) (a : Fin 344) (b : Fin 128) :
    at3 (iblk m c 0 t : S8x344x128.Idx → EReal) n.val a.val b.val = at3 (V m c main_arg0 : S8x2408x128.Idx → EReal) n.val (t.val * 344 + a.val) b.val :=
  (at3_of (iblk m c 0 t : S8x344x128.Idx → EReal) (ix3 n a b) n.val a.val b.val rfl rfl rfl).symm.trans
    (at3_block (V m c main_arg0 : S8x2408x128.Idx → EReal) _ (map0 t) rfl (win0_0.rect_emb_val t (ix3 n a b) 0)
      (win0_0.rect_emb_val t (ix3 n a b) 1) (win0_0.rect_emb_val t (ix3 n a b) 2))
theorem total_block (c : Dev nD) (t : Fin cfg0.N) (x1 x2 x3 : Vec Ideal S344x128 .f32) (y : S344x128.Idx) :
    (k0_pay5 (iblk m c 0 t) x1 x2 x3 : S344x128.Idx → EReal) y
      = sum8 (V m c main_arg0 : S8x2408x128.Idx → EReal) (t.val * 344 + (y 0).val) (y 1).val :=
  (total_apply (iblk m c 0 t) x1 x2 x3 y).trans (Finset.sum_congr rfl fun k _ => block0 m c t k (y 0) (y 1))
theorem block1 (c : Dev nD) (t : Fin cfg0.N) (y : S344x128.Idx) :
    (iblk m c 1 t : S344x128.Idx → EReal) y = at2 (V m c main_arg1 : S2408x128.Idx → EReal) (t.val * 344 + (y 0).val) (y 1).val :=
  at2_block (V m c main_arg1 : S2408x128.Idx → EReal) _ (map1 t) (win0_1.rect_emb_val t y 0) (win0_1.rect_emb_val t y 1)
theorem block2 (c : Dev nD) (t : Fin cfg0.N) (y : S344x128.Idx) :
    (iblk m c 2 t : S344x128.Idx → EReal) y = at2 (V m c main_arg2 : S2408x128.Idx → EReal) (t.val * 344 + (y 0).val) (y 1).val :=
  at2_block (V m c main_arg2 : S2408x128.Idx → EReal) _ (map2 t) (win0_2.rect_emb_val t y 0) (win0_2.rect_emb_val t y 1)
theorem block3 (c : Dev nD) (t : Fin cfg0.N) (y : S344x128.Idx) :
    (iblk m c 3 t : S344x128.Idx → EReal) y = at2 (V m c main_arg3 : S2408x128.Idx → EReal) (t.val * 344 + (y 0).val) (y 1).val :=
  at2_block (V m c main_arg3 : S2408x128.Idx → EReal) _ (map3 t) (win0_3.rect_emb_val t y 0) (win0_3.rect_emb_val t y 1)

/-! ## What is written back -/

theorem cover4 (i : S2408x128.Idx) : ∃ t : Fin cfg0.N, (cfg0.win 4).flush t = true ∧ i ∈ ((cfg0.win 4).blk t).view.set := by
  have hi : (i 0).val < 2408 := (i 0).isLt
  obtain ⟨t, ht⟩ : ∃ t : Fin cfg0.N, t.val = (i 0).val / 344 := ⟨⟨(i 0).val / 344, by rw [N_cfg0]; omega⟩, rfl⟩
  refine ⟨t, flush0_4 t, View.set_slice_whole .. ▸ Rect.mem_set_unit.mpr ?_⟩
  exact in_rows2 (T := 344) (by decide) (map4 t) i ht
theorem final4 (c : Dev nD) : @Eq (Vec Ideal S2408x128 .f32) ((dats m 0 c).arrAt 4 cfg0.N) (table (sum8 (V m c main_arg0))) := by
  refine (dats m 0 c).arrAt_eq_of_cover 4 _ (fun t _ => ?_) (fun i => cover4 i)
  rw [Value.flushed4]
  funext y
  rw [View.read_apply]
  refine (out4 (iblk m c 0 t) (iblk m c 1 t) (iblk m c 2 t) (iblk m c 3 t) y).trans ?_
  rw [total_block]
  exact table_of (sum8 (V m c main_arg0)) _ _ _ (rows2 (map4 t) (win0_4.rect_emb_val t y 0) (win0_4.rect_emb_val t y 1))
theorem cover5 (i : S2408x128.Idx) : ∃ t : Fin cfg0.N, (cfg0.win 5).flush t = true ∧ i ∈ ((cfg0.win 5).blk t).view.set := by
  have hi : (i 0).val < 2408 := (i 0).isLt
  obtain ⟨t, ht⟩ : ∃ t : Fin cfg0.N, t.val = (i 0).val / 344 := ⟨⟨(i 0).val / 344, by rw [N_cfg0]; omega⟩, rfl⟩
  refine ⟨t, flush0_5 t, View.set_slice_whole .. ▸ Rect.mem_set_unit.mpr ?_⟩
  exact in_rows2 (T := 344) (by decide) (map5 t) i ht
theorem final5 (c : Dev nD) : @Eq (Vec Ideal S2408x128 .f32) ((dats m 0 c).arrAt 5 cfg0.N) (table (delta2 (sum8 (V m c main_arg0)) (V m c main_arg1) (V m c main_arg2) (V m c main_arg3))) := by
  refine (dats m 0 c).arrAt_eq_of_cover 5 _ (fun t _ => ?_) (fun i => cover5 i)
  rw [Value.flushed5]
  funext y
  rw [View.read_apply]
  refine (out5 (iblk m c 0 t) (iblk m c 1 t) (iblk m c 2 t) (iblk m c 3 t) y).trans ?_
  rw [total_block, block1, block2, block3]
  exact table_of (delta2 (sum8 (V m c main_arg0)) (V m c main_arg1) (V m c main_arg2) (V m c main_arg3)) _ _ _ (rows2 (map5 t) (win0_5.rect_emb_val t y 0) (win0_5.rect_emb_val t y 1))
theorem cover6 (i : S2408x128.Idx) : ∃ t : Fin cfg0.N, (cfg0.win 6).flush t = true ∧ i ∈ ((cfg0.win 6).blk t).view.set := by
  have hi : (i 0).val < 2408 := (i 0).isLt
  obtain ⟨t, ht⟩ : ∃ t : Fin cfg0.N, t.val = (i 0).val / 344 := ⟨⟨(i 0).val / 344, by rw [N_cfg0]; omega⟩, rfl⟩
  refine ⟨t, flush0_6 t, View.set_slice_whole .. ▸ Rect.mem_set_unit.mpr ?_⟩
  exact in_rows2 (T := 344) (by decide) (map6 t) i ht
theorem final6 (c : Dev nD) : @Eq (Vec Ideal S2408x128 .f32) ((dats m 0 c).arrAt 6 cfg0.N) (table (mean2 (sum8 (V m c main_arg0)) (V m c main_arg2))) := by
  refine (dats m 0 c).arrAt_eq_of_cover 6 _ (fun t _ => ?_) (fun i => cover6 i)
  rw [Value.flushed6]
  funext y
  rw [View.read_apply]
  refine (out6 (iblk m c 0 t) (iblk m c 1 t) (iblk m c 2 t) (iblk m c 3 t) y).trans ?_
  rw [total_block, block2]
  exact table_of (mean2 (sum8 (V m c main_arg0)) (V m c main_arg2)) _ _ _ (rows2 (map6 t) (win0_6.rect_emb_val t y 0) (win0_6.rect_emb_val t y 1))
theorem cover7 (i : S2408x128.Idx) : ∃ t : Fin cfg0.N, (cfg0.win 7).flush t = true ∧ i ∈ ((cfg0.win 7).blk t).view.set := by
  have hi : (i 0).val < 2408 := (i 0).isLt
  obtain ⟨t, ht⟩ : ∃ t : Fin cfg0.N, t.val = (i 0).val / 344 := ⟨⟨(i 0).val / 344, by rw [N_cfg0]; omega⟩, rfl⟩
  refine ⟨t, flush0_7 t, View.set_slice_whole .. ▸ Rect.mem_set_unit.mpr ?_⟩
  exact in_rows2 (T := 344) (by decide) (map7 t) i ht
theorem final7 (c : Dev nD) : @Eq (Vec Ideal S2408x128 .f32) ((dats m 0 c).arrAt 7 cfg0.N) (table (square2 (sum8 (V m c main_arg0)) (V m c main_arg3))) := by
  refine (dats m 0 c).arrAt_eq_of_cover 7 _ (fun t _ => ?_) (fun i => cover7 i)
  rw [Value.flushed7]
  funext y
  rw [View.read_apply]
  refine (out7 (iblk m c 0 t) (iblk m c 1 t) (iblk m c 2 t) (iblk m c 3 t) y).trans ?_
  rw [total_block, block3]
  exact table_of (square2 (sum8 (V m c main_arg0)) (V m c main_arg3)) _ _ _ (rows2 (map7 t) (win0_7.rect_emb_val t y 0) (win0_7.rect_emb_val t y 1))

/-- The launch leaves the four tables. -/
theorem run_value : θ_run defs (onTc (τ := τ) (main (F := Ideal))) ⟨m, fun _ => 0, ρ⟩ fun r => ∀ c : Dev nD,
      r.2.mem ((c : Thread nD τ).loc main_v0_0) = table (sum8 (m ((c : Thread nD τ).loc main_arg0)))
      ∧ r.2.mem ((c : Thread nD τ).loc main_v0_1) = table (delta2 (sum8 (m ((c : Thread nD τ).loc main_arg0))) (m ((c : Thread nD τ).loc main_arg1)) (m ((c : Thread nD τ).loc main_arg2)) (m ((c : Thread nD τ).loc main_arg3)))
      ∧ r.2.mem ((c : Thread nD τ).loc main_v0_2) = table (mean2 (sum8 (m ((c : Thread nD τ).loc main_arg0))) (m ((c : Thread nD τ).loc main_arg2)))
      ∧ r.2.mem ((c : Thread nD τ).loc main_v0_3) = table (square2 (sum8 (m ((c : Thread nD τ).loc main_arg0))) (m ((c : Thread nD τ).loc main_arg3)))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) := by
  refine (θ_run defs _ _).mono (fun r h c => ?_) (Value.run_blocks m ρ)
  obtain ⟨h4, h5, h6, h7, ha⟩ := h c
  rw [final4, V_main_arg0] at h4
  rw [final5, V_main_arg0, V_main_arg1, V_main_arg2, V_main_arg3] at h5
  rw [final6, V_main_arg0, V_main_arg2] at h6
  rw [final7, V_main_arg0, V_main_arg3] at h7
  exact ⟨h4, h5, h6, h7, ha⟩

end Cert.Kernel5Ideal.Step

namespace Cert.Reference5Ideal.Step

open Cert.Reference5Ideal Cert.Reference5Ideal.Gen Cert.Reference5Ideal.Read Cert.AdamW Cert.Tables Cert.Blocks
open Idealize.ShloMosaic Idealize.ShloMosaic.TcCoe

section Plain
variable (p : Vec Ideal S8x2408x128 .f32) (w mm vv : Vec Ideal S2408x128 .f32)

/-! ## The reference at an entry, and the call's results are the reference's -/

theorem sum_at (i : S2408x128.Idx) : (val_main_v0 (F := Ideal) p : S2408x128.Idx → EReal) i = sum8 p (i 0).val (i 1).val := by
  rw [val_main_v0_apply]
  refine (congrArg (· + _) Ideal.ofBits_zero_f32).trans ((zero_add _).trans ?_)
  exact Finset.sum_congr rfl fun k _ => at3_of (p : S8x2408x128.Idx → EReal) _ _ _ _ rfl rfl rfl
theorem entry (x : Vec Ideal S2408x128 .f32) (i : S2408x128.Idx) : (x i : EReal) = at2 (x : S2408x128.Idx → EReal) (i 0).val (i 1).val :=
  at2_of (x : S2408x128.Idx → EReal) i _ _ rfl rfl

theorem result0 : val_main_v0 (F := Ideal) p = table (sum8 p) := funext fun i => sum_at p i
theorem result1 : val_main_v24 (F := Ideal) p w mm vv = table (delta2 (sum8 p) w mm vv) := funext fun i => by
  unfold table delta2
  rw [← sum_at, ← entry w, ← entry mm, ← entry vv]
  rfl
theorem result2 : val_main_v5 (F := Ideal) p mm = table (mean2 (sum8 p) mm) := funext fun i => by
  unfold table mean2
  rw [← sum_at, ← entry mm]
  rfl
theorem result3 : val_main_v11 (F := Ideal) p vv = table (square2 (sum8 p) vv) := funext fun i => by
  unfold table square2
  rw [← sum_at, ← entry vv]
  rfl
end Plain

end Cert.Reference5Ideal.Step

end
-- ==== Proof.NormStep.lean ====
/-
  The optimiser's call on the first layer's norm weight: the eight devices' gradients of it are added, and the sum takes
  the step. The launch has one point, which holds the whole weight as eight rows of 128.
-/
module

public import proofs.«01_k».proof.Proof.Blocks
public import proofs.«01_k».proof.Proof.Gen.Kernel10Ideal.Value
public import proofs.«01_k».proof.Proof.Gen.Reference10Ideal.Read

@[expose] public section

noncomputable section

namespace Cert.Kernel10Ideal.Step

open Cert.Kernel10Ideal Cert.Kernel10Ideal.Gen Cert.Tables Cert.AdamW Cert.Blocks
open Idealize.ShloMosaic Idealize.ShloMosaic.TcCoe Idealize.SL.Sem
open Idealize.ShloMosaic.Pipeline (Dat)

/-! ## What the body leaves of a block -/

/-- The eight parts of a block, added. -/
theorem total_apply (x : Vec Ideal S8x8x128 .f32) (x1 x2 x3 : Vec Ideal S8x128 .f32) (y : S8x128.Idx) :
    (k0_pay5 x x1 x2 x3 : S8x128.Idx → EReal) y = sum8 (x : S8x8x128.Idx → EReal) (y 0).val (y 1).val := by
  obtain ⟨⟨a, ha⟩, ⟨b, hb⟩, rfl⟩ : ∃ (a : Fin 8) (b : Fin 128), y = ix2 a b := ⟨y 0, y 1, eq_ix2 y⟩
  unfold sum8
  rw [Fin.sum_univ_eight]
  refine Eq.trans ?_ (congrArg₂ (· + ·) (congrArg₂ (· + ·) (congrArg₂ (· + ·) (congrArg₂ (· + ·) (congrArg₂ (· + ·) (congrArg₂ (· + ·) (congrArg₂ (· + ·) (part_at x 0 (by decide) a b (by decide) ha hb) (part_at x 1 (by decide) a b (by decide) ha hb))
    (part_at x 2 (by decide) a b (by decide) ha hb))
    (part_at x 3 (by decide) a b (by decide) ha hb))
    (part_at x 4 (by decide) a b (by decide) ha hb))
    (part_at x 5 (by decide) a b (by decide) ha hb))
    (part_at x 6 (by decide) a b (by decide) ha hb))
    (part_at x 7 (by decide) a b (by decide) ha hb))
  unfold k0_pay5 k0_pay4
  generalize View.ld x r0_0 = p0, View.ld x r0_1 = p1, View.ld x r0_2 = p2, View.ld x r0_3 = p3, View.ld x r0_4 = p4,
    View.ld x r0_5 = p5, View.ld x r0_6 = p6, View.ld x r0_7 = p7
  pointwise

section Body
variable (x : Vec Ideal S8x8x128 .f32) (x1 x2 x3 : Vec Ideal S8x128 .f32) (y : S8x128.Idx)
theorem out4 : (out0_4 x x1 x2 x3 : S8x128.Idx → EReal) y = k0_pay5 x x1 x2 x3 y := by
  unfold out0_4
  rw [View.canon_unit_zero (S := S8x128) zero2]
  rfl
theorem out5 : (out0_5 x x1 x2 x3 : S8x128.Idx → EReal) y = step (k0_pay5 x x1 x2 x3 y) (x1 y) (x2 y) (x3 y) := by
  unfold out0_5
  rw [View.canon_unit_zero (S := S8x128) zero2]
  simp only [View.ld_unit_zero (S := S8x128) zero2]
  generalize k0_pay5 x x1 x2 x3 = g
  rfl
theorem out6 : (out0_6 x x1 x2 x3 : S8x128.Idx → EReal) y = mean (k0_pay5 x x1 x2 x3 y) (x2 y) := by
  unfold out0_6
  rw [View.canon_unit_zero (S := S8x128) zero2]
  simp only [View.ld_unit_zero (S := S8x128) zero2]
  generalize k0_pay5 x x1 x2 x3 = g
  rfl
theorem out7 : (out0_7 x x1 x2 x3 : S8x128.Idx → EReal) y = square (k0_pay5 x x1 x2 x3 y) (x3 y) := by
  unfold out0_7
  rw [View.canon_unit_zero (S := S8x128) zero2]
  simp only [View.ld_unit_zero (S := S8x128) zero2]
  generalize k0_pay5 x x1 x2 x3 = g
  rfl
end Body

/-! ## The blocks of the launch -/

variable (m : (ℓ : Loc nD τ sig) → Buf (Elt Ideal) ℓ) (ρ : Dev nD → PrngReg)

theorem N_cfg0 : cfg0.N = 1 := by decide +kernel
theorem map0 : ∀ t : Fin 1, win0_0.index t 0 = 0 ∧ win0_0.index t 1 = t.val ∧ win0_0.index t 2 = 0 := by decide +kernel
theorem map1 : ∀ t : Fin 1, win0_1.index t 0 = t.val ∧ win0_1.index t 1 = 0 := by decide +kernel
theorem map2 : ∀ t : Fin 1, win0_2.index t 0 = t.val ∧ win0_2.index t 1 = 0 := by decide +kernel
theorem map3 : ∀ t : Fin 1, win0_3.index t 0 = t.val ∧ win0_3.index t 1 = 0 := by decide +kernel
theorem map4 : ∀ t : Fin 1, win0_4.index t 0 = t.val ∧ win0_4.index t 1 = 0 := by decide +kernel
theorem map5 : ∀ t : Fin 1, win0_5.index t 0 = t.val ∧ win0_5.index t 1 = 0 := by decide +kernel
theorem map6 : ∀ t : Fin 1, win0_6.index t 0 = t.val ∧ win0_6.index t 1 = 0 := by decide +kernel
theorem map7 : ∀ t : Fin 1, win0_7.index t 0 = t.val ∧ win0_7.index t 1 = 0 := by decide +kernel

theorem block0 (c : Dev nD) (t : Fin cfg0.N) (n : Fin 8) (a : Fin 8) (b : Fin 128) :
    at3 (iblk m c 0 t : S8x8x128.Idx → EReal) n.val a.val b.val = at3 (V m c main_arg0 : S8x8x128.Idx → EReal) n.val (t.val * 8 + a.val) b.val :=
  (at3_of (iblk m c 0 t : S8x8x128.Idx → EReal) (ix3 n a b) n.val a.val b.val rfl rfl rfl).symm.trans
    (at3_block (V m c main_arg0 : S8x8x128.Idx → EReal) _ (map0 t) rfl (win0_0.rect_emb_val t (ix3 n a b) 0)
      (win0_0.rect_emb_val t (ix3 n a b) 1) (win0_0.rect_emb_val t (ix3 n a b) 2))
theorem total_block (c : Dev nD) (t : Fin cfg0.N) (x1 x2 x3 : Vec Ideal S8x128 .f32) (y : S8x128.Idx) :
    (k0_pay5 (iblk m c 0 t) x1 x2 x3 : S8x128.Idx → EReal) y
      = sum8 (V m c main_arg0 : S8x8x128.Idx → EReal) (t.val * 8 + (y 0).val) (y 1).val :=
  (total_apply (iblk m c 0 t) x1 x2 x3 y).trans (Finset.sum_congr rfl fun k _ => block0 m c t k (y 0) (y 1))
theorem block1 (c : Dev nD) (t : Fin cfg0.N) (y : S8x128.Idx) :
    (iblk m c 1 t : S8x128.Idx → EReal) y = at2 (V m c main_arg1 : S8x128.Idx → EReal) (t.val * 8 + (y 0).val) (y 1).val :=
  at2_block (V m c main_arg1 : S8x128.Idx → EReal) _ (map1 t) (win0_1.rect_emb_val t y 0) (win0_1.rect_emb_val t y 1)
theorem block2 (c : Dev nD) (t : Fin cfg0.N) (y : S8x128.Idx) :
    (iblk m c 2 t : S8x128.Idx → EReal) y = at2 (V m c main_arg2 : S8x128.Idx → EReal) (t.val * 8 + (y 0).val) (y 1).val :=
  at2_block (V m c main_arg2 : S8x128.Idx → EReal) _ (map2 t) (win0_2.rect_emb_val t y 0) (win0_2.rect_emb_val t y 1)
theorem block3 (c : Dev nD) (t : Fin cfg0.N) (y : S8x128.Idx) :
    (iblk m c 3 t : S8x128.Idx → EReal) y = at2 (V m c main_arg3 : S8x128.Idx → EReal) (t.val * 8 + (y 0).val) (y 1).val :=
  at2_block (V m c main_arg3 : S8x128.Idx → EReal) _ (map3 t) (win0_3.rect_emb_val t y 0) (win0_3.rect_emb_val t y 1)

/-! ## What is written back -/

theorem cover4 (i : S8x128.Idx) : ∃ t : Fin cfg0.N, (cfg0.win 4).flush t = true ∧ i ∈ ((cfg0.win 4).blk t).view.set := by
  have hi : (i 0).val < 8 := (i 0).isLt
  obtain ⟨t, ht⟩ : ∃ t : Fin cfg0.N, t.val = (i 0).val / 8 := ⟨⟨(i 0).val / 8, by rw [N_cfg0]; omega⟩, rfl⟩
  refine ⟨t, flush0_4 t, View.set_slice_whole .. ▸ Rect.mem_set_unit.mpr ?_⟩
  exact in_rows2 (T := 8) (by decide) (map4 t) i ht
theorem final4 (c : Dev nD) : @Eq (Vec Ideal S8x128 .f32) ((dats m 0 c).arrAt 4 cfg0.N) (table (sum8 (V m c main_arg0))) := by
  refine (dats m 0 c).arrAt_eq_of_cover 4 _ (fun t _ => ?_) (fun i => cover4 i)
  rw [Value.flushed4]
  funext y
  rw [View.read_apply]
  refine (out4 (iblk m c 0 t) (iblk m c 1 t) (iblk m c 2 t) (iblk m c 3 t) y).trans ?_
  rw [total_block]
  exact table_of (sum8 (V m c main_arg0)) _ _ _ (rows2 (map4 t) (win0_4.rect_emb_val t y 0) (win0_4.rect_emb_val t y 1))
theorem cover5 (i : S8x128.Idx) : ∃ t : Fin cfg0.N, (cfg0.win 5).flush t = true ∧ i ∈ ((cfg0.win 5).blk t).view.set := by
  have hi : (i 0).val < 8 := (i 0).isLt
  obtain ⟨t, ht⟩ : ∃ t : Fin cfg0.N, t.val = (i 0).val / 8 := ⟨⟨(i 0).val / 8, by rw [N_cfg0]; omega⟩, rfl⟩
  refine ⟨t, flush0_5 t, View.set_slice_whole .. ▸ Rect.mem_set_unit.mpr ?_⟩
  exact in_rows2 (T := 8) (by decide) (map5 t) i ht
theorem final5 (c : Dev nD) : @Eq (Vec Ideal S8x128 .f32) ((dats m 0 c).arrAt 5 cfg0.N) (table (delta2 (sum8 (V m c main_arg0)) (V m c main_arg1) (V m c main_arg2) (V m c main_arg3))) := by
  refine (dats m 0 c).arrAt_eq_of_cover 5 _ (fun t _ => ?_) (fun i => cover5 i)
  rw [Value.flushed5]
  funext y
  rw [View.read_apply]
  refine (out5 (iblk m c 0 t) (iblk m c 1 t) (iblk m c 2 t) (iblk m c 3 t) y).trans ?_
  rw [total_block, block1, block2, block3]
  exact table_of (delta2 (sum8 (V m c main_arg0)) (V m c main_arg1) (V m c main_arg2) (V m c main_arg3)) _ _ _ (rows2 (map5 t) (win0_5.rect_emb_val t y 0) (win0_5.rect_emb_val t y 1))
theorem cover6 (i : S8x128.Idx) : ∃ t : Fin cfg0.N, (cfg0.win 6).flush t = true ∧ i ∈ ((cfg0.win 6).blk t).view.set := by
  have hi : (i 0).val < 8 := (i 0).isLt
  obtain ⟨t, ht⟩ : ∃ t : Fin cfg0.N, t.val = (i 0).val / 8 := ⟨⟨(i 0).val / 8, by rw [N_cfg0]; omega⟩, rfl⟩
  refine ⟨t, flush0_6 t, View.set_slice_whole .. ▸ Rect.mem_set_unit.mpr ?_⟩
  exact in_rows2 (T := 8) (by decide) (map6 t) i ht
theorem final6 (c : Dev nD) : @Eq (Vec Ideal S8x128 .f32) ((dats m 0 c).arrAt 6 cfg0.N) (table (mean2 (sum8 (V m c main_arg0)) (V m c main_arg2))) := by
  refine (dats m 0 c).arrAt_eq_of_cover 6 _ (fun t _ => ?_) (fun i => cover6 i)
  rw [Value.flushed6]
  funext y
  rw [View.read_apply]
  refine (out6 (iblk m c 0 t) (iblk m c 1 t) (iblk m c 2 t) (iblk m c 3 t) y).trans ?_
  rw [total_block, block2]
  exact table_of (mean2 (sum8 (V m c main_arg0)) (V m c main_arg2)) _ _ _ (rows2 (map6 t) (win0_6.rect_emb_val t y 0) (win0_6.rect_emb_val t y 1))
theorem cover7 (i : S8x128.Idx) : ∃ t : Fin cfg0.N, (cfg0.win 7).flush t = true ∧ i ∈ ((cfg0.win 7).blk t).view.set := by
  have hi : (i 0).val < 8 := (i 0).isLt
  obtain ⟨t, ht⟩ : ∃ t : Fin cfg0.N, t.val = (i 0).val / 8 := ⟨⟨(i 0).val / 8, by rw [N_cfg0]; omega⟩, rfl⟩
  refine ⟨t, flush0_7 t, View.set_slice_whole .. ▸ Rect.mem_set_unit.mpr ?_⟩
  exact in_rows2 (T := 8) (by decide) (map7 t) i ht
theorem final7 (c : Dev nD) : @Eq (Vec Ideal S8x128 .f32) ((dats m 0 c).arrAt 7 cfg0.N) (table (square2 (sum8 (V m c main_arg0)) (V m c main_arg3))) := by
  refine (dats m 0 c).arrAt_eq_of_cover 7 _ (fun t _ => ?_) (fun i => cover7 i)
  rw [Value.flushed7]
  funext y
  rw [View.read_apply]
  refine (out7 (iblk m c 0 t) (iblk m c 1 t) (iblk m c 2 t) (iblk m c 3 t) y).trans ?_
  rw [total_block, block3]
  exact table_of (square2 (sum8 (V m c main_arg0)) (V m c main_arg3)) _ _ _ (rows2 (map7 t) (win0_7.rect_emb_val t y 0) (win0_7.rect_emb_val t y 1))

/-- The launch leaves the four tables. -/
theorem run_value : θ_run defs (onTc (τ := τ) (main (F := Ideal))) ⟨m, fun _ => 0, ρ⟩ fun r => ∀ c : Dev nD,
      r.2.mem ((c : Thread nD τ).loc main_v0_0) = table (sum8 (m ((c : Thread nD τ).loc main_arg0)))
      ∧ r.2.mem ((c : Thread nD τ).loc main_v0_1) = table (delta2 (sum8 (m ((c : Thread nD τ).loc main_arg0))) (m ((c : Thread nD τ).loc main_arg1)) (m ((c : Thread nD τ).loc main_arg2)) (m ((c : Thread nD τ).loc main_arg3)))
      ∧ r.2.mem ((c : Thread nD τ).loc main_v0_2) = table (mean2 (sum8 (m ((c : Thread nD τ).loc main_arg0))) (m ((c : Thread nD τ).loc main_arg2)))
      ∧ r.2.mem ((c : Thread nD τ).loc main_v0_3) = table (square2 (sum8 (m ((c : Thread nD τ).loc main_arg0))) (m ((c : Thread nD τ).loc main_arg3)))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) := by
  refine (θ_run defs _ _).mono (fun r h c => ?_) (Value.run_blocks m ρ)
  obtain ⟨h4, h5, h6, h7, ha⟩ := h c
  rw [final4, V_main_arg0] at h4
  rw [final5, V_main_arg0, V_main_arg1, V_main_arg2, V_main_arg3] at h5
  rw [final6, V_main_arg0, V_main_arg2] at h6
  rw [final7, V_main_arg0, V_main_arg3] at h7
  exact ⟨h4, h5, h6, h7, ha⟩

end Cert.Kernel10Ideal.Step

namespace Cert.Reference10Ideal.Step

open Cert.Reference10Ideal Cert.Reference10Ideal.Gen Cert.Reference10Ideal.Read Cert.AdamW Cert.Tables Cert.Blocks
open Idealize.ShloMosaic Idealize.ShloMosaic.TcCoe

section Plain
variable (p : Vec Ideal S8x8x128 .f32) (w mm vv : Vec Ideal S8x128 .f32)

/-! ## The reference at an entry, and the call's results are the reference's -/

theorem sum_at (i : S8x128.Idx) : (val_main_v0 (F := Ideal) p : S8x128.Idx → EReal) i = sum8 p (i 0).val (i 1).val := by
  rw [val_main_v0_apply]
  refine (congrArg (· + _) Ideal.ofBits_zero_f32).trans ((zero_add _).trans ?_)
  exact Finset.sum_congr rfl fun k _ => at3_of (p : S8x8x128.Idx → EReal) _ _ _ _ rfl rfl rfl
theorem entry (x : Vec Ideal S8x128 .f32) (i : S8x128.Idx) : (x i : EReal) = at2 (x : S8x128.Idx → EReal) (i 0).val (i 1).val :=
  at2_of (x : S8x128.Idx → EReal) i _ _ rfl rfl

theorem result0 : val_main_v0 (F := Ideal) p = table (sum8 p) := funext fun i => sum_at p i
theorem result1 : val_main_v24 (F := Ideal) p w mm vv = table (delta2 (sum8 p) w mm vv) := funext fun i => by
  unfold table delta2
  rw [← sum_at, ← entry w, ← entry mm, ← entry vv]
  rfl
theorem result2 : val_main_v5 (F := Ideal) p mm = table (mean2 (sum8 p) mm) := funext fun i => by
  unfold table mean2
  rw [← sum_at, ← entry mm]
  rfl
theorem result3 : val_main_v11 (F := Ideal) p vv = table (square2 (sum8 p) vv) := funext fun i => by
  unfold table square2
  rw [← sum_at, ← entry vv]
  rfl
end Plain

end Cert.Reference10Ideal.Step

end
-- ==== Proof.InProjStep.lean ====
/-
  The optimiser's call on the first layer of the input projection's weights: the device's own part of the gradient and
  the seven that landed are added, and the sum takes the step. The call writes the first layer's part of its four
  results over arrays that hold the second layer's; that part is left as it was.

  Point `t` of the launch holds 256 rows, the ones that start at `256 t`, and every row of the first layer is in one
  block. So each result is a table of the arguments, and the table is the reference's entry by entry.
-/
module

public import proofs.«01_k».proof.Proof.Blocks
public import proofs.«01_k».proof.Proof.Gen.Kernel6Ideal.Value
public import proofs.«01_k».proof.Proof.Gen.Reference6Ideal.Read

@[expose] public section

noncomputable section

namespace Cert.Kernel6Ideal.Step

open Cert.Kernel6Ideal Cert.Kernel6Ideal.Gen Cert.Tables Cert.AdamW Cert.Blocks
open Idealize.ShloMosaic Idealize.ShloMosaic.TcCoe Idealize.SL.Sem
open Idealize.ShloMosaic.Pipeline (Dat)

/-! ## What the body leaves of a block -/

section AnyValues
variable {F : FTy → Type} [FloatOps F]

/-- The sum of a block, in the shape of the own part's block and in that of the results'. -/
abbrev summed (x0 : Vec F S256x1280 .f32) (x1 : Vec F S7x256x1280 .bf16) : Vec F S256x1280 .f32 :=
  k0_pay3 x0 (View.ld x1 (Rect.unit (s := S7x256x1280) ![0, 0, 0] S1x256x1280.size inb_S7x256x1280_S1x256x1280_0_0_0))
    (View.ld x1 (Rect.unit (s := S7x256x1280) ![1, 0, 0] S1x256x1280.size inb_S7x256x1280_S1x256x1280_1_0_0))
    (View.ld x1 (Rect.unit (s := S7x256x1280) ![2, 0, 0] S1x256x1280.size inb_S7x256x1280_S1x256x1280_2_0_0))
    (View.ld x1 (Rect.unit (s := S7x256x1280) ![3, 0, 0] S1x256x1280.size inb_S7x256x1280_S1x256x1280_3_0_0))
    (View.ld x1 (Rect.unit (s := S7x256x1280) ![4, 0, 0] S1x256x1280.size inb_S7x256x1280_S1x256x1280_4_0_0))
    (View.ld x1 (Rect.unit (s := S7x256x1280) ![5, 0, 0] S1x256x1280.size inb_S7x256x1280_S1x256x1280_5_0_0))
    (View.ld x1 (Rect.unit (s := S7x256x1280) ![6, 0, 0] S1x256x1280.size inb_S7x256x1280_S1x256x1280_6_0_0))
abbrev wide (x0 : Vec F S256x1280 .f32) (x1 : Vec F S7x256x1280 .bf16) : Vec F S1x256x1280 .f32 :=
  k0_pay4 x0 (View.ld x1 (Rect.unit (s := S7x256x1280) ![0, 0, 0] S1x256x1280.size inb_S7x256x1280_S1x256x1280_0_0_0))
    (View.ld x1 (Rect.unit (s := S7x256x1280) ![1, 0, 0] S1x256x1280.size inb_S7x256x1280_S1x256x1280_1_0_0))
    (View.ld x1 (Rect.unit (s := S7x256x1280) ![2, 0, 0] S1x256x1280.size inb_S7x256x1280_S1x256x1280_2_0_0))
    (View.ld x1 (Rect.unit (s := S7x256x1280) ![3, 0, 0] S1x256x1280.size inb_S7x256x1280_S1x256x1280_3_0_0))
    (View.ld x1 (Rect.unit (s := S7x256x1280) ![4, 0, 0] S1x256x1280.size inb_S7x256x1280_S1x256x1280_4_0_0))
    (View.ld x1 (Rect.unit (s := S7x256x1280) ![5, 0, 0] S1x256x1280.size inb_S7x256x1280_S1x256x1280_5_0_0))
    (View.ld x1 (Rect.unit (s := S7x256x1280) ![6, 0, 0] S1x256x1280.size inb_S7x256x1280_S1x256x1280_6_0_0))

variable (c : Dev nD) (i : grid0.Coords)
  (a1 : Memref sig .tc .vmem S256x1280 .f32) (h1 : a1.IsWhole)
  (a2 : Memref sig .tc .vmem S7x256x1280 .bf16) (h2 : a2.IsWhole)
  (a3 : Memref sig .tc .vmem S1x256x1280 .f32) (h3 : a3.IsWhole)
  (a4 : Memref sig .tc .vmem S1x256x1280 .f32) (h4 : a4.IsWhole)
  (a5 : Memref sig .tc .vmem S1x256x1280 .f32) (h5 : a5.IsWhole)
  (a10 : Memref sig .tc .vmem S1x256x1280 .f32) (h10 : a10.IsWhole)
  (a11 : Memref sig .tc .vmem S1x256x1280 .f32) (h11 : a11.IsWhole)
  (a12 : Memref sig .tc .vmem S1x256x1280 .f32) (h12 : a12.IsWhole)
  (a13 : Memref sig .tc .vmem S1x256x1280 .f32) (h13 : a13.IsWhole)
  (x0 : Vec F S256x1280 .f32) (x1 : Vec F S7x256x1280 .bf16) (x2 x3 x4 : Vec F S1x256x1280 .f32)

theorem left5 : out0_A_5 c i a1 h1 a2 h2 a3 h3 a4 h4 a5 h5 a10 h10 a11 h11 a12 h12 a13 h13 x0 x1 x2 x3 x4 = wide x0 x1 := by
  unfold out0_A_5
  rw [View.read_writes_eq_canon _ _ _ (cover0_A_5 c i a1 h1 a2 h2 a3 h3 a4 h4 a5 h5 a10 h10 a11 h11 a12 h12 a13 h13 x0 x1 x2 x3 x4)]
  unfold kernelRun0_A
  dsimp only
  sl_unfold_words
  rw [View.canon_unit_zero (S := S1x256x1280) zero3]
  simp only [View.readAt_eq_ld, h1.read_unread, h2.read_unread, h3.read_unread, h4.read_unread, h5.read_unread,
    View.ld_unit_zero (S := S256x1280) zero2, View.ld_unit_zero (S := S1x256x1280) zero3]
theorem left6 : out0_A_6 c i a1 h1 a2 h2 a3 h3 a4 h4 a5 h5 a10 h10 a11 h11 a12 h12 a13 h13 x0 x1 x2 x3 x4 = k0_pay7 (summed x0 x1) x2 x3 x4 := by
  unfold out0_A_6
  rw [View.read_writes_eq_canon _ _ _ (cover0_A_6 c i a1 h1 a2 h2 a3 h3 a4 h4 a5 h5 a10 h10 a11 h11 a12 h12 a13 h13 x0 x1 x2 x3 x4)]
  unfold kernelRun0_A
  dsimp only
  sl_unfold_words
  rw [View.canon_unit_zero (S := S1x256x1280) zero3]
  simp only [View.readAt_eq_ld, h1.read_unread, h2.read_unread, h3.read_unread, h4.read_unread, h5.read_unread,
    View.ld_unit_zero (S := S256x1280) zero2, View.ld_unit_zero (S := S1x256x1280) zero3]
theorem left7 : out0_A_7 c i a1 h1 a2 h2 a3 h3 a4 h4 a5 h5 a10 h10 a11 h11 a12 h12 a13 h13 x0 x1 x2 x3 x4 = k0_pay1 (k0_pay5 (summed x0 x1) x3) := by
  unfold out0_A_7
  rw [View.read_writes_eq_canon _ _ _ (cover0_A_7 c i a1 h1 a2 h2 a3 h3 a4 h4 a5 h5 a10 h10 a11 h11 a12 h12 a13 h13 x0 x1 x2 x3 x4)]
  unfold kernelRun0_A
  dsimp only
  sl_unfold_words
  rw [View.canon_unit_zero (S := S1x256x1280) zero3]
  simp only [View.readAt_eq_ld, h1.read_unread, h2.read_unread, h3.read_unread, h4.read_unread, h5.read_unread,
    View.ld_unit_zero (S := S256x1280) zero2, View.ld_unit_zero (S := S1x256x1280) zero3]
theorem left8 : out0_A_8 c i a1 h1 a2 h2 a3 h3 a4 h4 a5 h5 a10 h10 a11 h11 a12 h12 a13 h13 x0 x1 x2 x3 x4 = k0_pay2 (k0_pay6 (summed x0 x1) x4) := by
  unfold out0_A_8
  rw [View.read_writes_eq_canon _ _ _ (cover0_A_8 c i a1 h1 a2 h2 a3 h3 a4 h4 a5 h5 a10 h10 a11 h11 a12 h12 a13 h13 x0 x1 x2 x3 x4)]
  unfold kernelRun0_A
  dsimp only
  sl_unfold_words
  rw [View.canon_unit_zero (S := S1x256x1280) zero3]
  simp only [View.readAt_eq_ld, h1.read_unread, h2.read_unread, h3.read_unread, h4.read_unread, h5.read_unread,
    View.ld_unit_zero (S := S256x1280) zero2, View.ld_unit_zero (S := S1x256x1280) zero3]

end AnyValues

/-! ## Over the extended reals -/

section Parts
variable (x0 : Vec Ideal S256x1280 .f32) (p0 p1 p2 p3 p4 p5 p6 : Vec Ideal S1x256x1280 .bf16) (a : Fin 256) (b : Fin 1280)
theorem sum_at : (k0_pay3 x0 p0 p1 p2 p3 p4 p5 p6 : S256x1280.Idx → EReal) (ix2 a b)
    = (x0 (ix2 a b) + p0 (ix3 0 a b) + p1 (ix3 0 a b) + p2 (ix3 0 a b) + p3 (ix3 0 a b) + p4 (ix3 0 a b) + p5 (ix3 0 a b) + p6 (ix3 0 a b) : EReal) := by
  unfold k0_pay3
  pointwise
theorem wide_at : (k0_pay4 x0 p0 p1 p2 p3 p4 p5 p6 : S1x256x1280.Idx → EReal) (ix3 0 a b)
    = (k0_pay3 x0 p0 p1 p2 p3 p4 p5 p6 : S256x1280.Idx → EReal) (ix2 a b) := by
  unfold k0_pay4
  generalize k0_pay3 x0 p0 p1 p2 p3 p4 p5 p6 = s
  pointwise
end Parts

/-- The device's own part of a block and the seven that landed, added. -/
theorem summed_at (x0 : Vec Ideal S256x1280 .f32) (x1 : Vec Ideal S7x256x1280 .bf16) (a : Fin 256) (b : Fin 1280) :
    (summed x0 x1 : S256x1280.Idx → EReal) (ix2 a b)
      = at2 (x0 : S256x1280.Idx → EReal) a.val b.val + ∑ k : Fin 7, at3 (x1 : S7x256x1280.Idx → EReal) k.val a.val b.val := by
  obtain ⟨a, ha⟩ := a
  obtain ⟨b, hb⟩ := b
  rw [Fin.sum_univ_seven]
  have e : ∀ o p0 p1 p2 p3 p4 p5 p6 : EReal, o + p0 + p1 + p2 + p3 + p4 + p5 + p6 = o + (p0 + p1 + p2 + p3 + p4 + p5 + p6) :=
    fun o p0 p1 p2 p3 p4 p5 p6 => by simp only [add_assoc]
  refine Eq.trans ?_ (congrArg₂ (· + ·) (at2_of (x0 : S256x1280.Idx → EReal) (ix2 ⟨a, ha⟩ ⟨b, hb⟩) a b rfl rfl)
    (congrArg₂ (· + ·) (congrArg₂ (· + ·) (congrArg₂ (· + ·) (congrArg₂ (· + ·) (congrArg₂ (· + ·) (congrArg₂ (· + ·) (part_at x1 0 inb_S7x256x1280_S1x256x1280_0_0_0 a b (by decide) ha hb) (part_at x1 1 inb_S7x256x1280_S1x256x1280_1_0_0 a b (by decide) ha hb))
      (part_at x1 2 inb_S7x256x1280_S1x256x1280_2_0_0 a b (by decide) ha hb))
      (part_at x1 3 inb_S7x256x1280_S1x256x1280_3_0_0 a b (by decide) ha hb))
      (part_at x1 4 inb_S7x256x1280_S1x256x1280_4_0_0 a b (by decide) ha hb))
      (part_at x1 5 inb_S7x256x1280_S1x256x1280_5_0_0 a b (by decide) ha hb))
      (part_at x1 6 inb_S7x256x1280_S1x256x1280_6_0_0 a b (by decide) ha hb)))
  exact (sum_at _ _ _ _ _ _ _ _ _ _).trans (e _ _ _ _ _ _ _ _)

theorem out6 (s : Vec Ideal S256x1280 .f32) (w mm vv : Vec Ideal S1x256x1280 .f32) (a : Fin 256) (b : Fin 1280) :
    (k0_pay7 s w mm vv : S1x256x1280.Idx → EReal) (ix3 0 a b) = step (s (ix2 a b)) (w (ix3 0 a b)) (mm (ix3 0 a b)) (vv (ix3 0 a b)) := by
  unfold k0_pay7 k0_pay5 k0_pay6 step mean square
  pointwise
theorem out7 (s : Vec Ideal S256x1280 .f32) (mm : Vec Ideal S1x256x1280 .f32) (a : Fin 256) (b : Fin 1280) :
    (k0_pay1 (k0_pay5 s mm) : S1x256x1280.Idx → EReal) (ix3 0 a b) = mean (s (ix2 a b)) (mm (ix3 0 a b)) := by
  unfold k0_pay1 k0_pay5 mean
  pointwise
theorem out8 (s : Vec Ideal S256x1280 .f32) (vv : Vec Ideal S1x256x1280 .f32) (a : Fin 256) (b : Fin 1280) :
    (k0_pay2 (k0_pay6 s vv) : S1x256x1280.Idx → EReal) (ix3 0 a b) = square (s (ix2 a b)) (vv (ix3 0 a b)) := by
  unfold k0_pay2 k0_pay6 square
  pointwise

/-! ## The blocks of the launch -/

variable (m : (ℓ : Loc nD τ sig) → Buf (Elt Ideal) ℓ) (ρ : Dev nD → PrngReg)

theorem N_cfg0 : cfg0.N = 4 := by decide +kernel
theorem map0 : ∀ t : Fin 4, win0_0.index t 0 = t.val ∧ win0_0.index t 1 = 0 := by decide +kernel
theorem map1 : ∀ t : Fin 4, win0_1.index t 0 = 0 ∧ win0_1.index t 1 = t.val ∧ win0_1.index t 2 = 0 := by decide +kernel
theorem map2 : ∀ t : Fin 4, win0_2.index t 0 = 0 ∧ win0_2.index t 1 = t.val ∧ win0_2.index t 2 = 0 := by decide +kernel
theorem map3 : ∀ t : Fin 4, win0_3.index t 0 = 0 ∧ win0_3.index t 1 = t.val ∧ win0_3.index t 2 = 0 := by decide +kernel
theorem map4 : ∀ t : Fin 4, win0_4.index t 0 = 0 ∧ win0_4.index t 1 = t.val ∧ win0_4.index t 2 = 0 := by decide +kernel
theorem map5 : ∀ t : Fin 4, win0_5.index t 0 = 0 ∧ win0_5.index t 1 = t.val ∧ win0_5.index t 2 = 0 := by decide +kernel
theorem map6 : ∀ t : Fin 4, win0_6.index t 0 = 0 ∧ win0_6.index t 1 = t.val ∧ win0_6.index t 2 = 0 := by decide +kernel
theorem map7 : ∀ t : Fin 4, win0_7.index t 0 = 0 ∧ win0_7.index t 1 = t.val ∧ win0_7.index t 2 = 0 := by decide +kernel
theorem map8 : ∀ t : Fin 4, win0_8.index t 0 = 0 ∧ win0_8.index t 1 = t.val ∧ win0_8.index t 2 = 0 := by decide +kernel

section Blocks
variable (c : Dev nD) (t : Fin cfg0.N)

theorem block0 (a : Fin 256) (b : Fin 1280) :
    at2 (iblk m c 0 t : S256x1280.Idx → EReal) a.val b.val = at2 (V m c main_arg0 : S1024x1280.Idx → EReal) (t.val * 256 + a.val) b.val :=
  (at2_of (iblk m c 0 t : S256x1280.Idx → EReal) (ix2 a b) a.val b.val rfl rfl).symm.trans
    (at2_block (V m c main_arg0 : S1024x1280.Idx → EReal) _ (map0 t) (win0_0.rect_emb_val t (ix2 a b) 0) (win0_0.rect_emb_val t (ix2 a b) 1))
theorem block1 (n : Fin 7) (a : Fin 256) (b : Fin 1280) :
    at3 (iblk m c 1 t : S7x256x1280.Idx → EReal) n.val a.val b.val = at3 (V m c main_arg1 : S7x1024x1280.Idx → EReal) n.val (t.val * 256 + a.val) b.val :=
  (at3_of (iblk m c 1 t : S7x256x1280.Idx → EReal) (ix3 n a b) n.val a.val b.val rfl rfl rfl).symm.trans
    (at3_block (V m c main_arg1 : S7x1024x1280.Idx → EReal) _ (map1 t) rfl (win0_1.rect_emb_val t (ix3 n a b) 0)
      (win0_1.rect_emb_val t (ix3 n a b) 1) (win0_1.rect_emb_val t (ix3 n a b) 2))
theorem block2 (y : S1x256x1280.Idx) :
    (iblk m c 2 t : S1x256x1280.Idx → EReal) y = at3 (V m c main_arg2 : S2x1024x1280.Idx → EReal) 0 (t.val * 256 + (y 1).val) (y 2).val :=
  at3_block (V m c main_arg2 : S2x1024x1280.Idx → EReal) _ (map2 t) (Nat.lt_one_iff.mp (y 0).isLt) (win0_2.rect_emb_val t y 0)
    (win0_2.rect_emb_val t y 1) (win0_2.rect_emb_val t y 2)
theorem block3 (y : S1x256x1280.Idx) :
    (iblk m c 3 t : S1x256x1280.Idx → EReal) y = at3 (V m c main_arg3 : S2x1024x1280.Idx → EReal) 0 (t.val * 256 + (y 1).val) (y 2).val :=
  at3_block (V m c main_arg3 : S2x1024x1280.Idx → EReal) _ (map3 t) (Nat.lt_one_iff.mp (y 0).isLt) (win0_3.rect_emb_val t y 0)
    (win0_3.rect_emb_val t y 1) (win0_3.rect_emb_val t y 2)
theorem block4 (y : S1x256x1280.Idx) :
    (iblk m c 4 t : S1x256x1280.Idx → EReal) y = at3 (V m c main_arg4 : S2x1024x1280.Idx → EReal) 0 (t.val * 256 + (y 1).val) (y 2).val :=
  at3_block (V m c main_arg4 : S2x1024x1280.Idx → EReal) _ (map4 t) (Nat.lt_one_iff.mp (y 0).isLt) (win0_4.rect_emb_val t y 0)
    (win0_4.rect_emb_val t y 1) (win0_4.rect_emb_val t y 2)

theorem summed_block (a : Fin 256) (b : Fin 1280) :
    (summed (iblk m c 0 t) (iblk m c 1 t) : S256x1280.Idx → EReal) (ix2 a b) = total (V m c main_arg0) (V m c main_arg1) (t.val * 256 + a.val) b.val :=
  (summed_at (iblk m c 0 t) (iblk m c 1 t) a b).trans
    (congrArg₂ (· + ·) (block0 m c t a b) (Finset.sum_congr rfl fun k _ => block1 m c t k a b))

/-- An entry of a block of the results is in the row and the column that its place says. -/
theorem cases_block (y : S1x256x1280.Idx) : ∃ (a : Fin 256) (b : Fin 1280), y = ix3 0 a b :=
  ⟨y 1, y 2, (eq_ix3 y).trans (congrArg (fun z => ix3 z (y 1) (y 2)) (Subsingleton.elim _ _))⟩

theorem result5 (y : S1x256x1280.Idx) :
    (wide (iblk m c 0 t) (iblk m c 1 t) : S1x256x1280.Idx → EReal) y
      = total (V m c main_arg0) (V m c main_arg1) (t.val * 256 + (y 1).val) (y 2).val := by
  obtain ⟨a, b, rfl⟩ := cases_block y
  exact (wide_at _ _ _ _ _ _ _ _ a b).trans (summed_block m c t a b)
theorem result6 (y : S1x256x1280.Idx) :
    (k0_pay7 (summed (iblk m c 0 t) (iblk m c 1 t)) (iblk m c 2 t) (iblk m c 3 t) (iblk m c 4 t) : S1x256x1280.Idx → EReal) y
      = delta3 (total (V m c main_arg0) (V m c main_arg1)) (V m c main_arg2) (V m c main_arg3) (V m c main_arg4) (t.val * 256 + (y 1).val) (y 2).val := by
  obtain ⟨a, b, rfl⟩ := cases_block y
  refine (out6 _ (iblk m c 2 t) (iblk m c 3 t) (iblk m c 4 t) a b).trans ?_
  rw [summed_block, block2, block3, block4]
  rfl
theorem result7 (y : S1x256x1280.Idx) :
    (k0_pay1 (k0_pay5 (summed (iblk m c 0 t) (iblk m c 1 t)) (iblk m c 3 t)) : S1x256x1280.Idx → EReal) y
      = mean3 (total (V m c main_arg0) (V m c main_arg1)) (V m c main_arg3) (t.val * 256 + (y 1).val) (y 2).val := by
  obtain ⟨a, b, rfl⟩ := cases_block y
  refine (out7 _ (iblk m c 3 t) a b).trans ?_
  rw [summed_block, block3]
  rfl
theorem result8 (y : S1x256x1280.Idx) :
    (k0_pay2 (k0_pay6 (summed (iblk m c 0 t) (iblk m c 1 t)) (iblk m c 4 t)) : S1x256x1280.Idx → EReal) y
      = square3 (total (V m c main_arg0) (V m c main_arg1)) (V m c main_arg4) (t.val * 256 + (y 1).val) (y 2).val := by
  obtain ⟨a, b, rfl⟩ := cases_block y
  refine (out8 _ (iblk m c 4 t) a b).trans ?_
  rw [summed_block, block4]
  rfl

end Blocks

/-! ## What is written back -/

theorem copied5 (c : Dev nD) : @Eq (Vec Ideal S2x1024x1280 .f32) (V m c main_v0_0) (m ((c : Thread nD τ).loc main_arg5)) := by
  unfold V
  simp only [hostOps0]
  after_results
  rfl
theorem cover5 (i : S2x1024x1280.Idx) (h : (i 0).val = 0) :
    ∃ t : Fin cfg0.N, (cfg0.win 5).flush t = true ∧ i ∈ ((cfg0.win 5).blk t).view.set := by
  have hi : (i 1).val < 1024 := (i 1).isLt
  obtain ⟨t, ht⟩ : ∃ t : Fin cfg0.N, t.val = (i 1).val / 256 := ⟨⟨(i 1).val / 256, by rw [N_cfg0]; omega⟩, rfl⟩
  refine ⟨t, flush0_5 t, View.set_slice_whole .. ▸ Rect.mem_set_unit.mpr ?_⟩
  exact in_rows3 (T := 256) (by decide) (map5 t) i h ht
set_option maxRecDepth 16384 in
theorem flushed5 (c : Dev nD) (t : Fin cfg0.N) :
    (dats m 0 c).flushed 5 t = ((cfg0.win 5).blk t).view.read (Elt Ideal)
      (over (total (V m c main_arg0) (V m c main_arg1)) (m ((c : Thread nD τ).loc main_arg5)) : Vec Ideal S2x1024x1280 .f32) := by
  rw [Value.flushed5_A, left5]
  funext y
  rw [View.read_apply]
  have e := rows3 (map5 t) (win0_5.rect_emb_val t y 0) (win0_5.rect_emb_val t y 1) (win0_5.rect_emb_val t y 2)
  exact (result5 m c t y).trans (over_of _ _ _ _ _ ⟨e.1.trans (Nat.lt_one_iff.mp (y 0).isLt), e.2⟩)
theorem final5 (c : Dev nD) : @Eq (Vec Ideal S2x1024x1280 .f32) ((dats m 0 c).arrAt 5 cfg0.N)
    (over (total (V m c main_arg0) (V m c main_arg1)) (m ((c : Thread nD τ).loc main_arg5))) := by
  funext i
  refine ((dats m 0 c).arrAt_eq_piecewise 5 _ (fun t _ => flushed5 m c t) i).trans ?_
  by_cases h : ∃ t : Fin cfg0.N, (cfg0.win 5).flush t = true ∧ i ∈ ((cfg0.win 5).blk t).view.set
  · exact if_pos h
  · refine (if_neg h).trans ?_
    rw [A_eq]
    exact (congrFun (copied5 m c) i).trans (if_neg fun e => h (cover5 i e)).symm

theorem copied6 (c : Dev nD) : @Eq (Vec Ideal S2x1024x1280 .f32) (V m c main_v0_1) (m ((c : Thread nD τ).loc main_arg6)) := by
  unfold V
  simp only [hostOps0]
  after_results
  rfl
theorem cover6 (i : S2x1024x1280.Idx) (h : (i 0).val = 0) :
    ∃ t : Fin cfg0.N, (cfg0.win 6).flush t = true ∧ i ∈ ((cfg0.win 6).blk t).view.set := by
  have hi : (i 1).val < 1024 := (i 1).isLt
  obtain ⟨t, ht⟩ : ∃ t : Fin cfg0.N, t.val = (i 1).val / 256 := ⟨⟨(i 1).val / 256, by rw [N_cfg0]; omega⟩, rfl⟩
  refine ⟨t, flush0_6 t, View.set_slice_whole .. ▸ Rect.mem_set_unit.mpr ?_⟩
  exact in_rows3 (T := 256) (by decide) (map6 t) i h ht
set_option maxRecDepth 16384 in
theorem flushed6 (c : Dev nD) (t : Fin cfg0.N) :
    (dats m 0 c).flushed 6 t = ((cfg0.win 6).blk t).view.read (Elt Ideal)
      (over (delta3 (total (V m c main_arg0) (V m c main_arg1)) (V m c main_arg2) (V m c main_arg3) (V m c main_arg4)) (m ((c : Thread nD τ).loc main_arg6)) : Vec Ideal S2x1024x1280 .f32) := by
  rw [Value.flushed6_A, left6]
  funext y
  rw [View.read_apply]
  have e := rows3 (map6 t) (win0_6.rect_emb_val t y 0) (win0_6.rect_emb_val t y 1) (win0_6.rect_emb_val t y 2)
  exact (result6 m c t y).trans (over_of _ _ _ _ _ ⟨e.1.trans (Nat.lt_one_iff.mp (y 0).isLt), e.2⟩)
theorem final6 (c : Dev nD) : @Eq (Vec Ideal S2x1024x1280 .f32) ((dats m 0 c).arrAt 6 cfg0.N)
    (over (delta3 (total (V m c main_arg0) (V m c main_arg1)) (V m c main_arg2) (V m c main_arg3) (V m c main_arg4)) (m ((c : Thread nD τ).loc main_arg6))) := by
  funext i
  refine ((dats m 0 c).arrAt_eq_piecewise 6 _ (fun t _ => flushed6 m c t) i).trans ?_
  by_cases h : ∃ t : Fin cfg0.N, (cfg0.win 6).flush t = true ∧ i ∈ ((cfg0.win 6).blk t).view.set
  · exact if_pos h
  · refine (if_neg h).trans ?_
    rw [A_eq]
    exact (congrFun (copied6 m c) i).trans (if_neg fun e => h (cover6 i e)).symm

theorem copied7 (c : Dev nD) : @Eq (Vec Ideal S2x1024x1280 .f32) (V m c main_v0_2) (m ((c : Thread nD τ).loc main_arg7)) := by
  unfold V
  simp only [hostOps0]
  after_results
  rfl
theorem cover7 (i : S2x1024x1280.Idx) (h : (i 0).val = 0) :
    ∃ t : Fin cfg0.N, (cfg0.win 7).flush t = true ∧ i ∈ ((cfg0.win 7).blk t).view.set := by
  have hi : (i 1).val < 1024 := (i 1).isLt
  obtain ⟨t, ht⟩ : ∃ t : Fin cfg0.N, t.val = (i 1).val / 256 := ⟨⟨(i 1).val / 256, by rw [N_cfg0]; omega⟩, rfl⟩
  refine ⟨t, flush0_7 t, View.set_slice_whole .. ▸ Rect.mem_set_unit.mpr ?_⟩
  exact in_rows3 (T := 256) (by decide) (map7 t) i h ht
set_option maxRecDepth 16384 in
theorem flushed7 (c : Dev nD) (t : Fin cfg0.N) :
    (dats m 0 c).flushed 7 t = ((cfg0.win 7).blk t).view.read (Elt Ideal)
      (over (mean3 (total (V m c main_arg0) (V m c main_arg1)) (V m c main_arg3)) (m ((c : Thread nD τ).loc main_arg7)) : Vec Ideal S2x1024x1280 .f32) := by
  rw [Value.flushed7_A, left7]
  funext y
  rw [View.read_apply]
  have e := rows3 (map7 t) (win0_7.rect_emb_val t y 0) (win0_7.rect_emb_val t y 1) (win0_7.rect_emb_val t y 2)
  exact (result7 m c t y).trans (over_of _ _ _ _ _ ⟨e.1.trans (Nat.lt_one_iff.mp (y 0).isLt), e.2⟩)
theorem final7 (c : Dev nD) : @Eq (Vec Ideal S2x1024x1280 .f32) ((dats m 0 c).arrAt 7 cfg0.N)
    (over (mean3 (total (V m c main_arg0) (V m c main_arg1)) (V m c main_arg3)) (m ((c : Thread nD τ).loc main_arg7))) := by
  funext i
  refine ((dats m 0 c).arrAt_eq_piecewise 7 _ (fun t _ => flushed7 m c t) i).trans ?_
  by_cases h : ∃ t : Fin cfg0.N, (cfg0.win 7).flush t = true ∧ i ∈ ((cfg0.win 7).blk t).view.set
  · exact if_pos h
  · refine (if_neg h).trans ?_
    rw [A_eq]
    exact (congrFun (copied7 m c) i).trans (if_neg fun e => h (cover7 i e)).symm

theorem copied8 (c : Dev nD) : @Eq (Vec Ideal S2x1024x1280 .f32) (V m c main_v0_3) (m ((c : Thread nD τ).loc main_arg8)) := by
  unfold V
  simp only [hostOps0]
  after_results
  rfl
theorem cover8 (i : S2x1024x1280.Idx) (h : (i 0).val = 0) :
    ∃ t : Fin cfg0.N, (cfg0.win 8).flush t = true ∧ i ∈ ((cfg0.win 8).blk t).view.set := by
  have hi : (i 1).val < 1024 := (i 1).isLt
  obtain ⟨t, ht⟩ : ∃ t : Fin cfg0.N, t.val = (i 1).val / 256 := ⟨⟨(i 1).val / 256, by rw [N_cfg0]; omega⟩, rfl⟩
  refine ⟨t, flush0_8 t, View.set_slice_whole .. ▸ Rect.mem_set_unit.mpr ?_⟩
  exact in_rows3 (T := 256) (by decide) (map8 t) i h ht
set_option maxRecDepth 16384 in
theorem flushed8 (c : Dev nD) (t : Fin cfg0.N) :
    (dats m 0 c).flushed 8 t = ((cfg0.win 8).blk t).view.read (Elt Ideal)
      (over (square3 (total (V m c main_arg0) (V m c main_arg1)) (V m c main_arg4)) (m ((c : Thread nD τ).loc main_arg8)) : Vec Ideal S2x1024x1280 .f32) := by
  rw [Value.flushed8_A, left8]
  funext y
  rw [View.read_apply]
  have e := rows3 (map8 t) (win0_8.rect_emb_val t y 0) (win0_8.rect_emb_val t y 1) (win0_8.rect_emb_val t y 2)
  exact (result8 m c t y).trans (over_of _ _ _ _ _ ⟨e.1.trans (Nat.lt_one_iff.mp (y 0).isLt), e.2⟩)
theorem final8 (c : Dev nD) : @Eq (Vec Ideal S2x1024x1280 .f32) ((dats m 0 c).arrAt 8 cfg0.N)
    (over (square3 (total (V m c main_arg0) (V m c main_arg1)) (V m c main_arg4)) (m ((c : Thread nD τ).loc main_arg8))) := by
  funext i
  refine ((dats m 0 c).arrAt_eq_piecewise 8 _ (fun t _ => flushed8 m c t) i).trans ?_
  by_cases h : ∃ t : Fin cfg0.N, (cfg0.win 8).flush t = true ∧ i ∈ ((cfg0.win 8).blk t).view.set
  · exact if_pos h
  · refine (if_neg h).trans ?_
    rw [A_eq]
    exact (congrFun (copied8 m c) i).trans (if_neg fun e => h (cover8 i e)).symm

/-- The launch leaves the four tables: the first layer's part new, the other as it was given. -/
theorem run_value : θ_run defs (onTc (τ := τ) (main (F := Ideal))) ⟨m, fun _ => 0, ρ⟩ fun r => ∀ c : Dev nD,
      r.2.mem ((c : Thread nD τ).loc main_v0_0) = over (total (m ((c : Thread nD τ).loc main_arg0)) (m ((c : Thread nD τ).loc main_arg1))) (m ((c : Thread nD τ).loc main_arg5))
      ∧ r.2.mem ((c : Thread nD τ).loc main_v0_1) = over (delta3 (total (m ((c : Thread nD τ).loc main_arg0)) (m ((c : Thread nD τ).loc main_arg1))) (m ((c : Thread nD τ).loc main_arg2)) (m ((c : Thread nD τ).loc main_arg3)) (m ((c : Thread nD τ).loc main_arg4))) (m ((c : Thread nD τ).loc main_arg6))
      ∧ r.2.mem ((c : Thread nD τ).loc main_v0_2) = over (mean3 (total (m ((c : Thread nD τ).loc main_arg0)) (m ((c : Thread nD τ).loc main_arg1))) (m ((c : Thread nD τ).loc main_arg3))) (m ((c : Thread nD τ).loc main_arg7))
      ∧ r.2.mem ((c : Thread nD τ).loc main_v0_3) = over (square3 (total (m ((c : Thread nD τ).loc main_arg0)) (m ((c : Thread nD τ).loc main_arg1))) (m ((c : Thread nD τ).loc main_arg4))) (m ((c : Thread nD τ).loc main_arg8))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) := by
  refine (θ_run defs _ _).mono (fun r h c => ?_) (Value.run_blocks m ρ)
  obtain ⟨h5, h6, h7, h8, ha⟩ := h c
  rw [final5, V_main_arg0, V_main_arg1] at h5
  rw [final6, V_main_arg0, V_main_arg1, V_main_arg2, V_main_arg3, V_main_arg4] at h6
  rw [final7, V_main_arg0, V_main_arg1, V_main_arg3] at h7
  rw [final8, V_main_arg0, V_main_arg1, V_main_arg4] at h8
  exact ⟨h5, h6, h7, h8, ha⟩

end Cert.Kernel6Ideal.Step

namespace Cert.Reference6Ideal.Step

open Cert.Reference6Ideal Cert.Reference6Ideal.Gen Cert.Reference6Ideal.Read Cert.AdamW Cert.Tables Cert.Blocks
open Idealize.ShloMosaic Idealize.ShloMosaic.TcCoe

/-! ## The reference at an entry -/

/-- The first layer of a table, and the second. -/
theorem first (x : Vec Ideal S2x1024x1280 .f32) (i : S1024x1280.Idx) :
    (val_main_v4 (F := Ideal) x : S1024x1280.Idx → EReal) i = at3 (x : S2x1024x1280.Idx → EReal) 0 (i 0).val (i 1).val := by
  have hi0 : (i 0).val < 1024 := (i 0).isLt
  have hi1 : (i 1).val < 1280 := (i 1).isLt
  rw [val_main_v4_apply, val_main_v3_apply]
  refine at3_of (x : S2x1024x1280.Idx → EReal) _ _ _ _ rfl ?_ ?_
  · show ((i 0).val * 1280 + (i 1).val) / 1280 % 1024 = (i 0).val
    omega
  · show ((i 0).val * 1280 + (i 1).val) % 1280 = (i 1).val
    omega
theorem second (x : Vec Ideal S2x1024x1280 .f32) (a : Fin 1024) (b : Fin 1280) :
    (val_main_v36 (F := Ideal) x : S1x1024x1280.Idx → EReal) (ix3 0 a b) = x (ix3 1 a b) := by
  rw [val_main_v36_apply, val_main_v34_apply, val_main_v33_apply]
  refine congrArg x (funext fun d => Fin.ext ?_)
  match d with
  | ⟨0, _⟩ => rfl
  | ⟨1, _⟩ =>
    show (a.val * 1280 + b.val) / 1280 % 1024 = a.val
    omega
  | ⟨2, _⟩ =>
    show (a.val * 1280 + b.val) % 1280 = b.val
    omega

section Plain
variable (own : Vec Ideal S1024x1280 .f32) (landed : Vec Ideal S7x1024x1280 .bf16) (w mm vv prior : Vec Ideal S2x1024x1280 .f32)

theorem new_grad (i : S1024x1280.Idx) : (val_main_v2 (F := Ideal) own landed : S1024x1280.Idx → EReal) i
    = total own landed (i 0).val (i 1).val := by
  rw [val_main_v2_apply, val_main_v1_apply]
  refine congrArg₂ (· + ·) (at2_of (own : S1024x1280.Idx → EReal) i _ _ rfl rfl) ?_
  refine (congrArg (· + _) Ideal.ofBits_zero_f32).trans ((zero_add _).trans ?_)
  exact Finset.sum_congr rfl fun k _ => at3_of (landed : S7x1024x1280.Idx → EReal) _ _ _ _ rfl rfl rfl
theorem new_delta (i : S1024x1280.Idx) : (val_main_v32 (F := Ideal) own landed w mm vv : S1024x1280.Idx → EReal) i
    = delta3 (total own landed) w mm vv (i 0).val (i 1).val := by
  unfold delta3
  rw [← new_grad, ← first w, ← first mm, ← first vv]
  rfl
theorem new_mean (i : S1024x1280.Idx) : (val_main_v13 (F := Ideal) own landed mm : S1024x1280.Idx → EReal) i
    = mean3 (total own landed) mm (i 0).val (i 1).val := by
  unfold mean3
  rw [← new_grad, ← first mm]
  rfl
theorem new_square (i : S1024x1280.Idx) : (val_main_v19 (F := Ideal) own landed vv : S1024x1280.Idx → EReal) i
    = square3 (total own landed) vv (i 0).val (i 1).val := by
  unfold square3
  rw [← new_grad, ← first vv]
  rfl

/-! ## The call's results are the reference's -/

theorem result0 : val_main_v37 (F := Ideal) own landed prior = over (total own landed) prior :=
  stack _ _ _ _ _ (fun a b => (val_main_v35_apply own landed (ix3 0 a b)).trans (new_grad own landed _)) (second prior)
theorem result1 : val_main_v42 (F := Ideal) own landed w mm vv prior = over (delta3 (total own landed) w mm vv) prior :=
  stack _ _ _ _ _ (fun a b => (val_main_v40_apply own landed w mm vv (ix3 0 a b)).trans (new_delta own landed w mm vv _)) (second prior)
theorem result2 : val_main_v47 (F := Ideal) own landed mm prior = over (mean3 (total own landed) mm) prior :=
  stack _ _ _ _ _ (fun a b => (val_main_v45_apply own landed mm (ix3 0 a b)).trans (new_mean own landed mm _)) (second prior)
theorem result3 : val_main_v52 (F := Ideal) own landed vv prior = over (square3 (total own landed) vv) prior :=
  stack _ _ _ _ _ (fun a b => (val_main_v50_apply own landed vv (ix3 0 a b)).trans (new_square own landed vv _)) (second prior)

end Plain

end Cert.Reference6Ideal.Step

end
-- ==== Proof.BranchStep.lean ====
/-
  The optimiser's call on the first layer of the branches' output weights: the device's own part of the gradient and
  the seven that landed are added, and the sum takes the step. The call writes the first layer's part of its four
  results over arrays that hold the second layer's; that part is left as it was.

  Point `t` of the launch holds 512 rows, the ones that start at `512 t`, and every row of the first layer is in one
  block. So each result is a table of the arguments, and the table is the reference's entry by entry.
-/
module

public import proofs.«01_k».proof.Proof.Blocks
public import proofs.«01_k».proof.Proof.Gen.Kernel8Ideal.Value
public import proofs.«01_k».proof.Proof.Gen.Reference8Ideal.Read

@[expose] public section

noncomputable section

namespace Cert.Kernel8Ideal.Step

open Cert.Kernel8Ideal Cert.Kernel8Ideal.Gen Cert.Tables Cert.AdamW Cert.Blocks
open Idealize.ShloMosaic Idealize.ShloMosaic.TcCoe Idealize.SL.Sem
open Idealize.ShloMosaic.Pipeline (Dat)

/-! ## What the body leaves of a block -/

section AnyValues
variable {F : FTy → Type} [FloatOps F]

/-- The sum of a block, in the shape of the own part's block and in that of the results'. -/
abbrev summed (x0 : Vec F S512x128 .f32) (x1 : Vec F S7x512x128 .bf16) : Vec F S512x128 .f32 :=
  k0_pay3 x0 (View.ld x1 (Rect.unit (s := S7x512x128) ![0, 0, 0] S1x512x128.size inb_S7x512x128_S1x512x128_0_0_0))
    (View.ld x1 (Rect.unit (s := S7x512x128) ![1, 0, 0] S1x512x128.size inb_S7x512x128_S1x512x128_1_0_0))
    (View.ld x1 (Rect.unit (s := S7x512x128) ![2, 0, 0] S1x512x128.size inb_S7x512x128_S1x512x128_2_0_0))
    (View.ld x1 (Rect.unit (s := S7x512x128) ![3, 0, 0] S1x512x128.size inb_S7x512x128_S1x512x128_3_0_0))
    (View.ld x1 (Rect.unit (s := S7x512x128) ![4, 0, 0] S1x512x128.size inb_S7x512x128_S1x512x128_4_0_0))
    (View.ld x1 (Rect.unit (s := S7x512x128) ![5, 0, 0] S1x512x128.size inb_S7x512x128_S1x512x128_5_0_0))
    (View.ld x1 (Rect.unit (s := S7x512x128) ![6, 0, 0] S1x512x128.size inb_S7x512x128_S1x512x128_6_0_0))
abbrev wide (x0 : Vec F S512x128 .f32) (x1 : Vec F S7x512x128 .bf16) : Vec F S1x512x128 .f32 :=
  k0_pay4 x0 (View.ld x1 (Rect.unit (s := S7x512x128) ![0, 0, 0] S1x512x128.size inb_S7x512x128_S1x512x128_0_0_0))
    (View.ld x1 (Rect.unit (s := S7x512x128) ![1, 0, 0] S1x512x128.size inb_S7x512x128_S1x512x128_1_0_0))
    (View.ld x1 (Rect.unit (s := S7x512x128) ![2, 0, 0] S1x512x128.size inb_S7x512x128_S1x512x128_2_0_0))
    (View.ld x1 (Rect.unit (s := S7x512x128) ![3, 0, 0] S1x512x128.size inb_S7x512x128_S1x512x128_3_0_0))
    (View.ld x1 (Rect.unit (s := S7x512x128) ![4, 0, 0] S1x512x128.size inb_S7x512x128_S1x512x128_4_0_0))
    (View.ld x1 (Rect.unit (s := S7x512x128) ![5, 0, 0] S1x512x128.size inb_S7x512x128_S1x512x128_5_0_0))
    (View.ld x1 (Rect.unit (s := S7x512x128) ![6, 0, 0] S1x512x128.size inb_S7x512x128_S1x512x128_6_0_0))

variable (c : Dev nD) (i : grid0.Coords)
  (a1 : Memref sig .tc .vmem S512x128 .f32) (h1 : a1.IsWhole)
  (a2 : Memref sig .tc .vmem S7x512x128 .bf16) (h2 : a2.IsWhole)
  (a3 : Memref sig .tc .vmem S1x512x128 .f32) (h3 : a3.IsWhole)
  (a4 : Memref sig .tc .vmem S1x512x128 .f32) (h4 : a4.IsWhole)
  (a5 : Memref sig .tc .vmem S1x512x128 .f32) (h5 : a5.IsWhole)
  (a10 : Memref sig .tc .vmem S1x512x128 .f32) (h10 : a10.IsWhole)
  (a11 : Memref sig .tc .vmem S1x512x128 .f32) (h11 : a11.IsWhole)
  (a12 : Memref sig .tc .vmem S1x512x128 .f32) (h12 : a12.IsWhole)
  (a13 : Memref sig .tc .vmem S1x512x128 .f32) (h13 : a13.IsWhole)
  (x0 : Vec F S512x128 .f32) (x1 : Vec F S7x512x128 .bf16) (x2 x3 x4 : Vec F S1x512x128 .f32)

theorem left5 : out0_A_5 c i a1 h1 a2 h2 a3 h3 a4 h4 a5 h5 a10 h10 a11 h11 a12 h12 a13 h13 x0 x1 x2 x3 x4 = wide x0 x1 := by
  unfold out0_A_5
  rw [View.read_writes_eq_canon _ _ _ (cover0_A_5 c i a1 h1 a2 h2 a3 h3 a4 h4 a5 h5 a10 h10 a11 h11 a12 h12 a13 h13 x0 x1 x2 x3 x4)]
  unfold kernelRun0_A
  dsimp only
  sl_unfold_words
  rw [View.canon_unit_zero (S := S1x512x128) zero3]
  simp only [View.readAt_eq_ld, h1.read_unread, h2.read_unread, h3.read_unread, h4.read_unread, h5.read_unread,
    View.ld_unit_zero (S := S512x128) zero2, View.ld_unit_zero (S := S1x512x128) zero3]
theorem left6 : out0_A_6 c i a1 h1 a2 h2 a3 h3 a4 h4 a5 h5 a10 h10 a11 h11 a12 h12 a13 h13 x0 x1 x2 x3 x4 = k0_pay7 (summed x0 x1) x2 x3 x4 := by
  unfold out0_A_6
  rw [View.read_writes_eq_canon _ _ _ (cover0_A_6 c i a1 h1 a2 h2 a3 h3 a4 h4 a5 h5 a10 h10 a11 h11 a12 h12 a13 h13 x0 x1 x2 x3 x4)]
  unfold kernelRun0_A
  dsimp only
  sl_unfold_words
  rw [View.canon_unit_zero (S := S1x512x128) zero3]
  simp only [View.readAt_eq_ld, h1.read_unread, h2.read_unread, h3.read_unread, h4.read_unread, h5.read_unread,
    View.ld_unit_zero (S := S512x128) zero2, View.ld_unit_zero (S := S1x512x128) zero3]
theorem left7 : out0_A_7 c i a1 h1 a2 h2 a3 h3 a4 h4 a5 h5 a10 h10 a11 h11 a12 h12 a13 h13 x0 x1 x2 x3 x4 = k0_pay1 (k0_pay5 (summed x0 x1) x3) := by
  unfold out0_A_7
  rw [View.read_writes_eq_canon _ _ _ (cover0_A_7 c i a1 h1 a2 h2 a3 h3 a4 h4 a5 h5 a10 h10 a11 h11 a12 h12 a13 h13 x0 x1 x2 x3 x4)]
  unfold kernelRun0_A
  dsimp only
  sl_unfold_words
  rw [View.canon_unit_zero (S := S1x512x128) zero3]
  simp only [View.readAt_eq_ld, h1.read_unread, h2.read_unread, h3.read_unread, h4.read_unread, h5.read_unread,
    View.ld_unit_zero (S := S512x128) zero2, View.ld_unit_zero (S := S1x512x128) zero3]
theorem left8 : out0_A_8 c i a1 h1 a2 h2 a3 h3 a4 h4 a5 h5 a10 h10 a11 h11 a12 h12 a13 h13 x0 x1 x2 x3 x4 = k0_pay2 (k0_pay6 (summed x0 x1) x4) := by
  unfold out0_A_8
  rw [View.read_writes_eq_canon _ _ _ (cover0_A_8 c i a1 h1 a2 h2 a3 h3 a4 h4 a5 h5 a10 h10 a11 h11 a12 h12 a13 h13 x0 x1 x2 x3 x4)]
  unfold kernelRun0_A
  dsimp only
  sl_unfold_words
  rw [View.canon_unit_zero (S := S1x512x128) zero3]
  simp only [View.readAt_eq_ld, h1.read_unread, h2.read_unread, h3.read_unread, h4.read_unread, h5.read_unread,
    View.ld_unit_zero (S := S512x128) zero2, View.ld_unit_zero (S := S1x512x128) zero3]

end AnyValues

/-! ## Over the extended reals -/

section Parts
variable (x0 : Vec Ideal S512x128 .f32) (p0 p1 p2 p3 p4 p5 p6 : Vec Ideal S1x512x128 .bf16) (a : Fin 512) (b : Fin 128)
theorem sum_at : (k0_pay3 x0 p0 p1 p2 p3 p4 p5 p6 : S512x128.Idx → EReal) (ix2 a b)
    = (x0 (ix2 a b) + p0 (ix3 0 a b) + p1 (ix3 0 a b) + p2 (ix3 0 a b) + p3 (ix3 0 a b) + p4 (ix3 0 a b) + p5 (ix3 0 a b) + p6 (ix3 0 a b) : EReal) := by
  unfold k0_pay3
  pointwise
theorem wide_at : (k0_pay4 x0 p0 p1 p2 p3 p4 p5 p6 : S1x512x128.Idx → EReal) (ix3 0 a b)
    = (k0_pay3 x0 p0 p1 p2 p3 p4 p5 p6 : S512x128.Idx → EReal) (ix2 a b) := by
  unfold k0_pay4
  generalize k0_pay3 x0 p0 p1 p2 p3 p4 p5 p6 = s
  pointwise
end Parts

/-- The device's own part of a block and the seven that landed, added. -/
theorem summed_at (x0 : Vec Ideal S512x128 .f32) (x1 : Vec Ideal S7x512x128 .bf16) (a : Fin 512) (b : Fin 128) :
    (summed x0 x1 : S512x128.Idx → EReal) (ix2 a b)
      = at2 (x0 : S512x128.Idx → EReal) a.val b.val + ∑ k : Fin 7, at3 (x1 : S7x512x128.Idx → EReal) k.val a.val b.val := by
  obtain ⟨a, ha⟩ := a
  obtain ⟨b, hb⟩ := b
  rw [Fin.sum_univ_seven]
  have e : ∀ o p0 p1 p2 p3 p4 p5 p6 : EReal, o + p0 + p1 + p2 + p3 + p4 + p5 + p6 = o + (p0 + p1 + p2 + p3 + p4 + p5 + p6) :=
    fun o p0 p1 p2 p3 p4 p5 p6 => by simp only [add_assoc]
  refine Eq.trans ?_ (congrArg₂ (· + ·) (at2_of (x0 : S512x128.Idx → EReal) (ix2 ⟨a, ha⟩ ⟨b, hb⟩) a b rfl rfl)
    (congrArg₂ (· + ·) (congrArg₂ (· + ·) (congrArg₂ (· + ·) (congrArg₂ (· + ·) (congrArg₂ (· + ·) (congrArg₂ (· + ·) (part_at x1 0 inb_S7x512x128_S1x512x128_0_0_0 a b (by decide) ha hb) (part_at x1 1 inb_S7x512x128_S1x512x128_1_0_0 a b (by decide) ha hb))
      (part_at x1 2 inb_S7x512x128_S1x512x128_2_0_0 a b (by decide) ha hb))
      (part_at x1 3 inb_S7x512x128_S1x512x128_3_0_0 a b (by decide) ha hb))
      (part_at x1 4 inb_S7x512x128_S1x512x128_4_0_0 a b (by decide) ha hb))
      (part_at x1 5 inb_S7x512x128_S1x512x128_5_0_0 a b (by decide) ha hb))
      (part_at x1 6 inb_S7x512x128_S1x512x128_6_0_0 a b (by decide) ha hb)))
  exact (sum_at _ _ _ _ _ _ _ _ _ _).trans (e _ _ _ _ _ _ _ _)

theorem out6 (s : Vec Ideal S512x128 .f32) (w mm vv : Vec Ideal S1x512x128 .f32) (a : Fin 512) (b : Fin 128) :
    (k0_pay7 s w mm vv : S1x512x128.Idx → EReal) (ix3 0 a b) = step (s (ix2 a b)) (w (ix3 0 a b)) (mm (ix3 0 a b)) (vv (ix3 0 a b)) := by
  unfold k0_pay7 k0_pay5 k0_pay6 step mean square
  pointwise
theorem out7 (s : Vec Ideal S512x128 .f32) (mm : Vec Ideal S1x512x128 .f32) (a : Fin 512) (b : Fin 128) :
    (k0_pay1 (k0_pay5 s mm) : S1x512x128.Idx → EReal) (ix3 0 a b) = mean (s (ix2 a b)) (mm (ix3 0 a b)) := by
  unfold k0_pay1 k0_pay5 mean
  pointwise
theorem out8 (s : Vec Ideal S512x128 .f32) (vv : Vec Ideal S1x512x128 .f32) (a : Fin 512) (b : Fin 128) :
    (k0_pay2 (k0_pay6 s vv) : S1x512x128.Idx → EReal) (ix3 0 a b) = square (s (ix2 a b)) (vv (ix3 0 a b)) := by
  unfold k0_pay2 k0_pay6 square
  pointwise

/-! ## The blocks of the launch -/

variable (m : (ℓ : Loc nD τ sig) → Buf (Elt Ideal) ℓ) (ρ : Dev nD → PrngReg)

theorem N_cfg0 : cfg0.N = 4 := by decide +kernel
theorem map0 : ∀ t : Fin 4, win0_0.index t 0 = t.val ∧ win0_0.index t 1 = 0 := by decide +kernel
theorem map1 : ∀ t : Fin 4, win0_1.index t 0 = 0 ∧ win0_1.index t 1 = t.val ∧ win0_1.index t 2 = 0 := by decide +kernel
theorem map2 : ∀ t : Fin 4, win0_2.index t 0 = 0 ∧ win0_2.index t 1 = t.val ∧ win0_2.index t 2 = 0 := by decide +kernel
theorem map3 : ∀ t : Fin 4, win0_3.index t 0 = 0 ∧ win0_3.index t 1 = t.val ∧ win0_3.index t 2 = 0 := by decide +kernel
theorem map4 : ∀ t : Fin 4, win0_4.index t 0 = 0 ∧ win0_4.index t 1 = t.val ∧ win0_4.index t 2 = 0 := by decide +kernel
theorem map5 : ∀ t : Fin 4, win0_5.index t 0 = 0 ∧ win0_5.index t 1 = t.val ∧ win0_5.index t 2 = 0 := by decide +kernel
theorem map6 : ∀ t : Fin 4, win0_6.index t 0 = 0 ∧ win0_6.index t 1 = t.val ∧ win0_6.index t 2 = 0 := by decide +kernel
theorem map7 : ∀ t : Fin 4, win0_7.index t 0 = 0 ∧ win0_7.index t 1 = t.val ∧ win0_7.index t 2 = 0 := by decide +kernel
theorem map8 : ∀ t : Fin 4, win0_8.index t 0 = 0 ∧ win0_8.index t 1 = t.val ∧ win0_8.index t 2 = 0 := by decide +kernel

section Blocks
variable (c : Dev nD) (t : Fin cfg0.N)

theorem block0 (a : Fin 512) (b : Fin 128) :
    at2 (iblk m c 0 t : S512x128.Idx → EReal) a.val b.val = at2 (V m c main_arg0 : S2048x128.Idx → EReal) (t.val * 512 + a.val) b.val :=
  (at2_of (iblk m c 0 t : S512x128.Idx → EReal) (ix2 a b) a.val b.val rfl rfl).symm.trans
    (at2_block (V m c main_arg0 : S2048x128.Idx → EReal) _ (map0 t) (win0_0.rect_emb_val t (ix2 a b) 0) (win0_0.rect_emb_val t (ix2 a b) 1))
theorem block1 (n : Fin 7) (a : Fin 512) (b : Fin 128) :
    at3 (iblk m c 1 t : S7x512x128.Idx → EReal) n.val a.val b.val = at3 (V m c main_arg1 : S7x2048x128.Idx → EReal) n.val (t.val * 512 + a.val) b.val :=
  (at3_of (iblk m c 1 t : S7x512x128.Idx → EReal) (ix3 n a b) n.val a.val b.val rfl rfl rfl).symm.trans
    (at3_block (V m c main_arg1 : S7x2048x128.Idx → EReal) _ (map1 t) rfl (win0_1.rect_emb_val t (ix3 n a b) 0)
      (win0_1.rect_emb_val t (ix3 n a b) 1) (win0_1.rect_emb_val t (ix3 n a b) 2))
theorem block2 (y : S1x512x128.Idx) :
    (iblk m c 2 t : S1x512x128.Idx → EReal) y = at3 (V m c main_arg2 : S2x2048x128.Idx → EReal) 0 (t.val * 512 + (y 1).val) (y 2).val :=
  at3_block (V m c main_arg2 : S2x2048x128.Idx → EReal) _ (map2 t) (Nat.lt_one_iff.mp (y 0).isLt) (win0_2.rect_emb_val t y 0)
    (win0_2.rect_emb_val t y 1) (win0_2.rect_emb_val t y 2)
theorem block3 (y : S1x512x128.Idx) :
    (iblk m c 3 t : S1x512x128.Idx → EReal) y = at3 (V m c main_arg3 : S2x2048x128.Idx → EReal) 0 (t.val * 512 + (y 1).val) (y 2).val :=
  at3_block (V m c main_arg3 : S2x2048x128.Idx → EReal) _ (map3 t) (Nat.lt_one_iff.mp (y 0).isLt) (win0_3.rect_emb_val t y 0)
    (win0_3.rect_emb_val t y 1) (win0_3.rect_emb_val t y 2)
theorem block4 (y : S1x512x128.Idx) :
    (iblk m c 4 t : S1x512x128.Idx → EReal) y = at3 (V m c main_arg4 : S2x2048x128.Idx → EReal) 0 (t.val * 512 + (y 1).val) (y 2).val :=
  at3_block (V m c main_arg4 : S2x2048x128.Idx → EReal) _ (map4 t) (Nat.lt_one_iff.mp (y 0).isLt) (win0_4.rect_emb_val t y 0)
    (win0_4.rect_emb_val t y 1) (win0_4.rect_emb_val t y 2)

theorem summed_block (a : Fin 512) (b : Fin 128) :
    (summed (iblk m c 0 t) (iblk m c 1 t) : S512x128.Idx → EReal) (ix2 a b) = total (V m c main_arg0) (V m c main_arg1) (t.val * 512 + a.val) b.val :=
  (summed_at (iblk m c 0 t) (iblk m c 1 t) a b).trans
    (congrArg₂ (· + ·) (block0 m c t a b) (Finset.sum_congr rfl fun k _ => block1 m c t k a b))

/-- An entry of a block of the results is in the row and the column that its place says. -/
theorem cases_block (y : S1x512x128.Idx) : ∃ (a : Fin 512) (b : Fin 128), y = ix3 0 a b :=
  ⟨y 1, y 2, (eq_ix3 y).trans (congrArg (fun z => ix3 z (y 1) (y 2)) (Subsingleton.elim _ _))⟩

theorem result5 (y : S1x512x128.Idx) :
    (wide (iblk m c 0 t) (iblk m c 1 t) : S1x512x128.Idx → EReal) y
      = total (V m c main_arg0) (V m c main_arg1) (t.val * 512 + (y 1).val) (y 2).val := by
  obtain ⟨a, b, rfl⟩ := cases_block y
  exact (wide_at _ _ _ _ _ _ _ _ a b).trans (summed_block m c t a b)
theorem result6 (y : S1x512x128.Idx) :
    (k0_pay7 (summed (iblk m c 0 t) (iblk m c 1 t)) (iblk m c 2 t) (iblk m c 3 t) (iblk m c 4 t) : S1x512x128.Idx → EReal) y
      = delta3 (total (V m c main_arg0) (V m c main_arg1)) (V m c main_arg2) (V m c main_arg3) (V m c main_arg4) (t.val * 512 + (y 1).val) (y 2).val := by
  obtain ⟨a, b, rfl⟩ := cases_block y
  refine (out6 _ (iblk m c 2 t) (iblk m c 3 t) (iblk m c 4 t) a b).trans ?_
  rw [summed_block, block2, block3, block4]
  rfl
theorem result7 (y : S1x512x128.Idx) :
    (k0_pay1 (k0_pay5 (summed (iblk m c 0 t) (iblk m c 1 t)) (iblk m c 3 t)) : S1x512x128.Idx → EReal) y
      = mean3 (total (V m c main_arg0) (V m c main_arg1)) (V m c main_arg3) (t.val * 512 + (y 1).val) (y 2).val := by
  obtain ⟨a, b, rfl⟩ := cases_block y
  refine (out7 _ (iblk m c 3 t) a b).trans ?_
  rw [summed_block, block3]
  rfl
theorem result8 (y : S1x512x128.Idx) :
    (k0_pay2 (k0_pay6 (summed (iblk m c 0 t) (iblk m c 1 t)) (iblk m c 4 t)) : S1x512x128.Idx → EReal) y
      = square3 (total (V m c main_arg0) (V m c main_arg1)) (V m c main_arg4) (t.val * 512 + (y 1).val) (y 2).val := by
  obtain ⟨a, b, rfl⟩ := cases_block y
  refine (out8 _ (iblk m c 4 t) a b).trans ?_
  rw [summed_block, block4]
  rfl

end Blocks

/-! ## What is written back -/

theorem copied5 (c : Dev nD) : @Eq (Vec Ideal S2x2048x128 .f32) (V m c main_v0_0) (m ((c : Thread nD τ).loc main_arg5)) := by
  unfold V
  simp only [hostOps0]
  after_results
  rfl
theorem cover5 (i : S2x2048x128.Idx) (h : (i 0).val = 0) :
    ∃ t : Fin cfg0.N, (cfg0.win 5).flush t = true ∧ i ∈ ((cfg0.win 5).blk t).view.set := by
  have hi : (i 1).val < 2048 := (i 1).isLt
  obtain ⟨t, ht⟩ : ∃ t : Fin cfg0.N, t.val = (i 1).val / 512 := ⟨⟨(i 1).val / 512, by rw [N_cfg0]; omega⟩, rfl⟩
  refine ⟨t, flush0_5 t, View.set_slice_whole .. ▸ Rect.mem_set_unit.mpr ?_⟩
  exact in_rows3 (T := 512) (by decide) (map5 t) i h ht
set_option maxRecDepth 16384 in
theorem flushed5 (c : Dev nD) (t : Fin cfg0.N) :
    (dats m 0 c).flushed 5 t = ((cfg0.win 5).blk t).view.read (Elt Ideal)
      (over (total (V m c main_arg0) (V m c main_arg1)) (m ((c : Thread nD τ).loc main_arg5)) : Vec Ideal S2x2048x128 .f32) := by
  rw [Value.flushed5_A, left5]
  funext y
  rw [View.read_apply]
  have e := rows3 (map5 t) (win0_5.rect_emb_val t y 0) (win0_5.rect_emb_val t y 1) (win0_5.rect_emb_val t y 2)
  exact (result5 m c t y).trans (over_of _ _ _ _ _ ⟨e.1.trans (Nat.lt_one_iff.mp (y 0).isLt), e.2⟩)
theorem final5 (c : Dev nD) : @Eq (Vec Ideal S2x2048x128 .f32) ((dats m 0 c).arrAt 5 cfg0.N)
    (over (total (V m c main_arg0) (V m c main_arg1)) (m ((c : Thread nD τ).loc main_arg5))) := by
  funext i
  refine ((dats m 0 c).arrAt_eq_piecewise 5 _ (fun t _ => flushed5 m c t) i).trans ?_
  by_cases h : ∃ t : Fin cfg0.N, (cfg0.win 5).flush t = true ∧ i ∈ ((cfg0.win 5).blk t).view.set
  · exact if_pos h
  · refine (if_neg h).trans ?_
    rw [A_eq]
    exact (congrFun (copied5 m c) i).trans (if_neg fun e => h (cover5 i e)).symm

theorem copied6 (c : Dev nD) : @Eq (Vec Ideal S2x2048x128 .f32) (V m c main_v0_1) (m ((c : Thread nD τ).loc main_arg6)) := by
  unfold V
  simp only [hostOps0]
  after_results
  rfl
theorem cover6 (i : S2x2048x128.Idx) (h : (i 0).val = 0) :
    ∃ t : Fin cfg0.N, (cfg0.win 6).flush t = true ∧ i ∈ ((cfg0.win 6).blk t).view.set := by
  have hi : (i 1).val < 2048 := (i 1).isLt
  obtain ⟨t, ht⟩ : ∃ t : Fin cfg0.N, t.val = (i 1).val / 512 := ⟨⟨(i 1).val / 512, by rw [N_cfg0]; omega⟩, rfl⟩
  refine ⟨t, flush0_6 t, View.set_slice_whole .. ▸ Rect.mem_set_unit.mpr ?_⟩
  exact in_rows3 (T := 512) (by decide) (map6 t) i h ht
set_option maxRecDepth 16384 in
theorem flushed6 (c : Dev nD) (t : Fin cfg0.N) :
    (dats m 0 c).flushed 6 t = ((cfg0.win 6).blk t).view.read (Elt Ideal)
      (over (delta3 (total (V m c main_arg0) (V m c main_arg1)) (V m c main_arg2) (V m c main_arg3) (V m c main_arg4)) (m ((c : Thread nD τ).loc main_arg6)) : Vec Ideal S2x2048x128 .f32) := by
  rw [Value.flushed6_A, left6]
  funext y
  rw [View.read_apply]
  have e := rows3 (map6 t) (win0_6.rect_emb_val t y 0) (win0_6.rect_emb_val t y 1) (win0_6.rect_emb_val t y 2)
  exact (result6 m c t y).trans (over_of _ _ _ _ _ ⟨e.1.trans (Nat.lt_one_iff.mp (y 0).isLt), e.2⟩)
theorem final6 (c : Dev nD) : @Eq (Vec Ideal S2x2048x128 .f32) ((dats m 0 c).arrAt 6 cfg0.N)
    (over (delta3 (total (V m c main_arg0) (V m c main_arg1)) (V m c main_arg2) (V m c main_arg3) (V m c main_arg4)) (m ((c : Thread nD τ).loc main_arg6))) := by
  funext i
  refine ((dats m 0 c).arrAt_eq_piecewise 6 _ (fun t _ => flushed6 m c t) i).trans ?_
  by_cases h : ∃ t : Fin cfg0.N, (cfg0.win 6).flush t = true ∧ i ∈ ((cfg0.win 6).blk t).view.set
  · exact if_pos h
  · refine (if_neg h).trans ?_
    rw [A_eq]
    exact (congrFun (copied6 m c) i).trans (if_neg fun e => h (cover6 i e)).symm

theorem copied7 (c : Dev nD) : @Eq (Vec Ideal S2x2048x128 .f32) (V m c main_v0_2) (m ((c : Thread nD τ).loc main_arg7)) := by
  unfold V
  simp only [hostOps0]
  after_results
  rfl
theorem cover7 (i : S2x2048x128.Idx) (h : (i 0).val = 0) :
    ∃ t : Fin cfg0.N, (cfg0.win 7).flush t = true ∧ i ∈ ((cfg0.win 7).blk t).view.set := by
  have hi : (i 1).val < 2048 := (i 1).isLt
  obtain ⟨t, ht⟩ : ∃ t : Fin cfg0.N, t.val = (i 1).val / 512 := ⟨⟨(i 1).val / 512, by rw [N_cfg0]; omega⟩, rfl⟩
  refine ⟨t, flush0_7 t, View.set_slice_whole .. ▸ Rect.mem_set_unit.mpr ?_⟩
  exact in_rows3 (T := 512) (by decide) (map7 t) i h ht
set_option maxRecDepth 16384 in
theorem flushed7 (c : Dev nD) (t : Fin cfg0.N) :
    (dats m 0 c).flushed 7 t = ((cfg0.win 7).blk t).view.read (Elt Ideal)
      (over (mean3 (total (V m c main_arg0) (V m c main_arg1)) (V m c main_arg3)) (m ((c : Thread nD τ).loc main_arg7)) : Vec Ideal S2x2048x128 .f32) := by
  rw [Value.flushed7_A, left7]
  funext y
  rw [View.read_apply]
  have e := rows3 (map7 t) (win0_7.rect_emb_val t y 0) (win0_7.rect_emb_val t y 1) (win0_7.rect_emb_val t y 2)
  exact (result7 m c t y).trans (over_of _ _ _ _ _ ⟨e.1.trans (Nat.lt_one_iff.mp (y 0).isLt), e.2⟩)
theorem final7 (c : Dev nD) : @Eq (Vec Ideal S2x2048x128 .f32) ((dats m 0 c).arrAt 7 cfg0.N)
    (over (mean3 (total (V m c main_arg0) (V m c main_arg1)) (V m c main_arg3)) (m ((c : Thread nD τ).loc main_arg7))) := by
  funext i
  refine ((dats m 0 c).arrAt_eq_piecewise 7 _ (fun t _ => flushed7 m c t) i).trans ?_
  by_cases h : ∃ t : Fin cfg0.N, (cfg0.win 7).flush t = true ∧ i ∈ ((cfg0.win 7).blk t).view.set
  · exact if_pos h
  · refine (if_neg h).trans ?_
    rw [A_eq]
    exact (congrFun (copied7 m c) i).trans (if_neg fun e => h (cover7 i e)).symm

theorem copied8 (c : Dev nD) : @Eq (Vec Ideal S2x2048x128 .f32) (V m c main_v0_3) (m ((c : Thread nD τ).loc main_arg8)) := by
  unfold V
  simp only [hostOps0]
  after_results
  rfl
theorem cover8 (i : S2x2048x128.Idx) (h : (i 0).val = 0) :
    ∃ t : Fin cfg0.N, (cfg0.win 8).flush t = true ∧ i ∈ ((cfg0.win 8).blk t).view.set := by
  have hi : (i 1).val < 2048 := (i 1).isLt
  obtain ⟨t, ht⟩ : ∃ t : Fin cfg0.N, t.val = (i 1).val / 512 := ⟨⟨(i 1).val / 512, by rw [N_cfg0]; omega⟩, rfl⟩
  refine ⟨t, flush0_8 t, View.set_slice_whole .. ▸ Rect.mem_set_unit.mpr ?_⟩
  exact in_rows3 (T := 512) (by decide) (map8 t) i h ht
set_option maxRecDepth 16384 in
theorem flushed8 (c : Dev nD) (t : Fin cfg0.N) :
    (dats m 0 c).flushed 8 t = ((cfg0.win 8).blk t).view.read (Elt Ideal)
      (over (square3 (total (V m c main_arg0) (V m c main_arg1)) (V m c main_arg4)) (m ((c : Thread nD τ).loc main_arg8)) : Vec Ideal S2x2048x128 .f32) := by
  rw [Value.flushed8_A, left8]
  funext y
  rw [View.read_apply]
  have e := rows3 (map8 t) (win0_8.rect_emb_val t y 0) (win0_8.rect_emb_val t y 1) (win0_8.rect_emb_val t y 2)
  exact (result8 m c t y).trans (over_of _ _ _ _ _ ⟨e.1.trans (Nat.lt_one_iff.mp (y 0).isLt), e.2⟩)
theorem final8 (c : Dev nD) : @Eq (Vec Ideal S2x2048x128 .f32) ((dats m 0 c).arrAt 8 cfg0.N)
    (over (square3 (total (V m c main_arg0) (V m c main_arg1)) (V m c main_arg4)) (m ((c : Thread nD τ).loc main_arg8))) := by
  funext i
  refine ((dats m 0 c).arrAt_eq_piecewise 8 _ (fun t _ => flushed8 m c t) i).trans ?_
  by_cases h : ∃ t : Fin cfg0.N, (cfg0.win 8).flush t = true ∧ i ∈ ((cfg0.win 8).blk t).view.set
  · exact if_pos h
  · refine (if_neg h).trans ?_
    rw [A_eq]
    exact (congrFun (copied8 m c) i).trans (if_neg fun e => h (cover8 i e)).symm

/-- The launch leaves the four tables: the first layer's part new, the other as it was given. -/
theorem run_value : θ_run defs (onTc (τ := τ) (main (F := Ideal))) ⟨m, fun _ => 0, ρ⟩ fun r => ∀ c : Dev nD,
      r.2.mem ((c : Thread nD τ).loc main_v0_0) = over (total (m ((c : Thread nD τ).loc main_arg0)) (m ((c : Thread nD τ).loc main_arg1))) (m ((c : Thread nD τ).loc main_arg5))
      ∧ r.2.mem ((c : Thread nD τ).loc main_v0_1) = over (delta3 (total (m ((c : Thread nD τ).loc main_arg0)) (m ((c : Thread nD τ).loc main_arg1))) (m ((c : Thread nD τ).loc main_arg2)) (m ((c : Thread nD τ).loc main_arg3)) (m ((c : Thread nD τ).loc main_arg4))) (m ((c : Thread nD τ).loc main_arg6))
      ∧ r.2.mem ((c : Thread nD τ).loc main_v0_2) = over (mean3 (total (m ((c : Thread nD τ).loc main_arg0)) (m ((c : Thread nD τ).loc main_arg1))) (m ((c : Thread nD τ).loc main_arg3))) (m ((c : Thread nD τ).loc main_arg7))
      ∧ r.2.mem ((c : Thread nD τ).loc main_v0_3) = over (square3 (total (m ((c : Thread nD τ).loc main_arg0)) (m ((c : Thread nD τ).loc main_arg1))) (m ((c : Thread nD τ).loc main_arg4))) (m ((c : Thread nD τ).loc main_arg8))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) := by
  refine (θ_run defs _ _).mono (fun r h c => ?_) (Value.run_blocks m ρ)
  obtain ⟨h5, h6, h7, h8, ha⟩ := h c
  rw [final5, V_main_arg0, V_main_arg1] at h5
  rw [final6, V_main_arg0, V_main_arg1, V_main_arg2, V_main_arg3, V_main_arg4] at h6
  rw [final7, V_main_arg0, V_main_arg1, V_main_arg3] at h7
  rw [final8, V_main_arg0, V_main_arg1, V_main_arg4] at h8
  exact ⟨h5, h6, h7, h8, ha⟩

end Cert.Kernel8Ideal.Step

namespace Cert.Reference8Ideal.Step

open Cert.Reference8Ideal Cert.Reference8Ideal.Gen Cert.Reference8Ideal.Read Cert.AdamW Cert.Tables Cert.Blocks
open Idealize.ShloMosaic Idealize.ShloMosaic.TcCoe

/-! ## The reference at an entry -/

/-- The first layer of a table, and the second. -/
theorem first (x : Vec Ideal S2x2048x128 .f32) (i : S2048x128.Idx) :
    (val_main_v4 (F := Ideal) x : S2048x128.Idx → EReal) i = at3 (x : S2x2048x128.Idx → EReal) 0 (i 0).val (i 1).val := by
  have hi0 : (i 0).val < 2048 := (i 0).isLt
  have hi1 : (i 1).val < 128 := (i 1).isLt
  rw [val_main_v4_apply, val_main_v3_apply]
  refine at3_of (x : S2x2048x128.Idx → EReal) _ _ _ _ rfl ?_ ?_
  · show ((i 0).val * 128 + (i 1).val) / 128 % 2048 = (i 0).val
    omega
  · show ((i 0).val * 128 + (i 1).val) % 128 = (i 1).val
    omega
theorem second (x : Vec Ideal S2x2048x128 .f32) (a : Fin 2048) (b : Fin 128) :
    (val_main_v36 (F := Ideal) x : S1x2048x128.Idx → EReal) (ix3 0 a b) = x (ix3 1 a b) := by
  rw [val_main_v36_apply, val_main_v34_apply, val_main_v33_apply]
  refine congrArg x (funext fun d => Fin.ext ?_)
  match d with
  | ⟨0, _⟩ => rfl
  | ⟨1, _⟩ =>
    show (a.val * 128 + b.val) / 128 % 2048 = a.val
    omega
  | ⟨2, _⟩ =>
    show (a.val * 128 + b.val) % 128 = b.val
    omega

section Plain
variable (own : Vec Ideal S2048x128 .f32) (landed : Vec Ideal S7x2048x128 .bf16) (w mm vv prior : Vec Ideal S2x2048x128 .f32)

theorem new_grad (i : S2048x128.Idx) : (val_main_v2 (F := Ideal) own landed : S2048x128.Idx → EReal) i
    = total own landed (i 0).val (i 1).val := by
  rw [val_main_v2_apply, val_main_v1_apply]
  refine congrArg₂ (· + ·) (at2_of (own : S2048x128.Idx → EReal) i _ _ rfl rfl) ?_
  refine (congrArg (· + _) Ideal.ofBits_zero_f32).trans ((zero_add _).trans ?_)
  exact Finset.sum_congr rfl fun k _ => at3_of (landed : S7x2048x128.Idx → EReal) _ _ _ _ rfl rfl rfl
theorem new_delta (i : S2048x128.Idx) : (val_main_v32 (F := Ideal) own landed w mm vv : S2048x128.Idx → EReal) i
    = delta3 (total own landed) w mm vv (i 0).val (i 1).val := by
  unfold delta3
  rw [← new_grad, ← first w, ← first mm, ← first vv]
  rfl
theorem new_mean (i : S2048x128.Idx) : (val_main_v13 (F := Ideal) own landed mm : S2048x128.Idx → EReal) i
    = mean3 (total own landed) mm (i 0).val (i 1).val := by
  unfold mean3
  rw [← new_grad, ← first mm]
  rfl
theorem new_square (i : S2048x128.Idx) : (val_main_v19 (F := Ideal) own landed vv : S2048x128.Idx → EReal) i
    = square3 (total own landed) vv (i 0).val (i 1).val := by
  unfold square3
  rw [← new_grad, ← first vv]
  rfl

/-! ## The call's results are the reference's -/

theorem result0 : val_main_v37 (F := Ideal) own landed prior = over (total own landed) prior :=
  stack _ _ _ _ _ (fun a b => (val_main_v35_apply own landed (ix3 0 a b)).trans (new_grad own landed _)) (second prior)
theorem result1 : val_main_v42 (F := Ideal) own landed w mm vv prior = over (delta3 (total own landed) w mm vv) prior :=
  stack _ _ _ _ _ (fun a b => (val_main_v40_apply own landed w mm vv (ix3 0 a b)).trans (new_delta own landed w mm vv _)) (second prior)
theorem result2 : val_main_v47 (F := Ideal) own landed mm prior = over (mean3 (total own landed) mm) prior :=
  stack _ _ _ _ _ (fun a b => (val_main_v45_apply own landed mm (ix3 0 a b)).trans (new_mean own landed mm _)) (second prior)
theorem result3 : val_main_v52 (F := Ideal) own landed vv prior = over (square3 (total own landed) vv) prior :=
  stack _ _ _ _ _ (fun a b => (val_main_v50_apply own landed vv (ix3 0 a b)).trans (new_square own landed vv _)) (second prior)

end Plain

end Cert.Reference8Ideal.Step

end
-- ==== Proof.OutStep.lean ====
/-
  The optimiser's call on the first layer of the output projection's weights: the device's own part of the gradient and
  the seven that landed are added, and the sum takes the step. The call writes the first layer's part of its four
  results over arrays that hold the second layer's; that part is left as it was.

  Point `t` of the launch holds 64 rows, the ones that start at `64 t`, and every row of the first layer is in one
  block. So each result is a table of the arguments, and the table is the reference's entry by entry.
-/
module

public import proofs.«01_k».proof.Proof.Blocks
public import proofs.«01_k».proof.Proof.Gen.Kernel9Ideal.Value
public import proofs.«01_k».proof.Proof.Gen.Reference9Ideal.Read

@[expose] public section

noncomputable section

namespace Cert.Kernel9Ideal.Step

open Cert.Kernel9Ideal Cert.Kernel9Ideal.Gen Cert.Tables Cert.AdamW Cert.Blocks
open Idealize.ShloMosaic Idealize.ShloMosaic.TcCoe Idealize.SL.Sem
open Idealize.ShloMosaic.Pipeline (Dat)

/-! ## What the body leaves of a block -/

section AnyValues
variable {F : FTy → Type} [FloatOps F]

/-- The sum of a block, in the shape of the own part's block and in that of the results'. -/
abbrev summed (x0 : Vec F S64x1024 .f32) (x1 : Vec F S7x64x1024 .bf16) : Vec F S64x1024 .f32 :=
  k0_pay3 x0 (View.ld x1 (Rect.unit (s := S7x64x1024) ![0, 0, 0] S1x64x1024.size inb_S7x64x1024_S1x64x1024_0_0_0))
    (View.ld x1 (Rect.unit (s := S7x64x1024) ![1, 0, 0] S1x64x1024.size inb_S7x64x1024_S1x64x1024_1_0_0))
    (View.ld x1 (Rect.unit (s := S7x64x1024) ![2, 0, 0] S1x64x1024.size inb_S7x64x1024_S1x64x1024_2_0_0))
    (View.ld x1 (Rect.unit (s := S7x64x1024) ![3, 0, 0] S1x64x1024.size inb_S7x64x1024_S1x64x1024_3_0_0))
    (View.ld x1 (Rect.unit (s := S7x64x1024) ![4, 0, 0] S1x64x1024.size inb_S7x64x1024_S1x64x1024_4_0_0))
    (View.ld x1 (Rect.unit (s := S7x64x1024) ![5, 0, 0] S1x64x1024.size inb_S7x64x1024_S1x64x1024_5_0_0))
    (View.ld x1 (Rect.unit (s := S7x64x1024) ![6, 0, 0] S1x64x1024.size inb_S7x64x1024_S1x64x1024_6_0_0))
abbrev wide (x0 : Vec F S64x1024 .f32) (x1 : Vec F S7x64x1024 .bf16) : Vec F S1x64x1024 .f32 :=
  k0_pay4 x0 (View.ld x1 (Rect.unit (s := S7x64x1024) ![0, 0, 0] S1x64x1024.size inb_S7x64x1024_S1x64x1024_0_0_0))
    (View.ld x1 (Rect.unit (s := S7x64x1024) ![1, 0, 0] S1x64x1024.size inb_S7x64x1024_S1x64x1024_1_0_0))
    (View.ld x1 (Rect.unit (s := S7x64x1024) ![2, 0, 0] S1x64x1024.size inb_S7x64x1024_S1x64x1024_2_0_0))
    (View.ld x1 (Rect.unit (s := S7x64x1024) ![3, 0, 0] S1x64x1024.size inb_S7x64x1024_S1x64x1024_3_0_0))
    (View.ld x1 (Rect.unit (s := S7x64x1024) ![4, 0, 0] S1x64x1024.size inb_S7x64x1024_S1x64x1024_4_0_0))
    (View.ld x1 (Rect.unit (s := S7x64x1024) ![5, 0, 0] S1x64x1024.size inb_S7x64x1024_S1x64x1024_5_0_0))
    (View.ld x1 (Rect.unit (s := S7x64x1024) ![6, 0, 0] S1x64x1024.size inb_S7x64x1024_S1x64x1024_6_0_0))

variable (c : Dev nD) (i : grid0.Coords)
  (a1 : Memref sig .tc .vmem S64x1024 .f32) (h1 : a1.IsWhole)
  (a2 : Memref sig .tc .vmem S7x64x1024 .bf16) (h2 : a2.IsWhole)
  (a3 : Memref sig .tc .vmem S1x64x1024 .f32) (h3 : a3.IsWhole)
  (a4 : Memref sig .tc .vmem S1x64x1024 .f32) (h4 : a4.IsWhole)
  (a5 : Memref sig .tc .vmem S1x64x1024 .f32) (h5 : a5.IsWhole)
  (a10 : Memref sig .tc .vmem S1x64x1024 .f32) (h10 : a10.IsWhole)
  (a11 : Memref sig .tc .vmem S1x64x1024 .f32) (h11 : a11.IsWhole)
  (a12 : Memref sig .tc .vmem S1x64x1024 .f32) (h12 : a12.IsWhole)
  (a13 : Memref sig .tc .vmem S1x64x1024 .f32) (h13 : a13.IsWhole)
  (x0 : Vec F S64x1024 .f32) (x1 : Vec F S7x64x1024 .bf16) (x2 x3 x4 : Vec F S1x64x1024 .f32)

theorem left5 : out0_A_5 c i a1 h1 a2 h2 a3 h3 a4 h4 a5 h5 a10 h10 a11 h11 a12 h12 a13 h13 x0 x1 x2 x3 x4 = wide x0 x1 := by
  unfold out0_A_5
  rw [View.read_writes_eq_canon _ _ _ (cover0_A_5 c i a1 h1 a2 h2 a3 h3 a4 h4 a5 h5 a10 h10 a11 h11 a12 h12 a13 h13 x0 x1 x2 x3 x4)]
  unfold kernelRun0_A
  dsimp only
  sl_unfold_words
  rw [View.canon_unit_zero (S := S1x64x1024) zero3]
  simp only [View.readAt_eq_ld, h1.read_unread, h2.read_unread, h3.read_unread, h4.read_unread, h5.read_unread,
    View.ld_unit_zero (S := S64x1024) zero2, View.ld_unit_zero (S := S1x64x1024) zero3]
theorem left6 : out0_A_6 c i a1 h1 a2 h2 a3 h3 a4 h4 a5 h5 a10 h10 a11 h11 a12 h12 a13 h13 x0 x1 x2 x3 x4 = k0_pay7 (summed x0 x1) x2 x3 x4 := by
  unfold out0_A_6
  rw [View.read_writes_eq_canon _ _ _ (cover0_A_6 c i a1 h1 a2 h2 a3 h3 a4 h4 a5 h5 a10 h10 a11 h11 a12 h12 a13 h13 x0 x1 x2 x3 x4)]
  unfold kernelRun0_A
  dsimp only
  sl_unfold_words
  rw [View.canon_unit_zero (S := S1x64x1024) zero3]
  simp only [View.readAt_eq_ld, h1.read_unread, h2.read_unread, h3.read_unread, h4.read_unread, h5.read_unread,
    View.ld_unit_zero (S := S64x1024) zero2, View.ld_unit_zero (S := S1x64x1024) zero3]
theorem left7 : out0_A_7 c i a1 h1 a2 h2 a3 h3 a4 h4 a5 h5 a10 h10 a11 h11 a12 h12 a13 h13 x0 x1 x2 x3 x4 = k0_pay1 (k0_pay5 (summed x0 x1) x3) := by
  unfold out0_A_7
  rw [View.read_writes_eq_canon _ _ _ (cover0_A_7 c i a1 h1 a2 h2 a3 h3 a4 h4 a5 h5 a10 h10 a11 h11 a12 h12 a13 h13 x0 x1 x2 x3 x4)]
  unfold kernelRun0_A
  dsimp only
  sl_unfold_words
  rw [View.canon_unit_zero (S := S1x64x1024) zero3]
  simp only [View.readAt_eq_ld, h1.read_unread, h2.read_unread, h3.read_unread, h4.read_unread, h5.read_unread,
    View.ld_unit_zero (S := S64x1024) zero2, View.ld_unit_zero (S := S1x64x1024) zero3]
theorem left8 : out0_A_8 c i a1 h1 a2 h2 a3 h3 a4 h4 a5 h5 a10 h10 a11 h11 a12 h12 a13 h13 x0 x1 x2 x3 x4 = k0_pay2 (k0_pay6 (summed x0 x1) x4) := by
  unfold out0_A_8
  rw [View.read_writes_eq_canon _ _ _ (cover0_A_8 c i a1 h1 a2 h2 a3 h3 a4 h4 a5 h5 a10 h10 a11 h11 a12 h12 a13 h13 x0 x1 x2 x3 x4)]
  unfold kernelRun0_A
  dsimp only
  sl_unfold_words
  rw [View.canon_unit_zero (S := S1x64x1024) zero3]
  simp only [View.readAt_eq_ld, h1.read_unread, h2.read_unread, h3.read_unread, h4.read_unread, h5.read_unread,
    View.ld_unit_zero (S := S64x1024) zero2, View.ld_unit_zero (S := S1x64x1024) zero3]

end AnyValues

/-! ## Over the extended reals -/

section Parts
variable (x0 : Vec Ideal S64x1024 .f32) (p0 p1 p2 p3 p4 p5 p6 : Vec Ideal S1x64x1024 .bf16) (a : Fin 64) (b : Fin 1024)
theorem sum_at : (k0_pay3 x0 p0 p1 p2 p3 p4 p5 p6 : S64x1024.Idx → EReal) (ix2 a b)
    = (x0 (ix2 a b) + p0 (ix3 0 a b) + p1 (ix3 0 a b) + p2 (ix3 0 a b) + p3 (ix3 0 a b) + p4 (ix3 0 a b) + p5 (ix3 0 a b) + p6 (ix3 0 a b) : EReal) := by
  unfold k0_pay3
  pointwise
theorem wide_at : (k0_pay4 x0 p0 p1 p2 p3 p4 p5 p6 : S1x64x1024.Idx → EReal) (ix3 0 a b)
    = (k0_pay3 x0 p0 p1 p2 p3 p4 p5 p6 : S64x1024.Idx → EReal) (ix2 a b) := by
  unfold k0_pay4
  generalize k0_pay3 x0 p0 p1 p2 p3 p4 p5 p6 = s
  pointwise
end Parts

/-- The device's own part of a block and the seven that landed, added. -/
theorem summed_at (x0 : Vec Ideal S64x1024 .f32) (x1 : Vec Ideal S7x64x1024 .bf16) (a : Fin 64) (b : Fin 1024) :
    (summed x0 x1 : S64x1024.Idx → EReal) (ix2 a b)
      = at2 (x0 : S64x1024.Idx → EReal) a.val b.val + ∑ k : Fin 7, at3 (x1 : S7x64x1024.Idx → EReal) k.val a.val b.val := by
  obtain ⟨a, ha⟩ := a
  obtain ⟨b, hb⟩ := b
  rw [Fin.sum_univ_seven]
  have e : ∀ o p0 p1 p2 p3 p4 p5 p6 : EReal, o + p0 + p1 + p2 + p3 + p4 + p5 + p6 = o + (p0 + p1 + p2 + p3 + p4 + p5 + p6) :=
    fun o p0 p1 p2 p3 p4 p5 p6 => by simp only [add_assoc]
  refine Eq.trans ?_ (congrArg₂ (· + ·) (at2_of (x0 : S64x1024.Idx → EReal) (ix2 ⟨a, ha⟩ ⟨b, hb⟩) a b rfl rfl)
    (congrArg₂ (· + ·) (congrArg₂ (· + ·) (congrArg₂ (· + ·) (congrArg₂ (· + ·) (congrArg₂ (· + ·) (congrArg₂ (· + ·) (part_at x1 0 inb_S7x64x1024_S1x64x1024_0_0_0 a b (by decide) ha hb) (part_at x1 1 inb_S7x64x1024_S1x64x1024_1_0_0 a b (by decide) ha hb))
      (part_at x1 2 inb_S7x64x1024_S1x64x1024_2_0_0 a b (by decide) ha hb))
      (part_at x1 3 inb_S7x64x1024_S1x64x1024_3_0_0 a b (by decide) ha hb))
      (part_at x1 4 inb_S7x64x1024_S1x64x1024_4_0_0 a b (by decide) ha hb))
      (part_at x1 5 inb_S7x64x1024_S1x64x1024_5_0_0 a b (by decide) ha hb))
      (part_at x1 6 inb_S7x64x1024_S1x64x1024_6_0_0 a b (by decide) ha hb)))
  exact (sum_at _ _ _ _ _ _ _ _ _ _).trans (e _ _ _ _ _ _ _ _)

theorem out6 (s : Vec Ideal S64x1024 .f32) (w mm vv : Vec Ideal S1x64x1024 .f32) (a : Fin 64) (b : Fin 1024) :
    (k0_pay7 s w mm vv : S1x64x1024.Idx → EReal) (ix3 0 a b) = step (s (ix2 a b)) (w (ix3 0 a b)) (mm (ix3 0 a b)) (vv (ix3 0 a b)) := by
  unfold k0_pay7 k0_pay5 k0_pay6 step mean square
  pointwise
theorem out7 (s : Vec Ideal S64x1024 .f32) (mm : Vec Ideal S1x64x1024 .f32) (a : Fin 64) (b : Fin 1024) :
    (k0_pay1 (k0_pay5 s mm) : S1x64x1024.Idx → EReal) (ix3 0 a b) = mean (s (ix2 a b)) (mm (ix3 0 a b)) := by
  unfold k0_pay1 k0_pay5 mean
  pointwise
theorem out8 (s : Vec Ideal S64x1024 .f32) (vv : Vec Ideal S1x64x1024 .f32) (a : Fin 64) (b : Fin 1024) :
    (k0_pay2 (k0_pay6 s vv) : S1x64x1024.Idx → EReal) (ix3 0 a b) = square (s (ix2 a b)) (vv (ix3 0 a b)) := by
  unfold k0_pay2 k0_pay6 square
  pointwise

/-! ## The blocks of the launch -/

variable (m : (ℓ : Loc nD τ sig) → Buf (Elt Ideal) ℓ) (ρ : Dev nD → PrngReg)

theorem N_cfg0 : cfg0.N = 2 := by decide +kernel
theorem map0 : ∀ t : Fin 2, win0_0.index t 0 = t.val ∧ win0_0.index t 1 = 0 := by decide +kernel
theorem map1 : ∀ t : Fin 2, win0_1.index t 0 = 0 ∧ win0_1.index t 1 = t.val ∧ win0_1.index t 2 = 0 := by decide +kernel
theorem map2 : ∀ t : Fin 2, win0_2.index t 0 = 0 ∧ win0_2.index t 1 = t.val ∧ win0_2.index t 2 = 0 := by decide +kernel
theorem map3 : ∀ t : Fin 2, win0_3.index t 0 = 0 ∧ win0_3.index t 1 = t.val ∧ win0_3.index t 2 = 0 := by decide +kernel
theorem map4 : ∀ t : Fin 2, win0_4.index t 0 = 0 ∧ win0_4.index t 1 = t.val ∧ win0_4.index t 2 = 0 := by decide +kernel
theorem map5 : ∀ t : Fin 2, win0_5.index t 0 = 0 ∧ win0_5.index t 1 = t.val ∧ win0_5.index t 2 = 0 := by decide +kernel
theorem map6 : ∀ t : Fin 2, win0_6.index t 0 = 0 ∧ win0_6.index t 1 = t.val ∧ win0_6.index t 2 = 0 := by decide +kernel
theorem map7 : ∀ t : Fin 2, win0_7.index t 0 = 0 ∧ win0_7.index t 1 = t.val ∧ win0_7.index t 2 = 0 := by decide +kernel
theorem map8 : ∀ t : Fin 2, win0_8.index t 0 = 0 ∧ win0_8.index t 1 = t.val ∧ win0_8.index t 2 = 0 := by decide +kernel

section Blocks
variable (c : Dev nD) (t : Fin cfg0.N)

theorem block0 (a : Fin 64) (b : Fin 1024) :
    at2 (iblk m c 0 t : S64x1024.Idx → EReal) a.val b.val = at2 (V m c main_arg0 : S128x1024.Idx → EReal) (t.val * 64 + a.val) b.val :=
  (at2_of (iblk m c 0 t : S64x1024.Idx → EReal) (ix2 a b) a.val b.val rfl rfl).symm.trans
    (at2_block (V m c main_arg0 : S128x1024.Idx → EReal) _ (map0 t) (win0_0.rect_emb_val t (ix2 a b) 0) (win0_0.rect_emb_val t (ix2 a b) 1))
theorem block1 (n : Fin 7) (a : Fin 64) (b : Fin 1024) :
    at3 (iblk m c 1 t : S7x64x1024.Idx → EReal) n.val a.val b.val = at3 (V m c main_arg1 : S7x128x1024.Idx → EReal) n.val (t.val * 64 + a.val) b.val :=
  (at3_of (iblk m c 1 t : S7x64x1024.Idx → EReal) (ix3 n a b) n.val a.val b.val rfl rfl rfl).symm.trans
    (at3_block (V m c main_arg1 : S7x128x1024.Idx → EReal) _ (map1 t) rfl (win0_1.rect_emb_val t (ix3 n a b) 0)
      (win0_1.rect_emb_val t (ix3 n a b) 1) (win0_1.rect_emb_val t (ix3 n a b) 2))
theorem block2 (y : S1x64x1024.Idx) :
    (iblk m c 2 t : S1x64x1024.Idx → EReal) y = at3 (V m c main_arg2 : S2x128x1024.Idx → EReal) 0 (t.val * 64 + (y 1).val) (y 2).val :=
  at3_block (V m c main_arg2 : S2x128x1024.Idx → EReal) _ (map2 t) (Nat.lt_one_iff.mp (y 0).isLt) (win0_2.rect_emb_val t y 0)
    (win0_2.rect_emb_val t y 1) (win0_2.rect_emb_val t y 2)
theorem block3 (y : S1x64x1024.Idx) :
    (iblk m c 3 t : S1x64x1024.Idx → EReal) y = at3 (V m c main_arg3 : S2x128x1024.Idx → EReal) 0 (t.val * 64 + (y 1).val) (y 2).val :=
  at3_block (V m c main_arg3 : S2x128x1024.Idx → EReal) _ (map3 t) (Nat.lt_one_iff.mp (y 0).isLt) (win0_3.rect_emb_val t y 0)
    (win0_3.rect_emb_val t y 1) (win0_3.rect_emb_val t y 2)
theorem block4 (y : S1x64x1024.Idx) :
    (iblk m c 4 t : S1x64x1024.Idx → EReal) y = at3 (V m c main_arg4 : S2x128x1024.Idx → EReal) 0 (t.val * 64 + (y 1).val) (y 2).val :=
  at3_block (V m c main_arg4 : S2x128x1024.Idx → EReal) _ (map4 t) (Nat.lt_one_iff.mp (y 0).isLt) (win0_4.rect_emb_val t y 0)
    (win0_4.rect_emb_val t y 1) (win0_4.rect_emb_val t y 2)

theorem summed_block (a : Fin 64) (b : Fin 1024) :
    (summed (iblk m c 0 t) (iblk m c 1 t) : S64x1024.Idx → EReal) (ix2 a b) = total (V m c main_arg0) (V m c main_arg1) (t.val * 64 + a.val) b.val :=
  (summed_at (iblk m c 0 t) (iblk m c 1 t) a b).trans
    (congrArg₂ (· + ·) (block0 m c t a b) (Finset.sum_congr rfl fun k _ => block1 m c t k a b))

/-- An entry of a block of the results is in the row and the column that its place says. -/
theorem cases_block (y : S1x64x1024.Idx) : ∃ (a : Fin 64) (b : Fin 1024), y = ix3 0 a b :=
  ⟨y 1, y 2, (eq_ix3 y).trans (congrArg (fun z => ix3 z (y 1) (y 2)) (Subsingleton.elim _ _))⟩

theorem result5 (y : S1x64x1024.Idx) :
    (wide (iblk m c 0 t) (iblk m c 1 t) : S1x64x1024.Idx → EReal) y
      = total (V m c main_arg0) (V m c main_arg1) (t.val * 64 + (y 1).val) (y 2).val := by
  obtain ⟨a, b, rfl⟩ := cases_block y
  exact (wide_at _ _ _ _ _ _ _ _ a b).trans (summed_block m c t a b)
theorem result6 (y : S1x64x1024.Idx) :
    (k0_pay7 (summed (iblk m c 0 t) (iblk m c 1 t)) (iblk m c 2 t) (iblk m c 3 t) (iblk m c 4 t) : S1x64x1024.Idx → EReal) y
      = delta3 (total (V m c main_arg0) (V m c main_arg1)) (V m c main_arg2) (V m c main_arg3) (V m c main_arg4) (t.val * 64 + (y 1).val) (y 2).val := by
  obtain ⟨a, b, rfl⟩ := cases_block y
  refine (out6 _ (iblk m c 2 t) (iblk m c 3 t) (iblk m c 4 t) a b).trans ?_
  rw [summed_block, block2, block3, block4]
  rfl
theorem result7 (y : S1x64x1024.Idx) :
    (k0_pay1 (k0_pay5 (summed (iblk m c 0 t) (iblk m c 1 t)) (iblk m c 3 t)) : S1x64x1024.Idx → EReal) y
      = mean3 (total (V m c main_arg0) (V m c main_arg1)) (V m c main_arg3) (t.val * 64 + (y 1).val) (y 2).val := by
  obtain ⟨a, b, rfl⟩ := cases_block y
  refine (out7 _ (iblk m c 3 t) a b).trans ?_
  rw [summed_block, block3]
  rfl
theorem result8 (y : S1x64x1024.Idx) :
    (k0_pay2 (k0_pay6 (summed (iblk m c 0 t) (iblk m c 1 t)) (iblk m c 4 t)) : S1x64x1024.Idx → EReal) y
      = square3 (total (V m c main_arg0) (V m c main_arg1)) (V m c main_arg4) (t.val * 64 + (y 1).val) (y 2).val := by
  obtain ⟨a, b, rfl⟩ := cases_block y
  refine (out8 _ (iblk m c 4 t) a b).trans ?_
  rw [summed_block, block4]
  rfl

end Blocks

/-! ## What is written back -/

theorem copied5 (c : Dev nD) : @Eq (Vec Ideal S2x128x1024 .f32) (V m c main_v0_0) (m ((c : Thread nD τ).loc main_arg5)) := by
  unfold V
  simp only [hostOps0]
  after_results
  rfl
theorem cover5 (i : S2x128x1024.Idx) (h : (i 0).val = 0) :
    ∃ t : Fin cfg0.N, (cfg0.win 5).flush t = true ∧ i ∈ ((cfg0.win 5).blk t).view.set := by
  have hi : (i 1).val < 128 := (i 1).isLt
  obtain ⟨t, ht⟩ : ∃ t : Fin cfg0.N, t.val = (i 1).val / 64 := ⟨⟨(i 1).val / 64, by rw [N_cfg0]; omega⟩, rfl⟩
  refine ⟨t, flush0_5 t, View.set_slice_whole .. ▸ Rect.mem_set_unit.mpr ?_⟩
  exact in_rows3 (T := 64) (by decide) (map5 t) i h ht
set_option maxRecDepth 16384 in
theorem flushed5 (c : Dev nD) (t : Fin cfg0.N) :
    (dats m 0 c).flushed 5 t = ((cfg0.win 5).blk t).view.read (Elt Ideal)
      (over (total (V m c main_arg0) (V m c main_arg1)) (m ((c : Thread nD τ).loc main_arg5)) : Vec Ideal S2x128x1024 .f32) := by
  rw [Value.flushed5_A, left5]
  funext y
  rw [View.read_apply]
  have e := rows3 (map5 t) (win0_5.rect_emb_val t y 0) (win0_5.rect_emb_val t y 1) (win0_5.rect_emb_val t y 2)
  exact (result5 m c t y).trans (over_of _ _ _ _ _ ⟨e.1.trans (Nat.lt_one_iff.mp (y 0).isLt), e.2⟩)
theorem final5 (c : Dev nD) : @Eq (Vec Ideal S2x128x1024 .f32) ((dats m 0 c).arrAt 5 cfg0.N)
    (over (total (V m c main_arg0) (V m c main_arg1)) (m ((c : Thread nD τ).loc main_arg5))) := by
  funext i
  refine ((dats m 0 c).arrAt_eq_piecewise 5 _ (fun t _ => flushed5 m c t) i).trans ?_
  by_cases h : ∃ t : Fin cfg0.N, (cfg0.win 5).flush t = true ∧ i ∈ ((cfg0.win 5).blk t).view.set
  · exact if_pos h
  · refine (if_neg h).trans ?_
    rw [A_eq]
    exact (congrFun (copied5 m c) i).trans (if_neg fun e => h (cover5 i e)).symm

theorem copied6 (c : Dev nD) : @Eq (Vec Ideal S2x128x1024 .f32) (V m c main_v0_1) (m ((c : Thread nD τ).loc main_arg6)) := by
  unfold V
  simp only [hostOps0]
  after_results
  rfl
theorem cover6 (i : S2x128x1024.Idx) (h : (i 0).val = 0) :
    ∃ t : Fin cfg0.N, (cfg0.win 6).flush t = true ∧ i ∈ ((cfg0.win 6).blk t).view.set := by
  have hi : (i 1).val < 128 := (i 1).isLt
  obtain ⟨t, ht⟩ : ∃ t : Fin cfg0.N, t.val = (i 1).val / 64 := ⟨⟨(i 1).val / 64, by rw [N_cfg0]; omega⟩, rfl⟩
  refine ⟨t, flush0_6 t, View.set_slice_whole .. ▸ Rect.mem_set_unit.mpr ?_⟩
  exact in_rows3 (T := 64) (by decide) (map6 t) i h ht
set_option maxRecDepth 16384 in
theorem flushed6 (c : Dev nD) (t : Fin cfg0.N) :
    (dats m 0 c).flushed 6 t = ((cfg0.win 6).blk t).view.read (Elt Ideal)
      (over (delta3 (total (V m c main_arg0) (V m c main_arg1)) (V m c main_arg2) (V m c main_arg3) (V m c main_arg4)) (m ((c : Thread nD τ).loc main_arg6)) : Vec Ideal S2x128x1024 .f32) := by
  rw [Value.flushed6_A, left6]
  funext y
  rw [View.read_apply]
  have e := rows3 (map6 t) (win0_6.rect_emb_val t y 0) (win0_6.rect_emb_val t y 1) (win0_6.rect_emb_val t y 2)
  exact (result6 m c t y).trans (over_of _ _ _ _ _ ⟨e.1.trans (Nat.lt_one_iff.mp (y 0).isLt), e.2⟩)
theorem final6 (c : Dev nD) : @Eq (Vec Ideal S2x128x1024 .f32) ((dats m 0 c).arrAt 6 cfg0.N)
    (over (delta3 (total (V m c main_arg0) (V m c main_arg1)) (V m c main_arg2) (V m c main_arg3) (V m c main_arg4)) (m ((c : Thread nD τ).loc main_arg6))) := by
  funext i
  refine ((dats m 0 c).arrAt_eq_piecewise 6 _ (fun t _ => flushed6 m c t) i).trans ?_
  by_cases h : ∃ t : Fin cfg0.N, (cfg0.win 6).flush t = true ∧ i ∈ ((cfg0.win 6).blk t).view.set
  · exact if_pos h
  · refine (if_neg h).trans ?_
    rw [A_eq]
    exact (congrFun (copied6 m c) i).trans (if_neg fun e => h (cover6 i e)).symm

theorem copied7 (c : Dev nD) : @Eq (Vec Ideal S2x128x1024 .f32) (V m c main_v0_2) (m ((c : Thread nD τ).loc main_arg7)) := by
  unfold V
  simp only [hostOps0]
  after_results
  rfl
theorem cover7 (i : S2x128x1024.Idx) (h : (i 0).val = 0) :
    ∃ t : Fin cfg0.N, (cfg0.win 7).flush t = true ∧ i ∈ ((cfg0.win 7).blk t).view.set := by
  have hi : (i 1).val < 128 := (i 1).isLt
  obtain ⟨t, ht⟩ : ∃ t : Fin cfg0.N, t.val = (i 1).val / 64 := ⟨⟨(i 1).val / 64, by rw [N_cfg0]; omega⟩, rfl⟩
  refine ⟨t, flush0_7 t, View.set_slice_whole .. ▸ Rect.mem_set_unit.mpr ?_⟩
  exact in_rows3 (T := 64) (by decide) (map7 t) i h ht
set_option maxRecDepth 16384 in
theorem flushed7 (c : Dev nD) (t : Fin cfg0.N) :
    (dats m 0 c).flushed 7 t = ((cfg0.win 7).blk t).view.read (Elt Ideal)
      (over (mean3 (total (V m c main_arg0) (V m c main_arg1)) (V m c main_arg3)) (m ((c : Thread nD τ).loc main_arg7)) : Vec Ideal S2x128x1024 .f32) := by
  rw [Value.flushed7_A, left7]
  funext y
  rw [View.read_apply]
  have e := rows3 (map7 t) (win0_7.rect_emb_val t y 0) (win0_7.rect_emb_val t y 1) (win0_7.rect_emb_val t y 2)
  exact (result7 m c t y).trans (over_of _ _ _ _ _ ⟨e.1.trans (Nat.lt_one_iff.mp (y 0).isLt), e.2⟩)
theorem final7 (c : Dev nD) : @Eq (Vec Ideal S2x128x1024 .f32) ((dats m 0 c).arrAt 7 cfg0.N)
    (over (mean3 (total (V m c main_arg0) (V m c main_arg1)) (V m c main_arg3)) (m ((c : Thread nD τ).loc main_arg7))) := by
  funext i
  refine ((dats m 0 c).arrAt_eq_piecewise 7 _ (fun t _ => flushed7 m c t) i).trans ?_
  by_cases h : ∃ t : Fin cfg0.N, (cfg0.win 7).flush t = true ∧ i ∈ ((cfg0.win 7).blk t).view.set
  · exact if_pos h
  · refine (if_neg h).trans ?_
    rw [A_eq]
    exact (congrFun (copied7 m c) i).trans (if_neg fun e => h (cover7 i e)).symm

theorem copied8 (c : Dev nD) : @Eq (Vec Ideal S2x128x1024 .f32) (V m c main_v0_3) (m ((c : Thread nD τ).loc main_arg8)) := by
  unfold V
  simp only [hostOps0]
  after_results
  rfl
theorem cover8 (i : S2x128x1024.Idx) (h : (i 0).val = 0) :
    ∃ t : Fin cfg0.N, (cfg0.win 8).flush t = true ∧ i ∈ ((cfg0.win 8).blk t).view.set := by
  have hi : (i 1).val < 128 := (i 1).isLt
  obtain ⟨t, ht⟩ : ∃ t : Fin cfg0.N, t.val = (i 1).val / 64 := ⟨⟨(i 1).val / 64, by rw [N_cfg0]; omega⟩, rfl⟩
  refine ⟨t, flush0_8 t, View.set_slice_whole .. ▸ Rect.mem_set_unit.mpr ?_⟩
  exact in_rows3 (T := 64) (by decide) (map8 t) i h ht
set_option maxRecDepth 16384 in
theorem flushed8 (c : Dev nD) (t : Fin cfg0.N) :
    (dats m 0 c).flushed 8 t = ((cfg0.win 8).blk t).view.read (Elt Ideal)
      (over (square3 (total (V m c main_arg0) (V m c main_arg1)) (V m c main_arg4)) (m ((c : Thread nD τ).loc main_arg8)) : Vec Ideal S2x128x1024 .f32) := by
  rw [Value.flushed8_A, left8]
  funext y
  rw [View.read_apply]
  have e := rows3 (map8 t) (win0_8.rect_emb_val t y 0) (win0_8.rect_emb_val t y 1) (win0_8.rect_emb_val t y 2)
  exact (result8 m c t y).trans (over_of _ _ _ _ _ ⟨e.1.trans (Nat.lt_one_iff.mp (y 0).isLt), e.2⟩)
theorem final8 (c : Dev nD) : @Eq (Vec Ideal S2x128x1024 .f32) ((dats m 0 c).arrAt 8 cfg0.N)
    (over (square3 (total (V m c main_arg0) (V m c main_arg1)) (V m c main_arg4)) (m ((c : Thread nD τ).loc main_arg8))) := by
  funext i
  refine ((dats m 0 c).arrAt_eq_piecewise 8 _ (fun t _ => flushed8 m c t) i).trans ?_
  by_cases h : ∃ t : Fin cfg0.N, (cfg0.win 8).flush t = true ∧ i ∈ ((cfg0.win 8).blk t).view.set
  · exact if_pos h
  · refine (if_neg h).trans ?_
    rw [A_eq]
    exact (congrFun (copied8 m c) i).trans (if_neg fun e => h (cover8 i e)).symm

/-- The launch leaves the four tables: the first layer's part new, the other as it was given. -/
theorem run_value : θ_run defs (onTc (τ := τ) (main (F := Ideal))) ⟨m, fun _ => 0, ρ⟩ fun r => ∀ c : Dev nD,
      r.2.mem ((c : Thread nD τ).loc main_v0_0) = over (total (m ((c : Thread nD τ).loc main_arg0)) (m ((c : Thread nD τ).loc main_arg1))) (m ((c : Thread nD τ).loc main_arg5))
      ∧ r.2.mem ((c : Thread nD τ).loc main_v0_1) = over (delta3 (total (m ((c : Thread nD τ).loc main_arg0)) (m ((c : Thread nD τ).loc main_arg1))) (m ((c : Thread nD τ).loc main_arg2)) (m ((c : Thread nD τ).loc main_arg3)) (m ((c : Thread nD τ).loc main_arg4))) (m ((c : Thread nD τ).loc main_arg6))
      ∧ r.2.mem ((c : Thread nD τ).loc main_v0_2) = over (mean3 (total (m ((c : Thread nD τ).loc main_arg0)) (m ((c : Thread nD τ).loc main_arg1))) (m ((c : Thread nD τ).loc main_arg3))) (m ((c : Thread nD τ).loc main_arg7))
      ∧ r.2.mem ((c : Thread nD τ).loc main_v0_3) = over (square3 (total (m ((c : Thread nD τ).loc main_arg0)) (m ((c : Thread nD τ).loc main_arg1))) (m ((c : Thread nD τ).loc main_arg4))) (m ((c : Thread nD τ).loc main_arg8))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) := by
  refine (θ_run defs _ _).mono (fun r h c => ?_) (Value.run_blocks m ρ)
  obtain ⟨h5, h6, h7, h8, ha⟩ := h c
  rw [final5, V_main_arg0, V_main_arg1] at h5
  rw [final6, V_main_arg0, V_main_arg1, V_main_arg2, V_main_arg3, V_main_arg4] at h6
  rw [final7, V_main_arg0, V_main_arg1, V_main_arg3] at h7
  rw [final8, V_main_arg0, V_main_arg1, V_main_arg4] at h8
  exact ⟨h5, h6, h7, h8, ha⟩

end Cert.Kernel9Ideal.Step

namespace Cert.Reference9Ideal.Step

open Cert.Reference9Ideal Cert.Reference9Ideal.Gen Cert.Reference9Ideal.Read Cert.AdamW Cert.Tables Cert.Blocks
open Idealize.ShloMosaic Idealize.ShloMosaic.TcCoe

/-! ## The reference at an entry -/

/-- The first layer of a table, and the second. -/
theorem first (x : Vec Ideal S2x128x1024 .f32) (i : S128x1024.Idx) :
    (val_main_v4 (F := Ideal) x : S128x1024.Idx → EReal) i = at3 (x : S2x128x1024.Idx → EReal) 0 (i 0).val (i 1).val := by
  have hi0 : (i 0).val < 128 := (i 0).isLt
  have hi1 : (i 1).val < 1024 := (i 1).isLt
  rw [val_main_v4_apply, val_main_v3_apply]
  refine at3_of (x : S2x128x1024.Idx → EReal) _ _ _ _ rfl ?_ ?_
  · show ((i 0).val * 1024 + (i 1).val) / 1024 % 128 = (i 0).val
    omega
  · show ((i 0).val * 1024 + (i 1).val) % 1024 = (i 1).val
    omega
theorem second (x : Vec Ideal S2x128x1024 .f32) (a : Fin 128) (b : Fin 1024) :
    (val_main_v36 (F := Ideal) x : S1x128x1024.Idx → EReal) (ix3 0 a b) = x (ix3 1 a b) := by
  rw [val_main_v36_apply, val_main_v34_apply, val_main_v33_apply]
  refine congrArg x (funext fun d => Fin.ext ?_)
  match d with
  | ⟨0, _⟩ => rfl
  | ⟨1, _⟩ =>
    show (a.val * 1024 + b.val) / 1024 % 128 = a.val
    omega
  | ⟨2, _⟩ =>
    show (a.val * 1024 + b.val) % 1024 = b.val
    omega

section Plain
variable (own : Vec Ideal S128x1024 .f32) (landed : Vec Ideal S7x128x1024 .bf16) (w mm vv prior : Vec Ideal S2x128x1024 .f32)

theorem new_grad (i : S128x1024.Idx) : (val_main_v2 (F := Ideal) own landed : S128x1024.Idx → EReal) i
    = total own landed (i 0).val (i 1).val := by
  rw [val_main_v2_apply, val_main_v1_apply]
  refine congrArg₂ (· + ·) (at2_of (own : S128x1024.Idx → EReal) i _ _ rfl rfl) ?_
  refine (congrArg (· + _) Ideal.ofBits_zero_f32).trans ((zero_add _).trans ?_)
  exact Finset.sum_congr rfl fun k _ => at3_of (landed : S7x128x1024.Idx → EReal) _ _ _ _ rfl rfl rfl
theorem new_delta (i : S128x1024.Idx) : (val_main_v32 (F := Ideal) own landed w mm vv : S128x1024.Idx → EReal) i
    = delta3 (total own landed) w mm vv (i 0).val (i 1).val := by
  unfold delta3
  rw [← new_grad, ← first w, ← first mm, ← first vv]
  rfl
theorem new_mean (i : S128x1024.Idx) : (val_main_v13 (F := Ideal) own landed mm : S128x1024.Idx → EReal) i
    = mean3 (total own landed) mm (i 0).val (i 1).val := by
  unfold mean3
  rw [← new_grad, ← first mm]
  rfl
theorem new_square (i : S128x1024.Idx) : (val_main_v19 (F := Ideal) own landed vv : S128x1024.Idx → EReal) i
    = square3 (total own landed) vv (i 0).val (i 1).val := by
  unfold square3
  rw [← new_grad, ← first vv]
  rfl

/-! ## The call's results are the reference's -/

theorem result0 : val_main_v37 (F := Ideal) own landed prior = over (total own landed) prior :=
  stack _ _ _ _ _ (fun a b => (val_main_v35_apply own landed (ix3 0 a b)).trans (new_grad own landed _)) (second prior)
theorem result1 : val_main_v42 (F := Ideal) own landed w mm vv prior = over (delta3 (total own landed) w mm vv) prior :=
  stack _ _ _ _ _ (fun a b => (val_main_v40_apply own landed w mm vv (ix3 0 a b)).trans (new_delta own landed w mm vv _)) (second prior)
theorem result2 : val_main_v47 (F := Ideal) own landed mm prior = over (mean3 (total own landed) mm) prior :=
  stack _ _ _ _ _ (fun a b => (val_main_v45_apply own landed mm (ix3 0 a b)).trans (new_mean own landed mm _)) (second prior)
theorem result3 : val_main_v52 (F := Ideal) own landed vv prior = over (square3 (total own landed) vv) prior :=
  stack _ _ _ _ _ (fun a b => (val_main_v50_apply own landed vv (ix3 0 a b)).trans (new_square own landed vv _)) (second prior)

end Plain

end Cert.Reference9Ideal.Step

end
-- ==== Proof.lean ====
module

public import proofs.«01_k».proof.Defs
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.On_written
public import proofs.«01_k».proof.Proof.Gen.Kernel2Ideal.Value
public import proofs.«01_k».proof.Proof.Gen.ReferenceIdeal.Run
public import proofs.«01_k».proof.Proof.Gen.ReferenceIdeal.Read
public import proofs.«01_k».proof.Proof.Gen.Reference2Ideal.Run
public import proofs.«01_k».proof.Proof.Gen.Reference2Ideal.Read
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.Reference4Ideal.Run
public import proofs.«01_k».proof.Proof.Gen.Reference4Ideal.Read
public import proofs.«01_k».proof.Proof.SameText
public import proofs.«01_k».proof.Proof.MergeValue
public import proofs.«01_k».proof.Proof.MergeReference
public import proofs.«01_k».proof.Proof.GradWIn
public import proofs.«01_k».proof.Proof.SameText3
public import proofs.«01_k».proof.Proof.InProjReference
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Reference7Ideal.Read
public import proofs.«01_k».proof.Proof.SameText4
public import proofs.«01_k».proof.Proof.ForwardReference
public import Idealize.ShloMosaic.Adequacy
public import Idealize.ShloMosaic.Init
public import proofs.«01_k».proof.Proof.Gen.Kernel10
public import proofs.«01_k».proof.Proof.Gen.Kernel10.Skeleton
public import proofs.«01_k».proof.Proof.Gen.Kernel10.Launch
public import proofs.«01_k».proof.Proof.Gen.Kernel10.Points
public import proofs.«01_k».proof.Proof.Gen.Kernel10.Frame
public import proofs.«01_k».proof.Proof.Gen.Kernel10Ideal
public import proofs.«01_k».proof.Proof.Gen.Kernel10Ideal.Skeleton
public import proofs.«01_k».proof.Proof.Gen.Kernel10Ideal.Launch
public import proofs.«01_k».proof.Proof.Gen.Kernel10Ideal.Points
public import proofs.«01_k».proof.Proof.Gen.Kernel10Ideal.Frame
public import proofs.«01_k».proof.Proof.Gen.Kernel10Ideal.Value
public import proofs.«01_k».proof.Proof.Gen.Reference10Ideal
public import proofs.«01_k».proof.Proof.Gen.Reference10Ideal.Run
public import proofs.«01_k».proof.Proof.Gen.Reference10Ideal.Read
public import proofs.«01_k».proof.Proof.Gen.Kernel8
public import proofs.«01_k».proof.Proof.Gen.Kernel9
public import proofs.«01_k».proof.Proof.Gen.Kernel8.Skeleton
public import proofs.«01_k».proof.Proof.Gen.Kernel9.Skeleton
public import proofs.«01_k».proof.Proof.Gen.Kernel8.Launch
public import proofs.«01_k».proof.Proof.Gen.Kernel9.Launch
public import proofs.«01_k».proof.Proof.Gen.Kernel8.Points
public import proofs.«01_k».proof.Proof.Gen.Kernel9.Points
public import proofs.«01_k».proof.Proof.Gen.Kernel8.Frame
public import proofs.«01_k».proof.Proof.Gen.Kernel9.Frame
public import proofs.«01_k».proof.Proof.Gen.Kernel8Ideal
public import proofs.«01_k».proof.Proof.Gen.Kernel9Ideal
public import proofs.«01_k».proof.Proof.Gen.Kernel8Ideal.Skeleton
public import proofs.«01_k».proof.Proof.Gen.Kernel9Ideal.Skeleton
public import proofs.«01_k».proof.Proof.Gen.Kernel8Ideal.Launch
public import proofs.«01_k».proof.Proof.Gen.Kernel9Ideal.Launch
public import proofs.«01_k».proof.Proof.Gen.Kernel8Ideal.Points
public import proofs.«01_k».proof.Proof.Gen.Kernel9Ideal.Points
public import proofs.«01_k».proof.Proof.Gen.Kernel8Ideal.Frame
public import proofs.«01_k».proof.Proof.Gen.Kernel9Ideal.Frame
public import proofs.«01_k».proof.Proof.Gen.Kernel8Ideal.Value
public import proofs.«01_k».proof.Proof.Gen.Kernel9Ideal.Value
public import proofs.«01_k».proof.Proof.Gen.Reference8Ideal
public import proofs.«01_k».proof.Proof.Gen.Reference9Ideal
public import proofs.«01_k».proof.Proof.Gen.Reference8Ideal.Run
public import proofs.«01_k».proof.Proof.Gen.Reference9Ideal.Run
public import proofs.«01_k».proof.Proof.Gen.Reference8Ideal.Read
public import proofs.«01_k».proof.Proof.Gen.Reference9Ideal.Read
public import proofs.«01_k».proof.Proof.PlainStep
public import proofs.«01_k».proof.Proof.PackedStep
public import proofs.«01_k».proof.Proof.NormStep
public import proofs.«01_k».proof.Proof.InProjStep
public import proofs.«01_k».proof.Proof.BranchStep
public import proofs.«01_k».proof.Proof.OutStep

@[expose] public section

noncomputable section

namespace Cert.Proof

open Idealize.ShloMosaic Idealize.SL.Sem Cert.Kernel

/-! ## The merge's backward launch -/

/-- Every run ends with the arguments kept and the semaphores at zero, over any float values. -/
theorem frame_any {F : FTy → Type} [FloatOps F] (m : (ℓ : Loc Cert.KernelIdeal.nD Cert.KernelIdeal.τ Cert.KernelIdeal.sig) → Buf (Elt F) ℓ)
    (ρ : Dev Cert.KernelIdeal.nD → PrngReg) :
    θ_run (Cert.KernelIdeal.defs (F := F)) (onTc (τ := Cert.KernelIdeal.τ) (Cert.KernelIdeal.main (F := F))) ⟨m, fun _ => 0, ρ⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0) :=
  (θ_run Cert.KernelIdeal.defs _ _).mono (fun _ h => ⟨fun c => Cert.KernelIdeal.Merge.args_kept m h.1.toR c, h.2⟩)
    (Cert.KernelIdeal.Merge.run_main (F := F) m ρ)

theorem frame_kernel : Cert.quiescent_Kernel := fun m ρ _ => by
  rw [Cert.Kernel.Same.run m ρ]; exact frame_any (F := Bits) m ρ
theorem frame_kernelIdeal : Cert.quiescent_KernelIdeal := fun m ρ _ => frame_any (F := Ideal) m ρ
theorem frame_reference : Cert.quiescent_ReferenceIdeal := fun m ρ _ =>
  (θ_run Cert.ReferenceIdeal.defs _ _).mono
    (fun r h => ⟨fun c => (h c).2.2.2.2.2.2, Idealize.ShloMosaic.sem_eq_zero_of_no_sems (by decide) r.2⟩)
    (Cert.ReferenceIdeal.Value.run (F := Ideal) m ρ)
theorem preserves : Cert.preserves_Kernel_KernelIdeal := trivial

/-- The mask holds only at the columns from 6144 on. -/
theorem mask_col : ∀ j : Fin 10240, BitVec.ofBool (BitVec.sle 6144#32 (BitVec.ofNat 32 j.val)) = 1#1 → 6144 ≤ j.val := by
  decide +kernel

theorem mask_at (a : FVec Ideal Cert.On_written.S8192x1024 .f32) (b : FVec Ideal Cert.On_written.S8192x4x512 .f32) (d : FVec Ideal Cert.On_written.S8192x10240 .f32)
    (e : FVec Ideal Cert.On_written.S4x512x1024 .f32) (f : FVec Ideal Cert.On_written.S1024x1024 .f32) (i : Cert.On_written.S8192x10240.Idx)
    (h : (Cert.On_written.fn (F := Ideal) a b d e f).2.1 i = 1#1) : 6144 ≤ (i 1).val :=
  mask_col (i 1) (Eq.trans (by rfl) h)

theorem algebraic : Cert.algebraic_KernelIdeal_ReferenceIdeal_on_written := by
  intro m ρ m' ρ' _ hagree
  refine ⟨fun c => Cert.KernelIdeal.Merge.dboT (Cert.KernelIdeal.Merge.dxT m c) (Cert.KernelIdeal.Merge.pT m c) (Cert.KernelIdeal.Merge.woT m c),
    fun c => Cert.KernelIdeal.Merge.dgT (Cert.KernelIdeal.Merge.dxT m c) (Cert.KernelIdeal.Merge.zT m c) (Cert.KernelIdeal.Merge.pT m c) (Cert.KernelIdeal.Merge.wT m c) (Cert.KernelIdeal.Merge.woT m c),
    fun c => Cert.KernelIdeal.Merge.gwoT (Cert.KernelIdeal.Merge.dxT m c) (Cert.KernelIdeal.Merge.zT m c) (Cert.KernelIdeal.Merge.pT m c) (Cert.KernelIdeal.Merge.wT m c),
    fun c => Cert.KernelIdeal.Merge.gwoT (Cert.KernelIdeal.Merge.dxT m c) (Cert.KernelIdeal.Merge.zT m c) (Cert.KernelIdeal.Merge.pT m c) (Cert.KernelIdeal.Merge.wT m c),
    fun c => Cert.KernelIdeal.Merge.gwbT (Cert.KernelIdeal.Merge.dxT m c) (Cert.KernelIdeal.Merge.zT m c) (Cert.KernelIdeal.Merge.pT m c) (Cert.KernelIdeal.Merge.woT m c),
    fun c => Cert.KernelIdeal.Merge.gwbT (Cert.KernelIdeal.Merge.dxT m c) (Cert.KernelIdeal.Merge.zT m c) (Cert.KernelIdeal.Merge.pT m c) (Cert.KernelIdeal.Merge.woT m c), ?_, ?_⟩
  · refine (θ_run Cert.KernelIdeal.defs _ _).mono (fun r h c => ?_) (Cert.KernelIdeal.Merge.run_value m ρ)
    obtain ⟨h0, h1, h2, h3, h4, h5, ha⟩ := h c
    exact ⟨fun i _ => congrFun h0 i, fun i hi => h1 i (mask_at _ _ _ _ _ i hi), fun i _ => congrFun h2 i, fun i _ => congrFun h3 i,
      fun i _ => congrFun h4 i, fun i _ => congrFun h5 i, ha⟩
  · refine (θ_run Cert.ReferenceIdeal.defs _ _).mono (fun r h c => ?_) (Cert.ReferenceIdeal.Value.run (F := Ideal) m' ρ')
    obtain ⟨h0, h1, h2, h3, h4, h5, ha⟩ := h c
    obtain ⟨e0, e1, e2, e3, e4⟩ := hagree c
    rw [Cert.ReferenceIdeal.Read.val_main_v33_eq, e0, e2, e4] at h0
    rw [Cert.ReferenceIdeal.Read.val_main_v34_eq, e0, e1, e2, e3, e4] at h1
    rw [Cert.ReferenceIdeal.Read.val_main_v17_eq, e0, e1, e2, e3] at h2
    rw [Cert.ReferenceIdeal.Read.val_main_v35_eq, e0, e1, e2, e3] at h3
    rw [Cert.ReferenceIdeal.Read.val_main_v31_eq, e0, e1, e2, e4] at h4
    rw [Cert.ReferenceIdeal.Read.val_main_v36_eq, e0, e1, e2, e4] at h5
    refine ⟨fun i _ => (congrFun h0 i).trans (congrFun (Cert.ReferenceIdeal.Merge.result0 _ _ _) i),
      fun i hi => (congrFun h1 i).trans (Cert.ReferenceIdeal.Merge.result1 _ _ _ _ _ i (mask_at _ _ _ _ _ i hi)),
      fun i _ => (congrFun h2 i).trans (congrFun (Cert.ReferenceIdeal.Merge.result2 _ _ _ _) i),
      fun i _ => (congrFun h3 i).trans (congrFun (Cert.ReferenceIdeal.Merge.result3 _ _ _ _) i),
      fun i _ => (congrFun h4 i).trans (congrFun (Cert.ReferenceIdeal.Merge.result4 _ _ _ _) i),
      fun i _ => (congrFun h5 i).trans (congrFun (Cert.ReferenceIdeal.Merge.result5 _ _ _ _) i), ha⟩

/-! ## The input projection's gradient -/

theorem frame_kernel2 : Cert.quiescent_Kernel2 := fun m ρ _ => Cert.Kernel2.Gen.frame m ρ
theorem frame_kernel2Ideal : Cert.quiescent_Kernel2Ideal := fun m ρ _ => Cert.Kernel2Ideal.Gen.frame m ρ
theorem frame_reference2 : Cert.quiescent_Reference2Ideal := fun m ρ _ =>
  (θ_run Cert.Reference2Ideal.defs _ _).mono
    (fun r h => ⟨fun c => (h c).2.2, Idealize.ShloMosaic.sem_eq_zero_of_no_sems (by decide) r.2⟩)
    (Cert.Reference2Ideal.Value.run (F := Ideal) m ρ)
theorem preserves2 : Cert.preserves_Kernel2_Kernel2Ideal := trivial
theorem algebraic2 : Cert.algebraic_Kernel2Ideal_Reference2Ideal := by
  intro m ρ m' ρ' _ hagree
  refine ⟨_, _, Cert.Kernel2Ideal.Strips.run m ρ, ?_⟩
  refine (θ_run Cert.Reference2Ideal.defs _ _).mono (fun r h c => ?_) (Cert.Reference2Ideal.Value.run (F := Ideal) m' ρ')
  obtain ⟨h5, h6, ha, hb⟩ := h c
  refine ⟨h5.trans ?_, h6.trans ?_, ha, hb⟩
  · rw [Cert.Reference2Ideal.Read.val_main_v5_eq, (hagree c).1, (hagree c).2]
    exact Cert.Reference2Ideal.Strips.whole _ _
  · rw [Cert.Reference2Ideal.Read.val_main_v6_eq, (hagree c).1, (hagree c).2]
    exact Cert.Reference2Ideal.Strips.whole_half _ _

/-! ## The input projection's backward launch -/

/-- Every run ends with the arguments kept and the semaphores at zero, over any float values. -/
theorem frame_any3 {F : FTy → Type} [FloatOps F] (m : (ℓ : Loc Cert.Kernel3Ideal.nD Cert.Kernel3Ideal.τ Cert.Kernel3Ideal.sig) → Buf (Elt F) ℓ)
    (ρ : Dev Cert.Kernel3Ideal.nD → PrngReg) :
    θ_run (Cert.Kernel3Ideal.defs (F := F)) (onTc (τ := Cert.Kernel3Ideal.τ) (Cert.Kernel3Ideal.main (F := F))) ⟨m, fun _ => 0, ρ⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0) :=
  (θ_run Cert.Kernel3Ideal.defs _ _).mono (fun _ h => ⟨fun c => Cert.Kernel3Ideal.InProj.args_kept m h.1.toR c, h.2⟩)
    (Cert.Kernel3Ideal.InProj.run_main (F := F) m ρ)

theorem frame_kernel3 : Cert.quiescent_Kernel3 := fun m ρ _ => by
  rw [Cert.Kernel3.Same.run m ρ]; exact frame_any3 (F := Bits) m ρ
theorem frame_kernel3Ideal : Cert.quiescent_Kernel3Ideal := fun m ρ _ => frame_any3 (F := Ideal) m ρ
theorem frame_reference3 : Cert.quiescent_Reference3Ideal := fun m ρ _ =>
  (θ_run Cert.Reference3Ideal.defs _ _).mono
    (fun r h => ⟨fun c => (h c).2.2, Idealize.ShloMosaic.sem_eq_zero_of_no_sems (by decide) r.2⟩)
    (Cert.Reference3Ideal.Value.run (F := Ideal) m ρ)
theorem preserves3 : Cert.preserves_Kernel3_Kernel3Ideal := trivial
theorem algebraic3 : Cert.algebraic_Kernel3Ideal_Reference3Ideal := by
  intro m ρ m' ρ' _ hagree
  refine ⟨_, _, Cert.Kernel3Ideal.InProj.run_value m ρ, ?_⟩
  refine (θ_run Cert.Reference3Ideal.defs _ _).mono (fun r h c => ?_) (Cert.Reference3Ideal.Value.run (F := Ideal) m' ρ')
  obtain ⟨h0, h1, ha⟩ := h c
  obtain ⟨e0, e1, e2, e3, e4⟩ := hagree c
  rw [Cert.Reference3Ideal.Read.val_main_v38_eq, e0, e1, e2, e3, e4] at h0
  rw [Cert.Reference3Ideal.Read.val_main_v39_eq, e0, e1, e2] at h1
  exact ⟨h0.trans (Cert.Reference3Ideal.InProj.result0 _ _ _ _ _), h1.trans (Cert.Reference3Ideal.InProj.result1 _ _ _), ha⟩

/-! ## The input projection's forward launch -/

/-- Every run ends with the arguments kept and the semaphores at zero, over any float values. -/
theorem frame_any4 {F : FTy → Type} [FloatOps F] (m : (ℓ : Loc Cert.Kernel4Ideal.nD Cert.Kernel4Ideal.τ Cert.Kernel4Ideal.sig) → Buf (Elt F) ℓ)
    (ρ : Dev Cert.Kernel4Ideal.nD → PrngReg) :
    θ_run (Cert.Kernel4Ideal.defs (F := F)) (onTc (τ := Cert.Kernel4Ideal.τ) (Cert.Kernel4Ideal.main (F := F))) ⟨m, fun _ => 0, ρ⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0) :=
  (θ_run Cert.Kernel4Ideal.defs _ _).mono (fun _ h => ⟨fun c => Cert.Kernel4Ideal.InProj.args_kept m h.1 c, h.2⟩)
    (Cert.Kernel4Ideal.InProj.run_main (F := F) m ρ)

theorem frame_kernel4 : Cert.quiescent_Kernel4 := fun m ρ _ => by
  rw [Cert.Kernel4.Same.run m ρ]; exact frame_any4 (F := Bits) m ρ
theorem frame_kernel4Ideal : Cert.quiescent_Kernel4Ideal := fun m ρ _ => frame_any4 (F := Ideal) m ρ
theorem frame_reference4 : Cert.quiescent_Reference4Ideal := fun m ρ _ =>
  (θ_run Cert.Reference4Ideal.defs _ _).mono
    (fun r h => ⟨fun c => (h c).2.2, Idealize.ShloMosaic.sem_eq_zero_of_no_sems (by decide) r.2⟩)
    (Cert.Reference4Ideal.Value.run (F := Ideal) m ρ)
theorem preserves4 : Cert.preserves_Kernel4_Kernel4Ideal := trivial
theorem algebraic4 : Cert.algebraic_Kernel4Ideal_Reference4Ideal := by
  intro m ρ m' ρ' _ hagree
  refine ⟨_, _, Cert.Kernel4Ideal.InProj.run_value m ρ, ?_⟩
  refine (θ_run Cert.Reference4Ideal.defs _ _).mono (fun r h c => ?_) (Cert.Reference4Ideal.Value.run (F := Ideal) m' ρ')
  obtain ⟨h0, h1, ha⟩ := h c
  obtain ⟨e0, e1, e2⟩ := hagree c
  rw [Cert.Reference4Ideal.Read.val_main_v14_eq, e0, e1, e2] at h0
  rw [Cert.Reference4Ideal.Read.val_main_v15_eq, e0, e1] at h1
  exact ⟨h0.trans (Cert.Reference4Ideal.InProj.result0 _ _ _), h1.trans (Cert.Reference4Ideal.InProj.result1 _ _), ha⟩

/-! ## The optimiser's launches -/

theorem frame_kernel5 : Cert.quiescent_Kernel5 := fun m ρ _ => Cert.Kernel5.Gen.frame m ρ
theorem frame_kernel5Ideal : Cert.quiescent_Kernel5Ideal := fun m ρ _ => Cert.Kernel5Ideal.Gen.frame m ρ
theorem frame_reference5 : Cert.quiescent_Reference5Ideal := fun m ρ _ =>
  (θ_run Cert.Reference5Ideal.defs _ _).mono
    (fun r h => ⟨fun c => (h c).2.2.2.2, Idealize.ShloMosaic.sem_eq_zero_of_no_sems (by decide) r.2⟩)
    (Cert.Reference5Ideal.Value.run (F := Ideal) m ρ)
theorem preserves5 : Cert.preserves_Kernel5_Kernel5Ideal := trivial
theorem algebraic5 : Cert.algebraic_Kernel5Ideal_Reference5Ideal := by
  intro m ρ m' ρ' _ hagree
  refine ⟨_, _, _, _, Cert.Kernel5Ideal.Step.run_value m ρ, ?_⟩
  refine (θ_run Cert.Reference5Ideal.defs _ _).mono (fun r h c => ?_) (Cert.Reference5Ideal.Value.run (F := Ideal) m' ρ')
  obtain ⟨h0, h1, h2, h3, ha⟩ := h c
  obtain ⟨e0, e1, e2, e3⟩ := hagree c
  rw [Cert.Reference5Ideal.Read.val_main_v0_eq, e0] at h0
  rw [Cert.Reference5Ideal.Read.val_main_v24_eq, e0, e1, e2, e3] at h1
  rw [Cert.Reference5Ideal.Read.val_main_v5_eq, e0, e2] at h2
  rw [Cert.Reference5Ideal.Read.val_main_v11_eq, e0, e3] at h3
  exact ⟨h0.trans (Cert.Reference5Ideal.Step.result0 _),
    h1.trans (Cert.Reference5Ideal.Step.result1 _ _ _ _),
    h2.trans (Cert.Reference5Ideal.Step.result2 _ _),
    h3.trans (Cert.Reference5Ideal.Step.result3 _ _), ha⟩

theorem frame_kernel6 : Cert.quiescent_Kernel6 := fun m ρ _ => Cert.Kernel6.Gen.frame m ρ
theorem frame_kernel6Ideal : Cert.quiescent_Kernel6Ideal := fun m ρ _ => Cert.Kernel6Ideal.Gen.frame m ρ
theorem frame_reference6 : Cert.quiescent_Reference6Ideal := fun m ρ _ =>
  (θ_run Cert.Reference6Ideal.defs _ _).mono
    (fun r h => ⟨fun c => (h c).2.2.2.2, Idealize.ShloMosaic.sem_eq_zero_of_no_sems (by decide) r.2⟩)
    (Cert.Reference6Ideal.Value.run (F := Ideal) m ρ)
theorem preserves6 : Cert.preserves_Kernel6_Kernel6Ideal := trivial
theorem algebraic6 : Cert.algebraic_Kernel6Ideal_Reference6Ideal := by
  intro m ρ m' ρ' _ hagree
  refine ⟨_, _, _, _, Cert.Kernel6Ideal.Step.run_value m ρ, ?_⟩
  refine (θ_run Cert.Reference6Ideal.defs _ _).mono (fun r h c => ?_) (Cert.Reference6Ideal.Value.run (F := Ideal) m' ρ')
  obtain ⟨h0, h1, h2, h3, ha⟩ := h c
  obtain ⟨e0, e1, e2, e3, e4, e5, e6, e7, e8⟩ := hagree c
  rw [Cert.Reference6Ideal.Read.val_main_v37_eq, e0, e1, e5] at h0
  rw [Cert.Reference6Ideal.Read.val_main_v42_eq, e0, e1, e2, e3, e4, e6] at h1
  rw [Cert.Reference6Ideal.Read.val_main_v47_eq, e0, e1, e3, e7] at h2
  rw [Cert.Reference6Ideal.Read.val_main_v52_eq, e0, e1, e4, e8] at h3
  exact ⟨h0.trans (Cert.Reference6Ideal.Step.result0 _ _ _),
    h1.trans (Cert.Reference6Ideal.Step.result1 _ _ _ _ _ _),
    h2.trans (Cert.Reference6Ideal.Step.result2 _ _ _ _),
    h3.trans (Cert.Reference6Ideal.Step.result3 _ _ _ _), ha⟩

theorem frame_kernel7 : Cert.quiescent_Kernel7 := fun m ρ _ => Cert.Kernel7.Gen.frame m ρ
theorem frame_kernel7Ideal : Cert.quiescent_Kernel7Ideal := fun m ρ _ => Cert.Kernel7Ideal.Gen.frame m ρ
theorem frame_reference7 : Cert.quiescent_Reference7Ideal := fun m ρ _ =>
  (θ_run Cert.Reference7Ideal.defs _ _).mono
    (fun r h => ⟨fun c => (h c).2.2.2, Idealize.ShloMosaic.sem_eq_zero_of_no_sems (by decide) r.2⟩)
    (Cert.Reference7Ideal.Value.run (F := Ideal) m ρ)
theorem preserves7 : Cert.preserves_Kernel7_Kernel7Ideal := trivial
theorem algebraic7 : Cert.algebraic_Kernel7Ideal_Reference7Ideal := by
  intro m ρ m' ρ' _ hagree
  refine ⟨_, _, _, Cert.Kernel7Ideal.Value.run m ρ, ?_⟩
  refine (θ_run Cert.Reference7Ideal.defs _ _).mono (fun r h c => ?_) (Cert.Reference7Ideal.Value.run (F := Ideal) m' ρ')
  obtain ⟨h0, h1, h2, ha⟩ := h c
  obtain ⟨e0, e1, e2, e3⟩ := hagree c
  rw [Cert.Reference7Ideal.Read.val_main_v23_eq, e0, e1, e2, e3] at h0
  rw [Cert.Reference7Ideal.Read.val_main_v4_eq, e0, e2] at h1
  rw [Cert.Reference7Ideal.Read.val_main_v10_eq, e0, e3] at h2
  exact ⟨h0.trans (Cert.Reference7Ideal.Step.result0 _ _ _ _),
    h1.trans (Cert.Reference7Ideal.Step.result1 _ _),
    h2.trans (Cert.Reference7Ideal.Step.result2 _ _), ha⟩

theorem frame_kernel8 : Cert.quiescent_Kernel8 := fun m ρ _ => Cert.Kernel8.Gen.frame m ρ
theorem frame_kernel8Ideal : Cert.quiescent_Kernel8Ideal := fun m ρ _ => Cert.Kernel8Ideal.Gen.frame m ρ
theorem frame_reference8 : Cert.quiescent_Reference8Ideal := fun m ρ _ =>
  (θ_run Cert.Reference8Ideal.defs _ _).mono
    (fun r h => ⟨fun c => (h c).2.2.2.2, Idealize.ShloMosaic.sem_eq_zero_of_no_sems (by decide) r.2⟩)
    (Cert.Reference8Ideal.Value.run (F := Ideal) m ρ)
theorem preserves8 : Cert.preserves_Kernel8_Kernel8Ideal := trivial
theorem algebraic8 : Cert.algebraic_Kernel8Ideal_Reference8Ideal := by
  intro m ρ m' ρ' _ hagree
  refine ⟨_, _, _, _, Cert.Kernel8Ideal.Step.run_value m ρ, ?_⟩
  refine (θ_run Cert.Reference8Ideal.defs _ _).mono (fun r h c => ?_) (Cert.Reference8Ideal.Value.run (F := Ideal) m' ρ')
  obtain ⟨h0, h1, h2, h3, ha⟩ := h c
  obtain ⟨e0, e1, e2, e3, e4, e5, e6, e7, e8⟩ := hagree c
  rw [Cert.Reference8Ideal.Read.val_main_v37_eq, e0, e1, e5] at h0
  rw [Cert.Reference8Ideal.Read.val_main_v42_eq, e0, e1, e2, e3, e4, e6] at h1
  rw [Cert.Reference8Ideal.Read.val_main_v47_eq, e0, e1, e3, e7] at h2
  rw [Cert.Reference8Ideal.Read.val_main_v52_eq, e0, e1, e4, e8] at h3
  exact ⟨h0.trans (Cert.Reference8Ideal.Step.result0 _ _ _),
    h1.trans (Cert.Reference8Ideal.Step.result1 _ _ _ _ _ _),
    h2.trans (Cert.Reference8Ideal.Step.result2 _ _ _ _),
    h3.trans (Cert.Reference8Ideal.Step.result3 _ _ _ _), ha⟩

theorem frame_kernel9 : Cert.quiescent_Kernel9 := fun m ρ _ => Cert.Kernel9.Gen.frame m ρ
theorem frame_kernel9Ideal : Cert.quiescent_Kernel9Ideal := fun m ρ _ => Cert.Kernel9Ideal.Gen.frame m ρ
theorem frame_reference9 : Cert.quiescent_Reference9Ideal := fun m ρ _ =>
  (θ_run Cert.Reference9Ideal.defs _ _).mono
    (fun r h => ⟨fun c => (h c).2.2.2.2, Idealize.ShloMosaic.sem_eq_zero_of_no_sems (by decide) r.2⟩)
    (Cert.Reference9Ideal.Value.run (F := Ideal) m ρ)
theorem preserves9 : Cert.preserves_Kernel9_Kernel9Ideal := trivial
theorem algebraic9 : Cert.algebraic_Kernel9Ideal_Reference9Ideal := by
  intro m ρ m' ρ' _ hagree
  refine ⟨_, _, _, _, Cert.Kernel9Ideal.Step.run_value m ρ, ?_⟩
  refine (θ_run Cert.Reference9Ideal.defs _ _).mono (fun r h c => ?_) (Cert.Reference9Ideal.Value.run (F := Ideal) m' ρ')
  obtain ⟨h0, h1, h2, h3, ha⟩ := h c
  obtain ⟨e0, e1, e2, e3, e4, e5, e6, e7, e8⟩ := hagree c
  rw [Cert.Reference9Ideal.Read.val_main_v37_eq, e0, e1, e5] at h0
  rw [Cert.Reference9Ideal.Read.val_main_v42_eq, e0, e1, e2, e3, e4, e6] at h1
  rw [Cert.Reference9Ideal.Read.val_main_v47_eq, e0, e1, e3, e7] at h2
  rw [Cert.Reference9Ideal.Read.val_main_v52_eq, e0, e1, e4, e8] at h3
  exact ⟨h0.trans (Cert.Reference9Ideal.Step.result0 _ _ _),
    h1.trans (Cert.Reference9Ideal.Step.result1 _ _ _ _ _ _),
    h2.trans (Cert.Reference9Ideal.Step.result2 _ _ _ _),
    h3.trans (Cert.Reference9Ideal.Step.result3 _ _ _ _), ha⟩

theorem frame_kernel10 : Cert.quiescent_Kernel10 := fun m ρ _ => Cert.Kernel10.Gen.frame m ρ
theorem frame_kernel10Ideal : Cert.quiescent_Kernel10Ideal := fun m ρ _ => Cert.Kernel10Ideal.Gen.frame m ρ
theorem frame_reference10 : Cert.quiescent_Reference10Ideal := fun m ρ _ =>
  (θ_run Cert.Reference10Ideal.defs _ _).mono
    (fun r h => ⟨fun c => (h c).2.2.2.2, Idealize.ShloMosaic.sem_eq_zero_of_no_sems (by decide) r.2⟩)
    (Cert.Reference10Ideal.Value.run (F := Ideal) m ρ)
theorem preserves10 : Cert.preserves_Kernel10_Kernel10Ideal := trivial
theorem algebraic10 : Cert.algebraic_Kernel10Ideal_Reference10Ideal := by
  intro m ρ m' ρ' _ hagree
  refine ⟨_, _, _, _, Cert.Kernel10Ideal.Step.run_value m ρ, ?_⟩
  refine (θ_run Cert.Reference10Ideal.defs _ _).mono (fun r h c => ?_) (Cert.Reference10Ideal.Value.run (F := Ideal) m' ρ')
  obtain ⟨h0, h1, h2, h3, ha⟩ := h c
  obtain ⟨e0, e1, e2, e3⟩ := hagree c
  rw [Cert.Reference10Ideal.Read.val_main_v0_eq, e0] at h0
  rw [Cert.Reference10Ideal.Read.val_main_v24_eq, e0, e1, e2, e3] at h1
  rw [Cert.Reference10Ideal.Read.val_main_v5_eq, e0, e2] at h2
  rw [Cert.Reference10Ideal.Read.val_main_v11_eq, e0, e3] at h3
  exact ⟨h0.trans (Cert.Reference10Ideal.Step.result0 _),
    h1.trans (Cert.Reference10Ideal.Step.result1 _ _ _ _),
    h2.trans (Cert.Reference10Ideal.Step.result2 _ _),
    h3.trans (Cert.Reference10Ideal.Step.result3 _ _), ha⟩

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Kernel10.Gen.facts, Cert.Kernel10Ideal.Gen.facts, Cert.Reference10Ideal.Gen.facts, Cert.On_written.Gen.facts,
  frame_kernel, frame_kernelIdeal, frame_reference,
  frame_kernel2, frame_kernel2Ideal, frame_reference2,
  frame_kernel3, frame_kernel3Ideal, frame_reference3,
  frame_kernel4, frame_kernel4Ideal, frame_reference4,
  frame_kernel5, frame_kernel5Ideal, frame_reference5,
  frame_kernel6, frame_kernel6Ideal, frame_reference6,
  frame_kernel7, frame_kernel7Ideal, frame_reference7,
  frame_kernel8, frame_kernel8Ideal, frame_reference8,
  frame_kernel9, frame_kernel9Ideal, frame_reference9,
  frame_kernel10, frame_kernel10Ideal, frame_reference10,
  preserves, algebraic, preserves2, algebraic2, preserves3, algebraic3, preserves4, algebraic4, preserves5, algebraic5, preserves6, algebraic6, preserves7, algebraic7, preserves8, algebraic8, preserves9, algebraic9, preserves10, algebraic10⟩

end Cert.Proof

end
